-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_RefIdeal (m : (ℓ : Loc Cert.RefIdeal.nD Cert.RefIdeal.τ Cert.RefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6)
      ∧ r.2.mem ((c.tc : Thread Cert.RefIdeal.nD Cert.RefIdeal.τ).loc Cert.RefIdeal.main_arg7) = m ((c.tc : Thread Cert.RefIdeal.nD Cert.RefIdeal.τ).loc Cert.RefIdeal.main_arg7)
      ∧ r.2.mem ((c.tc : Thread Cert.RefIdeal.nD Cert.RefIdeal.τ).loc Cert.RefIdeal.main_arg8) = m ((c.tc : Thread Cert.RefIdeal.nD Cert.RefIdeal.τ).loc Cert.RefIdeal.main_arg8)
      ∧ r.2.mem ((c.tc : Thread Cert.RefIdeal.nD Cert.RefIdeal.τ).loc Cert.RefIdeal.main_arg9) = m ((c.tc : Thread Cert.RefIdeal.nD Cert.RefIdeal.τ).loc Cert.RefIdeal.main_arg9)
      ∧ r.2.mem ((c.tc : Thread Cert.RefIdeal.nD Cert.RefIdeal.τ).loc Cert.RefIdeal.main_arg10) = m ((c.tc : Thread Cert.RefIdeal.nD Cert.RefIdeal.τ).loc Cert.RefIdeal.main_arg10))
      ∧ r.2.sem = fun _ => 0)

def preserves_Kernel_KernelIdeal : Prop :=
  True

def algebraic_KernelIdeal_RefIdeal_on_representable [hKernelIdeal : Cert.KernelIdeal.Facts] [hRefIdeal : Cert.RefIdeal.Facts] [hOn_representable : Cert.On_representable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RefIdeal.nD Cert.RefIdeal.τ Cert.RefIdeal.sig) → Buf (Elt Ideal) ℓ) (g' : Dev Cert.RefIdeal.nD → PrngReg), Pre_KernelIdeal m →
    (∀ c : Dev Cert.KernelIdeal.nD,
      m' ((c.tc : Thread Cert.RefIdeal.nD Cert.RefIdeal.τ).loc Cert.RefIdeal.main_arg0) = m ((c.tc : Thread Cert.KernelIdeal.nD Cert.KernelIdeal.τ).loc Cert.KernelIdeal.main_arg0)
      ∧ m' ((c.tc : Thread Cert.RefIdeal.nD Cert.RefIdeal.τ).loc Cert.RefIdeal.main_arg1) = m ((c.tc : Thread Cert.KernelIdeal.nD Cert.KernelIdeal.τ).loc Cert.KernelIdeal.main_arg1)
      ∧ m' ((c.tc : Thread Cert.RefIdeal.nD Cert.RefIdeal.τ).loc Cert.RefIdeal.main_arg2) = m ((c.tc : Thread Cert.KernelIdeal.nD Cert.KernelIdeal.τ).loc Cert.KernelIdeal.main_arg2)
      ∧ m' ((c.tc : Thread Cert.RefIdeal.nD Cert.RefIdeal.τ).loc Cert.RefIdeal.main_arg3) = m ((c.tc : Thread Cert.KernelIdeal.nD Cert.KernelIdeal.τ).loc Cert.KernelIdeal.main_arg3)
      ∧ m' ((c.tc : Thread Cert.RefIdeal.nD Cert.RefIdeal.τ).loc Cert.RefIdeal.main_arg4) = m ((c.tc : Thread Cert.KernelIdeal.nD Cert.KernelIdeal.τ).loc Cert.KernelIdeal.main_arg4)
      ∧ m' ((c.tc : Thread Cert.RefIdeal.nD Cert.RefIdeal.τ).loc Cert.RefIdeal.main_arg5) = m ((c.tc : Thread Cert.KernelIdeal.nD Cert.KernelIdeal.τ).loc Cert.KernelIdeal.main_arg5)
      ∧ m' ((c.tc : Thread Cert.RefIdeal.nD Cert.RefIdeal.τ).loc Cert.RefIdeal.main_arg6) = m ((c.tc : Thread Cert.KernelIdeal.nD Cert.KernelIdeal.τ).loc Cert.KernelIdeal.main_arg6)
      ∧ m' ((c.tc : Thread Cert.RefIdeal.nD Cert.RefIdeal.τ).loc Cert.RefIdeal.main_arg7) = m ((c.tc : Thread Cert.KernelIdeal.nD Cert.KernelIdeal.τ).loc Cert.KernelIdeal.main_arg7)
      ∧ m' ((c.tc : Thread Cert.RefIdeal.nD Cert.RefIdeal.τ).loc Cert.RefIdeal.main_arg8) = m ((c.tc : Thread Cert.KernelIdeal.nD Cert.KernelIdeal.τ).loc Cert.KernelIdeal.main_arg8)
      ∧ m' ((c.tc : Thread Cert.RefIdeal.nD Cert.RefIdeal.τ).loc Cert.RefIdeal.main_arg9) = m ((c.tc : Thread Cert.KernelIdeal.nD Cert.KernelIdeal.τ).loc Cert.KernelIdeal.main_arg9)
      ∧ m' ((c.tc : Thread Cert.RefIdeal.nD Cert.RefIdeal.τ).loc Cert.RefIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1, 16]⟩ : Shape).Idx, (Cert.On_representable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.KernelIdeal.nD Cert.KernelIdeal.τ).loc Cert.KernelIdeal.main_v6_0) i = v0 c i)
          ∧ (∀ i : (⟨2, ![16, 20]⟩ : Shape).Idx, (Cert.On_representable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.KernelIdeal.nD Cert.KernelIdeal.τ).loc Cert.KernelIdeal.main_v6_1) i = v1 c i)
          ∧ (∀ i : (⟨2, ![16, 32000]⟩ : Shape).Idx, (Cert.On_representable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 i = 1#1 → r.2.mem ((c.tc : Thread Cert.KernelIdeal.nD Cert.KernelIdeal.τ).loc Cert.KernelIdeal.main_v6_2) i = v2 c i)
          ∧ (∀ i : (⟨2, ![16, 12288]⟩ : Shape).Idx, (Cert.On_representable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 i = 1#1 → r.2.mem ((c.tc : Thread Cert.KernelIdeal.nD Cert.KernelIdeal.τ).loc Cert.KernelIdeal.main_v6_3) i = v3 c i)
          ∧ (∀ i : (⟨2, ![1, 16]⟩ : Shape).Idx, (Cert.On_representable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2 i = 1#1 → r.2.mem ((c.tc : Thread Cert.KernelIdeal.nD Cert.KernelIdeal.τ).loc Cert.KernelIdeal.main_v6_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          (∀ i : (⟨2, ![1, 16]⟩ : Shape).Idx, (Cert.On_representable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.RefIdeal.nD Cert.RefIdeal.τ).loc Cert.RefIdeal.main_v112) i = v0 c i)
          ∧ (∀ i : (⟨2, ![16, 20]⟩ : Shape).Idx, (Cert.On_representable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.RefIdeal.nD Cert.RefIdeal.τ).loc Cert.RefIdeal.main_v114) i = v1 c i)
          ∧ (∀ i : (⟨2, ![16, 32000]⟩ : Shape).Idx, (Cert.On_representable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 i = 1#1 → r.2.mem ((c.tc : Thread Cert.RefIdeal.nD Cert.RefIdeal.τ).loc Cert.RefIdeal.main_v95) i = v2 c i)
          ∧ (∀ i : (⟨2, ![16, 12288]⟩ : Shape).Idx, (Cert.On_representable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 i = 1#1 → r.2.mem ((c.tc : Thread Cert.RefIdeal.nD Cert.RefIdeal.τ).loc Cert.RefIdeal.main_v45) i = v3 c i)
          ∧ (∀ i : (⟨2, ![1, 16]⟩ : Shape).Idx, (Cert.On_representable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2 i = 1#1 → r.2.mem ((c.tc : Thread Cert.RefIdeal.nD Cert.RefIdeal.τ).loc Cert.RefIdeal.main_v115) i = v4 c i)
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3)
          ∧ r.2.mem ((c.tc : Thread Cert.RefIdeal.nD Cert.RefIdeal.τ).loc Cert.RefIdeal.main_arg4) = m' ((c.tc : Thread Cert.RefIdeal.nD Cert.RefIdeal.τ).loc Cert.RefIdeal.main_arg4)
          ∧ r.2.mem ((c.tc : Thread Cert.RefIdeal.nD Cert.RefIdeal.τ).loc Cert.RefIdeal.main_arg5) = m' ((c.tc : Thread Cert.RefIdeal.nD Cert.RefIdeal.τ).loc Cert.RefIdeal.main_arg5)
          ∧ r.2.mem ((c.tc : Thread Cert.RefIdeal.nD Cert.RefIdeal.τ).loc Cert.RefIdeal.main_arg6) = m' ((c.tc : Thread Cert.RefIdeal.nD Cert.RefIdeal.τ).loc Cert.RefIdeal.main_arg6)
          ∧ r.2.mem ((c.tc : Thread Cert.RefIdeal.nD Cert.RefIdeal.τ).loc Cert.RefIdeal.main_arg7) = m' ((c.tc : Thread Cert.RefIdeal.nD Cert.RefIdeal.τ).loc Cert.RefIdeal.main_arg7)
          ∧ r.2.mem ((c.tc : Thread Cert.RefIdeal.nD Cert.RefIdeal.τ).loc Cert.RefIdeal.main_arg8) = m' ((c.tc : Thread Cert.RefIdeal.nD Cert.RefIdeal.τ).loc Cert.RefIdeal.main_arg8)
          ∧ r.2.mem ((c.tc : Thread Cert.RefIdeal.nD Cert.RefIdeal.τ).loc Cert.RefIdeal.main_arg9) = m' ((c.tc : Thread Cert.RefIdeal.nD Cert.RefIdeal.τ).loc Cert.RefIdeal.main_arg9)
          ∧ r.2.mem ((c.tc : Thread Cert.RefIdeal.nD Cert.RefIdeal.τ).loc Cert.RefIdeal.main_arg10) = m' ((c.tc : Thread Cert.RefIdeal.nD Cert.RefIdeal.τ).loc Cert.RefIdeal.main_arg10))

def Claim : Prop :=
  ∃ (hKernel : Cert.Kernel.Facts) (hKernelIdeal : Cert.KernelIdeal.Facts) (hRefIdeal : Cert.RefIdeal.Facts) (hOn_representable : Cert.On_representable.Facts),
    quiescent_Kernel (hKernel := hKernel)
    ∧ quiescent_KernelIdeal (hKernelIdeal := hKernelIdeal)
    ∧ quiescent_RefIdeal (hRefIdeal := hRefIdeal)
    ∧ preserves_Kernel_KernelIdeal
    ∧ algebraic_KernelIdeal_RefIdeal_on_representable (hKernelIdeal := hKernelIdeal) (hRefIdeal := hRefIdeal) (hOn_representable := hOn_representable)
-- ==== On_representable.lean ====
abbrev S16x12288 : Shape := ⟨2, ![16, 12288]⟩
abbrev S12288 : Shape := ⟨1, ![12288]⟩
abbrev S12288x32000 : Shape := ⟨2, ![12288, 32000]⟩
abbrev S32000 : Shape := ⟨1, ![32000]⟩
abbrev S16x1024 : Shape := ⟨2, ![16, 1024]⟩
abbrev S16 : Shape := ⟨1, ![16]⟩
abbrev S16x20 : Shape := ⟨2, ![16, 20]⟩
abbrev S_ : Shape := ⟨0, ![]⟩
abbrev S16x1 : Shape := ⟨2, ![16, 1]⟩
abbrev S1x12288 : Shape := ⟨2, ![1, 12288]⟩
abbrev S1x16 : Shape := ⟨2, ![1, 16]⟩
abbrev S16x32000 : Shape := ⟨2, ![16, 32000]⟩

class Facts : Prop where
  bitsLt_bf16_f32 : FTy.bits .bf16 < FTy.bits .f32
  reducesTo_S16x12288_S16_d1 : S16x12288.ReducesTo [1] S16
  h_S_ : 0 < S_.numel
  bcast_S16_S16x1_0 : S16.BroadcastsInDim S16x1 (![0] : Fin 1 → Fin S16x1.rank)
  bcast_S_S16x1 : S_.BroadcastsInDim S16x1 (![] : Fin 0 → Fin S16x1.rank)
  bcast_S16x1_S16x12288_0_1 : S16x1.BroadcastsInDim S16x12288 (![0, 1] : Fin 2 → Fin S16x12288.rank)
  bcast_S12288_S1x12288_1 : S12288.BroadcastsInDim S1x12288 (![1] : Fin 1 → Fin S1x12288.rank)
  bcast_S1x12288_S16x12288_0_1 : S1x12288.BroadcastsInDim S16x12288 (![0, 1] : Fin 2 → Fin S16x12288.rank)
  shapeCasts_S16x1_S1x16 : S16x1.ShapeCasts S1x16
  bcast_S16x1_S16x20_0_1 : S16x1.BroadcastsInDim S16x20 (![0, 1] : Fin 2 → Fin S16x20.rank)
  bcast_S16x1_S16x32000_0_1 : S16x1.BroadcastsInDim S16x32000 (![0, 1] : Fin 2 → Fin S16x32000.rank)

variable [Facts]

def fn_part1 {F : FTy → Type} [FloatOps F] (main_v18 : FVec F S16x1 .f32) : IVec S1x16 1 × IVec S16x20 1 × IVec S16x32000 1 × IVec S16x12288 1 × IVec S1x16 1 :=
  let main_cst_4 : FVec F S_ .f32 := constant S_ .f32 0x7E800000#32
  let main_v19 : FVec F S16x1 .f32 := broadcastInDim S16x1 ![] bcast_S_S16x1 main_cst_4
  let main_v20 : IVec S16x1 1 := cmpf .olt main_v18 main_v19
  let main_v21 : IVec S1x16 1 := shapeCast S1x16 main_v20 shapeCasts_S16x1_S1x16
  let main_v22 : IVec S16x20 1 := broadcastInDim S16x20 ![0, 1] bcast_S16x1_S16x20_0_1 main_v20
  let main_v23 : IVec S16x32000 1 := broadcastInDim S16x32000 ![0, 1] bcast_S16x1_S16x32000_0_1 main_v20
  let main_v24 : IVec S16x12288 1 := broadcastInDim S16x12288 ![0, 1] bcast_S16x1_S16x12288_0_1 main_v20
  let main_v25 : IVec S1x16 1 := shapeCast S1x16 main_v20 shapeCasts_S16x1_S1x16
  (main_v21, main_v22, main_v23, main_v24, main_v25)

def fn {F : FTy → Type} [FloatOps F] (main_arg0 : FVec F S16x12288 .bf16) (main_arg1 : FVec F S12288 .f32) (main_arg2 : FVec F S12288x32000 .fp8e4m3) (main_arg3 : FVec F S32000 .f32) (main_arg4 : IVec S16x1024 32) (main_arg5 : IVec S16 32) (main_arg6 : FVec F S16 .f32) (main_arg7 : FVec F S16 .f32) (main_arg8 : FVec F S16 .f32) (main_arg9 : FVec F S16 .f32) (main_arg10 : IVec S16x20 32) : IVec S1x16 1 × IVec S16x20 1 × IVec S16x32000 1 × IVec S16x12288 1 × IVec S1x16 1 :=
  let main_v0 : FVec F S16x12288 .f32 := (extf .f32 · bitsLt_bf16_f32) main_arg0
  let main_v1 : FVec F S16x12288 .f32 := mulf main_v0 main_v0
  let main_cst : FVec F S_ .f32 := constant S_ .f32 0x00000000#32
  let main_v2 : FVec F S16 .f32 := (fun x v => Host.reduceAdd x v reducesTo_S16x12288_S16_d1 h_S_) main_v1 main_cst
  let main_v3 : FVec F S16x1 .f32 := broadcastInDim S16x1 ![0] bcast_S16_S16x1_0 main_v2
  let main_cst_0 : FVec F S_ .f32 := constant S_ .f32 0x46400000#32
  let main_v4 : FVec F S16x1 .f32 := broadcastInDim S16x1 ![] bcast_S_S16x1 main_cst_0
  let main_v5 : FVec F S16x1 .f32 := Host.divf main_v3 main_v4
  let main_cst_1 : FVec F S_ .f32 := constant S_ .f32 0x358637BD#32
  let main_v6 : FVec F S16x1 .f32 := broadcastInDim S16x1 ![] bcast_S_S16x1 main_cst_1
  let main_v7 : FVec F S16x1 .f32 := addf main_v5 main_v6
  let main_v8 : FVec F S16x1 .f32 := Host.rsqrt main_v7
  let main_v9 : FVec F S16x12288 .f32 := broadcastInDim S16x12288 ![0, 1] bcast_S16x1_S16x12288_0_1 main_v8
  let main_v10 : FVec F S16x12288 .f32 := mulf main_v0 main_v9
  let main_v11 : FVec F S1x12288 .f32 := broadcastInDim S1x12288 ![1] bcast_S12288_S1x12288_1 main_arg1
  let main_v12 : FVec F S16x12288 .f32 := broadcastInDim S16x12288 ![0, 1] bcast_S1x12288_S16x12288_0_1 main_v11
  let main_v13 : FVec F S16x12288 .f32 := mulf main_v10 main_v12
  let main_v14 : FVec F S16x12288 .f32 := Host.absf main_v13
  let main_cst_2 : FVec F S_ .f32 := constant S_ .f32 0xFF800000#32
  let main_v15 : FVec F S16 .f32 := (fun x v => Host.reduce FloatOps.maximumf x v reducesTo_S16x12288_S16_d1 h_S_) main_v14 main_cst_2
  let main_v16 : FVec F S16x1 .f32 := broadcastInDim S16x1 ![0] bcast_S16_S16x1_0 main_v15
  let main_cst_3 : FVec F S_ .f32 := constant S_ .f32 0x3B124925#32
  let main_v17 : FVec F S16x1 .f32 := broadcastInDim S16x1 ![] bcast_S_S16x1 main_cst_3
  let main_v18 : FVec F S16x1 .f32 := mulf main_v16 main_v17
  fn_part1 (F := F) main_v18
-- ==== Kernel.lean ====
abbrev S16x12288 : Shape := ⟨2, ![16, 12288]⟩
abbrev S12288 : Shape := ⟨1, ![12288]⟩
abbrev S12288x32000 : Shape := ⟨2, ![12288, 32000]⟩
abbrev S32000 : Shape := ⟨1, ![32000]⟩
abbrev S16x1024 : Shape := ⟨2, ![16, 1024]⟩
abbrev S16 : Shape := ⟨1, ![16]⟩
abbrev S16x20 : Shape := ⟨2, ![16, 20]⟩
abbrev S1x12288 : Shape := ⟨2, ![1, 12288]⟩
abbrev S1x16 : Shape := ⟨2, ![1, 16]⟩
abbrev S16x32000 : Shape := ⟨2, ![16, 32000]⟩
abbrev S14x12288x256 : Shape := ⟨3, ![14, 12288, 256]⟩
abbrev S4096x128 : Shape := ⟨2, ![4096, 128]⟩
abbrev S20x16x128 : Shape := ⟨3, ![20, 16, 128]⟩
abbrev S16x128 : Shape := ⟨2, ![16, 128]⟩
abbrev S14 : Shape := ⟨1, ![14]⟩
abbrev S10 : Shape := ⟨1, ![10]⟩
abbrev S_ : Shape := ⟨0, ![]⟩
abbrev S4 : Shape := ⟨1, ![4]⟩
abbrev S1 : Shape := ⟨1, ![1]⟩
abbrev S1x12288x256 : Shape := ⟨3, ![1, 12288, 256]⟩
abbrev S12288x256 : Shape := ⟨2, ![12288, 256]⟩
abbrev S16x1 : Shape := ⟨2, ![16, 1]⟩
abbrev S1x1024 : Shape := ⟨2, ![1, 1024]⟩
abbrev S16x255 : Shape := ⟨2, ![16, 255]⟩
abbrev S16x16 : Shape := ⟨2, ![16, 16]⟩
abbrev S256x1024 : Shape := ⟨2, ![256, 1024]⟩
abbrev S128x1024 : Shape := ⟨2, ![128, 1024]⟩
abbrev S256x128 : Shape := ⟨2, ![256, 128]⟩
abbrev S1x16x128 : Shape := ⟨3, ![1, 16, 128]⟩
abbrev S16x6144 : Shape := ⟨2, ![16, 6144]⟩
abbrev S1x6144x256 : Shape := ⟨3, ![1, 6144, 256]⟩
abbrev S6144x256 : Shape := ⟨2, ![6144, 256]⟩
abbrev S16x256 : Shape := ⟨2, ![16, 256]⟩
abbrev S128 : Shape := ⟨1, ![128]⟩
abbrev S1x128 : Shape := ⟨2, ![1, 128]⟩

abbrev nBuf : Space → Nat
  | .hbm => 22
  | .vmem => 22
  | .smem => 0
  | _ => 0

abbrev bufTy : (tb : Table) → Fin (tcTables nBuf tb) → BufTy
  | .hbm, ⟨0, _⟩ => ⟨S16x12288, .bf16⟩
  | .hbm, ⟨1, _⟩ => ⟨S12288, .f32⟩
  | .hbm, ⟨2, _⟩ => ⟨S12288x32000, .fp8e4m3⟩
  | .hbm, ⟨3, _⟩ => ⟨S32000, .f32⟩
  | .hbm, ⟨4, _⟩ => ⟨S16x1024, .i32⟩
  | .hbm, ⟨5, _⟩ => ⟨S16, .i32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S16x20, .i32⟩
  | .hbm, ⟨11, _⟩ => ⟨S1x12288, .f32⟩
  | .hbm, ⟨12, _⟩ => ⟨S1x16, .i32⟩
  | .hbm, ⟨13, _⟩ => ⟨S1x16, .f32⟩
  | .hbm, ⟨14, _⟩ => ⟨S1x16, .f32⟩
  | .hbm, ⟨15, _⟩ => ⟨S1x16, .f32⟩
  | .hbm, ⟨16, _⟩ => ⟨S1x16, .f32⟩
  | .hbm, ⟨17, _⟩ => ⟨S1x16, .f32⟩
  | .hbm, ⟨18, _⟩ => ⟨S16x20, .f32⟩
  | .hbm, ⟨19, _⟩ => ⟨S16x32000, .f32⟩
  | .hbm, ⟨20, _⟩ => ⟨S16x12288, .fp8e4m3⟩
  | .hbm, ⟨21, _⟩ => ⟨S1x16, .f32⟩
  | .local _ .vmem, ⟨0, _⟩ => ⟨S14x12288x256, .fp8e4m3⟩
  | .local _ .vmem, ⟨1, _⟩ => ⟨S16x12288, .bf16⟩
  | .local _ .vmem, ⟨2, _⟩ => ⟨S1x12288, .f32⟩
  | .local _ .vmem, ⟨3, _⟩ => ⟨S32000, .f32⟩
  | .local _ .vmem, ⟨4, _⟩ => ⟨S16x1024, .i32⟩
  | .local _ .vmem, ⟨5, _⟩ => ⟨S1x16, .i32⟩
  | .local _ .vmem, ⟨6, _⟩ => ⟨S1x16, .f32⟩
  | .local _ .vmem, ⟨7, _⟩ => ⟨S1x16, .f32⟩
  | .local _ .vmem, ⟨8, _⟩ => ⟨S1x16, .f32⟩
  | .local _ .vmem, ⟨9, _⟩ => ⟨S1x16, .f32⟩
  | .local _ .vmem, ⟨10, _⟩ => ⟨S16x20, .i32⟩
  | .local _ .vmem, ⟨11, _⟩ => ⟨S16x12288, .f32⟩
  | .local _ .vmem, ⟨12, _⟩ => ⟨S16x12288, .fp8e4m3⟩
  | .local _ .vmem, ⟨13, _⟩ => ⟨S4096x128, .f32⟩
  | .local _ .vmem, ⟨14, _⟩ => ⟨S16x32000, .f32⟩
  | .local _ .vmem, ⟨15, _⟩ => ⟨S20x16x128, .i32⟩
  | .local _ .vmem, ⟨16, _⟩ => ⟨S20x16x128, .f32⟩
  | .local _ .vmem, ⟨17, _⟩ => ⟨S16x128, .f32⟩
  | .local _ .vmem, ⟨18, _⟩ => ⟨S16x128, .f32⟩
  | .local _ .vmem, ⟨19, _⟩ => ⟨S1x16, .f32⟩
  | .local _ .vmem, ⟨20, _⟩ => ⟨S16x20, .f32⟩
  | .local _ .vmem, ⟨21, _⟩ => ⟨S1x16, .f32⟩
  | _, _ => ⟨S16x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v6_4 : Ref sig .tc := ⟨.hbm, 21, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩
abbrev cc0_scratch18 : Ref sig .tc := ⟨.vmem, 18, rfl⟩
abbrev cc0_scratch19 : Ref sig .tc := ⟨.vmem, 19, rfl⟩
abbrev cc0_scratch20 : Ref sig .tc := ⟨.vmem, 20, rfl⟩
abbrev cc0_scratch21 : Ref sig .tc := ⟨.vmem, 21, rfl⟩

abbrev nD : Nat := 1
abbrev τ : Topo := Topo.v7x

variable {F : FTy → Type} [FloatOps F]

abbrev grid0 : Pipeline.Grid := .none

@[reducible] def k0_t1_loop : Scf.Loop 32 :=
  let c0_i32_0 : BitVec 32 := 0#32
  let c14_i32 : BitVec 32 := 14#32
  let v20 : BitVec 32 := Scalar.addi c0_i32_0 c14_i32
  let c1_i32_1 : BitVec 32 := 1#32
  ⟨c0_i32_0, v20, c1_i32_1⟩
def k0_mult1 (k0_t1 : Fin k0_t1_loop.trips) : BitVec 32 :=
  let c0_i32_0 : BitVec 32 := 0#32
  let c1_i32_1 : BitVec 32 := 1#32
  let arg42 : BitVec 32 := Scf.iv c0_i32_0 c1_i32_1 k0_t1
  let c256_i32 : BitVec 32 := 256#32
  let v390 : BitVec 32 := Scalar.muli arg42 c256_i32
  v390
def k0_off1 (k0_t1 : Fin k0_t1_loop.trips) : Fin 1 → Nat :=
  let c0_i32_0 : BitVec 32 := 0#32
  let c1_i32_1 : BitVec 32 := 1#32
  let arg42 : BitVec 32 := Scf.iv c0_i32_0 c1_i32_1 k0_t1
  ![arg42.toNat]
def k0_off2 (k0_t1 : Fin k0_t1_loop.trips) : Fin 3 → Nat :=
  let c0_i32_0 : BitVec 32 := 0#32
  let c1_i32_1 : BitVec 32 := 1#32
  let arg42 : BitVec 32 := Scf.iv c0_i32_0 c1_i32_1 k0_t1
  let c0_i32_202 : BitVec 32 := 0#32
  let c0_i32_203 : BitVec 32 := 0#32
  ![arg42.toNat, 0, 0]
def k0_off3 (k0_t1 : Fin k0_t1_loop.trips) : Fin 2 → Nat :=
  let c0_i32_204 : BitVec 32 := 0#32
  let c0_i32_0 : BitVec 32 := 0#32
  let c1_i32_1 : BitVec 32 := 1#32
  let arg42 : BitVec 32 := Scf.iv c0_i32_0 c1_i32_1 k0_t1
  let c256_i32 : BitVec 32 := 256#32
  let v390 : BitVec 32 := Scalar.muli arg42 c256_i32
  let v391 : BitVec 32 := v390
  ![0, v391.toNat]
@[reducible] def k0_t2_loop : Scf.Loop 32 :=
  let c0_i32_13 : BitVec 32 := 0#32
  let c12_i32 : BitVec 32 := 12#32
  let v42 : BitVec 32 := Scalar.addi c0_i32_13 c12_i32
  let c1_i32_14 : BitVec 32 := 1#32
  ⟨c0_i32_13, v42, c1_i32_14⟩
def k0_mult2 (k0_t2 : Fin k0_t2_loop.trips) : BitVec 32 :=
  let c0_i32_13 : BitVec 32 := 0#32
  let c1_i32_14 : BitVec 32 := 1#32
  let arg42 : BitVec 32 := Scf.iv c0_i32_13 c1_i32_14 k0_t2
  let c1024_i32 : BitVec 32 := 1024#32
  let v390 : BitVec 32 := Scalar.muli arg42 c1024_i32
  v390
def k0_off4 (k0_t2 : Fin k0_t2_loop.trips) : Fin 2 → Nat :=
  let c0_202 : Index := 0#32
  let c0_i32_13 : BitVec 32 := 0#32
  let c1_i32_14 : BitVec 32 := 1#32
  let arg42 : BitVec 32 := Scf.iv c0_i32_13 c1_i32_14 k0_t2
  let c1024_i32 : BitVec 32 := 1024#32
  let v390 : BitVec 32 := Scalar.muli arg42 c1024_i32
  let v391 : BitVec 32 := v390
  let v392 : Index := Scalar.indexCast v391
  ![0, v392.toNat]
@[reducible] def k0_t3_loop : Scf.Loop 32 :=
  let c0_i32_19 : BitVec 32 := 0#32
  let c12_i32_20 : BitVec 32 := 12#32
  let v51 : BitVec 32 := Scalar.addi c0_i32_19 c12_i32_20
  let c1_i32_21 : BitVec 32 := 1#32
  ⟨c0_i32_19, v51, c1_i32_21⟩
def k0_mult3 (k0_t3 : Fin k0_t3_loop.trips) : BitVec 32 :=
  let c0_i32_19 : BitVec 32 := 0#32
  let c1_i32_21 : BitVec 32 := 1#32
  let arg42 : BitVec 32 := Scf.iv c0_i32_19 c1_i32_21 k0_t3
  let c1024_i32 : BitVec 32 := 1024#32
  let v390 : BitVec 32 := Scalar.muli arg42 c1024_i32
  v390
def k0_off5 (k0_t3 : Fin k0_t3_loop.trips) : Fin 2 → Nat :=
  let c0_202 : Index := 0#32
  let c0_i32_19 : BitVec 32 := 0#32
  let c1_i32_21 : BitVec 32 := 1#32
  let arg42 : BitVec 32 := Scf.iv c0_i32_19 c1_i32_21 k0_t3
  let c1024_i32 : BitVec 32 := 1024#32
  let v390 : BitVec 32 := Scalar.muli arg42 c1024_i32
  let v391 : BitVec 32 := v390
  let v392 : Index := Scalar.indexCast v391
  ![0, v392.toNat]
def k0_mult4 (k0_t3 : Fin k0_t3_loop.trips) : BitVec 32 :=
  let c0_i32_19 : BitVec 32 := 0#32
  let c1_i32_21 : BitVec 32 := 1#32
  let arg42 : BitVec 32 := Scf.iv c0_i32_19 c1_i32_21 k0_t3
  let c1024_i32_203 : BitVec 32 := 1024#32
  let v397 : BitVec 32 := Scalar.muli arg42 c1024_i32_203
  v397
def k0_off6 (k0_t3 : Fin k0_t3_loop.trips) : Fin 2 → Nat :=
  let c0_204 : Index := 0#32
  let c0_i32_19 : BitVec 32 := 0#32
  let c1_i32_21 : BitVec 32 := 1#32
  let arg42 : BitVec 32 := Scf.iv c0_i32_19 c1_i32_21 k0_t3
  let c1024_i32_203 : BitVec 32 := 1024#32
  let v397 : BitVec 32 := Scalar.muli arg42 c1024_i32_203
  let v398 : BitVec 32 := v397
  let v399 : Index := Scalar.indexCast v398
  ![0, v399.toNat]
def k0_mult5 (k0_t3 : Fin k0_t3_loop.trips) : BitVec 32 :=
  let c0_i32_19 : BitVec 32 := 0#32
  let c1_i32_21 : BitVec 32 := 1#32
  let arg42 : BitVec 32 := Scf.iv c0_i32_19 c1_i32_21 k0_t3
  let c1024_i32_205 : BitVec 32 := 1024#32
  let v403 : BitVec 32 := Scalar.muli arg42 c1024_i32_205
  v403
@[reducible] def k0_t4_loop : Scf.Loop 32 :=
  let c0_i32_33 : BitVec 32 := 0#32
  let c12_i32_34 : BitVec 32 := 12#32
  let v83 : BitVec 32 := Scalar.addi c0_i32_33 c12_i32_34
  let c1_i32_35 : BitVec 32 := 1#32
  ⟨c0_i32_33, v83, c1_i32_35⟩
def k0_mult6 (k0_t4 : Fin k0_t4_loop.trips) : BitVec 32 :=
  let c0_i32_33 : BitVec 32 := 0#32
  let c1_i32_35 : BitVec 32 := 1#32
  let arg42 : BitVec 32 := Scf.iv c0_i32_33 c1_i32_35 k0_t4
  let c1024_i32 : BitVec 32 := 1024#32
  let v390 : BitVec 32 := Scalar.muli arg42 c1024_i32
  v390
def k0_off7 (k0_t4 : Fin k0_t4_loop.trips) : Fin 2 → Nat :=
  let c0_202 : Index := 0#32
  let c0_i32_33 : BitVec 32 := 0#32
  let c1_i32_35 : BitVec 32 := 1#32
  let arg42 : BitVec 32 := Scf.iv c0_i32_33 c1_i32_35 k0_t4
  let c1024_i32 : BitVec 32 := 1024#32
  let v390 : BitVec 32 := Scalar.muli arg42 c1024_i32
  let v391 : BitVec 32 := v390
  let v392 : Index := Scalar.indexCast v391
  ![0, v392.toNat]
def k0_mult7 (k0_t4 : Fin k0_t4_loop.trips) : BitVec 32 :=
  let c0_i32_33 : BitVec 32 := 0#32
  let c1_i32_35 : BitVec 32 := 1#32
  let arg42 : BitVec 32 := Scf.iv c0_i32_33 c1_i32_35 k0_t4
  let c1024_i32_205 : BitVec 32 := 1024#32
  let v401 : BitVec 32 := Scalar.muli arg42 c1024_i32_205
  v401
@[reducible] def k0_t5_loop : Scf.Loop 32 :=
  let c0_i32_50 : BitVec 32 := 0#32
  let c16_i32 : BitVec 32 := 16#32
  let v121 : BitVec 32 := Scalar.addi c0_i32_50 c16_i32
  let c1_i32_51 : BitVec 32 := 1#32
  ⟨c0_i32_50, v121, c1_i32_51⟩
def k0_off8 (k0_t5 : Fin k0_t5_loop.trips) : Fin 2 → Nat :=
  let c0_i32_50 : BitVec 32 := 0#32
  let c1_i32_51 : BitVec 32 := 1#32
  let arg42 : BitVec 32 := Scf.iv c0_i32_50 c1_i32_51 k0_t5
  let v390 : Index := Scalar.indexCast arg42
  let c0_202 : Index := 0#32
  ![v390.toNat, 0]
def k0_off9 (k0_t5 : Fin k0_t5_loop.trips) : Fin 2 → Nat :=
  let c0_i32_50 : BitVec 32 := 0#32
  let c1_i32_51 : BitVec 32 := 1#32
  let arg42 : BitVec 32 := Scf.iv c0_i32_50 c1_i32_51 k0_t5
  let v411 : Index := Scalar.indexCast arg42
  let c0_206 : Index := 0#32
  ![v411.toNat, 0]
@[reducible] def k0_t6_loop : Scf.Loop 32 :=
  let c0_i32_69 : BitVec 32 := 0#32
  let c20_i32 : BitVec 32 := 20#32
  let v176 : BitVec 32 := Scalar.addi c0_i32_69 c20_i32
  let c1_i32_70 : BitVec 32 := 1#32
  ⟨c0_i32_69, v176, c1_i32_70⟩
def k0_off10 (k0_t6 : Fin k0_t6_loop.trips) : Fin 3 → Nat :=
  let c0_i32_69 : BitVec 32 := 0#32
  let c1_i32_70 : BitVec 32 := 1#32
  let arg42 : BitVec 32 := Scf.iv c0_i32_69 c1_i32_70 k0_t6
  let v400 : Index := Scalar.indexCast arg42
  let c0_206 : Index := 0#32
  let c0_207 : Index := 0#32
  ![v400.toNat, 0, 0]
@[reducible] def k0_t7_loop : Scf.Loop 32 :=
  let c0_i32_80 : BitVec 32 := 0#32
  let c125_i32 : BitVec 32 := 125#32
  let v189 : BitVec 32 := Scalar.addi c0_i32_80 c125_i32
  let c1_i32_81 : BitVec 32 := 1#32
  ⟨c0_i32_80, v189, c1_i32_81⟩
def k0_mult8 (k0_t7 : Fin k0_t7_loop.trips) : BitVec 32 :=
  let c0_i32_80 : BitVec 32 := 0#32
  let c1_i32_81 : BitVec 32 := 1#32
  let arg42 : BitVec 32 := Scf.iv c0_i32_80 c1_i32_81 k0_t7
  let c256_i32 : BitVec 32 := 256#32
  let v391 : BitVec 32 := Scalar.muli arg42 c256_i32
  v391
def k0_off11 (k0_t7 : Fin k0_t7_loop.trips) : Fin 1 → Nat :=
  let c0_i32_80 : BitVec 32 := 0#32
  let c1_i32_81 : BitVec 32 := 1#32
  let arg42 : BitVec 32 := Scf.iv c0_i32_80 c1_i32_81 k0_t7
  let c14_i32_202 : BitVec 32 := 14#32
  let v390 : BitVec 32 := Scalar.remsi arg42 c14_i32_202
  ![v390.toNat]
def k0_off12 (k0_t7 : Fin k0_t7_loop.trips) : Fin 3 → Nat :=
  let c0_i32_80 : BitVec 32 := 0#32
  let c1_i32_81 : BitVec 32 := 1#32
  let arg42 : BitVec 32 := Scf.iv c0_i32_80 c1_i32_81 k0_t7
  let c14_i32_202 : BitVec 32 := 14#32
  let v390 : BitVec 32 := Scalar.remsi arg42 c14_i32_202
  let c0_i32_203 : BitVec 32 := 0#32
  let c0_i32_204 : BitVec 32 := 0#32
  ![v390.toNat, 0, 0]
def k0_off13 (k0_t7 : Fin k0_t7_loop.trips) : Fin 2 → Nat :=
  let c0_i32_205 : BitVec 32 := 0#32
  let c0_i32_80 : BitVec 32 := 0#32
  let c1_i32_81 : BitVec 32 := 1#32
  let arg42 : BitVec 32 := Scf.iv c0_i32_80 c1_i32_81 k0_t7
  let c256_i32 : BitVec 32 := 256#32
  let v391 : BitVec 32 := Scalar.muli arg42 c256_i32
  let v392 : BitVec 32 := v391
  ![0, v392.toNat]
def k0_off14 (k0_t7 : Fin k0_t7_loop.trips) : Fin 3 → Nat :=
  let c0_i32_80 : BitVec 32 := 0#32
  let c1_i32_81 : BitVec 32 := 1#32
  let arg42 : BitVec 32 := Scf.iv c0_i32_80 c1_i32_81 k0_t7
  let c14_i32_202 : BitVec 32 := 14#32
  let v390 : BitVec 32 := Scalar.remsi arg42 c14_i32_202
  let v399 : Index := Scalar.indexCast v390
  let c0_208 : Index := 0#32
  let c0_209 : Index := 0#32
  ![v399.toNat, 0, 0]
def k0_off15 (k0_t7 : Fin k0_t7_loop.trips) : Fin 3 → Nat :=
  let c0_i32_80 : BitVec 32 := 0#32
  let c1_i32_81 : BitVec 32 := 1#32
  let arg42 : BitVec 32 := Scf.iv c0_i32_80 c1_i32_81 k0_t7
  let c14_i32_202 : BitVec 32 := 14#32
  let v390 : BitVec 32 := Scalar.remsi arg42 c14_i32_202
  let v404 : Index := Scalar.indexCast v390
  let c6144_212 : Index := 6144#32
  let c0_213 : Index := 0#32
  ![v404.toNat, 6144, 0]
def k0_mult9 (k0_t7 : Fin k0_t7_loop.trips) : BitVec 32 :=
  let c0_i32_80 : BitVec 32 := 0#32
  let c1_i32_81 : BitVec 32 := 1#32
  let arg42 : BitVec 32 := Scf.iv c0_i32_80 c1_i32_81 k0_t7
  let c256_i32_215 : BitVec 32 := 256#32
  let v409 : BitVec 32 := Scalar.muli arg42 c256_i32_215
  let c0_i32_216 : BitVec 32 := 0#32
  let v410 : BitVec 32 := Scalar.addi v409 c0_i32_216
  v410
def k0_off16 (k0_t7 : Fin k0_t7_loop.trips) (c0_i32_216 : BitVec 32) : Fin 1 → Nat :=
  let c0_i32_80 : BitVec 32 := 0#32
  let c1_i32_81 : BitVec 32 := 1#32
  let arg42 : BitVec 32 := Scf.iv c0_i32_80 c1_i32_81 k0_t7
  let c256_i32_215 : BitVec 32 := 256#32
  let v409 : BitVec 32 := Scalar.muli arg42 c256_i32_215
  let v410 : BitVec 32 := Scalar.addi v409 c0_i32_216
  let v411 : BitVec 32 := v410
  let v412 : Index := Scalar.indexCast v411
  ![v412.toNat]
def k0_mult10 (k0_t7 : Fin k0_t7_loop.trips) : BitVec 32 :=
  let c0_i32_80 : BitVec 32 := 0#32
  let c1_i32_81 : BitVec 32 := 1#32
  let arg42 : BitVec 32 := Scf.iv c0_i32_80 c1_i32_81 k0_t7
  let c2_i32_217 : BitVec 32 := 2#32
  let v419 : BitVec 32 := Scalar.muli arg42 c2_i32_217
  let c0_i32_218 : BitVec 32 := 0#32
  let v420 : BitVec 32 := Scalar.addi v419 c0_i32_218
  let c16_i32_219 : BitVec 32 := 16#32
  let v421 : BitVec 32 := Scalar.muli v420 c16_i32_219
  v421
def k0_off17 (k0_t7 : Fin k0_t7_loop.trips) (c0_i32_218 : BitVec 32) : Fin 2 → Nat :=
  let c0_i32_80 : BitVec 32 := 0#32
  let c1_i32_81 : BitVec 32 := 1#32
  let arg42 : BitVec 32 := Scf.iv c0_i32_80 c1_i32_81 k0_t7
  let c2_i32_217 : BitVec 32 := 2#32
  let v419 : BitVec 32 := Scalar.muli arg42 c2_i32_217
  let v420 : BitVec 32 := Scalar.addi v419 c0_i32_218
  let c16_i32_219 : BitVec 32 := 16#32
  let v421 : BitVec 32 := Scalar.muli v420 c16_i32_219
  let v422 : BitVec 32 := v421
  let v423 : Index := Scalar.indexCast v422
  let c0_220 : Index := 0#32
  ![v423.toNat, 0]
def k0_off18 (k0_t7 : Fin k0_t7_loop.trips) (c0_i32_216 : BitVec 32) : Fin 2 → Nat :=
  let c0_223 : Index := 0#32
  let c0_i32_80 : BitVec 32 := 0#32
  let c1_i32_81 : BitVec 32 := 1#32
  let arg42 : BitVec 32 := Scf.iv c0_i32_80 c1_i32_81 k0_t7
  let c256_i32_215 : BitVec 32 := 256#32
  let v409 : BitVec 32 := Scalar.muli arg42 c256_i32_215
  let v410 : BitVec 32 := Scalar.addi v409 c0_i32_216
  let v411 : BitVec 32 := v410
  let v440 : Index := Scalar.indexCast v411
  ![0, v440.toNat]
def k0_mult11 (k0_t7 : Fin k0_t7_loop.trips) : BitVec 32 :=
  let c0_i32_80 : BitVec 32 := 0#32
  let c1_i32_81 : BitVec 32 := 1#32
  let arg42 : BitVec 32 := Scf.iv c0_i32_80 c1_i32_81 k0_t7
  let c256_i32_224 : BitVec 32 := 256#32
  let v447 : BitVec 32 := Scalar.muli arg42 c256_i32_224
  let c128_i32 : BitVec 32 := 128#32
  let v448 : BitVec 32 := Scalar.addi v447 c128_i32
  v448
def k0_mult12 (k0_t7 : Fin k0_t7_loop.trips) : BitVec 32 :=
  let c0_i32_80 : BitVec 32 := 0#32
  let c1_i32_81 : BitVec 32 := 1#32
  let arg42 : BitVec 32 := Scf.iv c0_i32_80 c1_i32_81 k0_t7
  let c2_i32_225 : BitVec 32 := 2#32
  let v457 : BitVec 32 := Scalar.muli arg42 c2_i32_225
  let c1_i32_226 : BitVec 32 := 1#32
  let v458 : BitVec 32 := Scalar.addi v457 c1_i32_226
  let c16_i32_227 : BitVec 32 := 16#32
  let v459 : BitVec 32 := Scalar.muli v458 c16_i32_227
  v459
def k0_cond1 (k0_t7 : Fin k0_t7_loop.trips) : BitVec 1 :=
  let c0_i32_80 : BitVec 32 := 0#32
  let c1_i32_81 : BitVec 32 := 1#32
  let arg42 : BitVec 32 := Scf.iv c0_i32_80 c1_i32_81 k0_t7
  let c1_i32_480 : BitVec 32 := 1#32
  let v764 : BitVec 1 := Scalar.cmpi .sge arg42 c1_i32_480
  let v765 : BitVec 32 := Scalar.extui v764
  let c0_i32_481 : BitVec 32 := 0#32
  let v766 : BitVec 1 := Scalar.cmpi .ne v765 c0_i32_481
  v766

def k0_mult13 (k0_t7 : Fin k0_t7_loop.trips) : BitVec 32 :=
  let c0_i32_80 : BitVec 32 := 0#32
  let c1_i32_81 : BitVec 32 := 1#32
  let arg42 : BitVec 32 := Scf.iv c0_i32_80 c1_i32_81 k0_t7
  let c1_i32_485 : BitVec 32 := 1#32
  let v771 : BitVec 32 := Scalar.subi arg42 c1_i32_485
  let c256_i32_486 : BitVec 32 := 256#32
  let v772 : BitVec 32 := Scalar.muli v771 c256_i32_486
  v772
def k0_off19 (k0_t7 : Fin k0_t7_loop.trips) : Fin 2 → Nat :=
  let c0_i32_487 : BitVec 32 := 0#32
  let c0_i32_80 : BitVec 32 := 0#32
  let c1_i32_81 : BitVec 32 := 1#32
  let arg42 : BitVec 32 := Scf.iv c0_i32_80 c1_i32_81 k0_t7
  let c1_i32_485 : BitVec 32 := 1#32
  let v771 : BitVec 32 := Scalar.subi arg42 c1_i32_485
  let c256_i32_486 : BitVec 32 := 256#32
  let v772 : BitVec 32 := Scalar.muli v771 c256_i32_486
  let v773 : BitVec 32 := v772
  ![0, v773.toNat]
def k0_cond2 (k0_t7 : Fin k0_t7_loop.trips) : BitVec 1 :=
  let c0_i32_80 : BitVec 32 := 0#32
  let c1_i32_81 : BitVec 32 := 1#32
  let arg42 : BitVec 32 := Scf.iv c0_i32_80 c1_i32_81 k0_t7
  let c14_i32_482 : BitVec 32 := 14#32
  let v767 : BitVec 32 := Scalar.addi arg42 c14_i32_482
  let c125_i32_483 : BitVec 32 := 125#32
  let v768 : BitVec 1 := Scalar.cmpi .slt v767 c125_i32_483
  let v769 : BitVec 32 := Scalar.extui v768
  let c0_i32_484 : BitVec 32 := 0#32
  let v770 : BitVec 1 := Scalar.cmpi .ne v769 c0_i32_484
  v770

def k0_mult14 (k0_t7 : Fin k0_t7_loop.trips) : BitVec 32 :=
  let c0_i32_80 : BitVec 32 := 0#32
  let c1_i32_81 : BitVec 32 := 1#32
  let arg42 : BitVec 32 := Scf.iv c0_i32_80 c1_i32_81 k0_t7
  let c14_i32_485 : BitVec 32 := 14#32
  let v771 : BitVec 32 := Scalar.addi arg42 c14_i32_485
  let c256_i32_486 : BitVec 32 := 256#32
  let v772 : BitVec 32 := Scalar.muli v771 c256_i32_486
  v772
def k0_off20 (k0_t7 : Fin k0_t7_loop.trips) : Fin 1 → Nat :=
  let c0_i32_80 : BitVec 32 := 0#32
  let c1_i32_81 : BitVec 32 := 1#32
  let arg42 : BitVec 32 := Scf.iv c0_i32_80 c1_i32_81 k0_t7
  let c14_i32_202 : BitVec 32 := 14#32
  let v390 : BitVec 32 := Scalar.remsi arg42 c14_i32_202
  ![v390.toNat]
def k0_off21 (k0_t7 : Fin k0_t7_loop.trips) : Fin 3 → Nat :=
  let c0_i32_80 : BitVec 32 := 0#32
  let c1_i32_81 : BitVec 32 := 1#32
  let arg42 : BitVec 32 := Scf.iv c0_i32_80 c1_i32_81 k0_t7
  let c14_i32_202 : BitVec 32 := 14#32
  let v390 : BitVec 32 := Scalar.remsi arg42 c14_i32_202
  let c0_i32_487 : BitVec 32 := 0#32
  let c0_i32_488 : BitVec 32 := 0#32
  ![v390.toNat, 0, 0]
def k0_off22 (k0_t7 : Fin k0_t7_loop.trips) : Fin 2 → Nat :=
  let c0_i32_489 : BitVec 32 := 0#32
  let c0_i32_80 : BitVec 32 := 0#32
  let c1_i32_81 : BitVec 32 := 1#32
  let arg42 : BitVec 32 := Scf.iv c0_i32_80 c1_i32_81 k0_t7
  let c14_i32_485 : BitVec 32 := 14#32
  let v771 : BitVec 32 := Scalar.addi arg42 c14_i32_485
  let c256_i32_486 : BitVec 32 := 256#32
  let v772 : BitVec 32 := Scalar.muli v771 c256_i32_486
  let v773 : BitVec 32 := v772
  ![0, v773.toNat]
def k0_mult15 : BitVec 32 :=
  let c31744_i32 : BitVec 32 := 31744#32
  c31744_i32
-- ==== RefIdeal.lean ====
abbrev S16x12288 : Shape := ⟨2, ![16, 12288]⟩
abbrev S12288 : Shape := ⟨1, ![12288]⟩
abbrev S12288x32000 : Shape := ⟨2, ![12288, 32000]⟩
abbrev S32000 : Shape := ⟨1, ![32000]⟩
abbrev S16x1024 : Shape := ⟨2, ![16, 1024]⟩
abbrev S16 : Shape := ⟨1, ![16]⟩
abbrev S16x20 : Shape := ⟨2, ![16, 20]⟩
abbrev S_ : Shape := ⟨0, ![]⟩
abbrev S16x1 : Shape := ⟨2, ![16, 1]⟩
abbrev S1x12288 : Shape := ⟨2, ![1, 12288]⟩
abbrev S254 : Shape := ⟨1, ![254]⟩
abbrev S1x254 : Shape := ⟨2, ![1, 254]⟩
abbrev S16x254 : Shape := ⟨2, ![16, 254]⟩
abbrev S16x32000 : Shape := ⟨2, ![16, 32000]⟩
abbrev S1x32000 : Shape := ⟨2, ![1, 32000]⟩
abbrev S1x1x32000 : Shape := ⟨3, ![1, 1, 32000]⟩
abbrev S1024 : Shape := ⟨1, ![1024]⟩
abbrev S1x1024 : Shape := ⟨2, ![1, 1024]⟩
abbrev S16x1024x1 : Shape := ⟨3, ![16, 1024, 1]⟩
abbrev S16x1024x32000 : Shape := ⟨3, ![16, 1024, 32000]⟩
abbrev S16x20x1 : Shape := ⟨3, ![16, 20, 1]⟩
abbrev S16x20x32000 : Shape := ⟨3, ![16, 20, 32000]⟩
abbrev S16x1x32000 : Shape := ⟨3, ![16, 1, 32000]⟩
abbrev S1x16 : Shape := ⟨2, ![1, 16]⟩

abbrev nBuf : Space → Nat
  | .hbm => 167
  | .vmem => 3
  | .smem => 0
  | _ => 0

abbrev hbmTy0_0 (i : Nat) : BufTy := match i % 128 with
  | 0 => ⟨S16x12288, .bf16⟩
  | 1 => ⟨S12288, .f32⟩
  | 2 => ⟨S12288x32000, .fp8e4m3⟩
  | 3 => ⟨S32000, .f32⟩
  | 4 => ⟨S16x1024, .i32⟩
  | 5 => ⟨S16, .i32⟩
  | 6 => ⟨S16, .f32⟩
  | 7 => ⟨S16, .f32⟩
  | 8 => ⟨S16, .f32⟩
  | 9 => ⟨S16, .f32⟩
  | 10 => ⟨S16x20, .i32⟩
  | 11 => ⟨S16x12288, .f32⟩
  | 12 => ⟨S16x12288, .f32⟩
  | 13 => ⟨S_, .f32⟩
  | 14 => ⟨S16, .f32⟩
  | 15 => ⟨S16x1, .f32⟩
  | 16 => ⟨S_, .f32⟩
  | 17 => ⟨S16x1, .f32⟩
  | 18 => ⟨S16x1, .f32⟩
  | 19 => ⟨S_, .f32⟩
  | 20 => ⟨S16x1, .f32⟩
  | 21 => ⟨S16x1, .f32⟩
  | 22 => ⟨S16x1, .f32⟩
  | 23 => ⟨S16x12288, .f32⟩
  | 24 => ⟨S16x12288, .f32⟩
  | 25 => ⟨S1x12288, .f32⟩
  | 26 => ⟨S16x12288, .f32⟩
  | 27 => ⟨S16x12288, .f32⟩
  | 28 => ⟨S16x12288, .f32⟩
  | 29 => ⟨S_, .f32⟩
  | 30 => ⟨S16, .f32⟩
  | 31 => ⟨S16x1, .f32⟩
  | 32 => ⟨S_, .f32⟩
  | 33 => ⟨S16x1, .f32⟩
  | 34 => ⟨S16x1, .f32⟩
  | 35 => ⟨S254, .i32⟩
  | 36 => ⟨S_, .i32⟩
  | 37 => ⟨S254, .i32⟩
  | 38 => ⟨S254, .i32⟩
  | 39 => ⟨S_, .f32⟩
  | 40 => ⟨S254, .f32⟩
  | 41 => ⟨S254, .f32⟩
  | 42 => ⟨S254, .f32⟩
  | 43 => ⟨S1x254, .f32⟩
  | 44 => ⟨S16x254, .f32⟩
  | 45 => ⟨S16x254, .f32⟩
  | 46 => ⟨S16x254, .i1⟩
  | 47 => ⟨S_, .i32⟩
  | 48 => ⟨S_, .i32⟩
  | 49 => ⟨S16x254, .i32⟩
  | 50 => ⟨S16x254, .i32⟩
  | 51 => ⟨S16x254, .i32⟩
  | 52 => ⟨S16x254, .i32⟩
  | 53 => ⟨S_, .i32⟩
  | 54 => ⟨S16, .i32⟩
  | 55 => ⟨S16x1, .i32⟩
  | 56 => ⟨S_, .i32⟩
  | 57 => ⟨S16x1, .i32⟩
  | 58 => ⟨S16x1, .i1⟩
  | 59 => ⟨S_, .i32⟩
  | 60 => ⟨S16x1, .i32⟩
  | 61 => ⟨S16x1, .i32⟩
  | 62 => ⟨S_, .i32⟩
  | 63 => ⟨S_, .i32⟩
  | 64 => ⟨S16x1, .i32⟩
  | 65 => ⟨S16x1, .i32⟩
  | 66 => ⟨S16x1, .i32⟩
  | 67 => ⟨S_, .f32⟩
  | 68 => ⟨S16x1, .f32⟩
  | 69 => ⟨S16x1, .f32⟩
  | 70 => ⟨S16x1, .f32⟩
  | 71 => ⟨S16x12288, .f32⟩
  | 72 => ⟨S16x12288, .f32⟩
  | 73 => ⟨S_, .f32⟩
  | 74 => ⟨S_, .f32⟩
  | 75 => ⟨S_, .f32⟩
  | 76 => ⟨S16x12288, .f32⟩
  | 77 => ⟨S16x12288, .f32⟩
  | 78 => ⟨S_, .f32⟩
  | 79 => ⟨S16x12288, .f32⟩
  | 80 => ⟨S16x12288, .f32⟩
  | 81 => ⟨S16x12288, .fp8e4m3⟩
  | 82 => ⟨S_, .f32⟩
  | 83 => ⟨S16x1, .f32⟩
  | 84 => ⟨S16x1, .f32⟩
  | 85 => ⟨S16x1, .f32⟩
  | 86 => ⟨S16x32000, .f32⟩
  | 87 => ⟨S16x32000, .f32⟩
  | 88 => ⟨S16x32000, .f32⟩
  | 89 => ⟨S1x32000, .f32⟩
  | 90 => ⟨S16x32000, .f32⟩
  | 91 => ⟨S16x32000, .f32⟩
  | 92 => ⟨S32000, .i32⟩
  | 93 => ⟨S1x1x32000, .i32⟩
  | 94 => ⟨S1024, .i32⟩
  | 95 => ⟨S1x1024, .i32⟩
  | 96 => ⟨S16x1, .i32⟩
  | 97 => ⟨S16x1024, .i32⟩
  | 98 => ⟨S16x1024, .i32⟩
  | 99 => ⟨S16x1024, .i1⟩
  | 100 => ⟨S16x1024x1, .i1⟩
  | 101 => ⟨S16x1024x1, .i32⟩
  | 102 => ⟨S16x1024x32000, .i32⟩
  | 103 => ⟨S16x1024x32000, .i32⟩
  | 104 => ⟨S16x1024x32000, .i1⟩
  | 105 => ⟨S16x1024x32000, .i1⟩
  | 106 => ⟨S16x1024x32000, .i1⟩
  | 107 => ⟨S_, .f32⟩
  | 108 => ⟨S_, .f32⟩
  | 109 => ⟨S16x1024x32000, .f32⟩
  | 110 => ⟨S16x1024x32000, .f32⟩
  | 111 => ⟨S16x1024x32000, .f32⟩
  | 112 => ⟨S16x1024x32000, .f32⟩
  | 113 => ⟨S_, .f32⟩
  | 114 => ⟨S16x32000, .f32⟩
  | 115 => ⟨S_, .f32⟩
  | 116 => ⟨S16x32000, .f32⟩
  | 117 => ⟨S16x32000, .i1⟩
  | 118 => ⟨S16x1, .f32⟩
  | 119 => ⟨S_, .f32⟩
  | 120 => ⟨S16x32000, .f32⟩
  | 121 => ⟨S16x32000, .i1⟩
  | 122 => ⟨S16x32000, .f32⟩
  | 123 => ⟨S16x32000, .f32⟩
  | 124 => ⟨S16x32000, .f32⟩
  | 125 => ⟨S16x32000, .f32⟩
  | 126 => ⟨S16x32000, .f32⟩
  | 127 => ⟨S16x32000, .f32⟩
  | _ => ⟨S16x12288, .bf16⟩

abbrev hbmTy0_1 (i : Nat) : BufTy := match i % 128 with
  | 0 => ⟨S16x1, .f32⟩
  | 1 => ⟨S16x32000, .f32⟩
  | 2 => ⟨S16x32000, .f32⟩
  | 3 => ⟨S16x32000, .f32⟩
  | 4 => ⟨S16x32000, .f32⟩
  | 5 => ⟨S16x1, .f32⟩
  | 6 => ⟨S16x32000, .f32⟩
  | 7 => ⟨S16x32000, .f32⟩
  | 8 => ⟨S16x32000, .f32⟩
  | 9 => ⟨S16x1, .f32⟩
  | 10 => ⟨S16x32000, .f32⟩
  | 11 => ⟨S16x32000, .f32⟩
  | 12 => ⟨S_, .f32⟩
  | 13 => ⟨S16, .f32⟩
  | 14 => ⟨S16x1, .f32⟩
  | 15 => ⟨S16x32000, .f32⟩
  | 16 => ⟨S16x32000, .f32⟩
  | 17 => ⟨S16x32000, .f32⟩
  | 18 => ⟨S_, .f32⟩
  | 19 => ⟨S16, .f32⟩
  | 20 => ⟨S16x1, .f32⟩
  | 21 => ⟨S16x1, .f32⟩
  | 22 => ⟨S16x1, .f32⟩
  | 23 => ⟨S16x20x1, .i32⟩
  | 24 => ⟨S16x20x32000, .i32⟩
  | 25 => ⟨S16x20x32000, .i32⟩
  | 26 => ⟨S16x20x32000, .i1⟩
  | 27 => ⟨S16x1x32000, .f32⟩
  | 28 => ⟨S_, .f32⟩
  | 29 => ⟨S_, .f32⟩
  | 30 => ⟨S16x20x32000, .f32⟩
  | 31 => ⟨S16x20x32000, .f32⟩
  | 32 => ⟨S16x20x32000, .f32⟩
  | 33 => ⟨S_, .f32⟩
  | 34 => ⟨S16x20, .f32⟩
  | 35 => ⟨S1x16, .f32⟩
  | 36 => ⟨S16x20, .f32⟩
  | 37 => ⟨S16x20, .f32⟩
  | 38 => ⟨S1x16, .f32⟩
  | _ => ⟨S16x12288, .bf16⟩

abbrev hbmTy (i : Nat) : BufTy := match i / 128 with
  | 0 => hbmTy0_0 i
  | 1 => hbmTy0_1 i
  | _ => ⟨S16x12288, .bf16⟩

abbrev bufTy : (tb : Table) → Fin (tcTables nBuf tb) → BufTy
  | .hbm, ⟨i, _⟩ => hbmTy i
  | .local _ .vmem, ⟨0, _⟩ => ⟨S16x12288, .fp8e4m3⟩
  | .local _ .vmem, ⟨1, _⟩ => ⟨S12288x32000, .fp8e4m3⟩
  | .local _ .vmem, ⟨2, _⟩ => ⟨S16x32000, .f32⟩
  | _, _ => ⟨S16x12288, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_c_6 : Ref sig .tc := ⟨.hbm, 48, rfl⟩
abbrev main_call0_v0 : Ref sig .tc := ⟨.hbm, 49, rfl⟩
abbrev main_call0_v1 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_c_9 : Ref sig .tc := ⟨.hbm, 59, rfl⟩
abbrev main_v35 : Ref sig .tc := ⟨.hbm, 60, rfl⟩
abbrev main_v36 : Ref sig .tc := ⟨.hbm, 61, rfl⟩
abbrev main_c_10 : Ref sig .tc := ⟨.hbm, 62, rfl⟩
abbrev main_call1_v0 : Ref sig .tc := ⟨.hbm, 63, rfl⟩
abbrev main_call1_v1 : Ref sig .tc := ⟨.hbm, 64, rfl⟩
abbrev main_v37 : Ref sig .tc := ⟨.hbm, 65, rfl⟩
abbrev main_v38 : Ref sig .tc := ⟨.hbm, 66, rfl⟩
abbrev main_cst_11 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_12 : Ref sig .tc := ⟨.hbm, 73, rfl⟩
abbrev main_cst_13 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v44 : Ref sig .tc := ⟨.hbm, 80, rfl⟩
abbrev main_v45 : Ref sig .tc := ⟨.hbm, 81, rfl⟩
abbrev main_cst_14 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_15 : Ref sig .tc := ⟨.hbm, 107, rfl⟩
abbrev main_cst_16 : Ref sig .tc := ⟨.hbm, 108, rfl⟩
abbrev main_call3_v0 : Ref sig .tc := ⟨.hbm, 109, rfl⟩
abbrev main_call3_v1 : Ref sig .tc := ⟨.hbm, 110, rfl⟩
abbrev main_v70 : Ref sig .tc := ⟨.hbm, 111, rfl⟩
abbrev main_v71 : Ref sig .tc := ⟨.hbm, 112, rfl⟩
abbrev main_cst_17 : Ref sig .tc := ⟨.hbm, 113, rfl⟩
abbrev main_v72 : Ref sig .tc := ⟨.hbm, 114, rfl⟩
abbrev main_cst_18 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_cst_19 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_20 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_21 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_22 : Ref sig .tc := ⟨.hbm, 156, rfl⟩
abbrev main_call6_v0 : Ref sig .tc := ⟨.hbm, 157, rfl⟩
abbrev main_call6_v1 : Ref sig .tc := ⟨.hbm, 158, rfl⟩
abbrev main_call6_v2 : Ref sig .tc := ⟨.hbm, 159, rfl⟩
abbrev main_v110 : Ref sig .tc := ⟨.hbm, 160, rfl⟩
abbrev main_cst_23 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16x12288 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x32000 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x32000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Own.lean ====
/-
  Holding part of a memref at named values.

  `own c m S q x` says: core `c` holds, at share `q`, the elements of the memref `m` whose
  indices lie in `S`, and the element at index `i` reads `x i`.  The values are indexed by
  the memref's own indices, so a kernel proof speaks of tensors and never of raw contents.
  The lemmas: change the values off `S`, split along index sets, view a slice or a squeeze
  as an own memref, and the rules for a load, a store and a local transfer.
-/
module

public import Idealize.ShloMosaic.Lib.Batch
public import Idealize.ShloMosaic.Lib.VecWindow
public import Idealize.ShloMosaic.Lib.Exec.Geometry
public import Idealize.ShloMosaic.Lib.Exec.Context
public import Idealize.ShloMosaic.Rules.Step

@[expose] public section

noncomputable section

namespace Cert.Own

open Idealize.ShloMosaic
open Idealize.SL
open Idealize.SL.BI (sProp bigSep Storable)
open scoped Idealize.SL.BI
open Idealize.SL.BI.BIBase Idealize.SL.BI.Laws Idealize.SL.Sem Idealize.SL.ProofMode
open Idealize.SL.RA
open PCS URA Auth
open Idealize.ShloMosaic.Transfers

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

variable [∀ e, Nonempty (Val e)]
variable {sp sp' : Space} {s s' : Shape} {e : EltTy}

/-- The values of a buffer written stage by stage, `p i` the stage that writes element `i`: after `t` stages `v` where it has been written, `y` elsewhere. -/
def upto {s : Shape} {V : Type} (p : s.Idx → ℕ) (t : ℕ) (v y : s.Idx → V) : s.Idx → V := fun i => if p i < t then v i else y i

theorem upto_zero {s : Shape} {V : Type} (p : s.Idx → ℕ) (v y : s.Idx → V) : upto p 0 v y = y := by
  funext i; rw [upto, if_neg (Nat.not_lt_zero _)]

theorem upto_all {s : Shape} {V : Type} {p : s.Idx → ℕ} {t : ℕ} (v y : s.Idx → V) (h : ∀ i, p i < t) : upto p t v y = v := by
  funext i; rw [upto, if_pos (h i)]

theorem upto_not {s : Shape} {V : Type} {p : s.Idx → ℕ} {t : ℕ} {v y : s.Idx → V} {i : s.Idx} (h : t ≤ p i) : upto p t v y i = y i := by
  rw [upto, if_neg (by omega)]

/-- The elements of `m` at the indices `S` are held at share `q` and read `x`. -/
def own (c : Thread nD τ) (m : Memref sig c.2.kind sp s e) (S : Finset s.Idx) (q : PosShare TreeShare) (x : s.Idx → Val e) : sProp 𝕄 :=
  m.view.loc c ↦[m.view.setOn S]{q} m.view.rep x

instance (c : Thread nD τ) (m : Memref sig c.2.kind sp s e) (S : Finset s.Idx) (q : PosShare TreeShare) (x : s.Idx → Val e) :
    Storable (upEmb : UEmb _ 𝕄) (own c m S q x) := by unfold own; infer_instance

/-- Values outside the held indices do not matter. -/
theorem own_congr {c : Thread nD τ} {m : Memref sig c.2.kind sp s e} {S : Finset s.Idx} {q : PosShare TreeShare} {x y : s.Idx → Val e}
    (h : ∀ i ∈ S, x i = y i) : (own c m S q x : sProp 𝕄) = own c m S q y := by
  unfold own
  refine pointsTo_congr fun i hi => ?_
  obtain ⟨j, hj, rfl⟩ := Finset.mem_map.mp hi
  rw [View.rep_emb, View.rep_emb, h j hj]

/-- Any contents of the memref's elements are the values they read. -/
theorem own_of_pointsTo {c : Thread nD τ} {m : Memref sig c.2.kind sp s e} {S : Finset s.Idx} {q : PosShare TreeShare} (f : Buf Val (m.view.loc c)) :
    (m.view.loc c ↦[m.view.setOn S]{q} f : sProp 𝕄) = own c m S q (m.view.read Val f) := by
  unfold own
  refine pointsTo_congr fun i hi => ?_
  obtain ⟨j, hj, rfl⟩ := Finset.mem_map.mp hi
  rw [View.rep_emb, View.read_apply, cast_cast, cast_eq]

/-- A whole buffer's contents are its values at every index. -/
theorem own_whole (c : Thread nD τ) (b : Ref sig c.2.kind) (q : PosShare TreeShare) (f : b.ty.Contents Val) :
    (own c (Memref.whole b) Finset.univ q f : sProp 𝕄) = ((c.loc b) ↦{q} f) := by
  refine (own_of_pointsTo (c := c) (m := Memref.whole b) (S := Finset.univ) (q := q) f).symm.trans ?_
  have h : (Memref.whole b).view.setOn Finset.univ = Finset.univ := by
    show (Memref.whole b).view.set = Finset.univ
    rw [Memref.view_whole]
    exact View.set_whole ..
  exact congrArg (fun S => (c.loc b ↦[S]{q} f : sProp 𝕄)) h

/-- Disjoint index sets are held apart. -/
theorem own_union {c : Thread nD τ} {m : Memref sig c.2.kind sp s e} {S T : Finset s.Idx} {q : PosShare TreeShare} {x : s.Idx → Val e} (h : Disjoint S T) :
    (own c m (S ∪ T) q x : sProp 𝕄) = iprop(own c m S q x ∗ own c m T q x) := by
  unfold own
  rw [show m.view.setOn (S ∪ T) = m.view.setOn S ∪ m.view.setOn T from Finset.map_union _ _]
  have hu : (m.view.loc c ↦[m.view.setOn S ∪ m.view.setOn T]{q} m.view.rep x : sProp 𝕄)
      ⊣⊢ iprop((m.view.loc c ↦[m.view.setOn S]{q} m.view.rep x) ∗ m.view.loc c ↦[m.view.setOn T]{q} m.view.rep x) :=
    pointsTo_union ((Finset.disjoint_map _).mpr h)
  exact BI.equiv_iff.mp ⟨hu.1, hu.2⟩

/-- A family of pairwise disjoint index sets is held apart. -/
theorem own_biUnion {c : Thread nD τ} {m : Memref sig c.2.kind sp s e} {q : PosShare TreeShare} {x : s.Idx → Val e} {T : Type} (I : Finset T) (K : T → Finset s.Idx)
    (h : ∀ t ∈ I, ∀ t' ∈ I, t ≠ t' → Disjoint (K t) (K t')) :
    (own c m (I.biUnion K) q x : sProp 𝕄) = bigSep I fun t => own c m (K t) q x := by
  classical
  unfold own
  refine Eq.trans ?_ (pointsTo_biUnion (ℓ := m.view.loc c) (q := q) (f := m.view.rep x) I (fun t => m.view.setOn (K t)) fun t ht t' ht' hne => (Finset.disjoint_map _).mpr (h t ht t' ht' hne))
  congr 1
  ext i
  simp only [View.setOn, Finset.mem_map, Finset.mem_biUnion]
  constructor
  · rintro ⟨j, ⟨t, ht, hj⟩, rfl⟩; exact ⟨t, ht, j, hj, rfl⟩
  · rintro ⟨t, ht, j, hj, rfl⟩; exact ⟨j, ⟨t, ht, hj⟩, rfl⟩

/-- A part of the held indices and the rest. -/
theorem own_split {c : Thread nD τ} {m : Memref sig c.2.kind sp s e} {S T : Finset s.Idx} {q : PosShare TreeShare} {x : s.Idx → Val e} (h : T ⊆ S) :
    (own c m S q x : sProp 𝕄) = iprop(own c m T q x ∗ own c m (S \ T) q x) := by
  rw [← own_union Finset.disjoint_sdiff, Finset.union_sdiff_of_subset h]

/-- A share of the values is two shares of the same values. -/
theorem own_share {c : Thread nD τ} {m : Memref sig c.2.kind sp s e} {S : Finset s.Idx} {q q₁ q₂ : PosShare TreeShare} {x : s.Idx → Val e} (h : q ∈ q₁ ·? q₂) :
    (own c m S q x : sProp 𝕄) = iprop(own c m S q₁ x ∗ own c m S q₂ x) := by
  unfold own
  have hu : (m.view.loc c ↦[m.view.setOn S]{q} m.view.rep x : sProp 𝕄)
      ⊣⊢ iprop((m.view.loc c ↦[m.view.setOn S]{q₁} m.view.rep x) ∗ m.view.loc c ↦[m.view.setOn S]{q₂} m.view.rep x) :=
    pointsTo_share h
  exact BI.equiv_iff.mp ⟨hu.1, hu.2⟩

/-- A slice, as a memref of its own, holds the parent's elements at the slice's indices. -/
theorem own_slice {c : Thread nD τ} {m : Memref sig c.2.kind sp s e} {r : Rect s} {hr : ∀ a, r.stride a = 1} {q : PosShare TreeShare} {x : s.Idx → Val e} :
    (own c (m.slice r hr) Finset.univ q (fun j => x (r.emb j)) : sProp 𝕄) = own c m r.set q x := by
  unfold own
  have hs : (m.slice r hr).view.setOn Finset.univ = m.view.setOn r.set := by
    rw [View.setOn_univ]; exact View.set_slice _ _
  show (m.view.loc c ↦[(m.slice r hr).view.setOn Finset.univ]{q} _ : sProp 𝕄) = _
  rw [hs]
  refine pointsTo_congr fun i hi => ?_
  obtain ⟨j, hj, rfl⟩ := Finset.mem_map.mp hi
  obtain ⟨k, rfl⟩ := r.exists_idx_of_mem hj
  rw [View.rep_emb]
  exact View.rep_emb (m.view.slice r) (fun j => x (r.emb j)) k

/-- A squeeze holds the same elements, indexed by the squeezed shape. -/
theorem own_squeeze {c : Thread nD τ} {m : Memref sig c.2.kind sp s e} {h : s.Squeezes s'} {q : PosShare TreeShare} {x : s.Idx → Val e} :
    (own c (m.squeeze s' h) Finset.univ q (fun j => x (Shape.reshapeEquiv h.numel_eq j)) : sProp 𝕄) = own c m Finset.univ q x := by
  unfold own
  have hs : (m.squeeze s' h).view.setOn Finset.univ = m.view.setOn Finset.univ := by
    ext i
    simp only [View.setOn, Finset.mem_map, Finset.mem_univ, true_and]
    constructor
    · rintro ⟨j, rfl⟩; exact ⟨Shape.reshapeEquiv h.numel_eq j, rfl⟩
    · rintro ⟨j, rfl⟩
      exact ⟨(Shape.reshapeEquiv h.numel_eq).symm j, congrArg m.view.emb (Equiv.apply_symm_apply _ _)⟩
  show (m.view.loc c ↦[(m.squeeze s' h).view.setOn Finset.univ]{q} _ : sProp 𝕄) = _
  rw [hs]
  refine pointsTo_congr fun i hi => ?_
  obtain ⟨j, hj, rfl⟩ := Finset.mem_map.mp hi
  obtain ⟨k, rfl⟩ := (Shape.reshapeEquiv h.numel_eq).surjective j
  rw [View.rep_emb]
  exact View.rep_emb (m.view.reshape s' h.numel_eq) (fun j => x (Shape.reshapeEquiv h.numel_eq j)) k

section Rules

variable [Preorder Lvl] {Λ : Labels} {defs : Defs nD τ sig Val Λ} (𝒱 : Variants) (c : Thread nD τ) (bd : Option 𝒱.V)
variable {α : Type} {Q : α → sProp (MT nD τ sig Ix Val Name U Lvl)}

/-- A load reads the values at its indices. -/
theorem wp_load_own {cs : CoreSpace} {m : Memref sig c.2.kind cs s e} {r : LoadRect s} {hl : m.view.LoadsAt r}
    {k : (r.shape.Idx → Val e) → Prog (TpuEff nD τ sig Val Λ c.2) α} {E : Set Name}
    {S : Finset s.Idx} {q : PosShare TreeShare} {x : s.Idx → Val e} (hS : r.set ⊆ S) :
    own c m S q x
      ⊢ iprop((own c m S q x -∗ wp frame (wpE defs 𝒱 c bd) E (k (fun j => x (r.idx j))) Q)
        -∗ wp frame (wpE defs 𝒱 c bd) E (.op (.load m r hl) k) Q) := by
  have h := wp_load (defs := defs) (Γ := []) 𝒱 c bd (Q := Q) (E := E) (hl := hl) (k := k) (q := q) (f := m.view.rep x)
    (S := m.view.setOn S) (Finset.map_subset_map.mpr hS)
  rw [View.readAt_rep] at h
  exact h

/-- A store of `w` at the rectangle `r` leaves any values that are `w` there and the old ones elsewhere. -/
theorem wp_store_own {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {E : Set Name} {S : Finset s.Idx} {x : s.Idx → Val e}
    (y : s.Idx → Val e) (hS : r.set ⊆ S) (hw : ∀ j, y (r.emb j) = w j) (ho : ∀ i ∈ S, i ∉ r.set → y i = x i) :
    own c m S fullShare x
      ⊢ iprop((own c m S fullShare y -∗ wp frame (wpE defs 𝒱 c bd) E (k ⟨⟩) Q)
        -∗ wp frame (wpE defs 𝒱 c bd) E (.op (.store m r w Finset.univ hx hm) k) Q) := by
  have hset : (m.access r).setOn Finset.univ = m.view.setOn r.set := by
    rw [View.setOn_univ]; exact View.set_slice _ _
  have h := wp_store (defs := defs) (Γ := []) 𝒱 c bd (Q := Q) (E := E) (m := m) (r := r) (w := w) (hx := hx) (hm := hm) (k := k) (f := m.view.rep x)
    (S := m.view.setOn S) (by rw [hset]; exact Finset.map_subset_map.mpr hS)
  have e : (m.view.loc c ↦[m.view.setOn S]{fullShare} ((m.access r).write Val (m.view.rep x) w Finset.univ) : sProp 𝕄) = own c m S fullShare y := by
    unfold own
    refine pointsTo_congr fun i hi => ?_
    obtain ⟨j, hj, rfl⟩ := Finset.mem_map.mp hi
    rw [View.rep_emb]
    by_cases hjr : j ∈ r.set
    · obtain ⟨k, rfl⟩ := r.exists_idx_of_mem hjr
      rw [show y (r.idx k) = w k from hw k]
      exact View.write_emb_of_mem (v := m.view.slice r) _ _ (Finset.mem_univ k)
    · rw [ho j hj hjr, View.write_of_not_mem, View.rep_emb]
      rw [hset]; intro hc; exact hjr ((m.view.mem_setOn).mp hc)
  rw [show own c m S fullShare x = (m.view.loc c ↦[m.view.setOn S]{fullShare} m.view.rep x : sProp 𝕄) from rfl, ← e]
  exact h

variable (EC : UEmb Counters (MT nD τ sig Ix Val Name U Lvl))

/-- What a transfer leaves in a destination held whole: the source's values. -/
theorem own_landed {dst : Memref sig c.2.kind sp' s e} {x y : s.Idx → Val e} :
    (dst.view.loc c ↦[dst.view.set]{fullShare} (dst.view.write Val (dst.view.rep y) x Finset.univ) : sProp 𝕄) = own c dst Finset.univ fullShare x := by
  unfold own
  rw [View.setOn_univ]
  refine pointsTo_congr fun i hi => ?_
  obtain ⟨j, hj, rfl⟩ := Finset.mem_map.mp hi
  rw [View.rep_emb, View.write_emb_of_mem _ _ (Finset.mem_univ j)]

/-- A local transfer in flight: at the wait it delivers the source's values in the destination and the source back. -/
theorem wp_dma_own [Infinite Name] [EC.LandsIn (upEmb : UEmb _ 𝕄)] {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {x y : s.Idx → Val e}
    (ι : Ix) (N : ℕ) (hN : dst.view.amount sm = N) (hN0 : 0 < N) :
    iprop(own c src Finset.univ q x ∗ own c dst Finset.univ fullShare y ∗ semVal (c, sm) 0)
      ⊢ iprop((Flight EC c sm ι N iprop(own c dst Finset.univ fullShare x ∗ own c src Finset.univ q x)
              -∗ wp frame (wpE defs 𝒱 c bd) Set.univ (k ⟨⟩) Q)
          -∗ wp frame (wpE defs 𝒱 c bd) Set.univ (.op (.enqueueDma src (.here dst) sm hsrc hdst hsem) k) Q) := by
  have h := wp_dmaLocal (Ix := Ix) (Name := Name) (U := U) (Lvl := Lvl) (defs := defs) EC 𝒱 c bd (Q := Q) (src := src) (dst := dst) (sm := sm) (via := .same) (hsrc := hsrc) (hdst := hdst) (hsem := hsem)
    (k := k) (q := q) (fs := src.view.rep x) (Sd := dst.view.set) (fd := dst.view.rep y) ι N hN hN0 (Finset.Subset.refl _)
  rw [View.read_rep] at h
  rw [show ReadAs.apply (Val := Val) .same x = x from rfl, own_landed] at h
  exact h

/-- The next transfer of a batch, whose delivery the landed values and the source back entail. -/
theorem wp_dmaBatch_own [Infinite Name] [EC.LandsIn (upEmb : UEmb _ 𝕄)] {n : ℕ} {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {x y : s.Idx → Val e} {D : Fin n → sProp 𝕄} {j u : ℕ}
    (ι : Ix) (N : ℕ) (hN : dst.view.amount sm = N) (hj : j < n) (hu : u ≤ j * N)
    (hD : iprop(own c dst Finset.univ fullShare x ∗ own c src Finset.univ q x) ⊢ D ⟨j, hj⟩) :
    iprop(own c src Finset.univ q x ∗ own c dst Finset.univ fullShare y ∗ Batch EC c sm ι N D j u)
      ⊢ iprop((Batch EC c sm ι N D (j + 1) u -∗ wp frame (wpE defs 𝒱 c bd) Set.univ (k ⟨⟩) Q)
          -∗ wp frame (wpE defs 𝒱 c bd) Set.univ (.op (.enqueueDma src (.here dst) sm hsrc hdst hsem) k) Q) := by
  refine wp_dmaBatch (Ix := Ix) (Name := Name) (U := U) (Lvl := Lvl) (defs := defs) EC 𝒱 c bd (Q := Q) (src := src) (dst := dst) (sm := sm) (via := .same) (hsrc := hsrc) (hdst := hdst) (hsem := hsem)
    (k := k) (q := q) (fs := src.view.rep x) (Sd := dst.view.set) (fd := dst.view.rep y) (D := D) (j := j) (u := u) ι N hN (Finset.Subset.refl _) hj hu ?_
  rw [View.read_rep, show ReadAs.apply (Val := Val) .same x = x from rfl, own_landed]
  exact hD

/-- The thread owes nothing, whatever it has waited for. -/
def owed (c : Thread nD τ) : sProp 𝕄 := iprop(∃ W : Waits sig Ix, owes c 0 W)

/-- The wait for one transfer: its delivery and the cell back at zero. -/
theorem wp_wait_own [EC.LandsIn (upEmb : UEmb _ 𝕄)] {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig Val Λ c.2) α} (ι : Ix) {N : ℕ} (hN : dstw.view.dmaCredit = N) {D : sProp 𝕄} :
    iprop(Flight EC c (.dma sem) ι N D ∗ owed c)
      ⊢ iprop((iprop(D ∗ semVal (c, .dma sem) 0 ∗ owed c) -∗ wp frame (wpE defs 𝒱 c bd) Set.univ (k ⟨⟩) Q)
          -∗ wp frame (wpE defs 𝒱 c bd) Set.univ (.op (.waitDma2 sem srcw dstw hsrc hdst) k) Q) := by
  unfold owed
  iintro ⟨HF, %W, HO⟩ Hk
  iapply (wp_waitLocal EC 𝒱 c bd ι hN (W := W)) $$ [HF HO]
  · isplitl [HF]; · iexact HF
    iexact HO
  iintro ⟨HD, HS, HO⟩
  iapply Hk
  isplitl [HD]; · iexact HD
  isplitl [HS]; · iexact HS
  iexists (insert (SemLoc.dma sem, ι) W); iexact HO

/-- The one wait for a whole batch. -/
theorem wp_waitAll_own [EC.LandsIn (upEmb : UEmb _ 𝕄)] {n : ℕ} {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig Val Λ c.2) α} (ι : Ix) {N J : ℕ} (hJ : dstw.view.dmaCredit = J) (hN0 : 0 < N)
    {D : Fin n → sProp 𝕄} {u : ℕ} (hu : u + J = N * n) :
    iprop(Batch EC c (.dma sem) ι N D n u ∗ owed c)
      ⊢ iprop((iprop(bigSep Finset.univ D ∗ semVal (c, .dma sem) 0 ∗ owed c) -∗ wp frame (wpE defs 𝒱 c bd) Set.univ (k ⟨⟩) Q)
          -∗ wp frame (wpE defs 𝒱 c bd) Set.univ (.op (.waitDma2 sem srcw dstw hsrc hdst) k) Q) := by
  unfold owed
  iintro ⟨HF, %W, HO⟩ Hk
  iapply (wp_waitBatchAll EC 𝒱 c bd ι hJ hN0 hu (W := W)) $$ [HF HO]
  · isplitl [HF]; · iexact HF
    iexact HO
  iintro ⟨HD, HS, HO⟩
  iapply Hk
  isplitl [HD]; · iexact HD
  isplitl [HS]; · iexact HS
  iexists (insert (SemLoc.dma sem, ι) W); iexact HO

/-- A store that completes the stage `k` of a buffer written stage by stage. -/
theorem wp_store_upto {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {E : Set Name} {S : Finset s.Idx} (p : s.Idx → ℕ) (t : ℕ) (v y : s.Idx → Val e)
    (hset : ∀ i, i ∈ r.set ↔ p i = t) (hS : ∀ i, p i = t → i ∈ S) (hw : ∀ j, v (r.emb j) = w j) :
    own c m S fullShare (upto p t v y)
      ⊢ iprop((own c m S fullShare (upto p (t + 1) v y) -∗ wp frame (wpE defs 𝒱 c bd) E (k ⟨⟩) Q)
        -∗ wp frame (wpE defs 𝒱 c bd) E (.op (.store m r w Finset.univ hx hm) k) Q) := by
  refine wp_store_own 𝒱 c bd (upto p (t + 1) v y) (fun i hi => hS i ((hset i).mp hi)) (fun j => ?_) (fun i _ hi => ?_)
  · have hj : p (r.emb j) = t := (hset _).mp (r.toLoadRect.idx_mem j)
    rw [upto, if_pos (by omega), hw]
  · have hne : p i ≠ t := fun h => hi ((hset i).mpr h)
    unfold upto
    by_cases h : p i < t
    · rw [if_pos h, if_pos (by omega)]
    · rw [if_neg h, if_neg (by omega)]

end Rules

end Cert.Own

end
-- ==== Proof.Geo.lean ====
/-
  Rectangles by coordinates: which element of the array a rectangle's index names, and which
  elements a rectangle holds, for arrays of one, two and three axes.
-/
module

public import Idealize.ShloMosaic.Lib.Pointwise.Index
public import Idealize.ShloMosaic.Lib.Exec.Geometry

@[expose] public section

namespace Cert.Own

open Idealize.ShloMosaic

theorem idx1 {n0 : ℕ} {off size : Fin 1 → ℕ} {inb} {j} {b0 : ℕ} (h : off = ![b0]) {p : Fin n0} (h0 : p.val = b0 + (j 0).val) :
    (Rect.unit (s := ⟨1, ![n0]⟩) off size inb).toLoadRect.idx j = ix1 p := by
  subst h
  funext a
  match a with
  | ⟨0, _⟩ => exact Fin.ext (by show b0 + 1 * (j 0).val = p.val; omega)

theorem idx2 {n0 n1 : ℕ} {off size : Fin 2 → ℕ} {inb} {j} {b0 b1 : ℕ} (h : off = ![b0, b1]) {p : Fin n0} {q : Fin n1}
    (h0 : p.val = b0 + (j 0).val) (h1 : q.val = b1 + (j 1).val) :
    (Rect.unit (s := ⟨2, ![n0, n1]⟩) off size inb).toLoadRect.idx j = ix2 p q := by
  subst h
  funext a
  match a with
  | ⟨0, _⟩ => exact Fin.ext (by show b0 + 1 * (j 0).val = p.val; omega)
  | ⟨1, _⟩ => exact Fin.ext (by show b1 + 1 * (j 1).val = q.val; omega)

theorem idx3 {n0 n1 n2 : ℕ} {off size : Fin 3 → ℕ} {inb} {j} {b0 b1 b2 : ℕ} (h : off = ![b0, b1, b2]) {p : Fin n0} {q : Fin n1} {r : Fin n2}
    (h0 : p.val = b0 + (j 0).val) (h1 : q.val = b1 + (j 1).val) (h2 : r.val = b2 + (j 2).val) :
    (Rect.unit (s := ⟨3, ![n0, n1, n2]⟩) off size inb).toLoadRect.idx j = ix3 p q r := by
  subst h
  funext a
  match a with
  | ⟨0, _⟩ => exact Fin.ext (by show b0 + 1 * (j 0).val = p.val; omega)
  | ⟨1, _⟩ => exact Fin.ext (by show b1 + 1 * (j 1).val = q.val; omega)
  | ⟨2, _⟩ => exact Fin.ext (by show b2 + 1 * (j 2).val = r.val; omega)

theorem mem1 {n0 : ℕ} {off size : Fin 1 → ℕ} {inb} {b0 : ℕ} (h : off = ![b0]) {i : (⟨1, ![n0]⟩ : Shape).Idx} :
    i ∈ (Rect.unit (s := ⟨1, ![n0]⟩) off size inb).set ↔ b0 ≤ (i 0).val ∧ (i 0).val < b0 + size 0 := by
  subst h
  rw [Rect.mem_set_unit]
  exact ⟨fun H => H 0, fun H a => match a with | ⟨0, _⟩ => H⟩

theorem mem2 {n0 n1 : ℕ} {off size : Fin 2 → ℕ} {inb} {b0 b1 : ℕ} (h : off = ![b0, b1]) {i : (⟨2, ![n0, n1]⟩ : Shape).Idx} :
    i ∈ (Rect.unit (s := ⟨2, ![n0, n1]⟩) off size inb).set
      ↔ (b0 ≤ (i 0).val ∧ (i 0).val < b0 + size 0) ∧ (b1 ≤ (i 1).val ∧ (i 1).val < b1 + size 1) := by
  subst h
  rw [Rect.mem_set_unit]
  exact ⟨fun H => ⟨H 0, H 1⟩, fun H a => match a with | ⟨0, _⟩ => H.1 | ⟨1, _⟩ => H.2⟩

theorem mem3 {n0 n1 n2 : ℕ} {off size : Fin 3 → ℕ} {inb} {b0 b1 b2 : ℕ} (h : off = ![b0, b1, b2]) {i : (⟨3, ![n0, n1, n2]⟩ : Shape).Idx} :
    i ∈ (Rect.unit (s := ⟨3, ![n0, n1, n2]⟩) off size inb).set
      ↔ (b0 ≤ (i 0).val ∧ (i 0).val < b0 + size 0) ∧ (b1 ≤ (i 1).val ∧ (i 1).val < b1 + size 1) ∧ (b2 ≤ (i 2).val ∧ (i 2).val < b2 + size 2) := by
  subst h
  rw [Rect.mem_set_unit]
  exact ⟨fun H => ⟨H 0, H 1, H 2⟩, fun H a => match a with | ⟨0, _⟩ => H.1 | ⟨1, _⟩ => H.2.1 | ⟨2, _⟩ => H.2.2⟩

end Cert.Own
-- ==== Proof.Kernel.Args.lean ====
/-
  The kernel's operands as one record, so that the statements about its parts need not list
  them: the arrays and scratch buffers (each a whole memref) and the DMA semaphores.
  Each part and loop body of the kernel's skeleton, at such a record.
-/
module

public import proofs.«01_k».proof.Proof.Gen.Kernel.Skeleton
public import proofs.«01_k».proof.Proof.Gen.Kernel.Points
public import Idealize.ShloMosaic.Lib.Exec
public import Idealize.ShloMosaic.Lib.Tactic

@[expose] public section

noncomputable section

namespace Cert.Kernel.Hand

open Cert.Kernel Cert.Kernel.Gen
open Idealize.ShloMosaic Idealize.ShloMosaic.TcCoe
open Idealize.SL Idealize.SL.Sem

variable {F : FTy → Type} [FloatOps F]

/-- The kernel's operands. -/
structure Args where
  arg0 : Memref sig .tc .hbm S16x12288 .bf16
  harg0 : arg0.IsWhole
  arg1 : Memref sig .tc .hbm S1x12288 .f32
  harg1 : arg1.IsWhole
  arg2 : Memref sig .tc .hbm S12288x32000 .fp8e4m3
  harg2 : arg2.IsWhole
  arg3 : Memref sig .tc .hbm S32000 .f32
  harg3 : arg3.IsWhole
  arg4 : Memref sig .tc .hbm S16x1024 .i32
  harg4 : arg4.IsWhole
  arg5 : Memref sig .tc .hbm S1x16 .i32
  harg5 : arg5.IsWhole
  arg6 : Memref sig .tc .hbm S1x16 .f32
  harg6 : arg6.IsWhole
  arg7 : Memref sig .tc .hbm S1x16 .f32
  harg7 : arg7.IsWhole
  arg8 : Memref sig .tc .hbm S1x16 .f32
  harg8 : arg8.IsWhole
  arg9 : Memref sig .tc .hbm S1x16 .f32
  harg9 : arg9.IsWhole
  arg10 : Memref sig .tc .hbm S16x20 .i32
  harg10 : arg10.IsWhole
  arg11 : Memref sig .tc .hbm S1x16 .f32
  harg11 : arg11.IsWhole
  arg12 : Memref sig .tc .hbm S16x20 .f32
  harg12 : arg12.IsWhole
  arg13 : Memref sig .tc .hbm S16x32000 .f32
  harg13 : arg13.IsWhole
  arg14 : Memref sig .tc .hbm S16x12288 .fp8e4m3
  harg14 : arg14.IsWhole
  arg15 : Memref sig .tc .hbm S1x16 .f32
  harg15 : arg15.IsWhole
  arg16 : Memref sig .tc .vmem S14x12288x256 .fp8e4m3
  harg16 : arg16.IsWhole
  arg17 : Memref sig .tc .vmem S16x12288 .bf16
  harg17 : arg17.IsWhole
  arg18 : Memref sig .tc .vmem S1x12288 .f32
  harg18 : arg18.IsWhole
  arg19 : Memref sig .tc .vmem S32000 .f32
  harg19 : arg19.IsWhole
  arg20 : Memref sig .tc .vmem S16x1024 .i32
  harg20 : arg20.IsWhole
  arg21 : Memref sig .tc .vmem S1x16 .i32
  harg21 : arg21.IsWhole
  arg22 : Memref sig .tc .vmem S1x16 .f32
  harg22 : arg22.IsWhole
  arg23 : Memref sig .tc .vmem S1x16 .f32
  harg23 : arg23.IsWhole
  arg24 : Memref sig .tc .vmem S1x16 .f32
  harg24 : arg24.IsWhole
  arg25 : Memref sig .tc .vmem S1x16 .f32
  harg25 : arg25.IsWhole
  arg26 : Memref sig .tc .vmem S16x20 .i32
  harg26 : arg26.IsWhole
  arg27 : Memref sig .tc .vmem S16x12288 .f32
  harg27 : arg27.IsWhole
  arg28 : Memref sig .tc .vmem S16x12288 .fp8e4m3
  harg28 : arg28.IsWhole
  arg29 : Memref sig .tc .vmem S4096x128 .f32
  harg29 : arg29.IsWhole
  arg30 : Memref sig .tc .vmem S16x32000 .f32
  harg30 : arg30.IsWhole
  arg31 : Memref sig .tc .vmem S20x16x128 .i32
  harg31 : arg31.IsWhole
  arg32 : Memref sig .tc .vmem S20x16x128 .f32
  harg32 : arg32.IsWhole
  arg33 : Memref sig .tc .vmem S16x128 .f32
  harg33 : arg33.IsWhole
  arg34 : Memref sig .tc .vmem S16x128 .f32
  harg34 : arg34.IsWhole
  arg35 : Memref sig .tc .vmem S1x16 .f32
  harg35 : arg35.IsWhole
  arg36 : Memref sig .tc .vmem S16x20 .f32
  harg36 : arg36.IsWhole
  arg37 : Memref sig .tc .vmem S1x16 .f32
  harg37 : arg37.IsWhole
  arg38 : DmaSems sig S14
  arg39 : DmaSems sig S10
  arg40 : DmaSems sig S_
  arg41 : DmaSems sig S4

variable (A : Args)

/-- `k0_part1_skel` at the record. -/
abbrev part1 := k0_part1_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part2_skel` at the record. -/
abbrev part2 := k0_part2_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part3_skel` at the record. -/
abbrev part3 := k0_part3_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part4_skel` at the record. -/
abbrev part4 := k0_part4_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part5_skel` at the record. -/
abbrev part5 := k0_part5_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part6_skel` at the record. -/
abbrev part6 := k0_part6_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part7_skel` at the record. -/
abbrev part7 := k0_part7_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part8_skel` at the record. -/
abbrev part8 := k0_part8_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part9_skel` at the record. -/
abbrev part9 := k0_part9_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part10_skel` at the record. -/
abbrev part10 := k0_part10_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part11_skel` at the record. -/
abbrev part11 := k0_part11_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part12_skel` at the record. -/
abbrev part12 := k0_part12_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part13_skel` at the record. -/
abbrev part13 := k0_part13_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part14_skel` at the record. -/
abbrev part14 := k0_part14_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part15_skel` at the record. -/
abbrev part15 := k0_part15_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part16_skel` at the record. -/
abbrev part16 := k0_part16_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part17_skel` at the record. -/
abbrev part17 := k0_part17_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part18_skel` at the record. -/
abbrev part18 := k0_part18_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part19_skel` at the record. -/
abbrev part19 := k0_part19_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part20_skel` at the record. -/
abbrev part20 := k0_part20_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part21_skel` at the record. -/
abbrev part21 := k0_part21_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part22_skel` at the record. -/
abbrev part22 := k0_part22_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_t1_body` at the record. -/
abbrev t1Body := k0_t1_body (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_t2_body` at the record. -/
abbrev t2Body := k0_t2_body (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_t3_body` at the record. -/
abbrev t3Body := k0_t3_body (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_t4_body` at the record. -/
abbrev t4Body := k0_t4_body (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_t5_body` at the record. -/
abbrev t5Body := k0_t5_body (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_t6_body` at the record. -/
abbrev t6Body := k0_t6_body (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_t7_body` at the record. -/
abbrev t7Body := k0_t7_body (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- The whole kernel at the record. -/
abbrev whole := cc0_fp8_head_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

end Cert.Kernel.Hand

end
-- ==== Proof.Kernel.Spec.lean ====
/-
  What the kernel computes, as functions of its input arrays, written with the kernel's own
  payloads: the sums of squares after each chunk, the normalised activations, their codes.
-/
module

public import proofs.«01_k».proof.Proof.Kernel.Args
public import Idealize.ShloMosaic.Lib.Pointwise.Index

@[expose] public section

noncomputable section

namespace Cert.Kernel.Hand

open Cert.Kernel Cert.Kernel.Gen
open Idealize.ShloMosaic Idealize.ShloMosaic.TcCoe
open Idealize.SL Idealize.SL.Sem

variable {F : FTy → Type} [FloatOps F]

/-- The values of the kernel's input arrays. -/
structure In (F : FTy → Type) where
  x : Vec F S16x12288 .bf16
  gain : Vec F S1x12288 .f32
  w : Vec F S12288x32000 .fp8e4m3
  ws : Vec F S32000 .f32
  ids : Vec F S16x1024 .i32
  len : Vec F S1x16 .i32
  pres : Vec F S1x16 .f32
  freq : Vec F S1x16 .f32
  rep : Vec F S1x16 .f32
  temp : Vec F S1x16 .f32
  cand : Vec F S16x20 .i32

variable (I : In F)

/-! ## Blocks of the arrays -/

/-- Columns `1024 k + j` of a (16, 12288) array. -/
def colsX {V : Type} (x : S16x12288.Idx → V) (k : ℕ) : S16x1024.Idx → V := fun j =>
  x (ix2 (j 0) ⟨(1024 * k + (j 1).val) % 12288, Nat.mod_lt _ (by decide)⟩)

/-- Columns `1024 k + j` of a (1, 12288) array. -/
def colsG {V : Type} (x : S1x12288.Idx → V) (k : ℕ) : S1x1024.Idx → V := fun j =>
  x (ix2 (j 0) ⟨(1024 * k + (j 1).val) % 12288, Nat.mod_lt _ (by decide)⟩)

/-- Half `h` (columns `6144 h + j`) of a (16, 12288) array. -/
def halfX {V : Type} (x : S16x12288.Idx → V) (h : ℕ) : S16x6144.Idx → V := fun j =>
  x (ix2 (j 0) ⟨(6144 * h + (j 1).val) % 12288, Nat.mod_lt _ (by decide)⟩)

/-- Rows `6144 h + j`, columns `256 k + l` of the weights. -/
def halfW {V : Type} (x : S12288x32000.Idx → V) (k h : ℕ) : S1x6144x256.Idx → V := fun j =>
  x (ix2 ⟨(6144 * h + (j 1).val) % 12288, Nat.mod_lt _ (by decide)⟩ ⟨(256 * k + (j 2).val) % 32000, Nat.mod_lt _ (by decide)⟩)

/-- Entries `256 k + 128 h + j` of a (32000,) array. -/
def cols128 {V : Type} (x : S32000.Idx → V) (k h : ℕ) : S128.Idx → V := fun j =>
  x (ix1 ⟨(256 * k + 128 * h + (j 0).val) % 32000, Nat.mod_lt _ (by decide)⟩)

/-- Rows `32 k + 16 h + j` of the counts. -/
def rowsC {V : Type} (x : S4096x128.Idx → V) (k h : ℕ) : S16x128.Idx → V := fun j =>
  x (ix2 ⟨(32 * k + 16 * h + (j 0).val) % 4096, Nat.mod_lt _ (by decide)⟩ (j 1))

/-- Row `b` of a (16, 1024) array. -/
def rowI {V : Type} (x : S16x1024.Idx → V) (b : ℕ) : S1x1024.Idx → V := fun j =>
  x (ix2 ⟨b % 16, Nat.mod_lt _ (by decide)⟩ (j 1))

/-- Plane `j` of a (20, 16, 128) array. -/
def plane {V : Type} (x : S20x16x128.Idx → V) (j : ℕ) : S1x16x128.Idx → V := fun i =>
  x (ix3 ⟨j % 20, Nat.mod_lt _ (by decide)⟩ (i 1) (i 2))

/-! ## The quantised activations -/

/-- The running sums of squares before chunk `k` of the first pass. -/
def sqAt : ℕ → FVec F S16x1024 .f32
  | 0 => k0_pay43
  | k + 1 => k0_pay44 (sqAt k) (colsX I.x k)

/-- The sums of squares the first pass leaves. -/
def sq : FVec F S16x1024 .f32 := sqAt I 12

/-- The normalised activations. -/
def yv : FVec F S16x12288 .f32 := fun i =>
  k0_pay46 (sq I) (colsX I.x ((i 1).val / 1024)) (colsG I.gain ((i 1).val / 1024)) (ix2 (i 0) ⟨(i 1).val % 1024, Nat.mod_lt _ (by decide)⟩)

/-- The running maxima of the magnitudes before chunk `k` of the second pass. -/
def amaxAt : ℕ → FVec F S16x1024 .f32
  | 0 => k0_pay43
  | k + 1 => k0_pay47 (sq I) (amaxAt k) (colsX I.x k) (colsG I.gain k)

/-- Each row's largest magnitude over the largest code. -/
def av : FVec F S16x1 .f32 := k0_pay48 (amaxAt I 12)

/-- The codes. -/
def codesv : Vec F S16x12288 .fp8e4m3 := fun i =>
  k0_pay51 (av I) k0_pay49 (colsX (yv I) ((i 1).val / 1024)) (ix2 (i 0) ⟨(i 1).val % 1024, Nat.mod_lt _ (by decide)⟩)

/-- The scales, as a column. -/
def xsCol : FVec F S16x1 .f32 := k0_pay52 (av I) k0_pay49

/-- The scales, as the row the kernel returns. -/
def xsv : FVec F S1x16 .f32 := k0_pay54 (k0_pay53 (av I) k0_pay49)

/-! ## The counts of the vocabulary -/

/-- The history with its padding sent past the vocabulary. -/
def idsv : IVec S16x1024 32 := k0_pay55 (F := F) I.len I.ids

/-- The counts: row `16 q + b` holds the counts of sequence `b` for entries `128 q + j`. -/
def cntv : FVec F S4096x128 .f32 := fun i =>
  k0_pay56 (rowI (idsv I) ((i 0).val % 16)) (ix2 ⟨(i 0).val / 16, by have := (i 0).isLt; change _ < 4096 at this; change _ < 256; omega⟩ (i 1))

/-! ## The rows' parameters, broadcast over 128 columns -/

def xsB : FVec F S16x128 .f32 := k0_pay57 (xsCol I)
def presB : FVec F S16x128 .f32 := k0_pay58 I.pres
def freqB : FVec F S16x128 .f32 := k0_pay59 I.freq
def repB : FVec F S16x128 .f32 := k0_pay60 I.rep
def tempB : FVec F S16x128 .f32 := k0_pay61 I.temp

/-! ## The logits of block `k` -/

/-- The product of the codes with the block's weights. -/
def prodv (k : ℕ) : FVec F S16x256 .f32 := k0_pay1 (halfX (codesv I) 0) (halfW I.w k 0) (halfX (codesv I) 1) (halfW I.w k 1)

/-- The first half's scaled product. -/
def za (k : ℕ) : FVec F S16x128 .f32 :=
  k0_pay2 (xsB I) (halfX (codesv I) 0) (halfW I.w k 0) (halfX (codesv I) 1) (halfW I.w k 1) (cols128 I.ws k 0)

/-- The first half's logits. -/
def z0 (k : ℕ) : FVec F S16x128 .f32 := k0_pay4 (presB I) (freqB I) (repB I) (tempB I) (za I k) (rowsC (cntv I) k 0) k0_pay3

/-- The second half's product with the frequency and repetition penalties applied. -/
def zb (k : ℕ) : FVec F S16x128 .f32 := k0_pay8 (xsB I) (freqB I) (repB I) (prodv I k) (cols128 I.ws k 1) (rowsC (cntv I) k 1)

/-- Whether an entry of the second half has been seen. -/
def zs (k : ℕ) : FVec F S16x128 .f32 := k0_pay9 (rowsC (cntv I) k 1)

/-- The second half's logits. -/
def z1 (k : ℕ) : FVec F S16x128 .f32 := k0_pay10 (presB I) (tempB I) (zb I k) (zs I k)

/-- The logits. -/
def zv : FVec F S16x32000 .f32 := fun i =>
  if (i 1).val / 128 % 2 = 0 then
    k0_pay5 (presB I) (freqB I) (repB I) (tempB I) (za I ((i 1).val / 256)) (rowsC (cntv I) ((i 1).val / 256) 0) k0_pay3
      (ix2 (i 0) ⟨(i 1).val % 128, Nat.mod_lt _ (by decide)⟩)
  else
    k0_pay11 (presB I) (tempB I) (zb I ((i 1).val / 256)) (zs I ((i 1).val / 256)) (ix2 (i 0) ⟨(i 1).val % 128, Nat.mod_lt _ (by decide)⟩)

/-! ## The running maximum, the running sum and the candidates' logits before block `k` -/

def mAt : ℕ → FVec F S16x128 .f32
  | 0 => k0_pay65 k0_pay64
  | k + 1 => k0_pay14 (presB I) (tempB I) (z0 I k) (zb I k) (zs I k) (mAt k)

def sAt : ℕ → FVec F S16x128 .f32
  | 0 => k0_pay66
  | k + 1 => k0_pay15 (presB I) (tempB I) (z0 I k) (zb I k) (zs I k) (mAt I k) (sAt k)

/-- The columns of the first and second half of block `k`. -/
def pos0 (k : ℕ) : IVec S16x128 32 := k0_pay6 (BitVec.ofNat 32 (256 * k))
def pos1 (k : ℕ) : IVec S16x128 32 := k0_pay12 (BitVec.ofNat 32 (256 * k + 128))

/-- The candidates, each broadcast over a plane. -/
def candv : IVec S20x16x128 32 := fun i =>
  k0_pay62 (F := F) ⟨(i 0).val, (i 0).isLt⟩ I.cand (ix3 0 (i 1) (i 2))

/-- One candidate's plane after the two halves of a block. -/
def mix (a : FVec F S16x128 .f32) (pa : IVec S16x128 32) (b : FVec F S16x128 .f32) (pb : IVec S16x128 32)
    (acc : Vec F S1x16x128 .f32) (cand : Vec F S1x16x128 .i32) : FVec F S1x16x128 .f32 :=
  k0_pay18 a pa b pb acc cand cand

/-- All candidates' planes after a block. -/
def mixAll (k : ℕ) (acc : FVec F S20x16x128 .f32) : FVec F S20x16x128 .f32 := fun i =>
  mix (z0 I k) (pos0 k) (z1 I k) (pos1 k) (plane acc (i 0).val) (plane (candv I) (i 0).val) (ix3 0 (i 1) (i 2))

def accAt : ℕ → FVec F S20x16x128 .f32
  | 0 => fun i => k0_pay63 (ix3 0 (i 1) (i 2))
  | k + 1 => mixAll I k (accAt k)

/-! ## The log of the sum of exponentials and the candidates -/

def lseCol : FVec F S16x1 .f32 := k0_pay68 (mAt I 125) (sAt I 125)
def lsev : FVec F S1x16 .f32 := k0_pay69 (mAt I 125) (sAt I 125)

def clpv : FVec F S16x20 .f32 := fun i => k0_pay70 (lseCol I) (plane (accAt I 125) (i 1).val) (ix2 (i 0) 0)

end Cert.Kernel.Hand

end
-- ==== Proof.Kernel.Loops.lean ====
module

public import proofs.«01_k».proof.Proof.Own
public import proofs.«01_k».proof.Proof.Geo
public import proofs.«01_k».proof.Proof.Kernel.Spec
public import Idealize.ShloMosaic.Lib.Pipeline.Routed

@[expose] public section

noncomputable section

namespace Cert.Kernel.Hand

open Cert.Kernel Cert.Kernel.Gen Cert.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

variable (𝒱 : Variants) (c : Dev nD) (A : Args) (I : In F)

/-! ## What the loads read -/

theorem ld_x4 {V : Type} (x : S16x12288.Idx → V) (k : Fin k0_t2_loop.trips) :
    (fun j => x ((Rect.unit (s := S16x12288) (k0_off4 k) S16x1024.size (k0_off4_inb k)).toLoadRect.idx j)) = colsX x k.val := by
  have hk : k.val < 12 := Nat.lt_of_lt_of_le k.isLt k0_t2_abs.2.1
  funext j
  have h1 : (j 1).val < 1024 := (j 1).isLt
  exact congrArg x (idx2 (k0_off4_eq k) (by show (j 0).val = 0 + (j 0).val; omega) (by show (1024 * k.val + (j 1).val) % 12288 = 1024 * k.val + (j 1).val; omega))

theorem ld_x5 {V : Type} (x : S16x12288.Idx → V) (k : Fin k0_t3_loop.trips) :
    (fun j => x ((Rect.unit (s := S16x12288) (k0_off5 k) S16x1024.size (k0_off5_inb k)).toLoadRect.idx j)) = colsX x k.val := by
  have hk : k.val < 12 := Nat.lt_of_lt_of_le k.isLt k0_t3_abs.2.1
  funext j
  have h1 : (j 1).val < 1024 := (j 1).isLt
  exact congrArg x (idx2 (k0_off5_eq k) (by show (j 0).val = 0 + (j 0).val; omega) (by show (1024 * k.val + (j 1).val) % 12288 = 1024 * k.val + (j 1).val; omega))

theorem ld_g6 {V : Type} (x : S1x12288.Idx → V) (k : Fin k0_t3_loop.trips) :
    (fun j => x ((Rect.unit (s := S1x12288) (k0_off6 k) S1x1024.size (k0_off6_inb k)).toLoadRect.idx j)) = colsG x k.val := by
  have hk : k.val < 12 := Nat.lt_of_lt_of_le k.isLt k0_t3_abs.2.1
  funext j
  have h1 : (j 1).val < 1024 := (j 1).isLt
  exact congrArg x (idx2 (k0_off6_eq k) (by show (j 0).val = 0 + (j 0).val; omega) (by show (1024 * k.val + (j 1).val) % 12288 = 1024 * k.val + (j 1).val; omega))

theorem ld_x7 {V : Type} (x : S16x12288.Idx → V) (k : Fin k0_t4_loop.trips) :
    (fun j => x ((Rect.unit (s := S16x12288) (k0_off7 k) S16x1024.size (k0_off7_inb k)).toLoadRect.idx j)) = colsX x k.val := by
  have hk : k.val < 12 := Nat.lt_of_lt_of_le k.isLt k0_t4_abs.2.1
  funext j
  have h1 : (j 1).val < 1024 := (j 1).isLt
  exact congrArg x (idx2 (k0_off7_eq k) (by show (j 0).val = 0 + (j 0).val; omega) (by show (1024 * k.val + (j 1).val) % 12288 = 1024 * k.val + (j 1).val; omega))

theorem ld_i8 {V : Type} (x : S16x1024.Idx → V) (k : Fin k0_t5_loop.trips) :
    (fun j => x ((Rect.unit (s := S16x1024) (k0_off8 k) S1x1024.size (k0_off8_inb k)).toLoadRect.idx j)) = rowI x k.val := by
  have hk : k.val < 16 := Nat.lt_of_lt_of_le k.isLt k0_t5_abs.2.1
  funext j
  have h0 : (j 0).val < 1 := (j 0).isLt
  exact congrArg x (idx2 (k0_off8_eq k) (by show k.val % 16 = k.val + (j 0).val; omega) (by show (j 1).val = 0 + (j 1).val; omega))

theorem ld_all2 {n0 n1 : ℕ} {V : Type} (x : (⟨2, ![n0, n1]⟩ : Shape).Idx → V) {inb} :
    (fun j => x ((Rect.unit (s := ⟨2, ![n0, n1]⟩) ![0, 0] ![n0, n1] inb).toLoadRect.idx j)) = x := by
  funext j
  exact (congrArg x (idx2 (p := j 0) (q := j 1) rfl (Nat.zero_add _).symm (Nat.zero_add _).symm)).trans (congrArg x (ix2_eta j))

/-- An array given chunk by chunk, at an element of chunk `k`. -/
theorem chunk_at {V : Type} (f : ℕ → S16x1024.Idx → V) {k : ℕ} (hk : k < 12) (r : S16x12288.Idx → V)
    (hr : ∀ i, r i = f ((i 1).val / 1024) (ix2 (i 0) ⟨(i 1).val % 1024, Nat.mod_lt _ (by decide)⟩))
    {off : Fin 2 → ℕ} {inb} (ho : off = ![0, 1024 * k]) (j : S16x1024.Idx) :
    r ((Rect.unit (s := S16x12288) off S16x1024.size inb).toLoadRect.idx j) = f k j := by
  have h1 : (j 1).val < 1024 := (j 1).isLt
  refine (congrArg r (idx2 (size := S16x1024.size) (inb := inb) ho (p := j 0) (q := ⟨1024 * k + (j 1).val, by omega⟩) (Nat.zero_add _).symm rfl)).trans ?_
  rw [hr]
  have e1 : (1024 * k + (j 1).val) / 1024 = k := by omega
  have e2 : (1024 * k + (j 1).val) % 1024 = (j 1).val := by omega
  show f ((1024 * k + (j 1).val) / 1024) (ix2 (j 0) ⟨(1024 * k + (j 1).val) % 1024, _⟩) = f k j
  rw [e1]
  refine congrArg (f k) (Eq.trans ?_ (ix2_eta j))
  exact congrArg (ix2 (j 0)) (Fin.ext e2)

theorem chunk_set {k : ℕ} {off : Fin 2 → ℕ} {inb} (ho : off = ![0, 1024 * k]) (i : S16x12288.Idx) :
    i ∈ (Rect.unit (s := S16x12288) off S16x1024.size inb).set ↔ (i 1).val / 1024 = k := by
  rw [mem2 ho]
  have h0 : (i 0).val < 16 := (i 0).isLt
  show ((0 ≤ (i 0).val ∧ (i 0).val < 0 + 16) ∧ (1024 * k ≤ (i 1).val ∧ (i 1).val < 1024 * k + 1024)) ↔ _
  omega

/-- Stage of an element written in chunks of 1024 columns. -/
def pX (i : S16x12288.Idx) : ℕ := (i 1).val / 1024

theorem t2_trip (k : Fin k0_t2_loop.trips) (acc : FVec F S16x1024 .f32) :
    iprop(own (c : Thread nD τ) A.arg17 Finset.univ fullShare I.x ∗ ⌜acc = sqAt I k.val⌝)
      ⊢ wp (M := 𝕄) frame (wpE (defs₀ (F := F)) 𝒱 (c : Thread nD τ) none) Set.univ (t2Body A k acc)
          fun r => iprop(own (c : Thread nD τ) A.arg17 Finset.univ fullShare I.x ∗ ⌜r = sqAt I (k.val + 1)⌝) := by
  unfold t2Body k0_t2_body
  simp only [Prog.bind_lift]
  iintro ⟨H, %hacc⟩
  iapply (wp_load_own 𝒱 (c : Thread nD τ) none (Finset.subset_univ _)) $$ H; iintro H
  sl_step
  isplitl [H]; · iexact H
  ipureintro
  subst hacc
  rw [ld_x4]; rfl

theorem t3_trip (k : Fin k0_t3_loop.trips) (acc : FVec F S16x1024 .f32) (y0 : FVec F S16x12288 .f32) :
    iprop(own (c : Thread nD τ) A.arg17 Finset.univ fullShare I.x ∗ own (c : Thread nD τ) A.arg18 Finset.univ fullShare I.gain
        ∗ own (c : Thread nD τ) A.arg27 Finset.univ fullShare (upto pX k.val (yv I) y0) ∗ ⌜acc = amaxAt I k.val⌝)
      ⊢ wp (M := 𝕄) frame (wpE (defs₀ (F := F)) 𝒱 (c : Thread nD τ) none) Set.univ (t3Body A (sq I) k acc)
          fun r => iprop(own (c : Thread nD τ) A.arg17 Finset.univ fullShare I.x ∗ own (c : Thread nD τ) A.arg18 Finset.univ fullShare I.gain
            ∗ own (c : Thread nD τ) A.arg27 Finset.univ fullShare (upto pX (k.val + 1) (yv I) y0) ∗ ⌜r = amaxAt I (k.val + 1)⌝) := by
  have hk : k.val < 12 := Nat.lt_of_lt_of_le k.isLt k0_t3_abs.2.1
  unfold t3Body k0_t3_body
  simp only [Prog.bind_lift]
  iintro ⟨HX, HG, HY, %hacc⟩
  iapply (wp_load_own 𝒱 (c : Thread nD τ) none (Finset.subset_univ _)) $$ HX; iintro HX
  iapply (wp_load_own 𝒱 (c : Thread nD τ) none (Finset.subset_univ _)) $$ HG; iintro HG
  iapply (wp_load_own 𝒱 (c : Thread nD τ) none (Finset.subset_univ _)) $$ HY; iintro HY
  iapply (wp_store_upto 𝒱 (c : Thread nD τ) none pX k.val (yv I) y0 (fun i => chunk_set (k0_off5_eq k) i) (fun i _ => Finset.mem_univ i) (fun j => ?_)) $$ HY
  · rw [ld_x5, ld_g6]
    exact chunk_at (fun k => k0_pay46 (sq I) (colsX I.x k) (colsG I.gain k)) hk (yv I) (fun _ => rfl) (k0_off5_eq k) j
  iintro HY
  sl_step
  isplitl [HX]; · iexact HX
  isplitl [HG]; · iexact HG
  isplitl [HY]; · iexact HY
  ipureintro; subst hacc; rw [ld_x5, ld_g6]; rfl

theorem t4_trip (k : Fin k0_t4_loop.trips) (y0 : Vec F S16x12288 .fp8e4m3) :
    iprop(own (c : Thread nD τ) A.arg27 Finset.univ fullShare (yv I) ∗ own (c : Thread nD τ) A.arg28 Finset.univ fullShare (upto pX k.val (codesv I) y0))
      ⊢ wp (M := 𝕄) frame (wpE (defs₀ (F := F)) 𝒱 (c : Thread nD τ) none) Set.univ (t4Body A (av I) k0_pay49 k ())
          fun _ => iprop(own (c : Thread nD τ) A.arg27 Finset.univ fullShare (yv I) ∗ own (c : Thread nD τ) A.arg28 Finset.univ fullShare (upto pX (k.val + 1) (codesv I) y0)) := by
  have hk : k.val < 12 := Nat.lt_of_lt_of_le k.isLt k0_t4_abs.2.1
  unfold t4Body k0_t4_body
  simp only [Prog.bind_lift]
  iintro ⟨HX, HY⟩
  iapply (wp_load_own 𝒱 (c : Thread nD τ) none (Finset.subset_univ _)) $$ HX; iintro HX
  iapply (wp_load_own 𝒱 (c : Thread nD τ) none (Finset.subset_univ _)) $$ HY; iintro HY
  iapply (wp_store_upto 𝒱 (c : Thread nD τ) none pX k.val (codesv I) y0 (fun i => chunk_set (k0_off7_eq k) i) (fun i _ => Finset.mem_univ i) (fun j => ?_)) $$ HY
  · rw [ld_x7]
    exact chunk_at (fun k => k0_pay51 (av I) k0_pay49 (colsX (yv I) k)) hk (codesv I) (fun _ => rfl) (k0_off7_eq k) j
  iintro HY
  sl_step
  isplitl [HX]; · iexact HX
  iexact HY

/-- Stage of an element of the counts: its sequence. -/
def pC (i : S4096x128.Idx) : ℕ := (i 0).val % 16

theorem t5_trip (k : Fin k0_t5_loop.trips) (v88 : FVec F S16x1 .f32) (v98 : FVec F S1x16 .f32) (y0 : FVec F S4096x128 .f32) :
    iprop(own (c : Thread nD τ) A.arg20 Finset.univ fullShare (idsv I) ∗ own (c : Thread nD τ) A.arg29 Finset.univ fullShare (upto pC k.val (cntv I) y0))
      ⊢ wp (M := 𝕄) frame (wpE (defs₀ (F := F)) 𝒱 (c : Thread nD τ) none) Set.univ (t5Body A v88 v98 k ())
          fun _ => iprop(own (c : Thread nD τ) A.arg20 Finset.univ fullShare (idsv I) ∗ own (c : Thread nD τ) A.arg29 Finset.univ fullShare (upto pC (k.val + 1) (cntv I) y0)) := by
  have hk : k.val < 16 := Nat.lt_of_lt_of_le k.isLt k0_t5_abs.2.1
  unfold t5Body k0_t5_body
  simp only [Prog.bind_lift]
  iintro ⟨HX, HY⟩
  iapply (wp_load_own 𝒱 (c : Thread nD τ) none (Finset.subset_univ _)) $$ HX; iintro HX
  iapply (wp_load_own 𝒱 (c : Thread nD τ) none (Finset.subset_univ _)) $$ HY; iintro HY
  iapply (wp_store_upto 𝒱 (c : Thread nD τ) none pC k.val (cntv I) y0 (fun i => ?_) (fun i _ => Finset.mem_univ i) (fun j => ?_)) $$ HY
  · rw [LoadRect.mem_set]
    have h0 : (i 0).val < 4096 := (i 0).isLt
    have h1 : (i 1).val < 128 := (i 1).isLt
    have o0 : k0_off9 k 0 = k.val := congrFun (k0_off9_eq k) 0
    have o1 : k0_off9 k 1 = 0 := congrFun (k0_off9_eq k) 1
    constructor
    · intro H
      obtain ⟨q, hq, e⟩ := H 0
      have e : (i 0).val = k0_off9 k 0 + 16 * q := e
      show (i 0).val % 16 = k.val
      omega
    · intro H a
      have H : (i 0).val % 16 = k.val := H
      match a with
      | ⟨0, _⟩ => exact ⟨(i 0).val / 16, by show _ < 256; omega, by show (i 0).val = k0_off9 k 0 + 16 * _; omega⟩
      | ⟨1, _⟩ => exact ⟨(i 1).val, h1, by show (i 1).val = k0_off9 k 1 + 1 * _; omega⟩
  · rw [ld_i8]
    have h0 : (j 0).val < 256 := (j 0).isLt
    have h1 : (j 1).val < 128 := (j 1).isLt
    have o0 : k0_off9 k 0 = k.val := congrFun (k0_off9_eq k) 0
    have o1 : k0_off9 k 1 = 0 := congrFun (k0_off9_eq k) 1
    have e : (⟨k0_off9 k, S256x128.size, ![16, 1], k0_off9_inb k⟩ : LoadRect S4096x128).idx j
        = ix2 ⟨k.val + 16 * (j 0).val, by omega⟩ (j 1) := by
      funext a
      match a with
      | ⟨0, _⟩ => exact Fin.ext (by show k0_off9 k 0 + 16 * (j 0).val = k.val + 16 * (j 0).val; omega)
      | ⟨1, _⟩ => exact Fin.ext (by show k0_off9 k 1 + 1 * (j 1).val = (j 1).val; omega)
    refine (congrArg (cntv I) e).trans ?_
    have e1 : (k.val + 16 * (j 0).val) % 16 = k.val := by omega
    have e2 : (k.val + 16 * (j 0).val) / 16 = (j 0).val := by omega
    show k0_pay56 (rowI (idsv I) ((k.val + 16 * (j 0).val) % 16)) (ix2 ⟨(k.val + 16 * (j 0).val) / 16, _⟩ (j 1)) = k0_pay56 (rowI (idsv I) k.val) j
    rw [e1]
    refine congrArg (k0_pay56 (rowI (idsv I) k.val)) (Eq.trans ?_ (ix2_eta j))
    exact congrArg (fun q => ix2 q (j 1)) (Fin.ext e2)
  iintro HY
  sl_step
  isplitl [HX]; · iexact HX
  iexact HY

/-- Plane of a candidate. -/
def pP (i : S20x16x128.Idx) : ℕ := (i 0).val

theorem plane_set {j : ℕ} {off : Fin 3 → ℕ} {inb} (ho : off = ![j, 0, 0]) (i : S20x16x128.Idx) :
    i ∈ (Rect.unit (s := S20x16x128) off S1x16x128.size inb).set ↔ pP i = j := by
  rw [mem3 ho]
  have h1 : (i 1).val < 16 := (i 1).isLt
  have h2 : (i 2).val < 128 := (i 2).isLt
  show ((j ≤ (i 0).val ∧ (i 0).val < j + 1) ∧ (0 ≤ (i 1).val ∧ (i 1).val < 0 + 16) ∧ (0 ≤ (i 2).val ∧ (i 2).val < 0 + 128)) ↔ (i 0).val = j
  omega

theorem plane_idx {j : ℕ} (hj : j < 20) {off : Fin 3 → ℕ} {inb} (ho : off = ![j, 0, 0]) (i : S1x16x128.Idx) :
    (Rect.unit (s := S20x16x128) off S1x16x128.size inb).toLoadRect.idx i = ix3 ⟨j, hj⟩ (i 1) (i 2) := by
  have h0 : (i 0).val < 1 := (i 0).isLt
  exact idx3 ho (by show j = j + (i 0).val; omega) (Nat.zero_add _).symm (Nat.zero_add _).symm

theorem ix3_zero (i : S1x16x128.Idx) : (ix3 0 (i 1) (i 2) : S1x16x128.Idx) = i :=
  (congrArg (fun q => ix3 q (i 1) (i 2)) (Fin.ext (by have h0 : (i 0).val < 1 := (i 0).isLt; show 0 = (i 0).val; omega))).trans (ix3_eta i)

theorem t6_trip (k : Fin k0_t6_loop.trips) (y0 : IVec S20x16x128 32) (z0 : FVec F S20x16x128 .f32) :
    iprop(own (c : Thread nD τ) A.arg26 Finset.univ fullShare I.cand ∗ own (c : Thread nD τ) A.arg31 Finset.univ fullShare (upto pP k.val (candv I) y0)
        ∗ own (c : Thread nD τ) A.arg32 Finset.univ fullShare (upto pP k.val (accAt I 0) z0))
      ⊢ wp (M := 𝕄) frame (wpE (defs₀ (F := F)) 𝒱 (c : Thread nD τ) none) Set.univ (t6Body A k ())
          fun _ => iprop(own (c : Thread nD τ) A.arg26 Finset.univ fullShare I.cand ∗ own (c : Thread nD τ) A.arg31 Finset.univ fullShare (upto pP (k.val + 1) (candv I) y0)
            ∗ own (c : Thread nD τ) A.arg32 Finset.univ fullShare (upto pP (k.val + 1) (accAt I 0) z0)) := by
  have hk : k.val < 20 := Nat.lt_of_lt_of_le k.isLt k0_t6_abs.2.1
  unfold t6Body k0_t6_body
  simp only [Prog.bind_lift]
  iintro ⟨HX, HY, HZ⟩
  iapply (wp_load_own 𝒱 (c : Thread nD τ) none (Finset.subset_univ _)) $$ HX; iintro HX
  iapply (wp_load_own 𝒱 (c : Thread nD τ) none (Finset.subset_univ _)) $$ HY; iintro HY
  iapply (wp_store_upto 𝒱 (c : Thread nD τ) none pP k.val (candv I) y0 (fun i => plane_set (k0_off10_eq k) i) (fun i _ => Finset.mem_univ i) (fun j => ?_)) $$ HY
  · refine (congrArg (candv I) (plane_idx hk (k0_off10_eq k) j)).trans ?_
    rw [ld_all2]
    exact congrArg (k0_pay62 k I.cand) (ix3_zero j)
  iintro HY
  iapply (wp_load_own 𝒱 (c : Thread nD τ) none (Finset.subset_univ _)) $$ HZ; iintro HZ
  iapply (wp_store_upto 𝒱 (c : Thread nD τ) none pP k.val (accAt I 0) z0 (fun i => plane_set (k0_off10_eq k) i) (fun i _ => Finset.mem_univ i) (fun j => ?_)) $$ HZ
  · refine (congrArg (accAt I 0) (plane_idx hk (k0_off10_eq k) j)).trans ?_
    exact congrArg k0_pay63 (ix3_zero j)
  iintro HZ
  sl_step
  isplitl [HX]; · iexact HX
  isplitl [HY]; · iexact HY
  iexact HZ

end Cert.Kernel.Hand

end
-- ==== Proof.Kernel.Copies.lean ====
/-
  The transfers of the kernel's loops: a slab of weights into a slot of the ring, a block of logits
  out to the result; and the loop that starts the first fourteen slabs.
-/
module

public import proofs.«01_k».proof.Proof.Kernel.Loops

@[expose] public section

noncomputable section

namespace Cert.Kernel.Hand

open Cert.Kernel Cert.Kernel.Gen Cert.Own
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

variable (𝒱 : Variants) (c : Dev nD) (A : Args) (I : In F)

/-- The embedding of the transfers' counters. -/
abbrev EC : UEmb Counters 𝕄 := countersEmb (U := UC sig nD τ)

/-! ## Semaphores, slots and blocks -/

/-- The cell of slot `s` of the ring. -/
def wsem (s : ℕ) : DmaSem sig := A.arg38.ix (ix1 ⟨s % 14, Nat.mod_lt _ (by decide)⟩)

theorem wsem_eq {s : ℕ} (hs : s < 14) {off : Fin 1 → ℕ} {inb} (ho : off = ![s]) :
    ((A.arg38.slice (Rect.unit (s := S14) off S1.size inb)).squeeze S_ squeezes_S1_S_).sem = wsem A s := by
  refine congrArg A.arg38.ix (idx1 ho ?_)
  have h0 : ∀ q : Fin 1, q.val = 0 := fun q => by omega
  exact (Nat.mod_eq_of_lt hs).trans ((Nat.add_zero s).symm.trans (congrArg (s + ·) (h0 _).symm))

/-- The elements of slot `s` of the ring. -/
def slotSet (s : ℕ) : Finset S14x12288x256.Idx := Finset.univ.filter fun i => (i 0).val = s

/-- The elements of block `b` of the weights. -/
def wblk (b : ℕ) : Finset S12288x32000.Idx := Finset.univ.filter fun i => (i 1).val / 256 = b

/-- The elements of block `b` of the logits. -/
def zblk (b : ℕ) : Finset S16x32000.Idx := Finset.univ.filter fun i => (i 1).val / 256 = b

/-- The ring's values where a slot holds block `b`. -/
def ringv (b : ℕ) : S14x12288x256.Idx → Elt F .fp8e4m3 := fun i =>
  I.w (ix2 (i 1) ⟨(256 * b + (i 2).val) % 32000, Nat.mod_lt _ (by decide)⟩)

/-- What a slab's transfer delivers: block `b` in slot `s`, and the weights back. -/
def slabD (b s : ℕ) : sProp 𝕄 :=
  iprop(own (c : Thread nD τ) A.arg16 (slotSet s) fullShare (ringv I b) ∗ own (c : Thread nD τ) A.arg2 (wblk b) fullShare I.w)

/-- The amount of a slab's transfer. -/
def wN : ℕ := sig.dmaCredit .tc (Kind.tc.table .vmem) A.arg16.view.buf S12288x256 .fp8e4m3

theorem wN_pos : 0 < wN A := sig.dmaCredit_pos _ _ _ _ _ (by decide)

/-- The amount of a block's transfer. -/
def zN : ℕ := sig.dmaCredit .tc (Kind.tc.table .hbm) A.arg13.view.buf S16x256 .f32

theorem zN_pos : 0 < zN A := sig.dmaCredit_pos _ _ _ _ _ (by decide)

/-- What a block's transfer delivers: the logits in the result, and the scratch back. -/
def zD (t : Fin 125) : sProp 𝕄 :=
  iprop(own (c : Thread nD τ) A.arg13 (zblk t.val) fullShare (zv I) ∗ own (c : Thread nD τ) A.arg30 (zblk t.val) fullShare (zv I))

instance (t : Fin 125) : Storable (upEmb : UEmb _ 𝕄) (zD c A I t) := by unfold zD; infer_instance

theorem slot_set {s : ℕ} {off : Fin 3 → ℕ} {inb} (ho : off = ![s, 0, 0]) :
    (Rect.unit (s := S14x12288x256) off S1x12288x256.size inb).set = slotSet s := by
  ext i
  rw [mem3 ho, slotSet, Finset.mem_filter]
  have h1 : (i 1).val < 12288 := (i 1).isLt
  have h2 : (i 2).val < 256 := (i 2).isLt
  show ((s ≤ (i 0).val ∧ (i 0).val < s + 1) ∧ (0 ≤ (i 1).val ∧ (i 1).val < 0 + 12288) ∧ (0 ≤ (i 2).val ∧ (i 2).val < 0 + 256)) ↔ (_ ∧ (i 0).val = s)
  constructor
  · intro H; exact ⟨Finset.mem_univ _, by omega⟩
  · intro H; have := H.2; omega

theorem wblk_set {b : ℕ} {off : Fin 2 → ℕ} {inb} (ho : off = ![0, 256 * b]) :
    (Rect.unit (s := S12288x32000) off S12288x256.size inb).set = wblk b := by
  ext i
  rw [mem2 ho, wblk, Finset.mem_filter]
  have h0 : (i 0).val < 12288 := (i 0).isLt
  show ((0 ≤ (i 0).val ∧ (i 0).val < 0 + 12288) ∧ (256 * b ≤ (i 1).val ∧ (i 1).val < 256 * b + 256)) ↔ (_ ∧ (i 1).val / 256 = b)
  constructor
  · intro H; exact ⟨Finset.mem_univ _, by omega⟩
  · intro H; have := H.2; omega

theorem zblk_set {b : ℕ} {off : Fin 2 → ℕ} {inb} (ho : off = ![0, 256 * b]) :
    (Rect.unit (s := S16x32000) off S16x256.size inb).set = zblk b := by
  ext i
  rw [mem2 ho, zblk, Finset.mem_filter]
  have h0 : (i 0).val < 16 := (i 0).isLt
  show ((0 ≤ (i 0).val ∧ (i 0).val < 0 + 16) ∧ (256 * b ≤ (i 1).val ∧ (i 1).val < 256 * b + 256)) ↔ (_ ∧ (i 1).val / 256 = b)
  constructor
  · intro H; exact ⟨Finset.mem_univ _, by omega⟩
  · intro H; have := H.2; omega

/-! ## The two transfers -/

/-- The transfer of block `b` of the weights into slot `s`. -/
theorem slab_copy {α : Type} {Q : α → sProp 𝕄} {b s : ℕ} (hb : b < 125) (hs : s < 14) {o1 : Fin 1 → ℕ} {o3 : Fin 3 → ℕ} {o2 : Fin 2 → ℕ} {inb1 inb3 inb2}
    (h1 : o1 = ![s]) (h3 : o3 = ![s, 0, 0]) (h2 : o2 = ![0, 256 * b]) {hr3 hr2} (y : S14x12288x256.Idx → Elt F .fp8e4m3)
    {hsrc hdst hsem} {k : PUnit → Prog (TpuEff nD τ sig (Elt F) Λ₀ .tc) α} :
    iprop(own (c : Thread nD τ) A.arg2 (wblk b) fullShare I.w ∗ own (c : Thread nD τ) A.arg16 (slotSet s) fullShare y
        ∗ semVal ((c : Thread nD τ), .dma (wsem A s)) 0)
      ⊢ iprop((Flight EC (c : Thread nD τ) (.dma (wsem A s)) () (wN A) (slabD c A I b s)
              -∗ wp frame (wpE (defs₀ (F := F)) 𝒱 (c : Thread nD τ) none) Set.univ (k ⟨⟩) Q)
          -∗ wp frame (wpE (defs₀ (F := F)) 𝒱 (c : Thread nD τ) none) Set.univ
            (.op (.enqueueDma (A.arg2.slice (Rect.unit (s := S12288x32000) o2 S12288x256.size inb2) hr2)
              (.here ((A.arg16.slice (Rect.unit (s := S14x12288x256) o3 S1x12288x256.size inb3) hr3).squeeze S12288x256 squeezes_S1x12288x256_S12288x256))
              (.dma ((A.arg38.slice (Rect.unit (s := S14) o1 S1.size inb1)).squeeze S_ squeezes_S1_S_).sem) hsrc hdst hsem) k) Q) := by
  rw [← wsem_eq A hs (inb := inb1) h1]
  rw [← wblk_set (inb := inb2) h2, ← slot_set (inb := inb3) h3, ← own_slice (hr := hr2), ← own_slice (hr := hr3), ← own_squeeze (h := squeezes_S1x12288x256_S12288x256)]
  iintro H Hk
  iapply (wp_dma_own 𝒱 (c : Thread nD τ) none EC () (wN A) rfl (wN_pos A)) $$ H
  iintro HF
  iapply Hk
  iapply (Flight_mono (D' := slabD c A I b s) (h := ?_)) $$ HF
  have hx : (own (c : Thread nD τ) ((A.arg16.slice (Rect.unit (s := S14x12288x256) o3 S1x12288x256.size inb3) hr3).squeeze S12288x256 squeezes_S1x12288x256_S12288x256)
      Finset.univ fullShare (fun j => I.w ((Rect.unit (s := S12288x32000) o2 S12288x256.size inb2).emb j)) : sProp 𝕄)
      = own (c : Thread nD τ) A.arg16 (slotSet s) fullShare (ringv I b) := by
    rw [← slot_set (inb := inb3) h3, ← own_slice (hr := hr3), ← own_squeeze (h := squeezes_S1x12288x256_S12288x256)]
    refine own_congr fun j _ => ?_
    have hj1 : (j 1).val < 256 := (j 1).isLt
    have e1 : (Rect.unit (s := S12288x32000) o2 S12288x256.size inb2).emb j = ix2 (j 0) ⟨256 * b + (j 1).val, by omega⟩ :=
      idx2 h2 (Nat.zero_add _).symm rfl
    have e2 : Shape.reshapeEquiv squeezes_S1x12288x256_S12288x256.numel_eq j = ix3 (0 : Fin 1) (j 0) (j 1) :=
      (Shape.reshapeEquiv_cons_one (d := S12288x256.size) _ j).trans (funext fun a => match a with | ⟨0, _⟩ => rfl | ⟨1, _⟩ => rfl | ⟨2, _⟩ => rfl)
    have e3 : (Rect.unit (s := S14x12288x256) o3 S1x12288x256.size inb3).emb (ix3 (0 : Fin 1) (j 0) (j 1)) = ix3 ⟨s, hs⟩ (j 0) (j 1) :=
      idx3 h3 rfl (Nat.zero_add _).symm (Nat.zero_add _).symm
    refine (congrArg I.w e1).trans (Eq.trans ?_ ((congrArg (ringv I b) ((congrArg _ e2).trans e3)).symm))
    show I.w _ = I.w (ix2 (j 0) ⟨(256 * b + (j 1).val) % 32000, _⟩)
    exact congrArg (fun q => I.w (ix2 (j 0) q)) (Fin.ext (by show 256 * b + (j 1).val = (256 * b + (j 1).val) % 32000; omega))
  have hw : (own (c : Thread nD τ) (A.arg2.slice (Rect.unit (s := S12288x32000) o2 S12288x256.size inb2) hr2) Finset.univ fullShare
      (fun j => I.w ((Rect.unit (s := S12288x32000) o2 S12288x256.size inb2).emb j)) : sProp 𝕄)
      = own (c : Thread nD τ) A.arg2 (wblk b) fullShare I.w := by
    rw [own_slice, wblk_set h2]
  show iprop(_ ∗ _) ⊢ iprop(_ ∗ _)
  rw [← hx, ← hw]
  exact .rfl

/-- The transfer of block `b` of the logits out of the scratch. -/
theorem block_copy {α : Type} {Q : α → sProp 𝕄} {b : ℕ} (hb : b < 125) {o1 o2 : Fin 2 → ℕ} {inb1 inb2} (h1 : o1 = ![0, 256 * b]) (h2 : o2 = ![0, 256 * b]) {hr1 hr2}
    (y : S16x32000.Idx → Elt F .f32)
    {hsrc hdst hsem} {k : PUnit → Prog (TpuEff nD τ sig (Elt F) Λ₀ .tc) α} :
    iprop(own (c : Thread nD τ) A.arg30 (zblk b) fullShare (zv I) ∗ own (c : Thread nD τ) A.arg13 (zblk b) fullShare y
        ∗ Batch EC (c : Thread nD τ) (.dma A.arg40.sem) () (zN A) (zD c A I) b 0)
      ⊢ iprop((Batch EC (c : Thread nD τ) (.dma A.arg40.sem) () (zN A) (zD c A I) (b + 1) 0
              -∗ wp frame (wpE (defs₀ (F := F)) 𝒱 (c : Thread nD τ) none) Set.univ (k ⟨⟩) Q)
          -∗ wp frame (wpE (defs₀ (F := F)) 𝒱 (c : Thread nD τ) none) Set.univ
            (.op (.enqueueDma (A.arg30.slice (Rect.unit (s := S16x32000) o1 S16x256.size inb1) hr1)
              (.here (A.arg13.slice (Rect.unit (s := S16x32000) o2 S16x256.size inb2) hr2))
              (.dma A.arg40.sem) hsrc hdst hsem) k) Q) := by
  subst h1 h2
  have e := zblk_set (b := b) (inb := inb1) rfl
  rw [← e, ← own_slice (hr := hr1), ← own_slice (c := (c : Thread nD τ)) (m := A.arg13) (r := Rect.unit (s := S16x32000) ![0, 256 * b] S16x256.size inb2) (hr := hr2)]
  refine wp_dmaBatch_own 𝒱 (c : Thread nD τ) none EC () (zN A) rfl hb (Nat.zero_le _) ?_
  have e1 : (own (c : Thread nD τ) (A.arg13.slice (Rect.unit (s := S16x32000) ![0, 256 * b] S16x256.size inb2) hr2) Finset.univ fullShare
      (fun j => zv I ((Rect.unit (s := S16x32000) ![0, 256 * b] S16x256.size inb1).emb j)) : sProp 𝕄)
      = own (c : Thread nD τ) A.arg13 (zblk b) fullShare (zv I) := by rw [own_slice, e]
  have e2 : (own (c : Thread nD τ) (A.arg30.slice (Rect.unit (s := S16x32000) ![0, 256 * b] S16x256.size inb1) hr1) Finset.univ fullShare
      (fun j => zv I ((Rect.unit (s := S16x32000) ![0, 256 * b] S16x256.size inb1).emb j)) : sProp 𝕄)
      = own (c : Thread nD τ) A.arg30 (zblk b) fullShare (zv I) := by rw [own_slice, e]
  show iprop(_ ∗ _) ⊢ iprop(_ ∗ _)
  rw [← e1, ← e2]

/-! ## The ring's slots -/

/-- A slot with nothing in flight. -/
def slotFree (s : ℕ) : sProp 𝕄 :=
  iprop((∃ y : S14x12288x256.Idx → Elt F .fp8e4m3, own (c : Thread nD τ) A.arg16 (slotSet s) fullShare y) ∗ semVal ((c : Thread nD τ), .dma (wsem A s)) 0)

/-- A slot with block `b` on its way. -/
def slotBusy (b s : ℕ) : sProp 𝕄 := Flight EC (c : Thread nD τ) (.dma (wsem A s)) () (wN A) (slabD c A I b s)

/-- The slots while the first slabs are started: those below `k` are busy. -/
def slotsUp (k s : ℕ) : sProp 𝕄 := if s < k then slotBusy c A I s s else slotFree c A s

/-- The block in slot `s` before block `k` is taken up. -/
def slotb (k s : ℕ) : ℕ := k + (s + 14 - k % 14) % 14

/-- The slots before block `k` is taken up. -/
def slotsAt (k s : ℕ) : sProp 𝕄 := if slotb k s < 125 then slotBusy c A I (slotb k s) s else slotFree c A s

theorem slotsAt_next {k s : ℕ} (hs : s < 14) (h : s ≠ k % 14) : slotsAt c A I (k + 1) s = slotsAt c A I k s := by
  have e : slotb (k + 1) s = slotb k s := by unfold slotb; omega
  unfold slotsAt; rw [e]

theorem slotsAt_zero : bigSep (Finset.range 14) (slotsUp c A I 14) = bigSep (Finset.range 14) (slotsAt c A I 0) := by
  refine bigSep_congr fun s hs => ?_
  have hs := Finset.mem_range.mp hs
  have e : slotb 0 s = s := by unfold slotb; omega
  unfold slotsUp slotsAt
  rw [e, if_pos hs, if_pos (by omega)]

/-- The weights from block `k` on. -/
def wfrom (k : ℕ) : Finset S12288x32000.Idx := Finset.univ.filter fun i => k ≤ (i 1).val / 256

theorem wfrom_split (k : ℕ) : (own (c : Thread nD τ) A.arg2 (wfrom k) fullShare I.w : sProp 𝕄)
    = iprop(own (c : Thread nD τ) A.arg2 (wblk k) fullShare I.w ∗ own (c : Thread nD τ) A.arg2 (wfrom (k + 1)) fullShare I.w) := by
  have e : wfrom k = wblk k ∪ wfrom (k + 1) := by
    ext i; simp only [wfrom, wblk, Finset.mem_union, Finset.mem_filter_univ]; omega
  rw [e, own_union]
  rw [Finset.disjoint_left]; intro i; simp only [wfrom, wblk, Finset.mem_filter_univ]; omega

/-- One of the slots apart from the others. -/
theorem slot_take {t : ℕ} (ht : t < 14) (P : ℕ → sProp 𝕄) :
    bigSep (Finset.range 14) P = iprop(P t ∗ bigSep ((Finset.range 14).erase t) P) := bigSep_erase (Finset.mem_range.mpr ht)

theorem t1_trip (k : Fin k0_t1_loop.trips) :
    iprop(bigSep (Finset.range 14) (slotsUp c A I k.val) ∗ own (c : Thread nD τ) A.arg2 (wfrom k.val) fullShare I.w)
      ⊢ wp (M := 𝕄) frame (wpE (defs₀ (F := F)) 𝒱 (c : Thread nD τ) none) Set.univ (t1Body A k ())
          fun _ => iprop(bigSep (Finset.range 14) (slotsUp c A I (k.val + 1)) ∗ own (c : Thread nD τ) A.arg2 (wfrom (k.val + 1)) fullShare I.w) := by
  have hk : k.val < 14 := Nat.lt_of_lt_of_le k.isLt k0_t1_abs.2.1
  have e1 : slotsUp c A I k.val k.val = slotFree c A k.val := if_neg (Nat.lt_irrefl _)
  have e2 : slotsUp c A I (k.val + 1) k.val = slotBusy c A I k.val k.val := if_pos (Nat.lt_succ_self _)
  have e3 : bigSep ((Finset.range 14).erase k.val) (slotsUp c A I k.val) = bigSep ((Finset.range 14).erase k.val) (slotsUp c A I (k.val + 1)) := by
    refine bigSep_congr fun s hs => ?_
    have hne := (Finset.mem_erase.mp hs).1
    unfold slotsUp
    by_cases h : s < k.val
    · rw [if_pos h, if_pos (by omega)]
    · rw [if_neg h, if_neg (by omega)]
  rw [slot_take hk, slot_take hk (slotsUp c A I (k.val + 1)), e1, e2, e3, wfrom_split]
  unfold t1Body k0_t1_body slotFree
  simp only [Prog.bind_lift]
  iintro ⟨⟨⟨⟨%y, HS⟩, Hv⟩, Hrest⟩, HW, HW'⟩
  iapply (slab_copy 𝒱 c A I (by omega) hk (k0_off1_eq k) (k0_off2_eq k) (k0_off3_eq k) y) $$ [HW HS Hv]
  · isplitl [HW]; · iexact HW
    isplitl [HS]; · iexact HS
    iexact Hv
  iintro HF
  sl_step
  isplitr [HW']
  · isplitl [HF]; · unfold slotBusy; iexact HF
    iexact Hrest
  iexact HW'

end Cert.Kernel.Hand

end
-- ==== Proof.Kernel.Cands.lean ====
/-
  The candidates' rows within one trip of the main loop: each row is loaded, mixed with the
  block's two halves, and stored.
-/
module

public import proofs.«01_k».proof.Proof.Kernel.Copies

@[expose] public section

noncomputable section

namespace Cert.Kernel.Hand

open Cert.Kernel Cert.Kernel.Gen Cert.Own
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

variable (𝒱 : Variants) (c : Dev nD) (A : Args) (I : In F)

/-- The candidates' array, held. -/
def candsH : sProp 𝕄 := own (c : Thread nD τ) A.arg31 Finset.univ fullShare (candv I)

/-- The candidates' logits while block `k` is mixed in: rows below `j` are done. -/
def accH (k : ℕ) (acc : FVec F S20x16x128 .f32) (j : ℕ) : sProp 𝕄 :=
  own (c : Thread nD τ) A.arg32 Finset.univ fullShare (upto pP j (mixAll I k acc) acc)

theorem plane_read {V : Type} (x : S20x16x128.Idx → V) {j : ℕ} (hj : j < 20) {inb} :
    (fun i => x ((Rect.unit (s := S20x16x128) ![j, 0, 0] S1x16x128.size inb).toLoadRect.idx i)) = plane x j := by
  funext i
  refine (congrArg x (plane_idx hj rfl i)).trans ?_
  exact congrArg (fun q => x (ix3 q (i 1) (i 2))) (Fin.ext (Nat.mod_eq_of_lt hj).symm)

/-- A load of a candidate's row. -/
theorem load_cand {α : Type} {Q : α → sProp 𝕄} {j : ℕ} (hj : j < 20) {inb hl} {k : (S1x16x128.Idx → Elt F .i32) → Prog (TpuEff nD τ sig (Elt F) Λ₀ .tc) α} :
    candsH c A I ⊢ iprop((candsH c A I -∗ wp (M := 𝕄) frame (wpE (defs₀ (F := F)) 𝒱 (c : Thread nD τ) none) Set.univ (k (plane (candv I) j)) Q)
      -∗ wp (M := 𝕄) frame (wpE (defs₀ (F := F)) 𝒱 (c : Thread nD τ) none) Set.univ
          ((.op (.load A.arg31 (Rect.unit (s := S20x16x128) ![j, 0, 0] S1x16x128.size inb).toLoadRect hl) k : Prog (TpuEff nD τ sig (Elt F) Λ₀ .tc) α)) Q) := by
  rw [← plane_read (inb := inb) (candv I) hj]
  exact wp_load_own 𝒱 (c : Thread nD τ) none (Finset.subset_univ _)

/-- A load of a candidate's logits not yet mixed. -/
theorem load_acc {α : Type} {Q : α → sProp 𝕄} {n : ℕ} {acc : FVec F S20x16x128 .f32} {j : ℕ} (hj : j < 20) {inb hl} {k : (S1x16x128.Idx → Elt F .f32) → Prog (TpuEff nD τ sig (Elt F) Λ₀ .tc) α} :
    accH c A I n acc j ⊢ iprop((accH c A I n acc j -∗ wp (M := 𝕄) frame (wpE (defs₀ (F := F)) 𝒱 (c : Thread nD τ) none) Set.univ (k (plane acc j)) Q)
      -∗ wp (M := 𝕄) frame (wpE (defs₀ (F := F)) 𝒱 (c : Thread nD τ) none) Set.univ
          ((.op (.load A.arg32 (Rect.unit (s := S20x16x128) ![j, 0, 0] S1x16x128.size inb).toLoadRect hl) k : Prog (TpuEff nD τ sig (Elt F) Λ₀ .tc) α)) Q) := by
  have e : plane acc j = (fun i => upto pP j (mixAll I n acc) acc ((Rect.unit (s := S20x16x128) ![j, 0, 0] S1x16x128.size inb).toLoadRect.idx i)) := by
    rw [← plane_read (inb := inb) acc hj]
    funext i
    exact (upto_not ((plane_set rfl _).mp (LoadRect.idx_mem _ i)).ge).symm
  rw [e]
  exact wp_load_own 𝒱 (c : Thread nD τ) none (Finset.subset_univ _)

/-- A store of a candidate's mixed logits. -/
theorem store_acc {α : Type} {Q : α → sProp 𝕄} {n : ℕ} {acc : FVec F S20x16x128 .f32} {j : ℕ} (hj : j < 20) {inb hx hm} {w : FVec F S1x16x128 .f32}
    (hw : w = mix (z0 I n) (pos0 n) (z1 I n) (pos1 n) (plane acc j) (plane (candv I) j))
    {k : PUnit → Prog (TpuEff nD τ sig (Elt F) Λ₀ .tc) α} :
    accH c A I n acc j ⊢ iprop((accH c A I n acc (j + 1) -∗ wp (M := 𝕄) frame (wpE (defs₀ (F := F)) 𝒱 (c : Thread nD τ) none) Set.univ (k ⟨⟩) Q)
      -∗ wp (M := 𝕄) frame (wpE (defs₀ (F := F)) 𝒱 (c : Thread nD τ) none) Set.univ
          (.op (.store A.arg32 (Rect.unit (s := S20x16x128) ![j, 0, 0] S1x16x128.size inb) w Finset.univ hx hm) k) Q) := by
  have e : ∀ i, mixAll I n acc ((Rect.unit (s := S20x16x128) ![j, 0, 0] S1x16x128.size inb).toLoadRect.idx i) = w i := by
    intro i
    rw [plane_idx hj rfl i, hw]
    exact congrArg (mix (z0 I n) (pos0 n) (z1 I n) (pos1 n) (plane acc j) (plane (candv I) j)) (ix3_zero i)
  have es : ∀ i, i ∈ (Rect.unit (s := S20x16x128) ![j, 0, 0] S1x16x128.size inb).set ↔ pP i = j := fun i => plane_set rfl i
  unfold accH
  generalize mixAll I n acc = M at e ⊢
  iintro HZ Hk
  iapply (wp_store_upto 𝒱 (c : Thread nD τ) none pP j M acc es (fun i _ => Finset.mem_univ i) e) $$ HZ
  iexact Hk

/-! ## The parts -/

theorem part4_spec (k : ℕ) (acc : FVec F S20x16x128 .f32) :
    iprop(candsH c A I ∗ accH c A I k acc 0)
      ⊢ wp (M := 𝕄) frame (wpE (defs₀ (F := F)) 𝒱 (c : Thread nD τ) none) Set.univ (part4 A (z0 I k) (pos0 k) (z1 I k) (pos1 k) (k0_pay16 (presB I) (tempB I) (z0 I k) (pos0 k) (BitVec.ofNat 32 (256 * k + 128)) (zb I k) (zs I k) (plane acc 0) (plane (candv I) 0) (plane (candv I) 0)))
          fun _ => iprop(candsH c A I ∗ accH c A I k acc 3) := by
  unfold part4 k0_part4_skel
  simp only [Prog.bind_lift]
  iintro ⟨HC, HA⟩
  iapply (load_acc 𝒱 c A I (by decide)) $$ HA; iintro HA
  iapply (store_acc 𝒱 c A I (by decide) rfl) $$ HA; iintro HA
  iapply (load_acc 𝒱 c A I (by decide)) $$ HA; iintro HA
  iapply (load_cand 𝒱 c A I (by decide)) $$ HC; iintro HC
  iapply (load_cand 𝒱 c A I (by decide)) $$ HC; iintro HC
  iapply (load_acc 𝒱 c A I (by decide)) $$ HA; iintro HA
  iapply (store_acc 𝒱 c A I (by decide) rfl) $$ HA; iintro HA
  iapply (load_acc 𝒱 c A I (by decide)) $$ HA; iintro HA
  iapply (load_cand 𝒱 c A I (by decide)) $$ HC; iintro HC
  iapply (load_cand 𝒱 c A I (by decide)) $$ HC; iintro HC
  iapply (load_acc 𝒱 c A I (by decide)) $$ HA; iintro HA
  iapply (store_acc 𝒱 c A I (by decide) rfl) $$ HA; iintro HA
  sl_step
  isplitl [HC]; · iexact HC
  iexact HA

theorem part5_spec (k : ℕ) (acc : FVec F S20x16x128 .f32) :
    iprop(candsH c A I ∗ accH c A I k acc 3)
      ⊢ wp (M := 𝕄) frame (wpE (defs₀ (F := F)) 𝒱 (c : Thread nD τ) none) Set.univ (part5 A (z0 I k) (pos0 k) (z1 I k) (pos1 k))
          fun r => iprop(candsH c A I ∗ accH c A I k acc 5 ∗ ⌜r = ⟨k0_pay22 (plane acc 5), (plane (candv I) 5)⟩⌝) := by
  unfold part5 k0_part5_skel
  simp only [Prog.bind_lift]
  iintro ⟨HC, HA⟩
  iapply (load_acc 𝒱 c A I (by decide)) $$ HA; iintro HA
  iapply (load_cand 𝒱 c A I (by decide)) $$ HC; iintro HC
  iapply (load_cand 𝒱 c A I (by decide)) $$ HC; iintro HC
  iapply (load_acc 𝒱 c A I (by decide)) $$ HA; iintro HA
  iapply (store_acc 𝒱 c A I (by decide) rfl) $$ HA; iintro HA
  iapply (load_acc 𝒱 c A I (by decide)) $$ HA; iintro HA
  iapply (load_cand 𝒱 c A I (by decide)) $$ HC; iintro HC
  iapply (load_cand 𝒱 c A I (by decide)) $$ HC; iintro HC
  iapply (load_acc 𝒱 c A I (by decide)) $$ HA; iintro HA
  iapply (store_acc 𝒱 c A I (by decide) rfl) $$ HA; iintro HA
  iapply (load_acc 𝒱 c A I (by decide)) $$ HA; iintro HA
  iapply (load_cand 𝒱 c A I (by decide)) $$ HC; iintro HC
  sl_step
  isplitl [HC]; · iexact HC
  isplitl [HA]; · iexact HA
  ipureintro; rfl

theorem part6_spec (k : ℕ) (acc : FVec F S20x16x128 .f32) :
    iprop(candsH c A I ∗ accH c A I k acc 5)
      ⊢ wp (M := 𝕄) frame (wpE (defs₀ (F := F)) 𝒱 (c : Thread nD τ) none) Set.univ (part6 A (z0 I k) (pos0 k) (z1 I k) (pos1 k) (k0_pay22 (plane acc 5)) (plane (candv I) 5))
          fun r => iprop(candsH c A I ∗ accH c A I k acc 7 ∗ ⌜r = ⟨k0_pay25 (z0 I k) (pos0 k) (plane acc 7) (plane (candv I) 7), k0_pay26 (F := F) (plane (candv I) 7)⟩⌝) := by
  unfold part6 k0_part6_skel
  simp only [Prog.bind_lift]
  iintro ⟨HC, HA⟩
  iapply (load_cand 𝒱 c A I (by decide)) $$ HC; iintro HC
  iapply (load_acc 𝒱 c A I (by decide)) $$ HA; iintro HA
  iapply (store_acc 𝒱 c A I (by decide) rfl) $$ HA; iintro HA
  iapply (load_acc 𝒱 c A I (by decide)) $$ HA; iintro HA
  iapply (load_cand 𝒱 c A I (by decide)) $$ HC; iintro HC
  iapply (load_cand 𝒱 c A I (by decide)) $$ HC; iintro HC
  iapply (load_acc 𝒱 c A I (by decide)) $$ HA; iintro HA
  iapply (store_acc 𝒱 c A I (by decide) rfl) $$ HA; iintro HA
  iapply (load_acc 𝒱 c A I (by decide)) $$ HA; iintro HA
  iapply (load_cand 𝒱 c A I (by decide)) $$ HC; iintro HC
  iapply (load_cand 𝒱 c A I (by decide)) $$ HC; iintro HC
  sl_step
  isplitl [HC]; · iexact HC
  isplitl [HA]; · iexact HA
  ipureintro; rfl

theorem part7_spec (k : ℕ) (acc : FVec F S20x16x128 .f32) :
    iprop(candsH c A I ∗ accH c A I k acc 7)
      ⊢ wp (M := 𝕄) frame (wpE (defs₀ (F := F)) 𝒱 (c : Thread nD τ) none) Set.univ (part7 A (z0 I k) (pos0 k) (z1 I k) (pos1 k) (k0_pay25 (z0 I k) (pos0 k) (plane acc 7) (plane (candv I) 7)) (k0_pay26 (F := F) (plane (candv I) 7)))
          fun r => iprop(candsH c A I ∗ accH c A I k acc 9 ∗ ⌜r = k0_pay29 (z0 I k) (pos0 k) (z1 I k) (pos1 k) (plane acc 9) (plane (candv I) 9) (plane (candv I) 9)⌝) := by
  unfold part7 k0_part7_skel
  simp only [Prog.bind_lift]
  iintro ⟨HC, HA⟩
  iapply (load_acc 𝒱 c A I (by decide)) $$ HA; iintro HA
  iapply (store_acc 𝒱 c A I (by decide) rfl) $$ HA; iintro HA
  iapply (load_acc 𝒱 c A I (by decide)) $$ HA; iintro HA
  iapply (load_cand 𝒱 c A I (by decide)) $$ HC; iintro HC
  iapply (load_cand 𝒱 c A I (by decide)) $$ HC; iintro HC
  iapply (load_acc 𝒱 c A I (by decide)) $$ HA; iintro HA
  iapply (store_acc 𝒱 c A I (by decide) rfl) $$ HA; iintro HA
  iapply (load_acc 𝒱 c A I (by decide)) $$ HA; iintro HA
  iapply (load_cand 𝒱 c A I (by decide)) $$ HC; iintro HC
  iapply (load_cand 𝒱 c A I (by decide)) $$ HC; iintro HC
  iapply (load_acc 𝒱 c A I (by decide)) $$ HA; iintro HA
  sl_step
  isplitl [HC]; · iexact HC
  isplitl [HA]; · iexact HA
  ipureintro; rfl

theorem part8_spec (k : ℕ) (acc : FVec F S20x16x128 .f32) :
    iprop(candsH c A I ∗ accH c A I k acc 9)
      ⊢ wp (M := 𝕄) frame (wpE (defs₀ (F := F)) 𝒱 (c : Thread nD τ) none) Set.univ (part8 A (z0 I k) (pos0 k) (z1 I k) (pos1 k) (k0_pay29 (z0 I k) (pos0 k) (z1 I k) (pos1 k) (plane acc 9) (plane (candv I) 9) (plane (candv I) 9)))
          fun r => iprop(candsH c A I ∗ accH c A I k acc 12 ∗ ⌜r = k0_pay32 (plane acc 12)⌝) := by
  unfold part8 k0_part8_skel
  simp only [Prog.bind_lift]
  iintro ⟨HC, HA⟩
  iapply (store_acc 𝒱 c A I (by decide) rfl) $$ HA; iintro HA
  iapply (load_acc 𝒱 c A I (by decide)) $$ HA; iintro HA
  iapply (load_cand 𝒱 c A I (by decide)) $$ HC; iintro HC
  iapply (load_cand 𝒱 c A I (by decide)) $$ HC; iintro HC
  iapply (load_acc 𝒱 c A I (by decide)) $$ HA; iintro HA
  iapply (store_acc 𝒱 c A I (by decide) rfl) $$ HA; iintro HA
  iapply (load_acc 𝒱 c A I (by decide)) $$ HA; iintro HA
  iapply (load_cand 𝒱 c A I (by decide)) $$ HC; iintro HC
  iapply (load_cand 𝒱 c A I (by decide)) $$ HC; iintro HC
  iapply (load_acc 𝒱 c A I (by decide)) $$ HA; iintro HA
  iapply (store_acc 𝒱 c A I (by decide) rfl) $$ HA; iintro HA
  iapply (load_acc 𝒱 c A I (by decide)) $$ HA; iintro HA
  sl_step
  isplitl [HC]; · iexact HC
  isplitl [HA]; · iexact HA
  ipureintro; rfl

theorem part9_spec (k : ℕ) (acc : FVec F S20x16x128 .f32) :
    iprop(candsH c A I ∗ accH c A I k acc 12)
      ⊢ wp (M := 𝕄) frame (wpE (defs₀ (F := F)) 𝒱 (c : Thread nD τ) none) Set.univ (part9 A (z0 I k) (pos0 k) (z1 I k) (pos1 k) (k0_pay32 (plane acc 12)))
          fun r => iprop(candsH c A I ∗ accH c A I k acc 14 ∗ ⌜r = k0_pay35 (z0 I k) (pos0 k) (plane acc 14) (plane (candv I) 14)⌝) := by
  unfold part9 k0_part9_skel
  simp only [Prog.bind_lift]
  iintro ⟨HC, HA⟩
  iapply (load_cand 𝒱 c A I (by decide)) $$ HC; iintro HC
  iapply (load_cand 𝒱 c A I (by decide)) $$ HC; iintro HC
  iapply (load_acc 𝒱 c A I (by decide)) $$ HA; iintro HA
  iapply (store_acc 𝒱 c A I (by decide) rfl) $$ HA; iintro HA
  iapply (load_acc 𝒱 c A I (by decide)) $$ HA; iintro HA
  iapply (load_cand 𝒱 c A I (by decide)) $$ HC; iintro HC
  iapply (load_cand 𝒱 c A I (by decide)) $$ HC; iintro HC
  iapply (load_acc 𝒱 c A I (by decide)) $$ HA; iintro HA
  iapply (store_acc 𝒱 c A I (by decide) rfl) $$ HA; iintro HA
  iapply (load_acc 𝒱 c A I (by decide)) $$ HA; iintro HA
  iapply (load_cand 𝒱 c A I (by decide)) $$ HC; iintro HC
  sl_step
  isplitl [HC]; · iexact HC
  isplitl [HA]; · iexact HA
  ipureintro; rfl

theorem part10_spec (k : ℕ) (acc : FVec F S20x16x128 .f32) :
    iprop(candsH c A I ∗ accH c A I k acc 14)
      ⊢ wp (M := 𝕄) frame (wpE (defs₀ (F := F)) 𝒱 (c : Thread nD τ) none) Set.univ (part10 A (z0 I k) (pos0 k) (z1 I k) (pos1 k) (k0_pay35 (z0 I k) (pos0 k) (plane acc 14) (plane (candv I) 14)))
          fun r => iprop(candsH c A I ∗ accH c A I k acc 16 ∗ ⌜r = ⟨k0_pay38 (z0 I k) (pos0 k) (z1 I k) (pos1 k) (plane acc 16) (plane (candv I) 16) (plane (candv I) 16), (plane acc 16)⟩⌝) := by
  unfold part10 k0_part10_skel
  simp only [Prog.bind_lift]
  iintro ⟨HC, HA⟩
  iapply (load_cand 𝒱 c A I (by decide)) $$ HC; iintro HC
  iapply (load_acc 𝒱 c A I (by decide)) $$ HA; iintro HA
  iapply (store_acc 𝒱 c A I (by decide) rfl) $$ HA; iintro HA
  iapply (load_acc 𝒱 c A I (by decide)) $$ HA; iintro HA
  iapply (load_cand 𝒱 c A I (by decide)) $$ HC; iintro HC
  iapply (load_cand 𝒱 c A I (by decide)) $$ HC; iintro HC
  iapply (load_acc 𝒱 c A I (by decide)) $$ HA; iintro HA
  iapply (store_acc 𝒱 c A I (by decide) rfl) $$ HA; iintro HA
  iapply (load_acc 𝒱 c A I (by decide)) $$ HA; iintro HA
  iapply (load_cand 𝒱 c A I (by decide)) $$ HC; iintro HC
  iapply (load_cand 𝒱 c A I (by decide)) $$ HC; iintro HC
  iapply (load_acc 𝒱 c A I (by decide)) $$ HA; iintro HA
  sl_step
  isplitl [HC]; · iexact HC
  isplitl [HA]; · iexact HA
  ipureintro; rfl

theorem part11_spec (k : ℕ) (acc : FVec F S20x16x128 .f32) :
    iprop(candsH c A I ∗ accH c A I k acc 16)
      ⊢ wp (M := 𝕄) frame (wpE (defs₀ (F := F)) 𝒱 (c : Thread nD τ) none) Set.univ (part11 A (z0 I k) (pos0 k) (z1 I k) (pos1 k) (k0_pay38 (z0 I k) (pos0 k) (z1 I k) (pos1 k) (plane acc 16) (plane (candv I) 16) (plane (candv I) 16)) (plane acc 16))
          fun r => iprop(candsH c A I ∗ accH c A I k acc 19 ∗ ⌜r = k0_pay42 (plane acc 19)⌝) := by
  unfold part11 k0_part11_skel
  simp only [Prog.bind_lift]
  iintro ⟨HC, HA⟩
  iapply (store_acc 𝒱 c A I (by decide) rfl) $$ HA; iintro HA
  iapply (load_acc 𝒱 c A I (by decide)) $$ HA; iintro HA
  iapply (load_cand 𝒱 c A I (by decide)) $$ HC; iintro HC
  iapply (load_cand 𝒱 c A I (by decide)) $$ HC; iintro HC
  iapply (load_acc 𝒱 c A I (by decide)) $$ HA; iintro HA
  iapply (store_acc 𝒱 c A I (by decide) rfl) $$ HA; iintro HA
  iapply (load_acc 𝒱 c A I (by decide)) $$ HA; iintro HA
  iapply (load_cand 𝒱 c A I (by decide)) $$ HC; iintro HC
  iapply (load_cand 𝒱 c A I (by decide)) $$ HC; iintro HC
  iapply (load_acc 𝒱 c A I (by decide)) $$ HA; iintro HA
  iapply (store_acc 𝒱 c A I (by decide) rfl) $$ HA; iintro HA
  iapply (load_acc 𝒱 c A I (by decide)) $$ HA; iintro HA
  sl_step
  isplitl [HC]; · iexact HC
  isplitl [HA]; · iexact HA
  ipureintro; rfl

end Cert.Kernel.Hand

end
-- ==== Proof.Kernel.Block.lean ====
/-
  One block of the main loop up to the candidates: wait for the block's weights, load the
  operands, store the two halves of the logits, fold them into the running maximum and sum.
-/
module

public import proofs.«01_k».proof.Proof.Kernel.Cands

@[expose] public section

noncomputable section

namespace Cert.Kernel.Hand

open Cert.Kernel Cert.Kernel.Gen Cert.Own
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

variable (𝒱 : Variants) (c : Dev nD) (A : Args) (I : In F)

/-- A part of a program, by its specification. -/
theorem wp_part {α β : Type} {P : sProp 𝕄} {p : Prog (TpuEff nD τ sig (Elt F) Λ₀ .tc) β} {R : β → sProp 𝕄} {Q : α → sProp 𝕄}
    {k : β → Prog (TpuEff nD τ sig (Elt F) Λ₀ .tc) α}
    (h : P ⊢ wp (M := 𝕄) frame (wpE (defs₀ (F := F)) 𝒱 (c : Thread nD τ) none) Set.univ p R) :
    P ⊢ iprop((∀ r, R r -∗ wp (M := 𝕄) frame (wpE (defs₀ (F := F)) 𝒱 (c : Thread nD τ) none) Set.univ (k r) Q)
      -∗ wp (M := 𝕄) frame (wpE (defs₀ (F := F)) 𝒱 (c : Thread nD τ) none) Set.univ (p >>= k) Q) := by
  rw [wp_bind]
  iintro HP HK
  iapply (wp_wand_r frame (wpE (defs₀ (F := F)) 𝒱 (c : Thread nD τ) none) Set.univ)
  isplitl [HP]
  · iapply h; iexact HP
  · iintro %r HR
    iapply HK; iexact HR

/-! ## What the loads read -/

theorem ld_codes {V : Type} (x : S16x12288.Idx → V) {h : ℕ} (hh : h < 2) {off : Fin 2 → ℕ} {inb} (ho : off = ![0, 6144 * h]) :
    (fun j => x ((Rect.unit (s := S16x12288) off S16x6144.size inb).toLoadRect.idx j)) = halfX x h := by
  funext j
  have h1 : (j 1).val < 6144 := (j 1).isLt
  exact congrArg x (idx2 ho (by show (j 0).val = 0 + (j 0).val; omega) (by show (6144 * h + (j 1).val) % 12288 = 6144 * h + (j 1).val; omega))

theorem ld_ring {b s h : ℕ} (hb : b < 125) (hs : s < 14) (hh : h < 2) {off : Fin 3 → ℕ} {inb} (ho : off = ![s, 6144 * h, 0]) :
    (fun j => ringv I b ((Rect.unit (s := S14x12288x256) off S1x6144x256.size inb).toLoadRect.idx j)) = halfW I.w b h := by
  funext j
  have h0 : (j 0).val < 1 := (j 0).isLt
  have h1 : (j 1).val < 6144 := (j 1).isLt
  have h2 : (j 2).val < 256 := (j 2).isLt
  have e : (Rect.unit (s := S14x12288x256) off S1x6144x256.size inb).toLoadRect.idx j
      = ix3 ⟨s, hs⟩ ⟨(6144 * h + (j 1).val) % 12288, Nat.mod_lt _ (by decide)⟩ (j 2) :=
    idx3 ho (by show s = s + (j 0).val; omega) (by show (6144 * h + (j 1).val) % 12288 = 6144 * h + (j 1).val; omega) (Nat.zero_add _).symm
  exact congrArg (ringv I b) e

theorem ring_sub {s h : ℕ} {off : Fin 3 → ℕ} {inb} (ho : off = ![s, 6144 * h, 0]) :
    (Rect.unit (s := S14x12288x256) off S1x6144x256.size inb).toLoadRect.set ⊆ slotSet s := by
  intro i hi
  have hi := (mem3 (size := S1x6144x256.size) (inb := inb) ho).mp hi
  have h0 : s ≤ (i 0).val ∧ (i 0).val < s + 1 := hi.1
  rw [slotSet, Finset.mem_filter_univ]; omega

theorem ld_ws {V : Type} (x : S32000.Idx → V) {b h : ℕ} (hb : b < 125) (hh : h < 2) {off : Fin 1 → ℕ} {inb} (ho : off = ![256 * b + 128 * h]) :
    (fun j => x ((Rect.unit (s := S32000) off S128.size inb).toLoadRect.idx j)) = cols128 x b h := by
  funext j
  have h0 : (j 0).val < 128 := (j 0).isLt
  exact congrArg x (idx1 ho (by show (256 * b + 128 * h + (j 0).val) % 32000 = 256 * b + 128 * h + (j 0).val; omega))

theorem ld_cnt {V : Type} (x : S4096x128.Idx → V) {b h : ℕ} (hb : b < 125) (hh : h < 2) {off : Fin 2 → ℕ} {inb} (ho : off = ![32 * b + 16 * h, 0]) :
    (fun j => x ((Rect.unit (s := S4096x128) off S16x128.size inb).toLoadRect.idx j)) = rowsC x b h := by
  funext j
  have h0 : (j 0).val < 16 := (j 0).isLt
  exact congrArg x (idx2 ho (by show (32 * b + 16 * h + (j 0).val) % 4096 = 32 * b + 16 * h + (j 0).val; omega) (Nat.zero_add _).symm)

/-! ## The halves of the logits -/

/-- Stage of an element of the logits: its half block. -/
def pZ (i : S16x32000.Idx) : ℕ := (i 1).val / 128

theorem half_set {k h : ℕ} (hh : h < 2) {off : Fin 2 → ℕ} {inb} (ho : off = ![0, 256 * k + 128 * h]) (i : S16x32000.Idx) :
    i ∈ (Rect.unit (s := S16x32000) off S16x128.size inb).set ↔ pZ i = 2 * k + h := by
  rw [mem2 ho]
  have h0 : (i 0).val < 16 := (i 0).isLt
  show ((0 ≤ (i 0).val ∧ (i 0).val < 0 + 16) ∧ (256 * k + 128 * h ≤ (i 1).val ∧ (i 1).val < 256 * k + 128 * h + 128)) ↔ (i 1).val / 128 = 2 * k + h
  omega

theorem half_idx {k h : ℕ} (hk : k < 125) (hh : h < 2) {off : Fin 2 → ℕ} {inb} (ho : off = ![0, 256 * k + 128 * h]) (j : S16x128.Idx) :
    (Rect.unit (s := S16x32000) off S16x128.size inb).toLoadRect.idx j
      = ix2 (j 0) ⟨256 * k + 128 * h + (j 1).val, by have h1 : (j 1).val < 128 := (j 1).isLt; omega⟩ :=
  idx2 ho (Nat.zero_add _).symm rfl

theorem zv_half0 {k : ℕ} (hk : k < 125) (j : S16x128.Idx) (hlt : 256 * k + 128 * 0 + (j 1).val < 32000) :
    zv I (ix2 (j 0) ⟨256 * k + 128 * 0 + (j 1).val, hlt⟩) = k0_pay5 (presB I) (freqB I) (repB I) (tempB I) (za I k) (rowsC (cntv I) k 0) k0_pay3 j := by
  have h1 : (j 1).val < 128 := (j 1).isLt
  have e1 : (256 * k + 128 * 0 + (j 1).val) / 128 % 2 = 0 := by omega
  have e2 : (256 * k + 128 * 0 + (j 1).val) / 256 = k := by omega
  have e3 : (256 * k + 128 * 0 + (j 1).val) % 128 = (j 1).val := by omega
  unfold zv
  show (if (256 * k + 128 * 0 + (j 1).val) / 128 % 2 = 0 then k0_pay5 (presB I) (freqB I) (repB I) (tempB I) (za I ((256 * k + 128 * 0 + (j 1).val) / 256))
      (rowsC (cntv I) ((256 * k + 128 * 0 + (j 1).val) / 256) 0) k0_pay3 (ix2 (j 0) ⟨(256 * k + 128 * 0 + (j 1).val) % 128, _⟩) else _) = _
  rw [if_pos e1, e2]
  refine congrArg (k0_pay5 _ _ _ _ _ _ _) (Eq.trans ?_ (ix2_eta j))
  exact congrArg (ix2 (j 0)) (Fin.ext e3)

theorem zv_half1 {k : ℕ} (hk : k < 125) (j : S16x128.Idx) (hlt : 256 * k + 128 * 1 + (j 1).val < 32000) :
    zv I (ix2 (j 0) ⟨256 * k + 128 * 1 + (j 1).val, hlt⟩) = k0_pay11 (presB I) (tempB I) (zb I k) (zs I k) j := by
  have h1 : (j 1).val < 128 := (j 1).isLt
  have e1 : ¬ (256 * k + 128 * 1 + (j 1).val) / 128 % 2 = 0 := by omega
  have e2 : (256 * k + 128 * 1 + (j 1).val) / 256 = k := by omega
  have e3 : (256 * k + 128 * 1 + (j 1).val) % 128 = (j 1).val := by omega
  unfold zv
  show (if (256 * k + 128 * 1 + (j 1).val) / 128 % 2 = 0 then _ else k0_pay11 (presB I) (tempB I) (zb I ((256 * k + 128 * 1 + (j 1).val) / 256))
      (zs I ((256 * k + 128 * 1 + (j 1).val) / 256)) (ix2 (j 0) ⟨(256 * k + 128 * 1 + (j 1).val) % 128, _⟩)) = _
  rw [if_neg e1, e2]
  refine congrArg (k0_pay11 _ _ _ _) (Eq.trans ?_ (ix2_eta j))
  exact congrArg (ix2 (j 0)) (Fin.ext e3)

/-- The columns from block `k - 1` on: those whose copy out has not been started before block `k`. -/
def zset (k : ℕ) : Finset S16x32000.Idx := Finset.univ.filter fun i => k ≤ (i 1).val / 256 + 1

/-- The logits' scratch once `t` half blocks have been written, where its copy out has not been started. -/
def zH (k t : ℕ) (y : S16x32000.Idx → Elt F .f32) : sProp 𝕄 :=
  own (c : Thread nD τ) A.arg30 (zset k) fullShare (upto pZ t (zv I) y)

/-! ## The induction variable's columns -/

theorem col0_eq : ∀ k : Fin k0_t7_loop.trips, Scalar.addi (Scalar.muli (Scf.iv 0#32 1#32 k.val) 256#32) 0#32 = BitVec.ofNat 32 (256 * k.val) := by decide +kernel

theorem col1_eq : ∀ k : Fin k0_t7_loop.trips, Scalar.addi (Scalar.muli (Scf.iv 0#32 1#32 k.val) 256#32) 128#32 = BitVec.ofNat 32 (256 * k.val + 128) := by decide +kernel

/-! ## The parts -/

/-- What the main loop only reads: the codes at a share, the weights' scales and the counts. -/
def roH (q : PosShare TreeShare) : sProp 𝕄 :=
  iprop(own (c : Thread nD τ) A.arg28 Finset.univ q (codesv I) ∗ own (c : Thread nD τ) A.arg19 Finset.univ fullShare I.ws
    ∗ own (c : Thread nD τ) A.arg29 Finset.univ fullShare (cntv I))

theorem part1_spec (q : PosShare TreeShare) (k : Fin k0_t7_loop.trips) :
    iprop(slotBusy c A I k.val (k.val % 14) ∗ roH c A I q ∗ owed (c : Thread nD τ))
      ⊢ wp (M := 𝕄) frame (wpE (defs₀ (F := F)) 𝒱 (c : Thread nD τ) none) Set.univ (part1 A (xsB I) 0#32 1#32 k)
          fun r => iprop(slabD c A I k.val (k.val % 14) ∗ semVal ((c : Thread nD τ), .dma (wsem A (k.val % 14))) 0 ∗ roH c A I q ∗ owed (c : Thread nD τ)
            ∗ ⌜r = ⟨Scf.iv 0#32 1#32 k.val, prodv I k.val, BitVec.ofNat 32 (256 * k.val), za I k.val, rowsC (cntv I) k.val 0, k0_pay3⟩⌝) := by
  have hk : k.val < 125 := Nat.lt_of_lt_of_le k.isLt k0_t7_abs.2.1
  have hs : k.val % 14 < 14 := Nat.mod_lt _ (by decide)
  unfold part1 k0_part1_skel slotBusy slabD roH
  simp only [Prog.bind_lift]
  rw [wsem_eq A hs (k0_off11_eq k)]
  iintro ⟨HF, ⟨HC, HW, HN⟩, HO⟩
  iapply (wp_wait_own 𝒱 (c : Thread nD τ) none EC () (N := wN A) rfl) $$ [HF HO]
  · isplitl [HF]; · iexact HF
    iexact HO
  iintro ⟨⟨HR, HB⟩, HS, HO⟩
  iapply (wp_load_own 𝒱 (c : Thread nD τ) none (Finset.subset_univ _)) $$ HC; iintro HC
  iapply (wp_load_own 𝒱 (c : Thread nD τ) none (ring_sub (h := 0) (k0_off14_eq k))) $$ HR; iintro HR
  iapply (wp_load_own 𝒱 (c : Thread nD τ) none (Finset.subset_univ _)) $$ HC; iintro HC
  iapply (wp_load_own 𝒱 (c : Thread nD τ) none (ring_sub (h := 1) (k0_off15_eq k))) $$ HR; iintro HR
  iapply (wp_load_own 𝒱 (c : Thread nD τ) none (Finset.subset_univ _)) $$ HW; iintro HW
  iapply (wp_load_own 𝒱 (c : Thread nD τ) none (Finset.subset_univ _)) $$ HN; iintro HN
  sl_step
  isplitl [HR HB]
  · isplitl [HR]; · iexact HR
    iexact HB
  isplitl [HS]; · iexact HS
  isplitl [HC HW HN]
  · isplitl [HC]; · iexact HC
    isplitl [HW]; · iexact HW
    iexact HN
  isplitl [HO]; · iexact HO
  ipureintro
  rw [ld_codes (codesv I) (h := 0) (by decide) rfl, ld_codes (codesv I) (h := 1) (by decide) rfl, ld_ring I hk hs (h := 0) (by decide) (k0_off14_eq k),
    ld_ring I hk hs (h := 1) (by decide) (k0_off15_eq k), ld_ws I.ws hk (h := 0) (by decide) (off := k0_off16 k 0#32) (k0_off16_eq k 0), ld_cnt (cntv I) hk (h := 0) (by decide) (off := k0_off17 k 0#32) (k0_off17_eq k 0),
    col0_eq]
  rfl

theorem part2_spec (q : PosShare TreeShare) (k : Fin k0_t7_loop.trips) (y : S16x32000.Idx → Elt F .f32) :
    iprop(zH c A I k.val (2 * k.val) y ∗ roH c A I q)
      ⊢ wp (M := 𝕄) frame (wpE (defs₀ (F := F)) 𝒱 (c : Thread nD τ) none) Set.univ
          (part2 A (xsB I) (presB I) (freqB I) (repB I) (tempB I) k (Scf.iv 0#32 1#32 k.val) (prodv I k.val) (BitVec.ofNat 32 (256 * k.val)) (za I k.val) (rowsC (cntv I) k.val 0) k0_pay3)
          fun r => iprop(zH c A I k.val (2 * k.val + 1) y ∗ roH c A I q
            ∗ ⌜r = ⟨z0 I k.val, pos0 k.val, BitVec.ofNat 32 (256 * k.val + 128), zb I k.val, zs I k.val⟩⌝) := by
  have hk : k.val < 125 := Nat.lt_of_lt_of_le k.isLt k0_t7_abs.2.1
  unfold part2 k0_part2_skel roH zH
  simp only [Prog.bind_lift]
  have hin : ∀ i : S16x32000.Idx, pZ i = 2 * k.val → i ∈ zset k.val := by
    intro i hi; rw [zset, Finset.mem_filter_univ]; unfold pZ at hi; omega
  have hset : ∀ i, i ∈ (Rect.unit (s := S16x32000) (k0_off18 k 0#32) S16x128.size (k0_off18_inb k 0)).set ↔ pZ i = 2 * k.val :=
    fun i => half_set (h := 0) (by decide) (k0_off18_eq k 0) i
  iintro ⟨HZ, HC, HW, HN⟩
  iapply (wp_load_own 𝒱 (c : Thread nD τ) none (fun i hi => hin i ((hset i).mp hi))) $$ HZ; iintro HZ
  iapply (wp_store_upto 𝒱 (c : Thread nD τ) none pZ (2 * k.val) (zv I) y hset hin (fun j => ?_)) $$ HZ
  · exact (congrArg (zv I) (half_idx hk (h := 0) (by decide) (k0_off18_eq k 0) j)).trans (zv_half0 I hk j _)
  iintro HZ
  iapply (wp_load_own 𝒱 (c : Thread nD τ) none (Finset.subset_univ _)) $$ HW; iintro HW
  iapply (wp_load_own 𝒱 (c : Thread nD τ) none (Finset.subset_univ _)) $$ HN; iintro HN
  sl_step
  isplitl [HZ]; · iexact HZ
  isplitl [HC HW HN]
  · isplitl [HC]; · iexact HC
    isplitl [HW]; · iexact HW
    iexact HN
  ipureintro
  rw [ld_ws I.ws hk (h := 1) (by decide) (off := k0_off16 k 128#32) (k0_off16_eq k 1), ld_cnt (cntv I) hk (h := 1) (by decide) (off := k0_off17 k 1#32) (k0_off17_eq k 1), col1_eq]
  rfl

theorem part3_spec (k : Fin k0_t7_loop.trips) (y : S16x32000.Idx → Elt F .f32) (acc : FVec F S20x16x128 .f32) :
    iprop(zH c A I k.val (2 * k.val + 1) y ∗ own (c : Thread nD τ) A.arg33 Finset.univ fullShare (mAt I k.val) ∗ own (c : Thread nD τ) A.arg34 Finset.univ fullShare (sAt I k.val)
        ∗ candsH c A I ∗ accH c A I k.val acc 0)
      ⊢ wp (M := 𝕄) frame (wpE (defs₀ (F := F)) 𝒱 (c : Thread nD τ) none) Set.univ
          (part3 A (presB I) (tempB I) k (z0 I k.val) (pos0 k.val) (BitVec.ofNat 32 (256 * k.val + 128)) (zb I k.val) (zs I k.val))
          fun r => iprop(zH c A I k.val (2 * k.val + 2) y ∗ own (c : Thread nD τ) A.arg33 Finset.univ fullShare (mAt I (k.val + 1))
            ∗ own (c : Thread nD τ) A.arg34 Finset.univ fullShare (sAt I (k.val + 1)) ∗ candsH c A I ∗ accH c A I k.val acc 0
            ∗ ⌜r = ⟨z1 I k.val, pos1 k.val, k0_pay16 (presB I) (tempB I) (z0 I k.val) (pos0 k.val) (BitVec.ofNat 32 (256 * k.val + 128)) (zb I k.val) (zs I k.val)
                (plane acc 0) (plane (candv I) 0) (plane (candv I) 0)⟩⌝) := by
  have hk : k.val < 125 := Nat.lt_of_lt_of_le k.isLt k0_t7_abs.2.1
  unfold part3 k0_part3_skel zH
  simp only [Prog.bind_lift]
  have hin : ∀ i : S16x32000.Idx, pZ i = 2 * k.val + 1 → i ∈ zset k.val := by
    intro i hi; rw [zset, Finset.mem_filter_univ]; unfold pZ at hi; omega
  have hset : ∀ i, i ∈ (Rect.unit (s := S16x32000) (k0_off18 k 128#32) S16x128.size (k0_off18_inb k 1)).set ↔ pZ i = 2 * k.val + 1 :=
    fun i => half_set (h := 1) (by decide) (k0_off18_eq k 1) i
  have hall : ∀ i : S16x128.Idx, i ∈ (Rect.unit (s := S16x128) ![0, 0] S16x128.size inb_S16x128_S16x128_0_0).set := by
    intro i
    rw [mem2 rfl]
    have h0 : (i 0).val < 16 := (i 0).isLt
    have h1 : (i 1).val < 128 := (i 1).isLt
    exact ⟨⟨Nat.zero_le _, by show _ < 0 + 16; omega⟩, ⟨Nat.zero_le _, by show _ < 0 + 128; omega⟩⟩
  iintro ⟨HZ, HM, HS, HC, HA⟩
  iapply (wp_load_own 𝒱 (c : Thread nD τ) none (fun i hi => hin i ((hset i).mp hi))) $$ HZ; iintro HZ
  iapply (wp_store_upto 𝒱 (c : Thread nD τ) none pZ (2 * k.val + 1) (zv I) y hset hin (fun j => ?_)) $$ HZ
  · exact (congrArg (zv I) (half_idx hk (h := 1) (by decide) (k0_off18_eq k 1) j)).trans (zv_half1 I hk j _)
  iintro HZ
  iapply (wp_load_own 𝒱 (c : Thread nD τ) none (Finset.subset_univ _)) $$ HM; iintro HM
  iapply (wp_load_own 𝒱 (c : Thread nD τ) none (Finset.subset_univ _)) $$ HS; iintro HS
  iapply (wp_load_own 𝒱 (c : Thread nD τ) none (Finset.subset_univ _)) $$ HM; iintro HM
  iapply (wp_store_own 𝒱 (c : Thread nD τ) none (mAt I (k.val + 1)) (Finset.subset_univ _) (fun j => ?_) (fun i _ hi => absurd (hall i) hi)) $$ HM
  · rw [ld_all2]
    exact congrArg (mAt I (k.val + 1)) ((idx2 rfl (Nat.zero_add _).symm (Nat.zero_add _).symm).trans (ix2_eta j))
  iintro HM
  iapply (wp_load_own 𝒱 (c : Thread nD τ) none (Finset.subset_univ _)) $$ HS; iintro HS
  iapply (wp_store_own 𝒱 (c : Thread nD τ) none (sAt I (k.val + 1)) (Finset.subset_univ _) (fun j => ?_) (fun i _ hi => absurd (hall i) hi)) $$ HS
  · rw [ld_all2, ld_all2]
    exact congrArg (sAt I (k.val + 1)) ((idx2 rfl (Nat.zero_add _).symm (Nat.zero_add _).symm).trans (ix2_eta j))
  iintro HS
  iapply (load_acc 𝒱 c A I (by decide)) $$ HA; iintro HA
  iapply (load_cand 𝒱 c A I (by decide)) $$ HC; iintro HC
  iapply (load_cand 𝒱 c A I (by decide)) $$ HC; iintro HC
  sl_step
  isplitl [HZ]; · iexact HZ
  isplitl [HM]; · iexact HM
  isplitl [HS]; · iexact HS
  isplitl [HC]; · iexact HC
  isplitl [HA]; · iexact HA
  ipureintro; rfl

end Cert.Kernel.Hand

end
-- ==== Proof.Kernel.Main.lean ====
/-
  The main loop: one trip takes up one block of the weights, and hands the block before it to
  its transfer out and the ring's freed slot to the block fourteen ahead.
-/
module

public import proofs.«01_k».proof.Proof.Kernel.Block

@[expose] public section

noncomputable section

namespace Cert.Kernel.Hand

open Cert.Kernel Cert.Kernel.Gen Cert.Own
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

variable (𝒱 : Variants) (c : Dev nD) (A : Args) (I : In F)

/-! ## The two conditions and the offset of the copy out -/

theorem cond1_iff : ∀ k : Fin k0_t7_loop.trips, k0_cond1 k = 1#1 ↔ 1 ≤ k.val := by decide +kernel

theorem cond2_iff : ∀ k : Fin k0_t7_loop.trips, k0_cond2 k = 1#1 ↔ k.val + 14 < 125 := by decide +kernel

theorem off19_eq : ∀ k : Fin k0_t7_loop.trips, k0_cond1 k = 1#1 → k0_off19 k = ![0, 256 * (k.val - 1)] := by decide +kernel

/-! ## The parts of the arrays at rest -/

/-- The weights not on their way into the ring before block `k` is taken up. -/
def wrest (k : ℕ) : Finset S12288x32000.Idx := Finset.univ.filter fun i => (i 1).val / 256 < k ∨ k + 14 ≤ (i 1).val / 256

theorem wrest_zero : wrest 0 = wfrom 14 := by
  ext i; simp only [wrest, wfrom, Finset.mem_filter_univ]; omega

theorem wrest_join {k : ℕ} (h : k + 14 < 125) : (iprop(own (c : Thread nD τ) A.arg2 (wblk k) fullShare I.w ∗ own (c : Thread nD τ) A.arg2 (wrest k) fullShare I.w) : sProp 𝕄)
    = iprop(own (c : Thread nD τ) A.arg2 (wblk (k + 14)) fullShare I.w ∗ own (c : Thread nD τ) A.arg2 (wrest (k + 1)) fullShare I.w) := by
  have e : wblk k ∪ wrest k = wblk (k + 14) ∪ wrest (k + 1) := by
    ext i; simp only [wrest, wblk, Finset.mem_union, Finset.mem_filter_univ]; omega
  rw [← own_union, ← own_union, e]
  · rw [Finset.disjoint_left]; intro i; simp only [wrest, wblk, Finset.mem_filter_univ]; omega
  · rw [Finset.disjoint_left]; intro i; simp only [wrest, wblk, Finset.mem_filter_univ]; omega

theorem wrest_last {k : ℕ} (h : ¬ k + 14 < 125) : (iprop(own (c : Thread nD τ) A.arg2 (wblk k) fullShare I.w ∗ own (c : Thread nD τ) A.arg2 (wrest k) fullShare I.w) : sProp 𝕄)
    = own (c : Thread nD τ) A.arg2 (wrest (k + 1)) fullShare I.w := by
  have e : wblk k ∪ wrest k = wrest (k + 1) := by
    ext i; have := (i 1).isLt; change _ < 32000 at this; simp only [wrest, wblk, Finset.mem_union, Finset.mem_filter_univ]; omega
  rw [← own_union, e]
  rw [Finset.disjoint_left]; intro i; simp only [wrest, wblk, Finset.mem_filter_univ]; omega

theorem zset_one : zset 0 = zset 1 := by
  ext i; simp only [zset, Finset.mem_filter_univ]; omega

theorem zset_split {k : ℕ} (h : 1 ≤ k) : zset k = zblk (k - 1) ∪ zset (k + 1) := by
  ext i; simp only [zset, zblk, Finset.mem_union, Finset.mem_filter_univ]; omega

theorem zset_disj {k : ℕ} (h : 1 ≤ k) : Disjoint (zblk (k - 1)) (zset (k + 1)) := by
  rw [Finset.disjoint_left]; intro i; simp only [zset, zblk, Finset.mem_filter_univ]; omega

/-- The finished block before `k` apart from the scratch. -/
theorem zH_split {k : ℕ} (h : 1 ≤ k) (y : S16x32000.Idx → Elt F .f32) :
    (zH c A I k (2 * k + 2) y : sProp 𝕄) = iprop(own (c : Thread nD τ) A.arg30 (zblk (k - 1)) fullShare (zv I) ∗ zH c A I (k + 1) (2 * (k + 1)) y) := by
  unfold zH
  rw [zset_split h, own_union (zset_disj h)]
  have e : (own (c : Thread nD τ) A.arg30 (zblk (k - 1)) fullShare (upto pZ (2 * k + 2) (zv I) y) : sProp 𝕄) = own (c : Thread nD τ) A.arg30 (zblk (k - 1)) fullShare (zv I) := by
    refine own_congr fun i hi => ?_
    rw [zblk, Finset.mem_filter_univ] at hi
    rw [upto, if_pos (by unfold pZ; omega)]
  rw [e]; rfl

theorem out_split {k : ℕ} (h : 1 ≤ k) (y : S16x32000.Idx → Elt F .f32) :
    (own (c : Thread nD τ) A.arg13 (zset k) fullShare y : sProp 𝕄)
      = iprop(own (c : Thread nD τ) A.arg13 (zblk (k - 1)) fullShare y ∗ own (c : Thread nD τ) A.arg13 (zset (k + 1)) fullShare y) := by
  rw [← own_union (zset_disj h), ← zset_split h]

/-! ## One trip -/

/-- What the loop holds before block `k`. -/
def mainInv (q : PosShare TreeShare) (y : S16x32000.Idx → Elt F .f32) (yh : S16x32000.Idx → Elt F .f32) (k : ℕ) : sProp 𝕄 :=
  iprop(bigSep (Finset.range 14) (slotsAt c A I k) ∗ own (c : Thread nD τ) A.arg2 (wrest k) fullShare I.w
    ∗ zH c A I k (2 * k) y ∗ own (c : Thread nD τ) A.arg13 (zset k) fullShare yh
    ∗ Batch EC (c : Thread nD τ) (.dma A.arg40.sem) () (zN A) (zD c A I) (k - 1) 0
    ∗ own (c : Thread nD τ) A.arg33 Finset.univ fullShare (mAt I k) ∗ own (c : Thread nD τ) A.arg34 Finset.univ fullShare (sAt I k)
    ∗ candsH c A I ∗ own (c : Thread nD τ) A.arg32 Finset.univ fullShare (accAt I k) ∗ roH c A I q ∗ owed (c : Thread nD τ))

/-- All candidates' rows are done at the twentieth. -/
theorem accH_end (k : ℕ) : (accH c A I k (accAt I k) 20 : sProp 𝕄) = own (c : Thread nD τ) A.arg32 Finset.univ fullShare (accAt I (k + 1)) := by
  unfold accH
  rw [upto_all]
  · rfl
  · intro i; exact (i 0).isLt

theorem accH_start (k : ℕ) : (accH c A I k (accAt I k) 0 : sProp 𝕄) = own (c : Thread nD τ) A.arg32 Finset.univ fullShare (accAt I k) := by
  unfold accH; rw [upto_zero]

theorem t7_trip (q : PosShare TreeShare) (y : S16x32000.Idx → Elt F .f32) (yh : S16x32000.Idx → Elt F .f32) (k : Fin k0_t7_loop.trips)
    (u0 : FVec F S16x128 .f32) (u1 : Vec F S16x128 .f32) :
    mainInv c A I q y yh k.val
      ⊢ wp (M := 𝕄) frame (wpE (defs₀ (F := F)) 𝒱 (c : Thread nD τ) none) Set.univ (t7Body A (xsB I) (presB I) (freqB I) (repB I) (tempB I) u0 u1 k ())
          fun _ => mainInv c A I q y yh (k.val + 1) := by
  have hk : k.val < 125 := Nat.lt_of_lt_of_le k.isLt k0_t7_abs.2.1
  have hs : k.val % 14 < 14 := Nat.mod_lt _ (by decide)
  have eb : slotb k.val (k.val % 14) = k.val := by unfold slotb; omega
  have eb' : slotb (k.val + 1) (k.val % 14) = k.val + 14 := by unfold slotb; omega
  have e1 : slotsAt c A I k.val (k.val % 14) = slotBusy c A I k.val (k.val % 14) := by unfold slotsAt; rw [eb, if_pos hk]
  have e2 : bigSep ((Finset.range 14).erase (k.val % 14)) (slotsAt c A I k.val) = bigSep ((Finset.range 14).erase (k.val % 14)) (slotsAt c A I (k.val + 1)) := by
    refine bigSep_congr fun s hs' => ?_
    have h1 := Finset.mem_erase.mp hs'
    exact (slotsAt_next c A I (Finset.mem_range.mp h1.2) h1.1).symm
  unfold mainInv
  rw [slot_take hs, slot_take hs (slotsAt c A I (k.val + 1)), e1, e2, ← accH_end, ← accH_start]
  unfold t7Body k0_t7_body
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, Prog.bind_lift]
  iintro ⟨⟨HB, Hrest⟩, HW, HZ, HOUT, HBT, HM, HS, HC, HA, HRO, HO⟩
  iapply (wp_part 𝒱 c (part1_spec 𝒱 c A I q k)) $$ [HB HRO HO]
  · isplitl [HB]; · iexact HB
    isplitl [HRO]; · iexact HRO
    iexact HO
  iintro %r ⟨HSL, HV, HRO, HO, %hr⟩
  subst hr
  iapply (wp_part 𝒱 c (part2_spec 𝒱 c A I q k y)) $$ [HZ HRO]
  · isplitl [HZ]; · iexact HZ
    iexact HRO
  iintro %r ⟨HZ, HRO, %hr⟩
  subst hr
  iapply (wp_part 𝒱 c (part3_spec 𝒱 c A I k y (accAt I k.val))) $$ [HZ HM HS HC HA]
  · isplitl [HZ]; · iexact HZ
    isplitl [HM]; · iexact HM
    isplitl [HS]; · iexact HS
    isplitl [HC]; · iexact HC
    iexact HA
  iintro %r ⟨HZ, HM, HS, HC, HA, %hr⟩
  subst hr
  iapply (wp_part 𝒱 c (part4_spec 𝒱 c A I k.val (accAt I k.val))) $$ [HC HA]
  · isplitl [HC]; · iexact HC
    iexact HA
  iintro %r ⟨HC, HA⟩
  iapply (wp_part 𝒱 c (part5_spec 𝒱 c A I k.val (accAt I k.val))) $$ [HC HA]
  · isplitl [HC]; · iexact HC
    iexact HA
  iintro %r ⟨HC, HA, %hr⟩
  subst hr
  iapply (wp_part 𝒱 c (part6_spec 𝒱 c A I k.val (accAt I k.val))) $$ [HC HA]
  · isplitl [HC]; · iexact HC
    iexact HA
  iintro %r ⟨HC, HA, %hr⟩
  subst hr
  iapply (wp_part 𝒱 c (part7_spec 𝒱 c A I k.val (accAt I k.val))) $$ [HC HA]
  · isplitl [HC]; · iexact HC
    iexact HA
  iintro %r ⟨HC, HA, %hr⟩
  subst hr
  iapply (wp_part 𝒱 c (part8_spec 𝒱 c A I k.val (accAt I k.val))) $$ [HC HA]
  · isplitl [HC]; · iexact HC
    iexact HA
  iintro %r ⟨HC, HA, %hr⟩
  subst hr
  iapply (wp_part 𝒱 c (part9_spec 𝒱 c A I k.val (accAt I k.val))) $$ [HC HA]
  · isplitl [HC]; · iexact HC
    iexact HA
  iintro %r ⟨HC, HA, %hr⟩
  subst hr
  iapply (wp_part 𝒱 c (part10_spec 𝒱 c A I k.val (accAt I k.val))) $$ [HC HA]
  · isplitl [HC]; · iexact HC
    iexact HA
  iintro %r ⟨HC, HA, %hr⟩
  subst hr
  iapply (wp_part 𝒱 c (part11_spec 𝒱 c A I k.val (accAt I k.val))) $$ [HC HA]
  · isplitl [HC]; · iexact HC
    iexact HA
  iintro %r ⟨HC, HA, %hr⟩
  subst hr
  iapply (load_cand 𝒱 c A I (by decide)) $$ HC; iintro HC
  iapply (load_cand 𝒱 c A I (by decide)) $$ HC; iintro HC
  iapply (load_acc 𝒱 c A I (by decide)) $$ HA; iintro HA
  iapply (store_acc 𝒱 c A I (by decide) rfl) $$ HA; iintro HA
  by_cases h1 : k0_cond1 k = 1#1
  -- the finished block before this one goes out
  on_goal 1 =>
    have hk1 : 1 ≤ k.val := (cond1_iff k).mp h1
    rw [dif_pos h1]
    ihave HZ := (Entails.of_eq (zH_split c A I hk1 y)) $$ HZ
    ihave HOUT := (Entails.of_eq (out_split c A hk1 yh)) $$ HOUT
    icases HZ with ⟨HZb, HZ⟩
    icases HOUT with ⟨HOb, HOUT⟩
    iapply (block_copy 𝒱 c A I (b := k.val - 1) (by omega) (off19_eq k h1) (off19_eq k h1) yh) $$ [HZb HOb HBT]
    · isplitl [HZb]; · iexact HZb
      isplitl [HOb]; · iexact HOb
      iexact HBT
    iintro HBT
    have eB : k.val - 1 + 1 = k.val + 1 - 1 := by omega
    ihave HBT := (Entails.of_eq (congrArg (fun n => Batch EC (c : Thread nD τ) (.dma A.arg40.sem) () (zN A) (zD c A I) n 0) eB)) $$ HBT
  on_goal 2 =>
    have hk0 : k.val = 0 := by have := (cond1_iff k).not.mp h1; omega
    rw [dif_neg h1]
    have eZ : zH c A I k.val (2 * k.val + 2) y = zH c A I (k.val + 1) (2 * (k.val + 1)) y := by rw [hk0]; unfold zH; rw [zset_one]
    have eO : zset k.val = zset (k.val + 1) := by rw [hk0]; exact zset_one
    have eB : k.val - 1 = k.val + 1 - 1 := by omega
    ihave HZ := (Entails.of_eq eZ) $$ HZ
    ihave HOUT := (Entails.of_eq (congrArg (fun n => own (c : Thread nD τ) A.arg13 n fullShare yh) eO)) $$ HOUT
    ihave HBT := (Entails.of_eq (congrArg (fun n => Batch EC (c : Thread nD τ) (.dma A.arg40.sem) () (zN A) (zD c A I) n 0) eB)) $$ HBT
  all_goals
    unfold slabD
    icases HSL with ⟨HR, HWb⟩
    by_cases h2 : k0_cond2 k = 1#1
    -- the freed slot takes the block fourteen ahead
    · have hk2 : k.val + 14 < 125 := (cond2_iff k).mp h2
      rw [dif_pos h2]
      have hj := wrest_join c A I hk2
      ihave HWW := (Entails.of_eq hj) $$ [HWb HW]
      · isplitl [HWb]; · iexact HWb
        iexact HW
      icases HWW with ⟨HWn, HW⟩
      iapply (slab_copy 𝒱 c A I (b := k.val + 14) hk2 hs (k0_off20_eq k) (k0_off21_eq k) (k0_off22_eq k) (ringv I k.val)) $$ [HWn HR HV]
      · isplitl [HWn]; · iexact HWn
        isplitl [HR]; · iexact HR
        iexact HV
      iintro HF
      sl_step
      have e3 : slotsAt c A I (k.val + 1) (k.val % 14) = slotBusy c A I (k.val + 14) (k.val % 14) := by unfold slotsAt; rw [eb', if_pos hk2]
      rw [e3]; unfold slotBusy
      isplitl [HF Hrest]
      · isplitl [HF]; · iexact HF
        iexact Hrest
      isplitl [HW]; · iexact HW
      isplitl [HZ]; · iexact HZ
      isplitl [HOUT]; · iexact HOUT
      isplitl [HBT]; · iexact HBT
      isplitl [HM]; · iexact HM
      isplitl [HS]; · iexact HS
      isplitl [HC]; · iexact HC
      isplitl [HA]; · iexact HA
      isplitl [HRO]; · iexact HRO
      iexact HO
    · have hk2 : ¬ k.val + 14 < 125 := (cond2_iff k).not.mp h2
      rw [dif_neg h2]
      have hj := wrest_last c A I hk2
      ihave HWW := (Entails.of_eq hj) $$ [HWb HW]
      · isplitl [HWb]; · iexact HWb
        iexact HW
      sl_step
      have e3 : slotsAt c A I (k.val + 1) (k.val % 14) = slotFree c A (k.val % 14) := by unfold slotsAt; rw [eb', if_neg hk2]
      rw [e3]; unfold slotFree
      isplitl [HR HV Hrest]
      · isplitl [HR HV]
        · isplitl [HR]; · iexists (ringv I k.val); iexact HR
          iexact HV
        iexact Hrest
      isplitl [HWW]; · iexact HWW
      isplitl [HZ]; · iexact HZ
      isplitl [HOUT]; · iexact HOUT
      isplitl [HBT]; · iexact HBT
      isplitl [HM]; · iexact HM
      isplitl [HS]; · iexact HS
      isplitl [HC]; · iexact HC
      isplitl [HA]; · iexact HA
      isplitl [HRO]; · iexact HRO
      iexact HO

end Cert.Kernel.Hand

end
-- ==== Proof.Kernel.Pre.lean ====
/-
  The kernel up to its main loop: the inputs come in, the activations are quantised, the history
  is counted, the candidates' planes are set up.
-/
module

public import proofs.«01_k».proof.Proof.Kernel.Main

@[expose] public section

noncomputable section

namespace Cert.Kernel.Hand

open Cert.Kernel Cert.Kernel.Gen Cert.Own
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

variable (𝒱 : Variants) (c : Dev nD) (A : Args) (I : In F)

/-! ## Copies of whole arrays -/

/-- A whole memref, held at named values. -/
abbrev hold {sp : Space} {s : Shape} {e : EltTy} (m : Memref sig .tc sp s e) (x : s.Idx → Elt F e) : sProp 𝕄 :=
  own (c : Thread nD τ) m Finset.univ fullShare x

/-- A whole memref, held at some values. -/
def anyH {sp : Space} {s : Shape} {e : EltTy} (m : Memref sig .tc sp s e) : sProp 𝕄 := iprop(∃ y : s.Idx → Elt F e, hold c m y)

/-- A copy of a whole array under way. -/
def flown {sp sp' : Space} {s : Shape} {e : EltTy} (sm : DmaSem sig) (src : Memref sig .tc sp s e) (dst : Memref sig .tc sp' s e) (q : PosShare TreeShare)
    (x : s.Idx → Elt F e) : sProp 𝕄 :=
  Flight EC (c : Thread nD τ) (.dma sm) () dst.view.dmaCredit iprop(hold c dst x ∗ own (c : Thread nD τ) src Finset.univ q x)

/-- A copy of a whole array is started. -/
theorem start {α : Type} {Q : α → sProp 𝕄} {sp sp' : Space} {s : Shape} {e : EltTy} {sm sm' : DmaSem sig} (h : sm = sm')
    {src : Memref sig .tc sp s e} {dst : Memref sig .tc sp' s e} (hp : 0 < dst.view.dmaCredit) {q : PosShare TreeShare} {x : s.Idx → Elt F e}
    {hsrc hdst hsem} {k : PUnit → Prog (TpuEff nD τ sig (Elt F) Λ₀ .tc) α} :
    iprop(own (c : Thread nD τ) src Finset.univ q x ∗ anyH c dst ∗ semVal ((c : Thread nD τ), .dma sm') 0)
      ⊢ iprop((flown c sm' src dst q x -∗ wp (M := 𝕄) frame (wpE (defs₀ (F := F)) 𝒱 (c : Thread nD τ) none) Set.univ (k ⟨⟩) Q)
          -∗ wp (M := 𝕄) frame (wpE (defs₀ (F := F)) 𝒱 (c : Thread nD τ) none) Set.univ
            (.op (.enqueueDma src (.here dst) (.dma sm) hsrc hdst hsem) k) Q) := by
  subst h
  unfold flown anyH
  iintro ⟨HS, ⟨%y, HD⟩, HV⟩ Hk
  iapply (wp_dma_own 𝒱 (c : Thread nD τ) none EC () dst.view.dmaCredit rfl hp (y := y)) $$ [HS HD HV]
  · isplitl [HS]; · iexact HS
    isplitl [HD]; · iexact HD
    iexact HV
  iexact Hk

/-- The wait for a copy of a whole array. -/
theorem arrive {α : Type} {Q : α → sProp 𝕄} {sp sp' : Space} {s : Shape} {e : EltTy} {sm sm' : DmaSem sig} (h : sm = sm')
    {src : Memref sig .tc sp s e} {dst : Memref sig .tc sp' s e} {q : PosShare TreeShare} {x : s.Idx → Elt F e}
    {hsrc hdst} {k : PUnit → Prog (TpuEff nD τ sig (Elt F) Λ₀ .tc) α} :
    iprop(flown c sm' src dst q x ∗ owed (c : Thread nD τ))
      ⊢ iprop((iprop(hold c dst x ∗ own (c : Thread nD τ) src Finset.univ q x ∗ semVal ((c : Thread nD τ), .dma sm') 0 ∗ owed (c : Thread nD τ))
            -∗ wp (M := 𝕄) frame (wpE (defs₀ (F := F)) 𝒱 (c : Thread nD τ) none) Set.univ (k ⟨⟩) Q)
          -∗ wp (M := 𝕄) frame (wpE (defs₀ (F := F)) 𝒱 (c : Thread nD τ) none) Set.univ
            (.op (.waitDma2 sm src dst hsrc hdst) k) Q) := by
  subst h
  unfold flown
  iintro ⟨HF, HO⟩ Hk
  iapply (wp_wait_own 𝒱 (c : Thread nD τ) none EC () rfl) $$ [HF HO]
  · isplitl [HF]; · iexact HF
    iexact HO
  iintro ⟨⟨HD, HS⟩, HV, HO⟩
  iapply Hk
  isplitl [HD]; · iexact HD
  isplitl [HS]; · iexact HS
  isplitl [HV]; · iexact HV
  iexact HO

/-- The cell of the `n`-th input copy. -/
def isem (n : ℕ) : DmaSem sig := A.arg39.ix (ix1 ⟨n % 10, Nat.mod_lt _ (by decide)⟩)

theorem isem_eq {n : ℕ} (hn : n < 10) {off : Fin 1 → ℕ} {inb} (ho : off = ![n]) :
    ((A.arg39.slice (Rect.unit (s := S10) off S1.size inb)).squeeze S_ squeezes_S1_S_).sem = isem A n := by
  refine congrArg A.arg39.ix (idx1 ho ?_)
  have h0 : ∀ q : Fin 1, q.val = 0 := fun q => by omega
  exact (Nat.mod_eq_of_lt hn).trans ((Nat.add_zero n).symm.trans (congrArg (n + ·) (h0 _).symm))

/-- The cell of the `n`-th output copy. -/
def outsem (n : ℕ) : DmaSem sig := A.arg41.ix (ix1 ⟨n % 4, Nat.mod_lt _ (by decide)⟩)

theorem outsem_eq {n : ℕ} (hn : n < 4) {off : Fin 1 → ℕ} {inb} (ho : off = ![n]) :
    ((A.arg41.slice (Rect.unit (s := S4) off S1.size inb)).squeeze S_ squeezes_S1_S_).sem = outsem A n := by
  refine congrArg A.arg41.ix (idx1 ho ?_)
  have h0 : ∀ q : Fin 1, q.val = 0 := fun q => by omega
  exact (Nat.mod_eq_of_lt hn).trans ((Nat.add_zero n).symm.trans (congrArg (n + ·) (h0 _).symm))

/-! ## The inputs -/

/-- Input copy 0: its source, its destination and its cell, before it starts. -/
def in0B : sProp 𝕄 := iprop(hold c A.arg0 I.x ∗ anyH (F := F) c A.arg17 ∗ semVal ((c : Thread nD τ), .dma (isem A 0)) 0)

/-- Input copy 0 under way. -/
def in0F : sProp 𝕄 := flown c (isem A 0) A.arg0 A.arg17 fullShare I.x

/-- The source and the cell of input copy 0, once it has arrived. -/
def in0E : sProp 𝕄 := iprop(hold c A.arg0 I.x ∗ semVal ((c : Thread nD τ), .dma (isem A 0)) 0)

/-- Input copy 1: its source, its destination and its cell, before it starts. -/
def in1B : sProp 𝕄 := iprop(hold c A.arg1 I.gain ∗ anyH (F := F) c A.arg18 ∗ semVal ((c : Thread nD τ), .dma (isem A 1)) 0)

/-- Input copy 1 under way. -/
def in1F : sProp 𝕄 := flown c (isem A 1) A.arg1 A.arg18 fullShare I.gain

/-- The source and the cell of input copy 1, once it has arrived. -/
def in1E : sProp 𝕄 := iprop(hold c A.arg1 I.gain ∗ semVal ((c : Thread nD τ), .dma (isem A 1)) 0)

/-- Input copy 2: its source, its destination and its cell, before it starts. -/
def in2B : sProp 𝕄 := iprop(hold c A.arg4 I.ids ∗ anyH (F := F) c A.arg20 ∗ semVal ((c : Thread nD τ), .dma (isem A 2)) 0)

/-- Input copy 2 under way. -/
def in2F : sProp 𝕄 := flown c (isem A 2) A.arg4 A.arg20 fullShare I.ids

/-- The source and the cell of input copy 2, once it has arrived. -/
def in2E : sProp 𝕄 := iprop(hold c A.arg4 I.ids ∗ semVal ((c : Thread nD τ), .dma (isem A 2)) 0)

/-- Input copy 3: its source, its destination and its cell, before it starts. -/
def in3B : sProp 𝕄 := iprop(hold c A.arg5 I.len ∗ anyH (F := F) c A.arg21 ∗ semVal ((c : Thread nD τ), .dma (isem A 3)) 0)

/-- Input copy 3 under way. -/
def in3F : sProp 𝕄 := flown c (isem A 3) A.arg5 A.arg21 fullShare I.len

/-- The source and the cell of input copy 3, once it has arrived. -/
def in3E : sProp 𝕄 := iprop(hold c A.arg5 I.len ∗ semVal ((c : Thread nD τ), .dma (isem A 3)) 0)

/-- Input copy 4: its source, its destination and its cell, before it starts. -/
def in4B : sProp 𝕄 := iprop(hold c A.arg6 I.pres ∗ anyH (F := F) c A.arg22 ∗ semVal ((c : Thread nD τ), .dma (isem A 4)) 0)

/-- Input copy 4 under way. -/
def in4F : sProp 𝕄 := flown c (isem A 4) A.arg6 A.arg22 fullShare I.pres

/-- The source and the cell of input copy 4, once it has arrived. -/
def in4E : sProp 𝕄 := iprop(hold c A.arg6 I.pres ∗ semVal ((c : Thread nD τ), .dma (isem A 4)) 0)

/-- Input copy 5: its source, its destination and its cell, before it starts. -/
def in5B : sProp 𝕄 := iprop(hold c A.arg7 I.freq ∗ anyH (F := F) c A.arg23 ∗ semVal ((c : Thread nD τ), .dma (isem A 5)) 0)

/-- Input copy 5 under way. -/
def in5F : sProp 𝕄 := flown c (isem A 5) A.arg7 A.arg23 fullShare I.freq

/-- The source and the cell of input copy 5, once it has arrived. -/
def in5E : sProp 𝕄 := iprop(hold c A.arg7 I.freq ∗ semVal ((c : Thread nD τ), .dma (isem A 5)) 0)

/-- Input copy 6: its source, its destination and its cell, before it starts. -/
def in6B : sProp 𝕄 := iprop(hold c A.arg8 I.rep ∗ anyH (F := F) c A.arg24 ∗ semVal ((c : Thread nD τ), .dma (isem A 6)) 0)

/-- Input copy 6 under way. -/
def in6F : sProp 𝕄 := flown c (isem A 6) A.arg8 A.arg24 fullShare I.rep

/-- The source and the cell of input copy 6, once it has arrived. -/
def in6E : sProp 𝕄 := iprop(hold c A.arg8 I.rep ∗ semVal ((c : Thread nD τ), .dma (isem A 6)) 0)

/-- Input copy 7: its source, its destination and its cell, before it starts. -/
def in7B : sProp 𝕄 := iprop(hold c A.arg9 I.temp ∗ anyH (F := F) c A.arg25 ∗ semVal ((c : Thread nD τ), .dma (isem A 7)) 0)

/-- Input copy 7 under way. -/
def in7F : sProp 𝕄 := flown c (isem A 7) A.arg9 A.arg25 fullShare I.temp

/-- The source and the cell of input copy 7, once it has arrived. -/
def in7E : sProp 𝕄 := iprop(hold c A.arg9 I.temp ∗ semVal ((c : Thread nD τ), .dma (isem A 7)) 0)

/-- Input copy 8: its source, its destination and its cell, before it starts. -/
def in8B : sProp 𝕄 := iprop(hold c A.arg10 I.cand ∗ anyH (F := F) c A.arg26 ∗ semVal ((c : Thread nD τ), .dma (isem A 8)) 0)

/-- Input copy 8 under way. -/
def in8F : sProp 𝕄 := flown c (isem A 8) A.arg10 A.arg26 fullShare I.cand

/-- The source and the cell of input copy 8, once it has arrived. -/
def in8E : sProp 𝕄 := iprop(hold c A.arg10 I.cand ∗ semVal ((c : Thread nD τ), .dma (isem A 8)) 0)

/-- Input copy 9: its source, its destination and its cell, before it starts. -/
def in9B : sProp 𝕄 := iprop(hold c A.arg3 I.ws ∗ anyH (F := F) c A.arg19 ∗ semVal ((c : Thread nD τ), .dma (isem A 9)) 0)

/-- Input copy 9 under way. -/
def in9F : sProp 𝕄 := flown c (isem A 9) A.arg3 A.arg19 fullShare I.ws

/-- The source and the cell of input copy 9, once it has arrived. -/
def in9E : sProp 𝕄 := iprop(hold c A.arg3 I.ws ∗ semVal ((c : Thread nD τ), .dma (isem A 9)) 0)

/-! ## The parts -/

theorem part12_spec :
    iprop(in0B c A I ∗ in1B c A I ∗ in2B c A I ∗ in3B c A I ∗ in4B c A I ∗ in5B c A I ∗ in6B c A I ∗ in7B c A I ∗ in8B c A I ∗ in9B c A I ∗ bigSep (Finset.range 14) (slotsUp c A I 0) ∗ own (c : Thread nD τ) A.arg2 (wfrom 0) fullShare I.w ∗ owed (c : Thread nD τ))
      ⊢ wp (M := 𝕄) frame (wpE (defs₀ (F := F)) 𝒱 (c : Thread nD τ) none) Set.univ (part12 A)
          fun _ => iprop(hold c A.arg17 I.x ∗ hold c A.arg18 I.gain ∗ hold c A.arg20 I.ids ∗ in0E c A I ∗ in1E c A I ∗ in2E c A I ∗ in3F c A I ∗ in4F c A I ∗ in5F c A I ∗ in6F c A I ∗ in7F c A I ∗ in8F c A I ∗ in9F c A I ∗ bigSep (Finset.range 14) (slotsUp c A I 14) ∗ own (c : Thread nD τ) A.arg2 (wfrom 14) fullShare I.w ∗ owed (c : Thread nD τ)) := by
  unfold part12 k0_part12_skel in0B in0E in1B in1E in2B in2E in3B in3F in4B in4F in5B in5F in6B in6F in7B in7F in8B in8F in9B in9F
  simp only [Prog.bind_lift]
  iintro ⟨HI0, HI1, HI2, HI3, HI4, HI5, HI6, HI7, HI8, HI9, HB, HW, HO⟩
  iapply (start 𝒱 c (isem_eq A (n := 0) (by decide) rfl) (sig.dmaCredit_pos _ _ _ _ _ (by decide))) $$ HI0; iintro HI0
  iapply (start 𝒱 c (isem_eq A (n := 1) (by decide) rfl) (sig.dmaCredit_pos _ _ _ _ _ (by decide))) $$ HI1; iintro HI1
  iapply (start 𝒱 c (isem_eq A (n := 2) (by decide) rfl) (sig.dmaCredit_pos _ _ _ _ _ (by decide))) $$ HI2; iintro HI2
  iapply (start 𝒱 c (isem_eq A (n := 3) (by decide) rfl) (sig.dmaCredit_pos _ _ _ _ _ (by decide))) $$ HI3; iintro HI3
  iapply (start 𝒱 c (isem_eq A (n := 4) (by decide) rfl) (sig.dmaCredit_pos _ _ _ _ _ (by decide))) $$ HI4; iintro HI4
  iapply (start 𝒱 c (isem_eq A (n := 5) (by decide) rfl) (sig.dmaCredit_pos _ _ _ _ _ (by decide))) $$ HI5; iintro HI5
  iapply (start 𝒱 c (isem_eq A (n := 6) (by decide) rfl) (sig.dmaCredit_pos _ _ _ _ _ (by decide))) $$ HI6; iintro HI6
  iapply (start 𝒱 c (isem_eq A (n := 7) (by decide) rfl) (sig.dmaCredit_pos _ _ _ _ _ (by decide))) $$ HI7; iintro HI7
  iapply (start 𝒱 c (isem_eq A (n := 8) (by decide) rfl) (sig.dmaCredit_pos _ _ _ _ _ (by decide))) $$ HI8; iintro HI8
  iapply (start 𝒱 c (isem_eq A (n := 9) (by decide) rfl) (sig.dmaCredit_pos _ _ _ _ _ (by decide))) $$ HI9; iintro HI9
  iapply (Scf.wp_for_bind frame (wpE (defs₀ (F := F)) 𝒱 (c : Thread nD τ) none) Set.univ k0_t1_loop.lb k0_t1_loop.ub k0_t1_loop.st k0_t1_ok PUnit.unit
    (t1Body A) (fun k _ => iprop(bigSep (Finset.range 14) (slotsUp c A I k) ∗ own (c : Thread nD τ) A.arg2 (wfrom k) fullShare I.w)) (fun k _ => t1_trip 𝒱 c A I k)) $$ [HB HW]
  · isplitl [HB]; · iexact HB
    iexact HW
  iintro %u ⟨HB, HW⟩
  iapply (arrive 𝒱 c (isem_eq A (n := 0) (by decide) rfl)) $$ [HI0 HO]
  · isplitl [HI0]; · iexact HI0
    iexact HO
  iintro ⟨HD0, HI0, HV0, HO⟩
  iapply (arrive 𝒱 c (isem_eq A (n := 1) (by decide) rfl)) $$ [HI1 HO]
  · isplitl [HI1]; · iexact HI1
    iexact HO
  iintro ⟨HD1, HI1, HV1, HO⟩
  iapply (arrive 𝒱 c (isem_eq A (n := 2) (by decide) rfl)) $$ [HI2 HO]
  · isplitl [HI2]; · iexact HI2
    iexact HO
  iintro ⟨HD2, HI2, HV2, HO⟩
  sl_step
  isplitl [HD0]; · iexact HD0
  isplitl [HD1]; · iexact HD1
  isplitl [HD2]; · iexact HD2
  isplitl [HI0 HV0]
  · isplitl [HI0]; · iexact HI0
    iexact HV0
  isplitl [HI1 HV1]
  · isplitl [HI1]; · iexact HI1
    iexact HV1
  isplitl [HI2 HV2]
  · isplitl [HI2]; · iexact HI2
    iexact HV2
  isplitl [HI3]; · iexact HI3
  isplitl [HI4]; · iexact HI4
  isplitl [HI5]; · iexact HI5
  isplitl [HI6]; · iexact HI6
  isplitl [HI7]; · iexact HI7
  isplitl [HI8]; · iexact HI8
  isplitl [HI9]; · iexact HI9
  isplitl [HB]; · iexact HB
  isplitl [HW]; · iexact HW
  iexact HO

theorem part13_spec :
    iprop(in3F c A I ∗ in4F c A I ∗ in5F c A I ∗ in6F c A I ∗ in7F c A I ∗ in8F c A I ∗ in9F c A I ∗ hold c A.arg17 I.x ∗ hold c A.arg18 I.gain ∗ anyH (F := F) c A.arg27 ∗ owed (c : Thread nD τ))
      ⊢ wp (M := 𝕄) frame (wpE (defs₀ (F := F)) 𝒱 (c : Thread nD τ) none) Set.univ (part13 A)
          fun r => iprop(hold c A.arg21 I.len ∗ hold c A.arg22 I.pres ∗ hold c A.arg23 I.freq ∗ hold c A.arg24 I.rep ∗ hold c A.arg25 I.temp ∗ hold c A.arg26 I.cand ∗ hold c A.arg19 I.ws ∗ in3E c A I ∗ in4E c A I ∗ in5E c A I ∗ in6E c A I ∗ in7E c A I ∗ in8E c A I ∗ in9E c A I ∗ hold c A.arg17 I.x ∗ hold c A.arg18 I.gain ∗ hold c A.arg27 (yv I) ∗ owed (c : Thread nD τ) ∗ ⌜r = ⟨av I, k0_pay49⟩⌝) := by
  unfold part13 k0_part13_skel in3F in3E in4F in4E in5F in5E in6F in6E in7F in7E in8F in8E in9F in9E
  simp only [Prog.bind_lift]
  iintro ⟨HI3, HI4, HI5, HI6, HI7, HI8, HI9, HX, HG, HY, HO⟩
  iapply (arrive 𝒱 c (isem_eq A (n := 3) (by decide) rfl)) $$ [HI3 HO]
  · isplitl [HI3]; · iexact HI3
    iexact HO
  iintro ⟨HD3, HI3, HV3, HO⟩
  iapply (arrive 𝒱 c (isem_eq A (n := 4) (by decide) rfl)) $$ [HI4 HO]
  · isplitl [HI4]; · iexact HI4
    iexact HO
  iintro ⟨HD4, HI4, HV4, HO⟩
  iapply (arrive 𝒱 c (isem_eq A (n := 5) (by decide) rfl)) $$ [HI5 HO]
  · isplitl [HI5]; · iexact HI5
    iexact HO
  iintro ⟨HD5, HI5, HV5, HO⟩
  iapply (arrive 𝒱 c (isem_eq A (n := 6) (by decide) rfl)) $$ [HI6 HO]
  · isplitl [HI6]; · iexact HI6
    iexact HO
  iintro ⟨HD6, HI6, HV6, HO⟩
  iapply (arrive 𝒱 c (isem_eq A (n := 7) (by decide) rfl)) $$ [HI7 HO]
  · isplitl [HI7]; · iexact HI7
    iexact HO
  iintro ⟨HD7, HI7, HV7, HO⟩
  iapply (arrive 𝒱 c (isem_eq A (n := 8) (by decide) rfl)) $$ [HI8 HO]
  · isplitl [HI8]; · iexact HI8
    iexact HO
  iintro ⟨HD8, HI8, HV8, HO⟩
  iapply (arrive 𝒱 c (isem_eq A (n := 9) (by decide) rfl)) $$ [HI9 HO]
  · isplitl [HI9]; · iexact HI9
    iexact HO
  iintro ⟨HD9, HI9, HV9, HO⟩
  iapply (Scf.wp_for_bind frame (wpE (defs₀ (F := F)) 𝒱 (c : Thread nD τ) none) Set.univ k0_t2_loop.lb k0_t2_loop.ub k0_t2_loop.st k0_t2_ok (k0_pay43 (F := F))
    (t2Body A) (fun k acc => iprop(hold c A.arg17 I.x ∗ ⌜acc = sqAt I k⌝)) (fun k acc => t2_trip 𝒱 c A I k acc)) $$ [HX]
  · isplitl [HX]; · iexact HX
    ipureintro; rfl
  iintro %s2 ⟨HX, %hs2⟩
  have e2 : s2 = sq I := hs2.trans (congrArg (sqAt I) (by decide +kernel : k0_t2_loop.trips = 12))
  subst e2
  unfold anyH
  icases HY with ⟨%y0, HY⟩
  iapply (Scf.wp_for_bind frame (wpE (defs₀ (F := F)) 𝒱 (c : Thread nD τ) none) Set.univ k0_t3_loop.lb k0_t3_loop.ub k0_t3_loop.st k0_t3_ok (k0_pay43 (F := F))
    (t3Body A (sq I)) (fun k acc => iprop(hold c A.arg17 I.x ∗ hold c A.arg18 I.gain ∗ hold c A.arg27 (upto pX k (yv I) y0) ∗ ⌜acc = amaxAt I k⌝)) (fun k acc => t3_trip 𝒱 c A I k acc y0)) $$ [HX HG HY]
  · isplitl [HX]; · iexact HX
    isplitl [HG]; · iexact HG
    isplitl [HY]; · rw [upto_zero]; iexact HY
    ipureintro; rfl
  iintro %a3 ⟨HX, HG, HY, %ha3⟩
  have t3 : k0_t3_loop.trips = 12 := by decide +kernel
  have e3 : a3 = amaxAt I 12 := ha3.trans (congrArg (amaxAt I) t3)
  subst e3
  have ey : upto pX k0_t3_loop.trips (yv I) y0 = yv I := by
    rw [t3]; refine upto_all _ _ fun i => ?_
    have h1 : (i 1).val < 12288 := (i 1).isLt
    unfold pX; omega
  ihave HY := (Entails.of_eq (congrArg (hold c A.arg27) ey)) $$ HY
  sl_step
  isplitl [HD3]; · iexact HD3
  isplitl [HD4]; · iexact HD4
  isplitl [HD5]; · iexact HD5
  isplitl [HD6]; · iexact HD6
  isplitl [HD7]; · iexact HD7
  isplitl [HD8]; · iexact HD8
  isplitl [HD9]; · iexact HD9
  isplitl [HI3 HV3]
  · isplitl [HI3]; · iexact HI3
    iexact HV3
  isplitl [HI4 HV4]
  · isplitl [HI4]; · iexact HI4
    iexact HV4
  isplitl [HI5 HV5]
  · isplitl [HI5]; · iexact HI5
    iexact HV5
  isplitl [HI6 HV6]
  · isplitl [HI6]; · iexact HI6
    iexact HV6
  isplitl [HI7 HV7]
  · isplitl [HI7]; · iexact HI7
    iexact HV7
  isplitl [HI8 HV8]
  · isplitl [HI8]; · iexact HI8
    iexact HV8
  isplitl [HI9 HV9]
  · isplitl [HI9]; · iexact HI9
    iexact HV9
  isplitl [HX]; · iexact HX
  isplitl [HG]; · iexact HG
  isplitl [HY]; · iexact HY
  isplitl [HO]; · iexact HO
  ipureintro; rfl

theorem part14_spec :
    iprop(hold c A.arg27 (yv I) ∗ anyH (F := F) c A.arg28)
      ⊢ wp (M := 𝕄) frame (wpE (defs₀ (F := F)) 𝒱 (c : Thread nD τ) none) Set.univ (part14 A (av I) k0_pay49)
          fun r => iprop(hold c A.arg27 (yv I) ∗ hold c A.arg28 (codesv I) ∗ ⌜r = ⟨xsCol I, k0_pay53 (av I) k0_pay49⟩⌝) := by
  unfold part14 k0_part14_skel anyH
  simp only [Prog.bind_lift]
  iintro ⟨HY, %y0, HC⟩
  iapply (Scf.wp_for_bind frame (wpE (defs₀ (F := F)) 𝒱 (c : Thread nD τ) none) Set.univ k0_t4_loop.lb k0_t4_loop.ub k0_t4_loop.st k0_t4_ok PUnit.unit
    (t4Body A (av I) k0_pay49) (fun k acc => iprop(hold c A.arg27 (yv I) ∗ hold c A.arg28 (upto pX k (codesv I) y0))) (fun k acc => t4_trip 𝒱 c A I k y0)) $$ [HY HC]
  · isplitl [HY]; · iexact HY
    rw [upto_zero]; iexact HC
  iintro %u ⟨HY, HC⟩
  have ec : upto pX k0_t4_loop.trips (codesv I) y0 = codesv I := by
    rw [(by decide +kernel : k0_t4_loop.trips = 12)]; refine upto_all _ _ fun i => ?_
    have h1 : (i 1).val < 12288 := (i 1).isLt
    unfold pX; omega
  ihave HC := (Entails.of_eq (congrArg (hold c A.arg28) ec)) $$ HC
  sl_step
  isplitl [HY]; · iexact HY
  isplitl [HC]; · iexact HC
  ipureintro; rfl

/-- A store over a whole two-axis array. -/
theorem store_all {α : Type} {Q : α → sProp 𝕄} {n0 n1 : ℕ} {e : EltTy} {m : Memref sig .tc .vmem ⟨2, ![n0, n1]⟩ e} {inb hx hm} {w : (⟨2, ![n0, n1]⟩ : Shape).Idx → Elt F e}
    {x : (⟨2, ![n0, n1]⟩ : Shape).Idx → Elt F e} {k : PUnit → Prog (TpuEff nD τ sig (Elt F) Λ₀ .tc) α} :
    hold c m x ⊢ iprop((hold c m w -∗ wp (M := 𝕄) frame (wpE (defs₀ (F := F)) 𝒱 (c : Thread nD τ) none) Set.univ (k ⟨⟩) Q)
      -∗ wp (M := 𝕄) frame (wpE (defs₀ (F := F)) 𝒱 (c : Thread nD τ) none) Set.univ
          (.op (.store m (Rect.unit (s := ⟨2, ![n0, n1]⟩) ![0, 0] ![n0, n1] inb) w Finset.univ hx hm) k) Q) := by
  have hall : ∀ i : (⟨2, ![n0, n1]⟩ : Shape).Idx, i ∈ (Rect.unit (s := ⟨2, ![n0, n1]⟩) ![0, 0] ![n0, n1] inb).set := by
    intro i
    rw [mem2 rfl]
    have h0 : (i 0).val < n0 := (i 0).isLt
    have h1 : (i 1).val < n1 := (i 1).isLt
    exact ⟨⟨Nat.zero_le _, by show _ < 0 + n0; omega⟩, ⟨Nat.zero_le _, by show _ < 0 + n1; omega⟩⟩
  exact wp_store_own 𝒱 (c : Thread nD τ) none w (Finset.subset_univ _) (fun j => congrArg w ((idx2 rfl (Nat.zero_add _).symm (Nat.zero_add _).symm).trans (ix2_eta j)))
    (fun i _ hi => absurd (hall i) hi)

/-- A load of a whole two-axis array. -/
theorem load_all {α : Type} {Q : α → sProp 𝕄} {n0 n1 : ℕ} {e : EltTy} {m : Memref sig .tc .vmem ⟨2, ![n0, n1]⟩ e} {inb hl}
    {x : (⟨2, ![n0, n1]⟩ : Shape).Idx → Elt F e} {k : ((⟨2, ![n0, n1]⟩ : Shape).Idx → Elt F e) → Prog (TpuEff nD τ sig (Elt F) Λ₀ .tc) α} :
    hold c m x ⊢ iprop((hold c m x -∗ wp (M := 𝕄) frame (wpE (defs₀ (F := F)) 𝒱 (c : Thread nD τ) none) Set.univ (k x) Q)
      -∗ wp (M := 𝕄) frame (wpE (defs₀ (F := F)) 𝒱 (c : Thread nD τ) none) Set.univ
          ((.op (.load m (Rect.unit (s := ⟨2, ![n0, n1]⟩) ![0, 0] ![n0, n1] inb).toLoadRect hl) k : Prog (TpuEff nD τ sig (Elt F) Λ₀ .tc) α)) Q) := by
  have h := wp_load_own (defs := defs₀ (F := F)) 𝒱 (c : Thread nD τ) none (Q := Q) (E := Set.univ) (m := m) (r := (Rect.unit (s := ⟨2, ![n0, n1]⟩) ![0, 0] ![n0, n1] inb).toLoadRect)
    (hl := hl) (k := k) (S := Finset.univ) (q := fullShare) (x := x) (Finset.subset_univ _)
  rw [ld_all2] at h
  exact h

theorem part15_spec :
    iprop(anyH (F := F) c A.arg37 ∗ hold c A.arg21 I.len ∗ hold c A.arg20 I.ids ∗ anyH (F := F) c A.arg29 ∗ hold c A.arg22 I.pres)
      ⊢ wp (M := 𝕄) frame (wpE (defs₀ (F := F)) 𝒱 (c : Thread nD τ) none) Set.univ (part15 A (xsCol I) (k0_pay53 (av I) k0_pay49))
          fun r => iprop(hold c A.arg37 (xsv I) ∗ hold c A.arg21 I.len ∗ hold c A.arg20 (idsv I) ∗ hold c A.arg29 (cntv I) ∗ hold c A.arg22 I.pres
            ∗ ⌜r = ⟨xsB I, presB I⟩⌝) := by
  unfold part15 k0_part15_skel anyH
  simp only [Prog.bind_lift]
  iintro ⟨⟨%y1, HX⟩, HL, HI, ⟨%y0, HN⟩, HP⟩
  iapply (load_all 𝒱 c) $$ HX; iintro HX
  iapply (store_all 𝒱 c) $$ HX; iintro HX
  iapply (load_all 𝒱 c) $$ HL; iintro HL
  iapply (load_all 𝒱 c) $$ HI; iintro HI
  iapply (load_all 𝒱 c) $$ HI; iintro HI
  iapply (store_all 𝒱 c) $$ HI; iintro HI
  iapply (Scf.wp_for_bind frame (wpE (defs₀ (F := F)) 𝒱 (c : Thread nD τ) none) Set.univ k0_t5_loop.lb k0_t5_loop.ub k0_t5_loop.st k0_t5_ok PUnit.unit
    (t5Body A (xsCol I) (k0_pay53 (av I) k0_pay49)) (fun k acc => iprop(hold c A.arg20 (idsv I) ∗ hold c A.arg29 (upto pC k (cntv I) y0))) (fun k acc => t5_trip 𝒱 c A I k _ _ y0)) $$ [HI HN]
  · isplitl [HI]; · iexact HI
    rw [upto_zero]; iexact HN
  iintro %u ⟨HI, HN⟩
  have en : upto pC k0_t5_loop.trips (cntv I) y0 = cntv I := by
    rw [(by decide +kernel : k0_t5_loop.trips = 16)]; refine upto_all _ _ fun i => ?_
    exact Nat.mod_lt _ (by decide)
  ihave HN := (Entails.of_eq (congrArg (hold c A.arg29) en)) $$ HN
  iapply (load_all 𝒱 c) $$ HP; iintro HP
  sl_step
  isplitl [HX]; · iexact HX
  isplitl [HL]; · iexact HL
  isplitl [HI]; · iexact HI
  isplitl [HN]; · iexact HN
  isplitl [HP]; · iexact HP
  ipureintro; rfl

theorem part16_spec (y33 : S16x128.Idx → Elt F .f32) :
    iprop(hold c A.arg23 I.freq ∗ hold c A.arg24 I.rep ∗ hold c A.arg25 I.temp ∗ hold c A.arg26 I.cand ∗ anyH (F := F) c A.arg31 ∗ anyH (F := F) c A.arg32 ∗ hold c A.arg33 y33)
      ⊢ wp (M := 𝕄) frame (wpE (defs₀ (F := F)) 𝒱 (c : Thread nD τ) none) Set.univ (part16 A)
          fun r => iprop(hold c A.arg23 I.freq ∗ hold c A.arg24 I.rep ∗ hold c A.arg25 I.temp ∗ hold c A.arg26 I.cand ∗ hold c A.arg31 (candv I) ∗ hold c A.arg32 (accAt I 0) ∗ hold c A.arg33 y33
            ∗ ⌜r = ⟨freqB I, repB I, tempB I, k0_pay64, y33⟩⌝) := by
  unfold part16 k0_part16_skel anyH
  simp only [Prog.bind_lift]
  iintro ⟨H23, H24, H25, HC, ⟨%y0, HA⟩, ⟨%z0, HZ⟩, HM⟩
  iapply (load_all 𝒱 c) $$ H23; iintro H23
  iapply (load_all 𝒱 c) $$ H24; iintro H24
  iapply (load_all 𝒱 c) $$ H25; iintro H25
  iapply (Scf.wp_for_bind frame (wpE (defs₀ (F := F)) 𝒱 (c : Thread nD τ) none) Set.univ k0_t6_loop.lb k0_t6_loop.ub k0_t6_loop.st k0_t6_ok PUnit.unit
    (t6Body A) (fun k acc => iprop(hold c A.arg26 I.cand ∗ hold c A.arg31 (upto pP k (candv I) y0) ∗ hold c A.arg32 (upto pP k (accAt I 0) z0))) (fun k acc => t6_trip 𝒱 c A I k y0 z0)) $$ [HC HA HZ]
  · isplitl [HC]; · iexact HC
    rw [upto_zero, upto_zero]
    isplitl [HA]; · iexact HA
    iexact HZ
  iintro %u ⟨HC, HA, HZ⟩
  have ha : ∀ i, pP i < k0_t6_loop.trips := by
    rw [(by decide +kernel : k0_t6_loop.trips = 20)]; exact fun i => (i 0).isLt
  ihave HA := (Entails.of_eq (congrArg (hold c A.arg31) (upto_all (candv I) y0 ha))) $$ HA
  ihave HZ := (Entails.of_eq (congrArg (hold c A.arg32) (upto_all (accAt I 0) z0 ha))) $$ HZ
  iapply (load_all 𝒱 c) $$ HM; iintro HM
  sl_step
  isplitl [H23]; · iexact H23
  isplitl [H24]; · iexact H24
  isplitl [H25]; · iexact H25
  isplitl [HC]; · iexact HC
  isplitl [HA]; · iexact HA
  isplitl [HZ]; · iexact HZ
  isplitl [HM]; · iexact HM
  ipureintro; rfl

end Cert.Kernel.Hand

end
-- ==== Proof.Kernel.Post.lean ====
/-
  The kernel from its main loop on: the loop itself, the row sums, the candidates' log
  probabilities and the results' way out.
-/
module

public import proofs.«01_k».proof.Proof.Kernel.Pre

@[expose] public section

noncomputable section

namespace Cert.Kernel.Hand

open Cert.Kernel Cert.Kernel.Gen Cert.Own
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

variable (𝒱 : Variants) (c : Dev nD) (A : Args) (I : In F)

/-! ## Before and after the main loop -/

/-- The share of the codes that the kernel keeps while they are copied out. -/
abbrev qk : PosShare TreeShare := fullShare.left

/-- The share of the codes that their copy out holds. -/
abbrev qc : PosShare TreeShare := fullShare.right

theorem share_codes : (hold c A.arg28 (codesv I) : sProp 𝕄) = iprop(own (c : Thread nD τ) A.arg28 Finset.univ qk (codesv I) ∗ own (c : Thread nD τ) A.arg28 Finset.univ qc (codesv I)) :=
  own_share fullShare.mem_left_op_right

/-- What the main loop holds before its first block. -/
theorem mainInv_zero (y yh : S16x32000.Idx → Elt F .f32) :
    (mainInv c A I qk y yh 0 : sProp 𝕄)
      = iprop(bigSep (Finset.range 14) (slotsUp c A I 14) ∗ own (c : Thread nD τ) A.arg2 (wfrom 14) fullShare I.w
        ∗ hold c A.arg30 y ∗ hold c A.arg13 yh
        ∗ Batch EC (c : Thread nD τ) (.dma A.arg40.sem) () (zN A) (zD c A I) 0 0
        ∗ hold c A.arg33 (mAt I 0) ∗ hold c A.arg34 (sAt I 0)
        ∗ hold c A.arg31 (candv I) ∗ hold c A.arg32 (accAt I 0)
        ∗ iprop(own (c : Thread nD τ) A.arg28 Finset.univ qk (codesv I) ∗ hold c A.arg19 I.ws ∗ hold c A.arg29 (cntv I)) ∗ owed (c : Thread nD τ)) := by
  have e : zset 0 = Finset.univ := by
    ext i
    simp only [zset, Finset.mem_filter_univ, Finset.mem_univ, iff_true]; omega
  unfold mainInv zH
  rw [← slotsAt_zero, wrest_zero, e, Nat.mul_zero, upto_zero]
  rfl

/-- What the main loop leaves. -/
def mainEnd (y yh : S16x32000.Idx → Elt F .f32) : sProp 𝕄 :=
  iprop(bigSep (Finset.range 14) (slotFree c A) ∗ hold c A.arg2 I.w
    ∗ own (c : Thread nD τ) A.arg30 (zblk 124) fullShare (zv I) ∗ own (c : Thread nD τ) A.arg13 (zblk 124) fullShare yh
    ∗ Batch EC (c : Thread nD τ) (.dma A.arg40.sem) () (zN A) (zD c A I) 124 0
    ∗ hold c A.arg33 (mAt I 125) ∗ hold c A.arg34 (sAt I 125)
    ∗ hold c A.arg31 (candv I) ∗ hold c A.arg32 (accAt I 125)
    ∗ own (c : Thread nD τ) A.arg28 Finset.univ qk (codesv I) ∗ hold c A.arg19 I.ws ∗ hold c A.arg29 (cntv I) ∗ owed (c : Thread nD τ))

theorem mainInv_end (y yh : S16x32000.Idx → Elt F .f32) : (mainInv c A I qk y yh 125 : sProp 𝕄) ⊢ mainEnd c A I y yh := by
  have e1 : bigSep (Finset.range 14) (slotsAt c A I 125) = bigSep (Finset.range 14) (slotFree c A) := by
    refine bigSep_congr fun s hs => ?_
    unfold slotsAt; rw [if_neg (by unfold slotb; omega)]
  have e2 : wrest 125 = Finset.univ := by
    ext i
    have h1 : (i 1).val < 32000 := (i 1).isLt
    simp only [wrest, Finset.mem_filter_univ, Finset.mem_univ, iff_true]; omega
  have e3 : zset 125 = zblk 124 := by
    ext i
    have h1 : (i 1).val < 32000 := (i 1).isLt
    simp only [zset, zblk, Finset.mem_filter_univ]; omega
  have e4 : upto pZ (2 * 125) (zv I) y = zv I := by
    refine upto_all _ _ fun i => ?_
    have h1 : (i 1).val < 32000 := (i 1).isLt
    unfold pZ; omega
  unfold mainInv mainEnd zH roH candsH
  rw [e1, e2, e3, e4]
  iintro ⟨H1, H2, H3, H4, H5, H6, H7, H8, H9, ⟨H10, H11, H12⟩, H13⟩
  iframe H1 H2 H3 H4 H5 H6 H7 H8 H9 H10 H11 H12 H13

theorem part17_spec (y33 : S16x128.Idx → Elt F .f32) (y yh : S16x32000.Idx → Elt F .f32) :
    iprop(hold c A.arg33 y33 ∗ anyH (F := F) c A.arg34
        ∗ (hold c A.arg28 (codesv I) ∗ anyH (F := F) c A.arg14 ∗ semVal ((c : Thread nD τ), .dma (outsem A 0)) 0)
        ∗ (hold c A.arg37 (xsv I) ∗ anyH (F := F) c A.arg15 ∗ semVal ((c : Thread nD τ), .dma (outsem A 1)) 0)
        ∗ bigSep (Finset.range 14) (slotsUp c A I 14) ∗ own (c : Thread nD τ) A.arg2 (wfrom 14) fullShare I.w
        ∗ hold c A.arg30 y ∗ hold c A.arg13 yh ∗ semVal ((c : Thread nD τ), .dma A.arg40.sem) 0
        ∗ hold c A.arg31 (candv I) ∗ hold c A.arg32 (accAt I 0)
        ∗ hold c A.arg19 I.ws ∗ hold c A.arg29 (cntv I) ∗ anyH (F := F) c A.arg35 ∗ owed (c : Thread nD τ))
      ⊢ wp (M := 𝕄) frame (wpE (defs₀ (F := F)) 𝒱 (c : Thread nD τ) none) Set.univ (part17 A (xsB I) (presB I) (freqB I) (repB I) (tempB I) k0_pay64 y33)
          fun r => iprop(mainEnd c A I y yh ∗ flown c (outsem A 0) A.arg28 A.arg14 qc (codesv I) ∗ flown c (outsem A 1) A.arg37 A.arg15 fullShare (xsv I)
            ∗ anyH (F := F) c A.arg35 ∗ ⌜r = ⟨lseCol I, lsev I⟩⌝) := by
  unfold part17 k0_part17_skel
  simp only [Prog.bind_lift]
  iintro ⟨HM, HS, ⟨HC, HCO, HCV⟩, HX, HB, HW, HZ, HO, HV, HCA, HAC, HWS, HN, HL, HOW⟩
  iapply (store_all 𝒱 c) $$ HM; iintro HM
  unfold anyH
  icases HS with ⟨%y34, HS⟩
  icases HL with ⟨%y35, HL⟩
  iapply (load_all 𝒱 c) $$ HS; iintro HS
  iapply (store_all 𝒱 c) $$ HS; iintro HS
  ihave HC := (Entails.of_eq (share_codes c A I)) $$ HC
  icases HC with ⟨HC, HC2⟩
  iapply (start 𝒱 c (outsem_eq A (n := 0) (by decide) rfl) (sig.dmaCredit_pos _ _ _ _ _ (by decide))) $$ [HC2 HCO HCV]
  · unfold anyH
    iframe HC2 HCO HCV
  iintro HF0
  iapply (start 𝒱 c (outsem_eq A (n := 1) (by decide) rfl) (sig.dmaCredit_pos _ _ _ _ _ (by decide))) $$ [HX]
  · unfold anyH
    iexact HX
  iintro HF1
  imod (batch_alloc' EC (c : Thread nD τ) () (zN A) (zD c A I) (E := Set.univ)) $$ HV with HBT
  iapply (Scf.wp_for_bind frame (wpE (defs₀ (F := F)) 𝒱 (c : Thread nD τ) none) Set.univ k0_t7_loop.lb k0_t7_loop.ub k0_t7_loop.st k0_t7_ok PUnit.unit
    (t7Body A (xsB I) (presB I) (freqB I) (repB I) (tempB I) k0_pay64 y33) (fun k _ => mainInv c A I qk y yh k) (fun k _ => t7_trip 𝒱 c A I qk y yh k _ _)) $$ [HB HW HZ HO HBT HM HS HCA HAC HC HWS HN HOW]
  · rw [mainInv_zero]
    isplitl [HB]; · iexact HB
    isplitl [HW]; · iexact HW
    isplitl [HZ]; · iexact HZ
    isplitl [HO]; · iexact HO
    isplitl [HBT]; · iexact HBT
    isplitl [HM]; · iexact HM
    isplitl [HS]; · iexact HS
    isplitl [HCA]; · iexact HCA
    isplitl [HAC]; · iexact HAC
    isplitl [HC HWS HN]
    · isplitl [HC]; · iexact HC
      isplitl [HWS]; · iexact HWS
      iexact HN
    iexact HOW
  iintro %u HE
  ihave HE := (Entails.of_eq (congrArg (mainInv c A I qk y yh) (by decide +kernel : k0_t7_loop.trips = 125))) $$ HE
  ihave HE := (mainInv_end c A I y yh) $$ HE
  unfold mainEnd
  icases HE with ⟨H1, H2, H3, H4, H5, HM, HS, H8⟩
  iapply (load_all 𝒱 c) $$ HM; iintro HM
  iapply (load_all 𝒱 c) $$ HS; iintro HS
  iapply (load_all 𝒱 c) $$ HL; iintro HL
  sl_step
  isplitl [H1 H2 H3 H4 H5 HM HS H8]
  · isplitl [H1]; · iexact H1
    isplitl [H2]; · iexact H2
    isplitl [H3]; · iexact H3
    isplitl [H4]; · iexact H4
    isplitl [H5]; · iexact H5
    isplitl [HM]; · iexact HM
    isplitl [HS]; · iexact HS
    iexact H8
  isplitl [HF0]; · iexact HF0
  isplitl [HF1]; · iexact HF1
  isplitl [HL]; · iexists y35; iexact HL
  ipureintro; rfl

/-! ## The candidates' columns -/

/-- The candidate a result element belongs to. -/
def pL (i : S16x20.Idx) : ℕ := (i 1).val

/-- The candidates' log probabilities, written below candidate `t`. -/
def clpH (t : ℕ) (y : S16x20.Idx → Elt F .f32) : sProp 𝕄 := hold c A.arg36 (upto pL t (clpv I) y)

theorem col_set {j : ℕ} {inb} (i : S16x20.Idx) : i ∈ (Rect.unit (s := S16x20) ![0, j] S16x1.size inb).set ↔ pL i = j := by
  rw [mem2 rfl]
  have h0 : (i 0).val < 16 := (i 0).isLt
  show ((0 ≤ (i 0).val ∧ (i 0).val < 0 + 16) ∧ (j ≤ (i 1).val ∧ (i 1).val < j + 1)) ↔ (i 1).val = j
  omega

/-- A load of a candidate's mixed logits. -/
theorem load_done {α : Type} {Q : α → sProp 𝕄} {acc : FVec F S20x16x128 .f32} {j : ℕ} (hj : j < 20) {inb hl} {k : (S1x16x128.Idx → Elt F .f32) → Prog (TpuEff nD τ sig (Elt F) Λ₀ .tc) α} :
    hold c A.arg32 acc ⊢ iprop((hold c A.arg32 acc -∗ wp (M := 𝕄) frame (wpE (defs₀ (F := F)) 𝒱 (c : Thread nD τ) none) Set.univ (k (plane acc j)) Q)
      -∗ wp (M := 𝕄) frame (wpE (defs₀ (F := F)) 𝒱 (c : Thread nD τ) none) Set.univ
          ((.op (.load A.arg32 (Rect.unit (s := S20x16x128) ![j, 0, 0] S1x16x128.size inb).toLoadRect hl) k : Prog (TpuEff nD τ sig (Elt F) Λ₀ .tc) α)) Q) := by
  rw [← plane_read (inb := inb) acc hj]
  exact wp_load_own 𝒱 (c : Thread nD τ) none (Finset.subset_univ _)

/-- A load of a result column. -/
theorem load_col {α : Type} {Q : α → sProp 𝕄} {t : ℕ} {y : S16x20.Idx → Elt F .f32} {j : ℕ} {inb hl} {k : Prog (TpuEff nD τ sig (Elt F) Λ₀ .tc) α} :
    clpH c A I t y ⊢ iprop((clpH c A I t y -∗ wp (M := 𝕄) frame (wpE (defs₀ (F := F)) 𝒱 (c : Thread nD τ) none) Set.univ k Q)
      -∗ wp (M := 𝕄) frame (wpE (defs₀ (F := F)) 𝒱 (c : Thread nD τ) none) Set.univ
          ((.op (.load A.arg36 (Rect.unit (s := S16x20) ![0, j] S16x1.size inb).toLoadRect hl) (fun _ => k) : Prog (TpuEff nD τ sig (Elt F) Λ₀ .tc) α)) Q) :=
  wp_load_own (defs := defs₀ (F := F)) 𝒱 (c : Thread nD τ) none (Q := Q) (E := Set.univ) (m := A.arg36) (r := (Rect.unit (s := S16x20) ![0, j] S16x1.size inb).toLoadRect)
    (hl := hl) (k := fun _ => k) (S := Finset.univ) (q := fullShare) (Finset.subset_univ _)

/-- A store of a result column. -/
theorem store_col {α : Type} {Q : α → sProp 𝕄} {y : S16x20.Idx → Elt F .f32} {j : ℕ} (hj : j < 20) {inb hx hm} {w : FVec F S16x1 .f32}
    (hw : w = k0_pay70 (lseCol I) (plane (accAt I 125) j))
    {k : PUnit → Prog (TpuEff nD τ sig (Elt F) Λ₀ .tc) α} :
    clpH c A I j y ⊢ iprop((clpH c A I (j + 1) y -∗ wp (M := 𝕄) frame (wpE (defs₀ (F := F)) 𝒱 (c : Thread nD τ) none) Set.univ (k ⟨⟩) Q)
      -∗ wp (M := 𝕄) frame (wpE (defs₀ (F := F)) 𝒱 (c : Thread nD τ) none) Set.univ
          (.op (.store A.arg36 (Rect.unit (s := S16x20) ![0, j] S16x1.size inb) w Finset.univ hx hm) k) Q) := by
  have e : ∀ i, clpv I ((Rect.unit (s := S16x20) ![0, j] S16x1.size inb).toLoadRect.idx i) = w i := by
    intro i
    have h1 : (i 1).val = 0 := by have : (i 1).val < 1 := (i 1).isLt; omega
    have h0 : (i 0).val < 16 := (i 0).isLt
    have e2 : (Rect.unit (s := S16x20) ![0, j] S16x1.size inb).toLoadRect.idx i = ix2 (⟨(i 0).val, h0⟩ : Fin 16) (⟨j, hj⟩ : Fin 20) :=
      idx2 rfl (Nat.zero_add _).symm ((Nat.add_zero j).symm.trans (congrArg (j + ·) h1.symm))
    refine (congrArg (clpv I) e2).trans ?_
    rw [hw]
    refine congrArg (k0_pay70 (lseCol I) (plane (accAt I 125) j)) ?_
    funext a
    match a with
    | ⟨0, _⟩ => rfl
    | ⟨1, _⟩ => exact Fin.ext h1.symm
  have es : ∀ i, i ∈ (Rect.unit (s := S16x20) ![0, j] S16x1.size inb).set ↔ pL i = j := fun i => col_set i
  unfold clpH
  generalize clpv I = M at e ⊢
  iintro HZ Hk
  iapply (wp_store_upto 𝒱 (c : Thread nD τ) none pL j M y es (fun i _ => Finset.mem_univ i) e) $$ HZ
  iexact Hk

theorem part18_spec (y : S16x20.Idx → Elt F .f32) :
    iprop(anyH (F := F) c A.arg35 ∗ hold c A.arg32 (accAt I 125) ∗ clpH c A I 0 y)
      ⊢ wp (M := 𝕄) frame (wpE (defs₀ (F := F)) 𝒱 (c : Thread nD τ) none) Set.univ (part18 A (lseCol I) (lsev I))
          fun r => iprop(hold c A.arg35 (lsev I) ∗ hold c A.arg32 (accAt I 125) ∗ clpH c A I 3 y ∗ ⌜r = k0_pay70 (lseCol I) (plane (accAt I 125) 3)⌝) := by
  unfold part18 k0_part18_skel
  simp only [Prog.bind_lift]
  unfold anyH
  iintro ⟨⟨%y35, HL⟩, HA, HC⟩
  iapply (store_all 𝒱 c) $$ HL; iintro HL
  iapply (load_done 𝒱 c A (by decide)) $$ HA; iintro HA
  iapply (load_col 𝒱 c A I) $$ HC; iintro HC
  iapply (store_col 𝒱 c A I (j := 0) (by decide) rfl) $$ HC; iintro HC
  iapply (load_done 𝒱 c A (by decide)) $$ HA; iintro HA
  iapply (load_col 𝒱 c A I) $$ HC; iintro HC
  iapply (store_col 𝒱 c A I (j := 1) (by decide) rfl) $$ HC; iintro HC
  iapply (load_done 𝒱 c A (by decide)) $$ HA; iintro HA
  iapply (load_col 𝒱 c A I) $$ HC; iintro HC
  iapply (store_col 𝒱 c A I (j := 2) (by decide) rfl) $$ HC; iintro HC
  iapply (load_done 𝒱 c A (by decide)) $$ HA; iintro HA
  iapply (load_col 𝒱 c A I) $$ HC; iintro HC
  sl_step
  isplitl [HL]; · iexact HL
  isplitl [HA]; · iexact HA
  isplitl [HC]; · iexact HC
  ipureintro; rfl

theorem part19_spec (y : S16x20.Idx → Elt F .f32) :
    iprop(hold c A.arg32 (accAt I 125) ∗ clpH c A I 3 y)
      ⊢ wp (M := 𝕄) frame (wpE (defs₀ (F := F)) 𝒱 (c : Thread nD τ) none) Set.univ (part19 A (lseCol I) (k0_pay70 (lseCol I) (plane (accAt I 125) 3)))
          fun r => iprop(hold c A.arg32 (accAt I 125) ∗ clpH c A I 7 y ∗ ⌜r = k0_pay70 (lseCol I) (plane (accAt I 125) 7)⌝) := by
  unfold part19 k0_part19_skel
  simp only [Prog.bind_lift]
  iintro ⟨HA, HC⟩
  iapply (store_col 𝒱 c A I (j := 3) (by decide) rfl) $$ HC; iintro HC
  iapply (load_done 𝒱 c A (by decide)) $$ HA; iintro HA
  iapply (load_col 𝒱 c A I) $$ HC; iintro HC
  iapply (store_col 𝒱 c A I (j := 4) (by decide) rfl) $$ HC; iintro HC
  iapply (load_done 𝒱 c A (by decide)) $$ HA; iintro HA
  iapply (load_col 𝒱 c A I) $$ HC; iintro HC
  iapply (store_col 𝒱 c A I (j := 5) (by decide) rfl) $$ HC; iintro HC
  iapply (load_done 𝒱 c A (by decide)) $$ HA; iintro HA
  iapply (load_col 𝒱 c A I) $$ HC; iintro HC
  iapply (store_col 𝒱 c A I (j := 6) (by decide) rfl) $$ HC; iintro HC
  iapply (load_done 𝒱 c A (by decide)) $$ HA; iintro HA
  iapply (load_col 𝒱 c A I) $$ HC; iintro HC
  sl_step
  isplitl [HA]; · iexact HA
  isplitl [HC]; · iexact HC
  ipureintro; rfl

theorem part20_spec (y : S16x20.Idx → Elt F .f32) :
    iprop(hold c A.arg32 (accAt I 125) ∗ clpH c A I 7 y)
      ⊢ wp (M := 𝕄) frame (wpE (defs₀ (F := F)) 𝒱 (c : Thread nD τ) none) Set.univ (part20 A (lseCol I) (k0_pay70 (lseCol I) (plane (accAt I 125) 7)))
          fun r => iprop(hold c A.arg32 (accAt I 125) ∗ clpH c A I 11 y ∗ ⌜r = k0_pay70 (lseCol I) (plane (accAt I 125) 11)⌝) := by
  unfold part20 k0_part20_skel
  simp only [Prog.bind_lift]
  iintro ⟨HA, HC⟩
  iapply (store_col 𝒱 c A I (j := 7) (by decide) rfl) $$ HC; iintro HC
  iapply (load_done 𝒱 c A (by decide)) $$ HA; iintro HA
  iapply (load_col 𝒱 c A I) $$ HC; iintro HC
  iapply (store_col 𝒱 c A I (j := 8) (by decide) rfl) $$ HC; iintro HC
  iapply (load_done 𝒱 c A (by decide)) $$ HA; iintro HA
  iapply (load_col 𝒱 c A I) $$ HC; iintro HC
  iapply (store_col 𝒱 c A I (j := 9) (by decide) rfl) $$ HC; iintro HC
  iapply (load_done 𝒱 c A (by decide)) $$ HA; iintro HA
  iapply (load_col 𝒱 c A I) $$ HC; iintro HC
  iapply (store_col 𝒱 c A I (j := 10) (by decide) rfl) $$ HC; iintro HC
  iapply (load_done 𝒱 c A (by decide)) $$ HA; iintro HA
  iapply (load_col 𝒱 c A I) $$ HC; iintro HC
  sl_step
  isplitl [HA]; · iexact HA
  isplitl [HC]; · iexact HC
  ipureintro; rfl

theorem part21_spec (y : S16x20.Idx → Elt F .f32) :
    iprop(hold c A.arg32 (accAt I 125) ∗ clpH c A I 11 y)
      ⊢ wp (M := 𝕄) frame (wpE (defs₀ (F := F)) 𝒱 (c : Thread nD τ) none) Set.univ (part21 A (lseCol I) (k0_pay70 (lseCol I) (plane (accAt I 125) 11)))
          fun r => iprop(hold c A.arg32 (accAt I 125) ∗ clpH c A I 15 y ∗ ⌜r = k0_pay70 (lseCol I) (plane (accAt I 125) 15)⌝) := by
  unfold part21 k0_part21_skel
  simp only [Prog.bind_lift]
  iintro ⟨HA, HC⟩
  iapply (store_col 𝒱 c A I (j := 11) (by decide) rfl) $$ HC; iintro HC
  iapply (load_done 𝒱 c A (by decide)) $$ HA; iintro HA
  iapply (load_col 𝒱 c A I) $$ HC; iintro HC
  iapply (store_col 𝒱 c A I (j := 12) (by decide) rfl) $$ HC; iintro HC
  iapply (load_done 𝒱 c A (by decide)) $$ HA; iintro HA
  iapply (load_col 𝒱 c A I) $$ HC; iintro HC
  iapply (store_col 𝒱 c A I (j := 13) (by decide) rfl) $$ HC; iintro HC
  iapply (load_done 𝒱 c A (by decide)) $$ HA; iintro HA
  iapply (load_col 𝒱 c A I) $$ HC; iintro HC
  iapply (store_col 𝒱 c A I (j := 14) (by decide) rfl) $$ HC; iintro HC
  iapply (load_done 𝒱 c A (by decide)) $$ HA; iintro HA
  iapply (load_col 𝒱 c A I) $$ HC; iintro HC
  sl_step
  isplitl [HA]; · iexact HA
  isplitl [HC]; · iexact HC
  ipureintro; rfl

theorem part22_spec (y : S16x20.Idx → Elt F .f32) :
    iprop(hold c A.arg32 (accAt I 125) ∗ clpH c A I 15 y)
      ⊢ wp (M := 𝕄) frame (wpE (defs₀ (F := F)) 𝒱 (c : Thread nD τ) none) Set.univ (part22 A (lseCol I) (k0_pay70 (lseCol I) (plane (accAt I 125) 15)))
          fun r => iprop(hold c A.arg32 (accAt I 125) ∗ clpH c A I 19 y ∗ ⌜r = k0_pay70 (lseCol I) (plane (accAt I 125) 19)⌝) := by
  unfold part22 k0_part22_skel
  simp only [Prog.bind_lift]
  iintro ⟨HA, HC⟩
  iapply (store_col 𝒱 c A I (j := 15) (by decide) rfl) $$ HC; iintro HC
  iapply (load_done 𝒱 c A (by decide)) $$ HA; iintro HA
  iapply (load_col 𝒱 c A I) $$ HC; iintro HC
  iapply (store_col 𝒱 c A I (j := 16) (by decide) rfl) $$ HC; iintro HC
  iapply (load_done 𝒱 c A (by decide)) $$ HA; iintro HA
  iapply (load_col 𝒱 c A I) $$ HC; iintro HC
  iapply (store_col 𝒱 c A I (j := 17) (by decide) rfl) $$ HC; iintro HC
  iapply (load_done 𝒱 c A (by decide)) $$ HA; iintro HA
  iapply (load_col 𝒱 c A I) $$ HC; iintro HC
  iapply (store_col 𝒱 c A I (j := 18) (by decide) rfl) $$ HC; iintro HC
  iapply (load_done 𝒱 c A (by decide)) $$ HA; iintro HA
  iapply (load_col 𝒱 c A I) $$ HC; iintro HC
  sl_step
  isplitl [HA]; · iexact HA
  isplitl [HC]; · iexact HC
  ipureintro; rfl

end Cert.Kernel.Hand

end
-- ==== Proof.Kernel.Whole.lean ====
/-
  The kernel's body as a whole: from the inputs, the scratch arrays and the cells to the five
  results.
-/
module

public import proofs.«01_k».proof.Proof.Kernel.Post

@[expose] public section

noncomputable section

namespace Cert.Kernel.Hand

open Cert.Kernel Cert.Kernel.Gen Cert.Own
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

variable (𝒱 : Variants) (c : Dev nD) (A : Args) (I : In F)

/-! ## The blocks of the logits together -/

theorem zblk_all {sp0 : Space} {m : Memref sig .tc sp0 S16x32000 .f32} (x : S16x32000.Idx → Elt F .f32) :
    (bigSep Finset.univ fun t : Fin 125 => own (c : Thread nD τ) m (zblk t.val) fullShare x : sProp 𝕄) = hold c m x := by
  rw [← own_biUnion (c := (c : Thread nD τ)) (m := m) (q := fullShare) (x := x) Finset.univ (fun t : Fin 125 => zblk t.val)]
  · refine congrArg (fun S => own (c : Thread nD τ) m S fullShare x) ?_
    ext i
    have h1 : (i 1).val < 32000 := (i 1).isLt
    simp only [Finset.mem_biUnion, zblk, Finset.mem_filter_univ, Finset.mem_univ, true_and, iff_true]
    exact ⟨⟨(i 1).val / 256, by omega⟩, rfl⟩
  · intro t _ t' _ h
    rw [Finset.disjoint_left]; intro i h1 h2
    rw [zblk, Finset.mem_filter_univ] at h1 h2
    exact h (Fin.ext (h1.symm.trans h2))

theorem zD_all : (bigSep Finset.univ (zD c A I) : sProp 𝕄) = iprop(hold c A.arg13 (zv I) ∗ hold c A.arg30 (zv I)) := by
  rw [← zblk_all c (m := A.arg13), ← zblk_all c (m := A.arg30)]
  exact bigSep_sep _ _ _

theorem anyH_eq {sp : Space} {s : Shape} {e : EltTy} (m : Memref sig .tc sp s e) : (anyH (F := F) c m : sProp 𝕄) = iprop(∃ y : s.Idx → Elt F e, hold c m y) := rfl

/-! ## The body -/

/-- What the body starts from. -/
def bodyIn : sProp 𝕄 :=
  iprop(in0B c A I
    ∗ in1B c A I
    ∗ in2B c A I
    ∗ in3B c A I
    ∗ in4B c A I
    ∗ in5B c A I
    ∗ in6B c A I
    ∗ in7B c A I
    ∗ in8B c A I
    ∗ in9B c A I
    ∗ bigSep (Finset.range 14) (slotFree c A)
    ∗ hold c A.arg2 I.w
    ∗ anyH (F := F) c A.arg11
    ∗ anyH (F := F) c A.arg12
    ∗ anyH (F := F) c A.arg13
    ∗ anyH (F := F) c A.arg14
    ∗ anyH (F := F) c A.arg15
    ∗ anyH (F := F) c A.arg27
    ∗ anyH (F := F) c A.arg28
    ∗ anyH (F := F) c A.arg29
    ∗ anyH (F := F) c A.arg30
    ∗ anyH (F := F) c A.arg31
    ∗ anyH (F := F) c A.arg32
    ∗ anyH (F := F) c A.arg33
    ∗ anyH (F := F) c A.arg34
    ∗ anyH (F := F) c A.arg35
    ∗ anyH (F := F) c A.arg36
    ∗ anyH (F := F) c A.arg37
    ∗ semVal ((c : Thread nD τ), .dma (outsem A 0)) 0
    ∗ semVal ((c : Thread nD τ), .dma (outsem A 1)) 0
    ∗ semVal ((c : Thread nD τ), .dma (outsem A 2)) 0
    ∗ semVal ((c : Thread nD τ), .dma (outsem A 3)) 0
    ∗ semVal ((c : Thread nD τ), .dma A.arg40.sem) 0
    ∗ owed (c : Thread nD τ))

/-- What the body leaves. -/
def bodyOut : sProp 𝕄 :=
  iprop(in0E c A I
    ∗ in1E c A I
    ∗ in2E c A I
    ∗ in3E c A I
    ∗ in4E c A I
    ∗ in5E c A I
    ∗ in6E c A I
    ∗ in7E c A I
    ∗ in8E c A I
    ∗ in9E c A I
    ∗ bigSep (Finset.range 14) (slotFree c A)
    ∗ hold c A.arg2 I.w
    ∗ hold c A.arg11 (lsev I)
    ∗ hold c A.arg12 (clpv I)
    ∗ hold c A.arg13 (zv I)
    ∗ hold c A.arg14 (codesv I)
    ∗ hold c A.arg15 (xsv I)
    ∗ hold c A.arg17 I.x
    ∗ hold c A.arg18 I.gain
    ∗ hold c A.arg19 I.ws
    ∗ hold c A.arg20 (idsv I)
    ∗ hold c A.arg21 I.len
    ∗ hold c A.arg22 I.pres
    ∗ hold c A.arg23 I.freq
    ∗ hold c A.arg24 I.rep
    ∗ hold c A.arg25 I.temp
    ∗ hold c A.arg26 I.cand
    ∗ hold c A.arg27 (yv I)
    ∗ hold c A.arg28 (codesv I)
    ∗ hold c A.arg29 (cntv I)
    ∗ hold c A.arg30 (zv I)
    ∗ hold c A.arg31 (candv I)
    ∗ hold c A.arg32 (accAt I 125)
    ∗ hold c A.arg33 (mAt I 125)
    ∗ hold c A.arg34 (sAt I 125)
    ∗ hold c A.arg35 (lsev I)
    ∗ hold c A.arg36 (clpv I)
    ∗ hold c A.arg37 (xsv I)
    ∗ semVal ((c : Thread nD τ), .dma (outsem A 0)) 0
    ∗ semVal ((c : Thread nD τ), .dma (outsem A 1)) 0
    ∗ semVal ((c : Thread nD τ), .dma (outsem A 2)) 0
    ∗ semVal ((c : Thread nD τ), .dma (outsem A 3)) 0
    ∗ semVal ((c : Thread nD τ), .dma A.arg40.sem) 0
    ∗ owed (c : Thread nD τ))

theorem whole_spec (hJ : A.arg13.view.dmaCredit = zN A * 125) :
    bodyIn c A I ⊢ wp (M := 𝕄) frame (wpE (defs₀ (F := F)) 𝒱 (c : Thread nD τ) none) Set.univ (whole A) fun _ => bodyOut c A I := by
  unfold whole cc0_fp8_head_skel bodyIn
  simp only [k0_part12_eq_skeleton, k0_part13_eq_skeleton, k0_part14_eq_skeleton, k0_part15_eq_skeleton, k0_part16_eq_skeleton, k0_part17_eq_skeleton,
    k0_part18_eq_skeleton, k0_part19_eq_skeleton, k0_part20_eq_skeleton, k0_part21_eq_skeleton, k0_part22_eq_skeleton, Prog.bind_lift]
  iintro ⟨HI0, HI1, HI2, HI3, HI4, HI5, HI6, HI7, HI8, HI9, HB, HW, H11, H12, H13, H14, H15, H27, H28, H29, H30, H31, H32, H33, H34, H35, H36, H37, HV0, HV1, HV2, HV3, HZV, HO⟩
  have eu : bigSep (Finset.range 14) (slotFree c A) = bigSep (Finset.range 14) (slotsUp c A I 0) :=
    bigSep_congr fun s _ => by unfold slotsUp; rw [if_neg (Nat.not_lt_zero _)]
  have ew : (Finset.univ : Finset S12288x32000.Idx) = wfrom 0 := by
    ext i; simp only [wfrom, Finset.mem_filter_univ, Finset.mem_univ, Nat.zero_le]
  ihave HB := (Entails.of_eq eu) $$ HB
  ihave HW := (Entails.of_eq (congrArg (fun S => own (c : Thread nD τ) A.arg2 S fullShare I.w) ew)) $$ HW
  iapply (wp_part 𝒱 c (part12_spec 𝒱 c A I)) $$ [HI0 HI1 HI2 HI3 HI4 HI5 HI6 HI7 HI8 HI9 HB HW HO]
  · isplitl [HI0]; · iexact HI0
    isplitl [HI1]; · iexact HI1
    isplitl [HI2]; · iexact HI2
    isplitl [HI3]; · iexact HI3
    isplitl [HI4]; · iexact HI4
    isplitl [HI5]; · iexact HI5
    isplitl [HI6]; · iexact HI6
    isplitl [HI7]; · iexact HI7
    isplitl [HI8]; · iexact HI8
    isplitl [HI9]; · iexact HI9
    isplitl [HB]; · iexact HB
    isplitl [HW]; · iexact HW
    iexact HO
  iintro %r ⟨H17, H18, H20, HI0, HI1, HI2, HI3, HI4, HI5, HI6, HI7, HI8, HI9, HB, HW, HO⟩
  iapply (wp_part 𝒱 c (part13_spec 𝒱 c A I)) $$ [HI3 HI4 HI5 HI6 HI7 HI8 HI9 H17 H18 H27 HO]
  · isplitl [HI3]; · iexact HI3
    isplitl [HI4]; · iexact HI4
    isplitl [HI5]; · iexact HI5
    isplitl [HI6]; · iexact HI6
    isplitl [HI7]; · iexact HI7
    isplitl [HI8]; · iexact HI8
    isplitl [HI9]; · iexact HI9
    isplitl [H17]; · iexact H17
    isplitl [H18]; · iexact H18
    isplitl [H27]; · iexact H27
    iexact HO
  iintro %r ⟨H21, H22, H23, H24, H25, H26, H19, HI3, HI4, HI5, HI6, HI7, HI8, HI9, H17, H18, H27, HO, %hr⟩
  subst hr
  iapply (wp_part 𝒱 c (part14_spec 𝒱 c A I)) $$ [H27 H28]
  · isplitl [H27]; · iexact H27
    iexact H28
  iintro %r ⟨H27, H28, %hr⟩
  subst hr
  iapply (wp_part 𝒱 c (part15_spec 𝒱 c A I)) $$ [H37 H21 H20 H29 H22]
  · isplitl [H37]; · iexact H37
    isplitl [H21]; · iexact H21
    isplitl [H20]; · iexact H20
    isplitl [H29]; · iexact H29
    iexact H22
  iintro %r ⟨H37, H21, H20, H29, H22, %hr⟩
  subst hr
  ihave H33 := (Entails.of_eq (anyH_eq c A.arg33)) $$ H33
  ihave H30 := (Entails.of_eq (anyH_eq c A.arg30)) $$ H30
  ihave H13 := (Entails.of_eq (anyH_eq c A.arg13)) $$ H13
  icases H33 with ⟨%y33, H33⟩
  icases H30 with ⟨%y30, H30⟩
  icases H13 with ⟨%y13, H13⟩
  iapply (wp_part 𝒱 c (part16_spec 𝒱 c A I y33)) $$ [H23 H24 H25 H26 H31 H32 H33]
  · isplitl [H23]; · iexact H23
    isplitl [H24]; · iexact H24
    isplitl [H25]; · iexact H25
    isplitl [H26]; · iexact H26
    isplitl [H31]; · iexact H31
    isplitl [H32]; · iexact H32
    iexact H33
  iintro %r ⟨H23, H24, H25, H26, H31, H32, H33, %hr⟩
  subst hr
  iapply (wp_part 𝒱 c (part17_spec 𝒱 c A I y33 y30 y13)) $$ [H33 H34 H28 H14 HV0 H37 H15 HV1 HB HW H30 H13 HZV H31 H32 H19 H29 H35 HO]
  · isplitl [H33]; · iexact H33
    isplitl [H34]; · iexact H34
    isplitl [H28 H14 HV0]
    · isplitl [H28]; · iexact H28
      isplitl [H14]; · iexact H14
      iexact HV0
    isplitl [H37 H15 HV1]
    · isplitl [H37]; · iexact H37
      isplitl [H15]; · iexact H15
      iexact HV1
    isplitl [HB]; · iexact HB
    isplitl [HW]; · iexact HW
    isplitl [H30]; · iexact H30
    isplitl [H13]; · iexact H13
    isplitl [HZV]; · iexact HZV
    isplitl [H31]; · iexact H31
    isplitl [H32]; · iexact H32
    isplitl [H19]; · iexact H19
    isplitl [H29]; · iexact H29
    isplitl [H35]; · iexact H35
    iexact HO
  iintro %r ⟨HE, HF0, HF1, H35, %hr⟩
  subst hr
  unfold mainEnd
  icases HE with ⟨HB, HW, HZb, HOb, HBT, H33, H34, H31, H32, H28, H19, H29, HO⟩
  ihave H36 := (Entails.of_eq (anyH_eq c A.arg36)) $$ H36
  icases H36 with ⟨%y36, H36⟩
  have e36 : (hold c A.arg36 y36 : sProp 𝕄) = clpH c A I 0 y36 := by unfold clpH; rw [upto_zero]
  ihave H36 := (Entails.of_eq e36) $$ H36
  iapply (wp_part 𝒱 c (part18_spec 𝒱 c A I y36)) $$ [H35 H32 H36]
  · isplitl [H35]; · iexact H35
    isplitl [H32]; · iexact H32
    iexact H36
  iintro %r ⟨H35, H32, H36, %hr⟩
  subst hr
  iapply (wp_part 𝒱 c (part19_spec 𝒱 c A I y36)) $$ [H32 H36]
  · isplitl [H32]; · iexact H32
    iexact H36
  iintro %r ⟨H32, H36, %hr⟩
  subst hr
  iapply (wp_part 𝒱 c (part20_spec 𝒱 c A I y36)) $$ [H32 H36]
  · isplitl [H32]; · iexact H32
    iexact H36
  iintro %r ⟨H32, H36, %hr⟩
  subst hr
  iapply (wp_part 𝒱 c (part21_spec 𝒱 c A I y36)) $$ [H32 H36]
  · isplitl [H32]; · iexact H32
    iexact H36
  iintro %r ⟨H32, H36, %hr⟩
  subst hr
  iapply (wp_part 𝒱 c (part22_spec 𝒱 c A I y36)) $$ [H32 H36]
  · isplitl [H32]; · iexact H32
    iexact H36
  iintro %r ⟨H32, H36, %hr⟩
  subst hr
  iapply (store_col 𝒱 c A I (j := 19) (by decide) rfl) $$ H36; iintro H36
  have e36' : (clpH c A I (19 + 1) y36 : sProp 𝕄) = hold c A.arg36 (clpv I) := by
    unfold clpH; rw [upto_all]; intro i; exact (i 1).isLt
  ihave H36 := (Entails.of_eq e36') $$ H36
  iapply (block_copy 𝒱 c A I (b := 124) (by decide) rfl rfl y13) $$ [HZb HOb HBT]
  · isplitl [HZb]; · iexact HZb
    isplitl [HOb]; · iexact HOb
    iexact HBT
  iintro HBT
  iapply (start 𝒱 c (outsem_eq A (n := 2) (by decide) rfl) (sig.dmaCredit_pos _ _ _ _ _ (by decide))) $$ [H35 H11 HV2]
  · isplitl [H35]; · iexact H35
    isplitl [H11]; · iexact H11
    iexact HV2
  iintro HF2
  iapply (start 𝒱 c (outsem_eq A (n := 3) (by decide) rfl) (sig.dmaCredit_pos _ _ _ _ _ (by decide))) $$ [H36 H12 HV3]
  · isplitl [H36]; · iexact H36
    isplitl [H12]; · iexact H12
    iexact HV3
  iintro HF3
  iapply (arrive 𝒱 c (outsem_eq A (n := 0) (by decide) rfl)) $$ [HF0 HO]
  · isplitl [HF0]; · iexact HF0
    iexact HO
  iintro ⟨H14, HC2, HV0, HO⟩
  iapply (arrive 𝒱 c (outsem_eq A (n := 1) (by decide) rfl)) $$ [HF1 HO]
  · isplitl [HF1]; · iexact HF1
    iexact HO
  iintro ⟨H15, H37, HV1, HO⟩
  iapply (arrive 𝒱 c (outsem_eq A (n := 2) (by decide) rfl)) $$ [HF2 HO]
  · isplitl [HF2]; · iexact HF2
    iexact HO
  iintro ⟨H11, H35, HV2, HO⟩
  iapply (arrive 𝒱 c (outsem_eq A (n := 3) (by decide) rfl)) $$ [HF3 HO]
  · isplitl [HF3]; · iexact HF3
    iexact HO
  iintro ⟨H12, H36, HV3, HO⟩
  iapply (wp_waitAll_own 𝒱 (c : Thread nD τ) none EC () (n := 125) (u := 0) (D := zD c A I) hJ (zN_pos A) (Nat.zero_add _)) $$ [HBT HO]
  · isplitl [HBT]; · iexact HBT
    iexact HO
  iintro ⟨HD, HZV, HO⟩
  ihave HD := (Entails.of_eq (zD_all c A I)) $$ HD
  icases HD with ⟨H13, H30⟩
  ihave H28 := (Entails.of_eq (share_codes c A I).symm) $$ [H28 HC2]
  · isplitl [H28]; · iexact H28
    iexact HC2
  sl_step
  unfold bodyOut
  isplitl [HI0]; · iexact HI0
  isplitl [HI1]; · iexact HI1
  isplitl [HI2]; · iexact HI2
  isplitl [HI3]; · iexact HI3
  isplitl [HI4]; · iexact HI4
  isplitl [HI5]; · iexact HI5
  isplitl [HI6]; · iexact HI6
  isplitl [HI7]; · iexact HI7
  isplitl [HI8]; · iexact HI8
  isplitl [HI9]; · iexact HI9
  isplitl [HB]; · iexact HB
  isplitl [HW]; · iexact HW
  isplitl [H11]; · iexact H11
  isplitl [H12]; · iexact H12
  isplitl [H13]; · iexact H13
  isplitl [H14]; · iexact H14
  isplitl [H15]; · iexact H15
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [HV0]; · iexact HV0
  isplitl [HV1]; · iexact HV1
  isplitl [HV2]; · iexact HV2
  isplitl [HV3]; · iexact HV3
  isplitl [HZV]; · iexact HZV
  iexact HO

end Cert.Kernel.Hand

end
-- ==== Proof.Kernel.Launch.lean ====
/-
  The kernel's launch: the body's ends as the region states them (the routed arrays, the
  kernel's own cells, its scratch), the body's obligation at the one grid point, and the run of
  the whole program with the five results at their values.
-/
module

public import proofs.«01_k».proof.Proof.Kernel.Whole
public import proofs.«01_k».proof.Proof.Gen.Kernel.Frame
public import Idealize.ShloMosaic.Lib.Pipeline.Routed

@[expose] public section

set_option maxRecDepth 16384

noncomputable section

namespace Cert.Kernel.Hand

open Cert.Kernel Cert.Kernel.Gen Cert.Own
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline (UC Dat BodyObligation)

variable {F : FTy → Type} [FloatOps F]

local notation "𝕄" => MT nD τ sig Unit (Elt F) ℕ (UC sig nD τ) ℕ

/-! ## The ring's slots together -/

section Ring

variable (c : Dev nD) (A : Args)

theorem slots_disjoint : ∀ s ∈ Finset.range 14, ∀ s' ∈ Finset.range 14, s ≠ s' → Disjoint (slotSet s) (slotSet s') := by
  intro s _ s' _ h
  rw [Finset.disjoint_left]; intro i h1 h2
  rw [slotSet, Finset.mem_filter_univ] at h1 h2
  exact h (h1.symm.trans h2)

theorem slots_all : (Finset.range 14).biUnion slotSet = Finset.univ := by
  ext i
  have h1 : (i 0).val < 14 := (i 0).isLt
  simp only [Finset.mem_biUnion, slotSet, Finset.mem_filter_univ, Finset.mem_range, Finset.mem_univ, iff_true]
  exact ⟨(i 0).val, h1, rfl⟩

/-- The ring at one contents, slot by slot. -/
theorem ring_slots (y : S14x12288x256.Idx → Elt F .fp8e4m3) :
    (bigSep (Finset.range 14) fun s => own (c : Thread nD τ) A.arg16 (slotSet s) fullShare y : sProp 𝕄) = hold c A.arg16 y := by
  rw [← own_biUnion (c := (c : Thread nD τ)) (m := A.arg16) (q := fullShare) (x := y) (Finset.range 14) slotSet slots_disjoint, slots_all]

theorem ring_split : iprop(anyH (F := F) c A.arg16 ∗ bigSep (Finset.range 14) fun s => semVal ((c : Thread nD τ), .dma (wsem A s)) 0)
    ⊢ (bigSep (Finset.range 14) (slotFree (F := F) c A) : sProp 𝕄) := by
  iintro ⟨H, HS⟩
  ihave H := (Entails.of_eq (anyH_eq c A.arg16)) $$ H
  icases H with ⟨%y, H⟩
  ihave H := (Entails.of_eq (ring_slots c A y).symm) $$ H
  have e1 : (iprop((bigSep (Finset.range 14) fun s => own (c : Thread nD τ) A.arg16 (slotSet s) fullShare y)
        ∗ bigSep (Finset.range 14) fun s => semVal ((c : Thread nD τ), .dma (wsem A s)) 0) : sProp 𝕄)
      = bigSep (Finset.range 14) (fun s => iprop(own (c : Thread nD τ) A.arg16 (slotSet s) fullShare y ∗ semVal ((c : Thread nD τ), .dma (wsem A s)) 0)) :=
    (bigSep_sep _ _ _).symm
  ihave H := (Entails.of_eq e1) $$ [H HS]
  · isplitl [H]; · iexact H
    iexact HS
  have key : (bigSep (Finset.range 14) (fun s => iprop(own (c : Thread nD τ) A.arg16 (slotSet s) fullShare y ∗ semVal ((c : Thread nD τ), .dma (wsem A s)) 0)) : sProp 𝕄)
      ⊢ bigSep (Finset.range 14) (slotFree (F := F) c A) := BI.bigSep_mono fun s _ => by
    show (iprop(own (c : Thread nD τ) A.arg16 (slotSet s) fullShare y ∗ semVal ((c : Thread nD τ), .dma (wsem A s)) 0) : sProp 𝕄)
      ⊢ iprop((∃ y : S14x12288x256.Idx → Elt F .fp8e4m3, own (c : Thread nD τ) A.arg16 (slotSet s) fullShare y) ∗ semVal ((c : Thread nD τ), .dma (wsem A s)) 0)
    iintro ⟨H, HS⟩
    isplitl [H]; · iexists y; iexact H
    iexact HS
  iapply key $$ H

theorem ring_nonempty (_ : ℕ) : Nonempty (S14x12288x256.Idx → Elt F .fp8e4m3) := ⟨fun _ => Classical.choice (Elt.nonempty F _)⟩

theorem ring_join : (bigSep (Finset.range 14) (slotFree (F := F) c A) : sProp 𝕄)
    ⊢ iprop(anyH (F := F) c A.arg16 ∗ bigSep (Finset.range 14) fun s => semVal ((c : Thread nD τ), .dma (wsem A s)) 0) := by
  have e : (bigSep (Finset.range 14) (slotFree (F := F) c A) : sProp 𝕄)
      = iprop((bigSep (Finset.range 14) fun s => iprop(∃ y : S14x12288x256.Idx → Elt F .fp8e4m3, own (c : Thread nD τ) A.arg16 (slotSet s) fullShare y))
        ∗ bigSep (Finset.range 14) fun s => semVal ((c : Thread nD τ), .dma (wsem A s)) 0) := bigSep_sep _ _ _
  iintro H
  ihave H := (Entails.of_eq e) $$ H
  icases H with ⟨H, HS⟩
  isplitl [H]
  · ihave H := (@BI.bigSep_exists_pi _ _ _ _ (fun _ => S14x12288x256.Idx → Elt F .fp8e4m3) ring_nonempty (Finset.range 14) fun s y => own (c : Thread nD τ) A.arg16 (slotSet s) fullShare y) $$ H
    icases H with ⟨%y, H⟩
    iapply (Entails.of_eq (anyH_eq c A.arg16).symm)
    iexists (fun i => y (i 0).val i)
    iapply (Entails.of_eq (ring_slots c A _))
    have key : (bigSep (Finset.range 14) (fun s => own (c : Thread nD τ) A.arg16 (slotSet s) fullShare (y s)) : sProp 𝕄)
        ⊢ bigSep (Finset.range 14) (fun s => own (c : Thread nD τ) A.arg16 (slotSet s) fullShare (fun i => y (i 0).val i)) :=
      BI.bigSep_mono fun s _ => Entails.of_eq (own_congr fun i hi => by
        rw [slotSet, Finset.mem_filter_univ] at hi; rw [hi])
    iapply key $$ H
  iexact HS

end Ring

/-! ## The record of the launch -/

/-- The kernel's arguments as the launch passes them. -/
def A0 : Args := ⟨Memref.whole main_arg0, Memref.isWhole_whole _, Memref.whole main_v0, Memref.isWhole_whole _, Memref.whole main_arg2, Memref.isWhole_whole _, Memref.whole main_arg3, Memref.isWhole_whole _, Memref.whole main_arg4, Memref.isWhole_whole _, Memref.whole main_v1, Memref.isWhole_whole _, Memref.whole main_v2, Memref.isWhole_whole _, Memref.whole main_v3, Memref.isWhole_whole _, Memref.whole main_v4, Memref.isWhole_whole _, Memref.whole main_v5, Memref.isWhole_whole _, Memref.whole main_arg10, Memref.isWhole_whole _, Memref.whole main_v6_0, Memref.isWhole_whole _, Memref.whole main_v6_1, Memref.isWhole_whole _, Memref.whole main_v6_2, Memref.isWhole_whole _, Memref.whole main_v6_3, Memref.isWhole_whole _, Memref.whole main_v6_4, Memref.isWhole_whole _, Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _, Memref.whole cc0_scratch5, Memref.isWhole_whole _, Memref.whole cc0_scratch6, Memref.isWhole_whole _, Memref.whole cc0_scratch7, Memref.isWhole_whole _, Memref.whole cc0_scratch8, Memref.isWhole_whole _, Memref.whole cc0_scratch9, Memref.isWhole_whole _, Memref.whole cc0_scratch10, Memref.isWhole_whole _, Memref.whole cc0_scratch11, Memref.isWhole_whole _, Memref.whole cc0_scratch12, Memref.isWhole_whole _, Memref.whole cc0_scratch13, Memref.isWhole_whole _, Memref.whole cc0_scratch14, Memref.isWhole_whole _, Memref.whole cc0_scratch15, Memref.isWhole_whole _, Memref.whole cc0_scratch16, Memref.isWhole_whole _, Memref.whole cc0_scratch17, Memref.isWhole_whole _, Memref.whole cc0_scratch18, Memref.isWhole_whole _, Memref.whole cc0_scratch19, Memref.isWhole_whole _, Memref.whole cc0_scratch20, Memref.isWhole_whole _, Memref.whole cc0_scratch21, Memref.isWhole_whole _, cc0_scratch22, cc0_scratch23, cc0_scratch24, cc0_scratch25⟩

theorem body_whole (t : Fin cfg0.N) : bodyAt0 (F := F) t = whole (F := F) A0 := by
  show cc0_fp8_head (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole main_v5) (Memref.isWhole_whole _) (Memref.whole main_arg10) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole main_v6_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) cc0_scratch22 cc0_scratch23 cc0_scratch24 cc0_scratch25 = _
  rw [cc0_fp8_head_eq_skeleton]; rfl

theorem credits : A0.arg13.view.dmaCredit = zN A0 * 125 := by decide

/-- The kernel's own cells. -/
abbrev osem0 : Fin 29 → SemLoc sig := fun j => .dma j

theorem ownSemFacts0 : Pipeline.OwnSemFacts cfg0.spec osem0 := by decide

theorem wsem0 (s : Fin 14) : wsem A0 s.val = ⟨s.val, by show _ < 29; omega⟩ := by revert s; decide
theorem isem0 (n : Fin 10) : isem A0 n.val = ⟨14 + n.val, by show _ < 29; omega⟩ := by revert n; decide
theorem zsem0 : A0.arg40.sem = ⟨24, by decide⟩ := by decide
theorem outsem0 (n : Fin 4) : outsem A0 n.val = ⟨25 + n.val, by show _ < 29; omega⟩ := by revert n; decide

variable (c : Dev nD)

theorem sep2 {P P' Q Q' : sProp 𝕄} (h : P = P') (h' : Q = Q') : iprop(P ∗ Q) = iprop(P' ∗ Q') := by rw [h, h']

theorem sem_at {s s' : DmaSem sig} (h : s = s') : (semVal ((c : Thread nD τ), .dma s') 0 : sProp 𝕄) = semVal ((c : Thread nD τ), .dma s) 0 := by rw [h]

theorem hold_whole (b : Ref sig .tc) (f : b.ty.Contents (Elt F)) : (((c : Thread nD τ).loc b) ↦{fullShare} f : sProp 𝕄) = hold c (Memref.whole b) f :=
  (own_whole (c : Thread nD τ) b fullShare f).symm

theorem anyH_whole (b : Ref sig .tc) :
    (iprop(∃ f : Buf (Elt F) ((c : Thread nD τ).loc b), ((c : Thread nD τ).loc b) ↦{fullShare} f) : sProp 𝕄) = anyH c (Memref.whole b) := by
  unfold anyH hold
  exact congrArg (fun Φ : b.ty.Contents (Elt F) → sProp 𝕄 => iprop(∃ f, Φ f)) (funext fun f => (own_whole (c : Thread nD τ) b fullShare f).symm)

theorem wsems_eq : (bigSep (Finset.range 14) fun s => semVal ((c : Thread nD τ), .dma (wsem A0 s)) 0 : sProp 𝕄)
    = iprop(semVal ((c : Thread nD τ), .dma (wsem A0 0)) 0 ∗ semVal ((c : Thread nD τ), .dma (wsem A0 1)) 0 ∗ semVal ((c : Thread nD τ), .dma (wsem A0 2)) 0 ∗ semVal ((c : Thread nD τ), .dma (wsem A0 3)) 0 ∗ semVal ((c : Thread nD τ), .dma (wsem A0 4)) 0 ∗ semVal ((c : Thread nD τ), .dma (wsem A0 5)) 0 ∗ semVal ((c : Thread nD τ), .dma (wsem A0 6)) 0 ∗ semVal ((c : Thread nD τ), .dma (wsem A0 7)) 0 ∗ semVal ((c : Thread nD τ), .dma (wsem A0 8)) 0 ∗ semVal ((c : Thread nD τ), .dma (wsem A0 9)) 0 ∗ semVal ((c : Thread nD τ), .dma (wsem A0 10)) 0 ∗ semVal ((c : Thread nD τ), .dma (wsem A0 11)) 0 ∗ semVal ((c : Thread nD τ), .dma (wsem A0 12)) 0 ∗ semVal ((c : Thread nD τ), .dma (wsem A0 13)) 0) := by
  rw [bigSep_eq_bigSepL_of_eq [0,1,2,3,4,5,6,7,8,9,10,11,12,13] (by decide) (by decide)]; rfl

theorem sems_eq : (Pipeline.ownSems0 (Ix := Unit) (Name := ℕ) (U := UC sig nD τ) (Lvl := ℕ) (Val := Elt F) (τ := τ) osem0 c : sProp 𝕄)
    = iprop(semVal ((c : Thread nD τ), .dma (wsem A0 0)) 0 ∗ semVal ((c : Thread nD τ), .dma (wsem A0 1)) 0 ∗ semVal ((c : Thread nD τ), .dma (wsem A0 2)) 0 ∗ semVal ((c : Thread nD τ), .dma (wsem A0 3)) 0 ∗ semVal ((c : Thread nD τ), .dma (wsem A0 4)) 0 ∗ semVal ((c : Thread nD τ), .dma (wsem A0 5)) 0 ∗ semVal ((c : Thread nD τ), .dma (wsem A0 6)) 0 ∗ semVal ((c : Thread nD τ), .dma (wsem A0 7)) 0 ∗ semVal ((c : Thread nD τ), .dma (wsem A0 8)) 0 ∗ semVal ((c : Thread nD τ), .dma (wsem A0 9)) 0 ∗ semVal ((c : Thread nD τ), .dma (wsem A0 10)) 0 ∗ semVal ((c : Thread nD τ), .dma (wsem A0 11)) 0 ∗ semVal ((c : Thread nD τ), .dma (wsem A0 12)) 0 ∗ semVal ((c : Thread nD τ), .dma (wsem A0 13)) 0 ∗ semVal ((c : Thread nD τ), .dma (isem A0 0)) 0 ∗ semVal ((c : Thread nD τ), .dma (isem A0 1)) 0 ∗ semVal ((c : Thread nD τ), .dma (isem A0 2)) 0 ∗ semVal ((c : Thread nD τ), .dma (isem A0 3)) 0 ∗ semVal ((c : Thread nD τ), .dma (isem A0 4)) 0 ∗ semVal ((c : Thread nD τ), .dma (isem A0 5)) 0 ∗ semVal ((c : Thread nD τ), .dma (isem A0 6)) 0 ∗ semVal ((c : Thread nD τ), .dma (isem A0 7)) 0 ∗ semVal ((c : Thread nD τ), .dma (isem A0 8)) 0 ∗ semVal ((c : Thread nD τ), .dma (isem A0 9)) 0 ∗ semVal ((c : Thread nD τ), .dma (A0.arg40.sem)) 0 ∗ semVal ((c : Thread nD τ), .dma (outsem A0 0)) 0 ∗ semVal ((c : Thread nD τ), .dma (outsem A0 1)) 0 ∗ semVal ((c : Thread nD τ), .dma (outsem A0 2)) 0 ∗ semVal ((c : Thread nD τ), .dma (outsem A0 3)) 0) := by
  refine (Pipeline.ownSems0_eq_of_list c osem0 [0,1,2,3,4,5,6,7,8,9,10,11,12,13,14,15,16,17,18,19,20,21,22,23,24,25,26,27,28] (by decide) (by decide)).trans ?_
  exact (sep2 (sem_at c (wsem0 0)) (sep2 (sem_at c (wsem0 1)) (sep2 (sem_at c (wsem0 2)) (sep2 (sem_at c (wsem0 3)) (sep2 (sem_at c (wsem0 4)) (sep2 (sem_at c (wsem0 5)) (sep2 (sem_at c (wsem0 6)) (sep2 (sem_at c (wsem0 7)) (sep2 (sem_at c (wsem0 8)) (sep2 (sem_at c (wsem0 9)) (sep2 (sem_at c (wsem0 10)) (sep2 (sem_at c (wsem0 11)) (sep2 (sem_at c (wsem0 12)) (sep2 (sem_at c (wsem0 13)) (sep2 (sem_at c (isem0 0)) (sep2 (sem_at c (isem0 1)) (sep2 (sem_at c (isem0 2)) (sep2 (sem_at c (isem0 3)) (sep2 (sem_at c (isem0 4)) (sep2 (sem_at c (isem0 5)) (sep2 (sem_at c (isem0 6)) (sep2 (sem_at c (isem0 7)) (sep2 (sem_at c (isem0 8)) (sep2 (sem_at c (isem0 9)) (sep2 (sem_at c zsem0) (sep2 (sem_at c (outsem0 0)) (sep2 (sem_at c (outsem0 1)) (sep2 (sem_at c (outsem0 2)) (sem_at c (outsem0 3))))))))))))))))))))))))))))))

/-- The routed arrays: the kernel's inputs and results. -/
def RB : Finset (Ref sig .tc) := ([main_arg0, main_v0, main_arg2, main_arg3, main_arg4, main_v1, main_v2, main_v3, main_v4, main_v5, main_arg10, main_v6_0, main_v6_1, main_v6_2, main_v6_3, main_v6_4] : List (Ref sig .tc)).toFinset

theorem RB_sub : RB ⊆ Pipeline.restRefs sig cfg0.spec := by
  intro b hb
  rw [RB, List.mem_toFinset] at hb
  simp only [List.mem_cons, List.not_mem_nil, or_false] at hb
  rcases hb with rfl | rfl | rfl | rfl | rfl | rfl | rfl | rfl | rfl | rfl | rfl | rfl | rfl | rfl | rfl | rfl <;> exact Pipeline.mem_restRefs_of _ (by decide) (by decide)

theorem routed_eq (W : (b : Ref sig .tc) → Buf (Elt F) ((c.tc : Thread nD τ).loc b)) : (Pipeline.routed RB c W : sProp 𝕄)
    = iprop(hold c A0.arg0 (W main_arg0) ∗ hold c A0.arg1 (W main_v0) ∗ hold c A0.arg2 (W main_arg2) ∗ hold c A0.arg3 (W main_arg3) ∗ hold c A0.arg4 (W main_arg4) ∗ hold c A0.arg5 (W main_v1) ∗ hold c A0.arg6 (W main_v2) ∗ hold c A0.arg7 (W main_v3) ∗ hold c A0.arg8 (W main_v4) ∗ hold c A0.arg9 (W main_v5) ∗ hold c A0.arg10 (W main_arg10) ∗ hold c A0.arg11 (W main_v6_0) ∗ hold c A0.arg12 (W main_v6_1) ∗ hold c A0.arg13 (W main_v6_2) ∗ hold c A0.arg14 (W main_v6_3) ∗ hold c A0.arg15 (W main_v6_4)) := by
  unfold Pipeline.routed
  refine (bigSep_eq_bigSepL_of_eq [main_arg0, main_v0, main_arg2, main_arg3, main_arg4, main_v1, main_v2, main_v3, main_v4, main_v5, main_arg10, main_v6_0, main_v6_1, main_v6_2, main_v6_3, main_v6_4] rfl (by decide) _).trans ?_
  exact (sep2 (hold_whole c main_arg0 (W main_arg0)) (sep2 (hold_whole c main_v0 (W main_v0)) (sep2 (hold_whole c main_arg2 (W main_arg2)) (sep2 (hold_whole c main_arg3 (W main_arg3)) (sep2 (hold_whole c main_arg4 (W main_arg4)) (sep2 (hold_whole c main_v1 (W main_v1)) (sep2 (hold_whole c main_v2 (W main_v2)) (sep2 (hold_whole c main_v3 (W main_v3)) (sep2 (hold_whole c main_v4 (W main_v4)) (sep2 (hold_whole c main_v5 (W main_v5)) (sep2 (hold_whole c main_arg10 (W main_arg10)) (sep2 (hold_whole c main_v6_0 (W main_v6_0)) (sep2 (hold_whole c main_v6_1 (W main_v6_1)) (sep2 (hold_whole c main_v6_2 (W main_v6_2)) (sep2 (hold_whole c main_v6_3 (W main_v6_3)) (hold_whole c main_v6_4 (W main_v6_4)))))))))))))))))

theorem scoped_eq : (Pipeline.scopedRest (Ix := Unit) (Name := ℕ) (U := UC sig nD τ) (Lvl := ℕ) (Val := Elt F) cfg0.spec c : sProp 𝕄)
    = iprop(anyH (F := F) c A0.arg16 ∗ anyH (F := F) c A0.arg17 ∗ anyH (F := F) c A0.arg18 ∗ anyH (F := F) c A0.arg19 ∗ anyH (F := F) c A0.arg20 ∗ anyH (F := F) c A0.arg21 ∗ anyH (F := F) c A0.arg22 ∗ anyH (F := F) c A0.arg23 ∗ anyH (F := F) c A0.arg24 ∗ anyH (F := F) c A0.arg25 ∗ anyH (F := F) c A0.arg26 ∗ anyH (F := F) c A0.arg27 ∗ anyH (F := F) c A0.arg28 ∗ anyH (F := F) c A0.arg29 ∗ anyH (F := F) c A0.arg30 ∗ anyH (F := F) c A0.arg31 ∗ anyH (F := F) c A0.arg32 ∗ anyH (F := F) c A0.arg33 ∗ anyH (F := F) c A0.arg34 ∗ anyH (F := F) c A0.arg35 ∗ anyH (F := F) c A0.arg36 ∗ anyH (F := F) c A0.arg37) := by
  rw [scopedRest0_eq]
  exact (sep2 (anyH_whole c cc0_scratch0) (sep2 (anyH_whole c cc0_scratch1) (sep2 (anyH_whole c cc0_scratch2) (sep2 (anyH_whole c cc0_scratch3) (sep2 (anyH_whole c cc0_scratch4) (sep2 (anyH_whole c cc0_scratch5) (sep2 (anyH_whole c cc0_scratch6) (sep2 (anyH_whole c cc0_scratch7) (sep2 (anyH_whole c cc0_scratch8) (sep2 (anyH_whole c cc0_scratch9) (sep2 (anyH_whole c cc0_scratch10) (sep2 (anyH_whole c cc0_scratch11) (sep2 (anyH_whole c cc0_scratch12) (sep2 (anyH_whole c cc0_scratch13) (sep2 (anyH_whole c cc0_scratch14) (sep2 (anyH_whole c cc0_scratch15) (sep2 (anyH_whole c cc0_scratch16) (sep2 (anyH_whole c cc0_scratch17) (sep2 (anyH_whole c cc0_scratch18) (sep2 (anyH_whole c cc0_scratch19) (sep2 (anyH_whole c cc0_scratch20) (anyH_whole c cc0_scratch21))))))))))))))))))))))

/-! ## The body between the region's ends -/

variable (m : (ℓ : Loc nD τ sig) → Buf (Elt F) ℓ) (ρ : Dev nD → PrngReg)

/-- The kernel's inputs as the region finds them. -/
def inOf : In F := ⟨V m c main_arg0, V m c main_v0, V m c main_arg2, V m c main_arg3, V m c main_arg4, V m c main_v1, V m c main_v2, V m c main_v3, V m c main_v4, V m c main_v5, V m c main_arg10⟩

/-- The arrays after the region: the five results at the kernel's values, the others as found. -/
def Y (b : Ref sig .tc) : Buf (Elt F) ((c.tc : Thread nD τ).loc b) :=
  Function.update (Function.update (Function.update (Function.update (Function.update (V m c) main_v6_0 (lsev (inOf c m))) main_v6_1 (clpv (inOf c m)))
    main_v6_2 (zv (inOf c m))) main_v6_3 (codesv (inOf c m))) main_v6_4 (xsv (inOf c m)) b

theorem Y_res0 : Y c m main_v6_0 = lsev (inOf c m) := by
  unfold Y
  rw [Function.update_of_ne (by decide)]; rw [Function.update_of_ne (by decide)]; rw [Function.update_of_ne (by decide)]; rw [Function.update_of_ne (by decide)]; rw [Function.update_self]

theorem Y_res1 : Y c m main_v6_1 = clpv (inOf c m) := by
  unfold Y
  rw [Function.update_of_ne (by decide)]; rw [Function.update_of_ne (by decide)]; rw [Function.update_of_ne (by decide)]; rw [Function.update_self]

theorem Y_res2 : Y c m main_v6_2 = zv (inOf c m) := by
  unfold Y
  rw [Function.update_of_ne (by decide)]; rw [Function.update_of_ne (by decide)]; rw [Function.update_self]

theorem Y_res3 : Y c m main_v6_3 = codesv (inOf c m) := by
  unfold Y
  rw [Function.update_of_ne (by decide)]; rw [Function.update_self]

theorem Y_res4 : Y c m main_v6_4 = xsv (inOf c m) := by
  unfold Y
  rw [Function.update_self]

theorem Y_other {b : Ref sig .tc} (h0 : b ≠ main_v6_0) (h1 : b ≠ main_v6_1) (h2 : b ≠ main_v6_2) (h3 : b ≠ main_v6_3) (h4 : b ≠ main_v6_4) : Y c m b = V m c b := by
  unfold Y
  rw [Function.update_of_ne h4, Function.update_of_ne h3, Function.update_of_ne h2, Function.update_of_ne h1, Function.update_of_ne h0]

theorem ends_in : iprop(Pipeline.Ends cfg0.spec osem0 RB c (V m c) ∗ (Cert.Own.owed (c : Thread nD τ) : sProp 𝕄)) ⊢ (iprop(bodyIn c A0 (inOf c m) ∗ ∃ r, prngReg c r) : sProp 𝕄) := by
  unfold Pipeline.Ends
  iintro ⟨⟨HR, HS, HC, HP⟩, HO⟩
  ihave HR := (Entails.of_eq (routed_eq c (V m c))) $$ HR
  ihave HS := (Entails.of_eq (sems_eq c)) $$ HS
  ihave HC := (Entails.of_eq (scoped_eq c)) $$ HC
  icases HR with ⟨R0, R1, R2, R3, R4, R5, R6, R7, R8, R9, R10, R11, R12, R13, R14, R15⟩
  icases HS with ⟨S0, S1, S2, S3, S4, S5, S6, S7, S8, S9, S10, S11, S12, S13, S14, S15, S16, S17, S18, S19, S20, S21, S22, S23, S24, S25, S26, S27, S28⟩
  icases HC with ⟨C16, C17, C18, C19, C20, C21, C22, C23, C24, C25, C26, C27, C28, C29, C30, C31, C32, C33, C34, C35, C36, C37⟩
  ihave HW := (Entails.of_eq (wsems_eq c).symm) $$ [S0 S1 S2 S3 S4 S5 S6 S7 S8 S9 S10 S11 S12 S13]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iexact S13
  ihave HB := (ring_split c A0) $$ [C16 HW]
  · isplitl [C16]; · iexact C16
    iexact HW
  isplitr [HP]
  swap; · iexact HP
  unfold bodyIn
  isplitl [R0 C17 S14]
  · unfold in0B
    isplitl [R0]; · iexact R0
    isplitl [C17]; · iexact C17
    iexact S14
  isplitl [R1 C18 S15]
  · unfold in1B
    isplitl [R1]; · iexact R1
    isplitl [C18]; · iexact C18
    iexact S15
  isplitl [R4 C20 S16]
  · unfold in2B
    isplitl [R4]; · iexact R4
    isplitl [C20]; · iexact C20
    iexact S16
  isplitl [R5 C21 S17]
  · unfold in3B
    isplitl [R5]; · iexact R5
    isplitl [C21]; · iexact C21
    iexact S17
  isplitl [R6 C22 S18]
  · unfold in4B
    isplitl [R6]; · iexact R6
    isplitl [C22]; · iexact C22
    iexact S18
  isplitl [R7 C23 S19]
  · unfold in5B
    isplitl [R7]; · iexact R7
    isplitl [C23]; · iexact C23
    iexact S19
  isplitl [R8 C24 S20]
  · unfold in6B
    isplitl [R8]; · iexact R8
    isplitl [C24]; · iexact C24
    iexact S20
  isplitl [R9 C25 S21]
  · unfold in7B
    isplitl [R9]; · iexact R9
    isplitl [C25]; · iexact C25
    iexact S21
  isplitl [R10 C26 S22]
  · unfold in8B
    isplitl [R10]; · iexact R10
    isplitl [C26]; · iexact C26
    iexact S22
  isplitl [R3 C19 S23]
  · unfold in9B
    isplitl [R3]; · iexact R3
    isplitl [C19]; · iexact C19
    iexact S23
  isplitl [HB]; · iexact HB
  isplitl [R2]; · iexact R2
  isplitl [R11]
  · iapply (Entails.of_eq (anyH_eq c A0.arg11).symm)
    iexists _; iexact R11
  isplitl [R12]
  · iapply (Entails.of_eq (anyH_eq c A0.arg12).symm)
    iexists _; iexact R12
  isplitl [R13]
  · iapply (Entails.of_eq (anyH_eq c A0.arg13).symm)
    iexists _; iexact R13
  isplitl [R14]
  · iapply (Entails.of_eq (anyH_eq c A0.arg14).symm)
    iexists _; iexact R14
  isplitl [R15]
  · iapply (Entails.of_eq (anyH_eq c A0.arg15).symm)
    iexists _; iexact R15
  isplitl [C27]; · iexact C27
  isplitl [C28]; · iexact C28
  isplitl [C29]; · iexact C29
  isplitl [C30]; · iexact C30
  isplitl [C31]; · iexact C31
  isplitl [C32]; · iexact C32
  isplitl [C33]; · iexact C33
  isplitl [C34]; · iexact C34
  isplitl [C35]; · iexact C35
  isplitl [C36]; · iexact C36
  isplitl [C37]; · iexact C37
  isplitl [S25]; · iexact S25
  isplitl [S26]; · iexact S26
  isplitl [S27]; · iexact S27
  isplitl [S28]; · iexact S28
  isplitl [S24]; · iexact S24
  iexact HO

theorem ends_out : (iprop(bodyOut c A0 (inOf c m) ∗ ∃ r, prngReg c r) : sProp 𝕄) ⊢ iprop(Pipeline.Ends cfg0.spec osem0 RB c (Y c m) ∗ (Cert.Own.owed (c : Thread nD τ) : sProp 𝕄)) := by
  unfold bodyOut
  iintro ⟨⟨I0, I1, I2, I3, I4, I5, I6, I7, I8, I9, HB, R2, H11, H12, H13, H14, H15, H17, H18, H19, H20, H21, H22, H23, H24, H25, H26, H27, H28, H29, H30, H31, H32, H33, H34, H35, H36, H37, S25, S26, S27, S28, S24, HO⟩, HP⟩
  unfold in0E
  icases I0 with ⟨R0, S14⟩
  unfold in1E
  icases I1 with ⟨R1, S15⟩
  unfold in2E
  icases I2 with ⟨R4, S16⟩
  unfold in3E
  icases I3 with ⟨R5, S17⟩
  unfold in4E
  icases I4 with ⟨R6, S18⟩
  unfold in5E
  icases I5 with ⟨R7, S19⟩
  unfold in6E
  icases I6 with ⟨R8, S20⟩
  unfold in7E
  icases I7 with ⟨R9, S21⟩
  unfold in8E
  icases I8 with ⟨R10, S22⟩
  unfold in9E
  icases I9 with ⟨R3, S23⟩
  ihave HB := (ring_join c A0) $$ HB
  icases HB with ⟨C16, HW⟩
  ihave HW := (Entails.of_eq (wsems_eq c)) $$ HW
  icases HW with ⟨S0, S1, S2, S3, S4, S5, S6, S7, S8, S9, S10, S11, S12, S13⟩
  isplitr [HO]
  swap; · iexact HO
  unfold Pipeline.Ends
  isplitl [R0 R1 R2 R3 R4 R5 R6 R7 R8 R9 R10 H11 H12 H13 H14 H15]
  · iapply (Entails.of_eq (routed_eq c (Y c m)).symm)
    rw [Y_other c m (b := main_arg0) (by decide) (by decide) (by decide) (by decide) (by decide)]
    rw [Y_other c m (b := main_v0) (by decide) (by decide) (by decide) (by decide) (by decide)]
    rw [Y_other c m (b := main_arg2) (by decide) (by decide) (by decide) (by decide) (by decide)]
    rw [Y_other c m (b := main_arg3) (by decide) (by decide) (by decide) (by decide) (by decide)]
    rw [Y_other c m (b := main_arg4) (by decide) (by decide) (by decide) (by decide) (by decide)]
    rw [Y_other c m (b := main_v1) (by decide) (by decide) (by decide) (by decide) (by decide)]
    rw [Y_other c m (b := main_v2) (by decide) (by decide) (by decide) (by decide) (by decide)]
    rw [Y_other c m (b := main_v3) (by decide) (by decide) (by decide) (by decide) (by decide)]
    rw [Y_other c m (b := main_v4) (by decide) (by decide) (by decide) (by decide) (by decide)]
    rw [Y_other c m (b := main_v5) (by decide) (by decide) (by decide) (by decide) (by decide)]
    rw [Y_other c m (b := main_arg10) (by decide) (by decide) (by decide) (by decide) (by decide)]
    rw [Y_res0, Y_res1, Y_res2, Y_res3, Y_res4]
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [H11]; · iexact H11
    isplitl [H12]; · iexact H12
    isplitl [H13]; · iexact H13
    isplitl [H14]; · iexact H14
    iexact H15
  isplitl [S0 S1 S2 S3 S4 S5 S6 S7 S8 S9 S10 S11 S12 S13 S14 S15 S16 S17 S18 S19 S20 S21 S22 S23 S24 S25 S26 S27 S28]
  · iapply (Entails.of_eq (sems_eq c).symm)
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    iexact S28
  isplitr [HP]
  · iapply (Entails.of_eq (scoped_eq c).symm)
    isplitl [C16]; · iexact C16
    isplitl [H17]
    · iapply (Entails.of_eq (anyH_eq c A0.arg17).symm)
      iexists _; iexact H17
    isplitl [H18]
    · iapply (Entails.of_eq (anyH_eq c A0.arg18).symm)
      iexists _; iexact H18
    isplitl [H19]
    · iapply (Entails.of_eq (anyH_eq c A0.arg19).symm)
      iexists _; iexact H19
    isplitl [H20]
    · iapply (Entails.of_eq (anyH_eq c A0.arg20).symm)
      iexists _; iexact H20
    isplitl [H21]
    · iapply (Entails.of_eq (anyH_eq c A0.arg21).symm)
      iexists _; iexact H21
    isplitl [H22]
    · iapply (Entails.of_eq (anyH_eq c A0.arg22).symm)
      iexists _; iexact H22
    isplitl [H23]
    · iapply (Entails.of_eq (anyH_eq c A0.arg23).symm)
      iexists _; iexact H23
    isplitl [H24]
    · iapply (Entails.of_eq (anyH_eq c A0.arg24).symm)
      iexists _; iexact H24
    isplitl [H25]
    · iapply (Entails.of_eq (anyH_eq c A0.arg25).symm)
      iexists _; iexact H25
    isplitl [H26]
    · iapply (Entails.of_eq (anyH_eq c A0.arg26).symm)
      iexists _; iexact H26
    isplitl [H27]
    · iapply (Entails.of_eq (anyH_eq c A0.arg27).symm)
      iexists _; iexact H27
    isplitl [H28]
    · iapply (Entails.of_eq (anyH_eq c A0.arg28).symm)
      iexists _; iexact H28
    isplitl [H29]
    · iapply (Entails.of_eq (anyH_eq c A0.arg29).symm)
      iexists _; iexact H29
    isplitl [H30]
    · iapply (Entails.of_eq (anyH_eq c A0.arg30).symm)
      iexists _; iexact H30
    isplitl [H31]
    · iapply (Entails.of_eq (anyH_eq c A0.arg31).symm)
      iexists _; iexact H31
    isplitl [H32]
    · iapply (Entails.of_eq (anyH_eq c A0.arg32).symm)
      iexists _; iexact H32
    isplitl [H33]
    · iapply (Entails.of_eq (anyH_eq c A0.arg33).symm)
      iexists _; iexact H33
    isplitl [H34]
    · iapply (Entails.of_eq (anyH_eq c A0.arg34).symm)
      iexists _; iexact H34
    isplitl [H35]
    · iapply (Entails.of_eq (anyH_eq c A0.arg35).symm)
      iexists _; iexact H35
    isplitl [H36]
    · iapply (Entails.of_eq (anyH_eq c A0.arg36).symm)
      iexists _; iexact H36
    iapply (Entails.of_eq (anyH_eq c A0.arg37).symm)
    iexists _; iexact H37
  iexact HP

/-! ## The run -/

/-- The proof data of the one region on core `c`: no window, the body's ends as its invariant. -/
def dats (_ : Fin 1) (c : Dev nD) : Dat τ (Elt F) Unit ℕ (UC sig nD τ) ℕ cfg0 c where
  A w := V m c (Pipeline.arrRef cfg0.spec w)
  after w _ := w.elim0
  Φ i := if i.val = 0 then Pipeline.Ends cfg0.spec osem0 RB c (V m c) else Pipeline.Ends cfg0.spec osem0 RB c (Y c m)
  q _ := fullShare
  owed _ := 0

theorem Phi_first (i : Fin (cfg0.N + 1)) (h : i.val = 0) : (dats m 0 c).Φ i = Pipeline.Ends cfg0.spec osem0 RB c (V m c) := by
  dsimp only [dats]; rw [if_pos h]

theorem Phi_later (i : Fin (cfg0.N + 1)) (h : i.val ≠ 0) : (dats m 0 c).Φ i = Pipeline.Ends cfg0.spec osem0 RB c (Y c m) := by
  dsimp only [dats]; rw [if_neg h]

theorem Phi_last : (dats m 0 c).Φ (Fin.last cfg0.N) = Pipeline.Ends cfg0.spec osem0 RB c (Y c m) :=
  Phi_later c m _ (by
    have h : cfg0.N = 1 := N_0
    show cfg0.N ≠ 0
    omega)

theorem defs₀_row (t : Fin cfg0.N) : defs₀ (F := F) .tc cfg0.body (cfg0.bodyArgs t (cfg0.slots t)) = whole (F := F) A0 := by
  rw [← body_whole t]
  unfold defs₀; rw [Defs.onTc_tc]

theorem sound_body (t : Fin cfg0.N) :
    iprop((dats m 0 c).Φ t.castSucc ∗ (dats m 0 c).owesAt () t.castSucc)
      ⊢ wp (M := 𝕄) frame (wpE (defs₀ (F := F)) Variants.none (c : Thread nD τ) none) Set.univ (whole A0)
          (fun _ => iprop((dats m 0 c).Φ t.succ ∗ (dats m 0 c).owesAt () t.succ)) := by
  have ht : t.val = 0 := by
    have h1 : t.val < cfg0.N := t.isLt
    have h2 : cfg0.N = 1 := N_0
    omega
  rw [Phi_first c m t.castSucc ht, Phi_later c m t.succ (Nat.succ_ne_zero t.val)]
  unfold Dat.owesAt Pipeline.owesWithin
  rw [show (dats m 0 c).owed t.castSucc = 0 from rfl, show (dats m 0 c).owed t.succ = 0 from rfl]
  have h2 : (iprop(bodyIn c A0 (inOf c m) ∗ ∃ r, prngReg c r) : sProp 𝕄)
      ⊢ wp (M := 𝕄) frame (wpE (defs₀ (F := F)) Variants.none (c : Thread nD τ) none) Set.univ (whole A0) (fun _ => iprop(bodyOut c A0 (inOf c m) ∗ ∃ r, prngReg c r)) :=
    (BI.sep_mono_l (whole_spec Variants.none c A0 (inOf c m) credits)).trans
      (wp_frame_r (M := 𝕄) frame (wpE (defs₀ (F := F)) Variants.none (c : Thread nD τ) none) Set.univ)
  refine BIBase.Entails.trans ?_ (h2.trans (wp_mono (M := 𝕄) frame (wpE (defs₀ (F := F)) Variants.none (c : Thread nD τ) none) Set.univ fun _ => (ends_out c m).trans ?_))
  · iintro ⟨HE, ⟨%W, -, HW⟩⟩
    iapply (ends_in c m)
    isplitl [HE]; · iexact HE
    unfold Cert.Own.owed
    iexists W; iexact HW
  · unfold Cert.Own.owed
    iintro ⟨HE, ⟨%W', HW⟩⟩
    isplitl [HE]; · iexact HE
    iexists W'; isplitr; · ipureintro; exact fun _ _ => Or.inl trivial
    iexact HW

theorem no_windows (Φ : Fin cfg0.W → sProp 𝕄) : bigSep Finset.univ Φ = (BI.emp : sProp 𝕄) := by
  rw [show (Finset.univ : Finset (Fin cfg0.W)) = ∅ from rfl]; exact bigSep_empty

theorem body_obligation : BodyObligation (dats (F := F) m 0 c) (defs₀ (F := F)) Variants.none () Set.univ := fun t => by
  rw [defs₀_row]
  refine triple_restated (sound_body c m t) rfl ?_ fun _ => ?_
  · iintro ⟨H1, H2, -⟩
    isplitl [H1]; · iexact H1
    iexact H2
  · iintro ⟨H1, H2⟩
    isplitl [H1]; · iexact H1
    isplitl [H2]; · iexact H2
    iapply (Entails.of_eq (no_windows _).symm)
    iempintro

set_option maxHeartbeats 800000 in
theorem hmainC (𝒱₀ : Variants) : Pipeline.HMain (Ix := Unit) (Name := ℕ) (U := UC sig nD τ) (Lvl := ℕ) cfgs 0 defs₀ 𝒱₀ m (main (F := F)) (V m) :=
  Pipeline.hmain_prefix cfgs 0 defs₀ 𝒱₀ m main hostOps0 hostOps0_sub hostOps0_fresh main_chain

/-- What a run ends with: the routed arrays at `Y`, the other unscoped arrays as the region found them, the counters at zero. -/
def Final (r : PUnit × MemSt nD τ sig (Elt F)) : Prop :=
  (∀ c : Dev nD, (∀ b ∈ RB, r.2.mem ((c.tc : Thread nD τ).loc b) = Y c m b)
    ∧ (∀ b ∈ Pipeline.restRefs sig cfg0.spec \ RB, r.2.mem ((c.tc : Thread nD τ).loc b) = V m c b)) ∧ r.2.sem = fun _ => 0

set_option backward.isDefEq.respectTransparency.types false in
theorem run_main : θ_run defs (onTc (τ := τ) (main (F := F))) (s₀ m ρ) (Final m) :=
  Pipeline.θ_run_frame_routed (Q' := Final m) cfgs (dats m) (0 : Fin 1) launch0 ownSemFacts0 defs₀ Variants.none m ρ main
    (hbody := fun c => (body_obligation c m).loose) (hshare := fun c => (dats m 0 c).share_full fun _ => rfl)
    (howed := fun _ _ => rfl) (V := V m) (hmain := hmainC m Variants.none) (hA := fun _ _ => rfl)
    (R := RB) (hR := RB_sub) (Y := fun c => Y c m)
    (hin := fun _ => .rfl) (hout := fun c => Entails.of_eq (Phi_last c m))
    (hQ' := fun _ h => ⟨fun c => (h.1 c).2, h.2⟩)

/-- The results at the kernel's values, the arguments as launched, the counters at zero. -/
theorem run_values : θ_run defs (onTc (τ := τ) (main (F := F))) (s₀ m ρ) (fun r => (∀ c : Dev nD,
      r.2.mem ((c.tc : Thread nD τ).loc main_v6_0) = lsev (inOf c m)
      ∧ r.2.mem ((c.tc : Thread nD τ).loc main_v6_1) = clpv (inOf c m)
      ∧ r.2.mem ((c.tc : Thread nD τ).loc main_v6_2) = zv (inOf c m)
      ∧ r.2.mem ((c.tc : Thread nD τ).loc main_v6_3) = codesv (inOf c m)
      ∧ r.2.mem ((c.tc : Thread nD τ).loc main_v6_4) = xsv (inOf c m))
      ∧ (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) := by
  refine (θ_run defs _ _).mono (fun r h => ⟨fun c => ⟨?_, ?_, ?_, ?_, ?_⟩, fun c => ⟨?_, ?_, ?_, ?_, ?_, ?_, ?_, ?_, ?_, ?_, ?_⟩, h.2⟩) (run_main m ρ)
  · exact ((h.1 c).1 main_v6_0 (by rw [RB, List.mem_toFinset]; decide)).trans (Y_res0 c m)
  · exact ((h.1 c).1 main_v6_1 (by rw [RB, List.mem_toFinset]; decide)).trans (Y_res1 c m)
  · exact ((h.1 c).1 main_v6_2 (by rw [RB, List.mem_toFinset]; decide)).trans (Y_res2 c m)
  · exact ((h.1 c).1 main_v6_3 (by rw [RB, List.mem_toFinset]; decide)).trans (Y_res3 c m)
  · exact ((h.1 c).1 main_v6_4 (by rw [RB, List.mem_toFinset]; decide)).trans (Y_res4 c m)
  · exact ((h.1 c).1 main_arg0 (by rw [RB, List.mem_toFinset]; decide)).trans ((Y_other c m (by decide) (by decide) (by decide) (by decide) (by decide)).trans (V_main_arg0 m c))
  · exact ((h.1 c).2 main_arg1 (Finset.mem_sdiff.mpr ⟨Pipeline.mem_restRefs_of _ (by decide) (by decide), by rw [RB, List.mem_toFinset]; decide⟩)).trans (V_main_arg1 m c)
  · exact ((h.1 c).1 main_arg2 (by rw [RB, List.mem_toFinset]; decide)).trans ((Y_other c m (by decide) (by decide) (by decide) (by decide) (by decide)).trans (V_main_arg2 m c))
  · exact ((h.1 c).1 main_arg3 (by rw [RB, List.mem_toFinset]; decide)).trans ((Y_other c m (by decide) (by decide) (by decide) (by decide) (by decide)).trans (V_main_arg3 m c))
  · exact ((h.1 c).1 main_arg4 (by rw [RB, List.mem_toFinset]; decide)).trans ((Y_other c m (by decide) (by decide) (by decide) (by decide) (by decide)).trans (V_main_arg4 m c))
  · exact ((h.1 c).2 main_arg5 (Finset.mem_sdiff.mpr ⟨Pipeline.mem_restRefs_of _ (by decide) (by decide), by rw [RB, List.mem_toFinset]; decide⟩)).trans (V_main_arg5 m c)
  · exact ((h.1 c).2 main_arg6 (Finset.mem_sdiff.mpr ⟨Pipeline.mem_restRefs_of _ (by decide) (by decide), by rw [RB, List.mem_toFinset]; decide⟩)).trans (V_main_arg6 m c)
  · exact ((h.1 c).2 main_arg7 (Finset.mem_sdiff.mpr ⟨Pipeline.mem_restRefs_of _ (by decide) (by decide), by rw [RB, List.mem_toFinset]; decide⟩)).trans (V_main_arg7 m c)
  · exact ((h.1 c).2 main_arg8 (Finset.mem_sdiff.mpr ⟨Pipeline.mem_restRefs_of _ (by decide) (by decide), by rw [RB, List.mem_toFinset]; decide⟩)).trans (V_main_arg8 m c)
  · exact ((h.1 c).2 main_arg9 (Finset.mem_sdiff.mpr ⟨Pipeline.mem_restRefs_of _ (by decide) (by decide), by rw [RB, List.mem_toFinset]; decide⟩)).trans (V_main_arg9 m c)
  · exact ((h.1 c).1 main_arg10 (by rw [RB, List.mem_toFinset]; decide)).trans ((Y_other c m (by decide) (by decide) (by decide) (by decide) (by decide)).trans (V_main_arg10 m c))

end Cert.Kernel.Hand

end
-- ==== Proof.KernelIdeal.Args.lean ====
/-
  The kernel's operands as one record, so that the statements about its parts need not list
  them: the arrays and scratch buffers (each a whole memref) and the DMA semaphores.
  Each part and loop body of the kernel's skeleton, at such a record.
-/
module

public import proofs.«01_k».proof.Proof.Gen.KernelIdeal.Skeleton
public import proofs.«01_k».proof.Proof.Gen.KernelIdeal.Points
public import Idealize.ShloMosaic.Lib.Exec
public import Idealize.ShloMosaic.Lib.Tactic

@[expose] public section

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- The kernel's operands. -/
structure Args where
  arg0 : Memref sig .tc .hbm S16x12288 .bf16
  harg0 : arg0.IsWhole
  arg1 : Memref sig .tc .hbm S1x12288 .f32
  harg1 : arg1.IsWhole
  arg2 : Memref sig .tc .hbm S12288x32000 .fp8e4m3
  harg2 : arg2.IsWhole
  arg3 : Memref sig .tc .hbm S32000 .f32
  harg3 : arg3.IsWhole
  arg4 : Memref sig .tc .hbm S16x1024 .i32
  harg4 : arg4.IsWhole
  arg5 : Memref sig .tc .hbm S1x16 .i32
  harg5 : arg5.IsWhole
  arg6 : Memref sig .tc .hbm S1x16 .f32
  harg6 : arg6.IsWhole
  arg7 : Memref sig .tc .hbm S1x16 .f32
  harg7 : arg7.IsWhole
  arg8 : Memref sig .tc .hbm S1x16 .f32
  harg8 : arg8.IsWhole
  arg9 : Memref sig .tc .hbm S1x16 .f32
  harg9 : arg9.IsWhole
  arg10 : Memref sig .tc .hbm S16x20 .i32
  harg10 : arg10.IsWhole
  arg11 : Memref sig .tc .hbm S1x16 .f32
  harg11 : arg11.IsWhole
  arg12 : Memref sig .tc .hbm S16x20 .f32
  harg12 : arg12.IsWhole
  arg13 : Memref sig .tc .hbm S16x32000 .f32
  harg13 : arg13.IsWhole
  arg14 : Memref sig .tc .hbm S16x12288 .fp8e4m3
  harg14 : arg14.IsWhole
  arg15 : Memref sig .tc .hbm S1x16 .f32
  harg15 : arg15.IsWhole
  arg16 : Memref sig .tc .vmem S14x12288x256 .fp8e4m3
  harg16 : arg16.IsWhole
  arg17 : Memref sig .tc .vmem S16x12288 .bf16
  harg17 : arg17.IsWhole
  arg18 : Memref sig .tc .vmem S1x12288 .f32
  harg18 : arg18.IsWhole
  arg19 : Memref sig .tc .vmem S32000 .f32
  harg19 : arg19.IsWhole
  arg20 : Memref sig .tc .vmem S16x1024 .i32
  harg20 : arg20.IsWhole
  arg21 : Memref sig .tc .vmem S1x16 .i32
  harg21 : arg21.IsWhole
  arg22 : Memref sig .tc .vmem S1x16 .f32
  harg22 : arg22.IsWhole
  arg23 : Memref sig .tc .vmem S1x16 .f32
  harg23 : arg23.IsWhole
  arg24 : Memref sig .tc .vmem S1x16 .f32
  harg24 : arg24.IsWhole
  arg25 : Memref sig .tc .vmem S1x16 .f32
  harg25 : arg25.IsWhole
  arg26 : Memref sig .tc .vmem S16x20 .i32
  harg26 : arg26.IsWhole
  arg27 : Memref sig .tc .vmem S16x12288 .f32
  harg27 : arg27.IsWhole
  arg28 : Memref sig .tc .vmem S16x12288 .fp8e4m3
  harg28 : arg28.IsWhole
  arg29 : Memref sig .tc .vmem S4096x128 .f32
  harg29 : arg29.IsWhole
  arg30 : Memref sig .tc .vmem S16x32000 .f32
  harg30 : arg30.IsWhole
  arg31 : Memref sig .tc .vmem S20x16x128 .i32
  harg31 : arg31.IsWhole
  arg32 : Memref sig .tc .vmem S20x16x128 .f32
  harg32 : arg32.IsWhole
  arg33 : Memref sig .tc .vmem S16x128 .f32
  harg33 : arg33.IsWhole
  arg34 : Memref sig .tc .vmem S16x128 .f32
  harg34 : arg34.IsWhole
  arg35 : Memref sig .tc .vmem S1x16 .f32
  harg35 : arg35.IsWhole
  arg36 : Memref sig .tc .vmem S16x20 .f32
  harg36 : arg36.IsWhole
  arg37 : Memref sig .tc .vmem S1x16 .f32
  harg37 : arg37.IsWhole
  arg38 : DmaSems sig S14
  arg39 : DmaSems sig S10
  arg40 : DmaSems sig S_
  arg41 : DmaSems sig S4

variable (A : Args)

/-- `k0_part1_skel` at the record. -/
abbrev part1 := k0_part1_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part2_skel` at the record. -/
abbrev part2 := k0_part2_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part3_skel` at the record. -/
abbrev part3 := k0_part3_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part4_skel` at the record. -/
abbrev part4 := k0_part4_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part5_skel` at the record. -/
abbrev part5 := k0_part5_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part6_skel` at the record. -/
abbrev part6 := k0_part6_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part7_skel` at the record. -/
abbrev part7 := k0_part7_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part8_skel` at the record. -/
abbrev part8 := k0_part8_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part9_skel` at the record. -/
abbrev part9 := k0_part9_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part10_skel` at the record. -/
abbrev part10 := k0_part10_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part11_skel` at the record. -/
abbrev part11 := k0_part11_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part12_skel` at the record. -/
abbrev part12 := k0_part12_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part13_skel` at the record. -/
abbrev part13 := k0_part13_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part14_skel` at the record. -/
abbrev part14 := k0_part14_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part15_skel` at the record. -/
abbrev part15 := k0_part15_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part16_skel` at the record. -/
abbrev part16 := k0_part16_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part17_skel` at the record. -/
abbrev part17 := k0_part17_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part18_skel` at the record. -/
abbrev part18 := k0_part18_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part19_skel` at the record. -/
abbrev part19 := k0_part19_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part20_skel` at the record. -/
abbrev part20 := k0_part20_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part21_skel` at the record. -/
abbrev part21 := k0_part21_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_part22_skel` at the record. -/
abbrev part22 := k0_part22_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_t1_body` at the record. -/
abbrev t1Body := k0_t1_body (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_t2_body` at the record. -/
abbrev t2Body := k0_t2_body (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_t3_body` at the record. -/
abbrev t3Body := k0_t3_body (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_t4_body` at the record. -/
abbrev t4Body := k0_t4_body (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_t5_body` at the record. -/
abbrev t5Body := k0_t5_body (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_t6_body` at the record. -/
abbrev t6Body := k0_t6_body (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- `k0_t7_body` at the record. -/
abbrev t7Body := k0_t7_body (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

/-- The whole kernel at the record. -/
abbrev whole := cc0_fp8_head_skel (F := F) A.arg0 A.harg0 A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 A.arg21 A.harg21 A.arg22 A.harg22 A.arg23 A.harg23 A.arg24 A.harg24 A.arg25 A.harg25 A.arg26 A.harg26 A.arg27 A.harg27 A.arg28 A.harg28 A.arg29 A.harg29 A.arg30 A.harg30 A.arg31 A.harg31 A.arg32 A.harg32 A.arg33 A.harg33 A.arg34 A.harg34 A.arg35 A.harg35 A.arg36 A.harg36 A.arg37 A.harg37 A.arg38 A.arg39 A.arg40 A.arg41

end Cert.KernelIdeal.Hand

end
-- ==== Proof.KernelIdeal.Spec.lean ====
/-
  What the kernel computes, as functions of its input arrays, written with the kernel's own
  payloads: the sums of squares after each chunk, the normalised activations, their codes.
-/
module

public import proofs.«01_k».proof.Proof.KernelIdeal.Args
public import Idealize.ShloMosaic.Lib.Pointwise.Index

@[expose] public section

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- The values of the kernel's input arrays. -/
structure In (F : FTy → Type) where
  x : Vec F S16x12288 .bf16
  gain : Vec F S1x12288 .f32
  w : Vec F S12288x32000 .fp8e4m3
  ws : Vec F S32000 .f32
  ids : Vec F S16x1024 .i32
  len : Vec F S1x16 .i32
  pres : Vec F S1x16 .f32
  freq : Vec F S1x16 .f32
  rep : Vec F S1x16 .f32
  temp : Vec F S1x16 .f32
  cand : Vec F S16x20 .i32

variable (I : In F)

/-! ## Blocks of the arrays -/

/-- Columns `1024 k + j` of a (16, 12288) array. -/
def colsX {V : Type} (x : S16x12288.Idx → V) (k : ℕ) : S16x1024.Idx → V := fun j =>
  x (ix2 (j 0) ⟨(1024 * k + (j 1).val) % 12288, Nat.mod_lt _ (by decide)⟩)

/-- Columns `1024 k + j` of a (1, 12288) array. -/
def colsG {V : Type} (x : S1x12288.Idx → V) (k : ℕ) : S1x1024.Idx → V := fun j =>
  x (ix2 (j 0) ⟨(1024 * k + (j 1).val) % 12288, Nat.mod_lt _ (by decide)⟩)

/-- Half `h` (columns `6144 h + j`) of a (16, 12288) array. -/
def halfX {V : Type} (x : S16x12288.Idx → V) (h : ℕ) : S16x6144.Idx → V := fun j =>
  x (ix2 (j 0) ⟨(6144 * h + (j 1).val) % 12288, Nat.mod_lt _ (by decide)⟩)

/-- Rows `6144 h + j`, columns `256 k + l` of the weights. -/
def halfW {V : Type} (x : S12288x32000.Idx → V) (k h : ℕ) : S1x6144x256.Idx → V := fun j =>
  x (ix2 ⟨(6144 * h + (j 1).val) % 12288, Nat.mod_lt _ (by decide)⟩ ⟨(256 * k + (j 2).val) % 32000, Nat.mod_lt _ (by decide)⟩)

/-- Entries `256 k + 128 h + j` of a (32000,) array. -/
def cols128 {V : Type} (x : S32000.Idx → V) (k h : ℕ) : S128.Idx → V := fun j =>
  x (ix1 ⟨(256 * k + 128 * h + (j 0).val) % 32000, Nat.mod_lt _ (by decide)⟩)

/-- Rows `32 k + 16 h + j` of the counts. -/
def rowsC {V : Type} (x : S4096x128.Idx → V) (k h : ℕ) : S16x128.Idx → V := fun j =>
  x (ix2 ⟨(32 * k + 16 * h + (j 0).val) % 4096, Nat.mod_lt _ (by decide)⟩ (j 1))

/-- Row `b` of a (16, 1024) array. -/
def rowI {V : Type} (x : S16x1024.Idx → V) (b : ℕ) : S1x1024.Idx → V := fun j =>
  x (ix2 ⟨b % 16, Nat.mod_lt _ (by decide)⟩ (j 1))

/-- Plane `j` of a (20, 16, 128) array. -/
def plane {V : Type} (x : S20x16x128.Idx → V) (j : ℕ) : S1x16x128.Idx → V := fun i =>
  x (ix3 ⟨j % 20, Nat.mod_lt _ (by decide)⟩ (i 1) (i 2))

/-! ## The quantised activations -/

/-- The running sums of squares before chunk `k` of the first pass. -/
def sqAt : ℕ → FVec F S16x1024 .f32
  | 0 => k0_pay43
  | k + 1 => k0_pay44 (sqAt k) (colsX I.x k)

/-- The sums of squares the first pass leaves. -/
def sq : FVec F S16x1024 .f32 := sqAt I 12

/-- The normalised activations. -/
def yv : FVec F S16x12288 .f32 := fun i =>
  k0_pay46 (sq I) (colsX I.x ((i 1).val / 1024)) (colsG I.gain ((i 1).val / 1024)) (ix2 (i 0) ⟨(i 1).val % 1024, Nat.mod_lt _ (by decide)⟩)

/-- The running maxima of the magnitudes before chunk `k` of the second pass. -/
def amaxAt : ℕ → FVec F S16x1024 .f32
  | 0 => k0_pay43
  | k + 1 => k0_pay47 (sq I) (amaxAt k) (colsX I.x k) (colsG I.gain k)

/-- Each row's largest magnitude over the largest code. -/
def av : FVec F S16x1 .f32 := k0_pay48 (amaxAt I 12)

/-- The codes. -/
def codesv : Vec F S16x12288 .fp8e4m3 := fun i =>
  k0_pay51 (av I) k0_pay49 (colsX (yv I) ((i 1).val / 1024)) (ix2 (i 0) ⟨(i 1).val % 1024, Nat.mod_lt _ (by decide)⟩)

/-- The scales, as a column. -/
def xsCol : FVec F S16x1 .f32 := k0_pay52 (av I) k0_pay49

/-- The scales, as the row the kernel returns. -/
def xsv : FVec F S1x16 .f32 := k0_pay54 (k0_pay53 (av I) k0_pay49)

/-! ## The counts of the vocabulary -/

/-- The history with its padding sent past the vocabulary. -/
def idsv : IVec S16x1024 32 := k0_pay55 (F := F) I.len I.ids

/-- The counts: row `16 q + b` holds the counts of sequence `b` for entries `128 q + j`. -/
def cntv : FVec F S4096x128 .f32 := fun i =>
  k0_pay56 (rowI (idsv I) ((i 0).val % 16)) (ix2 ⟨(i 0).val / 16, by have := (i 0).isLt; change _ < 4096 at this; change _ < 256; omega⟩ (i 1))

/-! ## The rows' parameters, broadcast over 128 columns -/

def xsB : FVec F S16x128 .f32 := k0_pay57 (xsCol I)
def presB : FVec F S16x128 .f32 := k0_pay58 I.pres
def freqB : FVec F S16x128 .f32 := k0_pay59 I.freq
def repB : FVec F S16x128 .f32 := k0_pay60 I.rep
def tempB : FVec F S16x128 .f32 := k0_pay61 I.temp

/-! ## The logits of block `k` -/

/-- The product of the codes with the block's weights. -/
def prodv (k : ℕ) : FVec F S16x256 .f32 := k0_pay1 (halfX (codesv I) 0) (halfW I.w k 0) (halfX (codesv I) 1) (halfW I.w k 1)

/-- The first half's scaled product. -/
def za (k : ℕ) : FVec F S16x128 .f32 :=
  k0_pay2 (xsB I) (halfX (codesv I) 0) (halfW I.w k 0) (halfX (codesv I) 1) (halfW I.w k 1) (cols128 I.ws k 0)

/-- The first half's logits. -/
def z0 (k : ℕ) : FVec F S16x128 .f32 := k0_pay4 (presB I) (freqB I) (repB I) (tempB I) (za I k) (rowsC (cntv I) k 0) k0_pay3

/-- The second half's product with the frequency and repetition penalties applied. -/
def zb (k : ℕ) : FVec F S16x128 .f32 := k0_pay8 (xsB I) (freqB I) (repB I) (prodv I k) (cols128 I.ws k 1) (rowsC (cntv I) k 1)

/-- Whether an entry of the second half has been seen. -/
def zs (k : ℕ) : FVec F S16x128 .f32 := k0_pay9 (rowsC (cntv I) k 1)

/-- The second half's logits. -/
def z1 (k : ℕ) : FVec F S16x128 .f32 := k0_pay10 (presB I) (tempB I) (zb I k) (zs I k)

/-- The logits. -/
def zv : FVec F S16x32000 .f32 := fun i =>
  if (i 1).val / 128 % 2 = 0 then
    k0_pay5 (presB I) (freqB I) (repB I) (tempB I) (za I ((i 1).val / 256)) (rowsC (cntv I) ((i 1).val / 256) 0) k0_pay3
      (ix2 (i 0) ⟨(i 1).val % 128, Nat.mod_lt _ (by decide)⟩)
  else
    k0_pay11 (presB I) (tempB I) (zb I ((i 1).val / 256)) (zs I ((i 1).val / 256)) (ix2 (i 0) ⟨(i 1).val % 128, Nat.mod_lt _ (by decide)⟩)

/-! ## The running maximum, the running sum and the candidates' logits before block `k` -/

def mAt : ℕ → FVec F S16x128 .f32
  | 0 => k0_pay65 k0_pay64
  | k + 1 => k0_pay14 (presB I) (tempB I) (z0 I k) (zb I k) (zs I k) (mAt k)

def sAt : ℕ → FVec F S16x128 .f32
  | 0 => k0_pay66
  | k + 1 => k0_pay15 (presB I) (tempB I) (z0 I k) (zb I k) (zs I k) (mAt I k) (sAt k)

/-- The columns of the first and second half of block `k`. -/
def pos0 (k : ℕ) : IVec S16x128 32 := k0_pay6 (BitVec.ofNat 32 (256 * k))
def pos1 (k : ℕ) : IVec S16x128 32 := k0_pay12 (BitVec.ofNat 32 (256 * k + 128))

/-- The candidates, each broadcast over a plane. -/
def candv : IVec S20x16x128 32 := fun i =>
  k0_pay62 (F := F) ⟨(i 0).val, (i 0).isLt⟩ I.cand (ix3 0 (i 1) (i 2))

/-- One candidate's plane after the two halves of a block. -/
def mix (a : FVec F S16x128 .f32) (pa : IVec S16x128 32) (b : FVec F S16x128 .f32) (pb : IVec S16x128 32)
    (acc : Vec F S1x16x128 .f32) (cand : Vec F S1x16x128 .i32) : FVec F S1x16x128 .f32 :=
  k0_pay18 a pa b pb acc cand cand

/-- All candidates' planes after a block. -/
def mixAll (k : ℕ) (acc : FVec F S20x16x128 .f32) : FVec F S20x16x128 .f32 := fun i =>
  mix (z0 I k) (pos0 k) (z1 I k) (pos1 k) (plane acc (i 0).val) (plane (candv I) (i 0).val) (ix3 0 (i 1) (i 2))

def accAt : ℕ → FVec F S20x16x128 .f32
  | 0 => fun i => k0_pay63 (ix3 0 (i 1) (i 2))
  | k + 1 => mixAll I k (accAt k)

/-! ## The log of the sum of exponentials and the candidates -/

def lseCol : FVec F S16x1 .f32 := k0_pay68 (mAt I 125) (sAt I 125)
def lsev : FVec F S1x16 .f32 := k0_pay69 (mAt I 125) (sAt I 125)

def clpv : FVec F S16x20 .f32 := fun i => k0_pay70 (lseCol I) (plane (accAt I 125) (i 1).val) (ix2 (i 0) 0)

end Cert.KernelIdeal.Hand

end
-- ==== Proof.KernelIdeal.Loops.lean ====
module

public import proofs.«01_k».proof.Proof.Own
public import proofs.«01_k».proof.Proof.Geo
public import proofs.«01_k».proof.Proof.KernelIdeal.Spec
public import Idealize.ShloMosaic.Lib.Pipeline.Routed

@[expose] public section

noncomputable section

namespace Cert.KernelIdeal.Hand

open Cert.KernelIdeal Cert.KernelIdeal.Gen Cert.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

variable (𝒱 : Variants) (c : Dev nD) (A : Args) (I : In F)

/-! ## What the loads read -/

theorem ld_x4 {V : Type} (x : S16x12288.Idx → V) (k : Fin k0_t2_loop.trips) :
    (fun j => x ((Rect.unit (s := S16x12288) (k0_off4 k) S16x1024.size (k0_off4_inb k)).toLoadRect.idx j)) = colsX x k.val := by
  have hk : k.val < 12 := Nat.lt_of_lt_of_le k.isLt k0_t2_abs.2.1
  funext j
  have h1 : (j 1).val < 1024 := (j 1).isLt
  exact congrArg x (idx2 (k0_off4_eq k) (by show (j 0).val = 0 + (j 0).val; omega) (by show (1024 * k.val + (j 1).val) % 12288 = 1024 * k.val + (j 1).val; omega))

theorem ld_x5 {V : Type} (x : S16x12288.Idx → V) (k : Fin k0_t3_loop.trips) :
    (fun j => x ((Rect.unit (s := S16x12288) (k0_off5 k) S16x1024.size (k0_off5_inb k)).toLoadRect.idx j)) = colsX x k.val := by
  have hk : k.val < 12 := Nat.lt_of_lt_of_le k.isLt k0_t3_abs.2.1
  funext j
  have h1 : (j 1).val < 1024 := (j 1).isLt
  exact congrArg x (idx2 (k0_off5_eq k) (by show (j 0).val = 0 + (j 0).val; omega) (by show (1024 * k.val + (j 1).val) % 12288 = 1024 * k.val + (j 1).val; omega))

theorem ld_g6 {V : Type} (x : S1x12288.Idx → V) (k : Fin k0_t3_loop.trips) :
    (fun j => x ((Rect.unit (s := S1x12288) (k0_off6 k) S1x1024.size (k0_off6_inb k)).toLoadRect.idx j)) = colsG x k.val := by
  have hk : k.val < 12 := Nat.lt_of_lt_of_le k.isLt k0_t3_abs.2.1
  funext j
  have h1 : (j 1).val < 1024 := (j 1).isLt
  exact congrArg x (idx2 (k0_off6_eq k) (by show (j 0).val = 0 + (j 0).val; omega) (by show (1024 * k.val + (j 1).val) % 12288 = 1024 * k.val + (j 1).val; omega))

theorem ld_x7 {V : Type} (x : S16x12288.Idx → V) (k : Fin k0_t4_loop.trips) :
    (fun j => x ((Rect.unit (s := S16x12288) (k0_off7 k) S16x1024.size (k0_off7_inb k)).toLoadRect.idx j)) = colsX x k.val := by
  have hk : k.val < 12 := Nat.lt_of_lt_of_le k.isLt k0_t4_abs.2.1
  funext j
  have h1 : (j 1).val < 1024 := (j 1).isLt
  exact congrArg x (idx2 (k0_off7_eq k) (by show (j 0).val = 0 + (j 0).val; omega) (by show (1024 * k.val + (j 1).val) % 12288 = 1024 * k.val + (j 1).val; omega))

theorem ld_i8 {V : Type} (x : S16x1024.Idx → V) (k : Fin k0_t5_loop.trips) :
    (fun j => x ((Rect.unit (s := S16x1024) (k0_off8 k) S1x1024.size (k0_off8_inb k)).toLoadRect.idx j)) = rowI x k.val := by
  have hk : k.val < 16 := Nat.lt_of_lt_of_le k.isLt k0_t5_abs.2.1
  funext j
  have h0 : (j 0).val < 1 := (j 0).isLt
  exact congrArg x (idx2 (k0_off8_eq k) (by show k.val % 16 = k.val + (j 0).val; omega) (by show (j 1).val = 0 + (j 1).val; omega))

theorem ld_all2 {n0 n1 : ℕ} {V : Type} (x : (⟨2, ![n0, n1]⟩ : Shape).Idx → V) {inb} :
    (fun j => x ((Rect.unit (s := ⟨2, ![n0, n1]⟩) ![0, 0] ![n0, n1] inb).toLoadRect.idx j)) = x := by
  funext j
  exact (congrArg x (idx2 (p := j 0) (q := j 1) rfl (Nat.zero_add _).symm (Nat.zero_add _).symm)).trans (congrArg x (ix2_eta j))

/-- An array given chunk by chunk, at an element of chunk `k`. -/
theorem chunk_at {V : Type} (f : ℕ → S16x1024.Idx → V) {k : ℕ} (hk : k < 12) (r : S16x12288.Idx → V)
    (hr : ∀ i, r i = f ((i 1).val / 1024) (ix2 (i 0) ⟨(i 1).val % 1024, Nat.mod_lt _ (by decide)⟩))
    {off : Fin 2 → ℕ} {inb} (ho : off = ![0, 1024 * k]) (j : S16x1024.Idx) :
    r ((Rect.unit (s := S16x12288) off S16x1024.size inb).toLoadRect.idx j) = f k j := by
  have h1 : (j 1).val < 1024 := (j 1).isLt
  refine (congrArg r (idx2 (size := S16x1024.size) (inb := inb) ho (p := j 0) (q := ⟨1024 * k + (j 1).val, by omega⟩) (Nat.zero_add _).symm rfl)).trans ?_
  rw [hr]
  have e1 : (1024 * k + (j 1).val) / 1024 = k := by omega
  have e2 : (1024 * k + (j 1).val) % 1024 = (j 1).val := by omega
  show f ((1024 * k + (j 1).val) / 1024) (ix2 (j 0) ⟨(1024 * k + (j 1).val) % 1024, _⟩) = f k j
  rw [e1]
  refine congrArg (f k) (Eq.trans ?_ (ix2_eta j))
  exact congrArg (ix2 (j 0)) (Fin.ext e2)

theorem chunk_set {k : ℕ} {off : Fin 2 → ℕ} {inb} (ho : off = ![0, 1024 * k]) (i : S16x12288.Idx) :
    i ∈ (Rect.unit (s := S16x12288) off S16x1024.size inb).set ↔ (i 1).val / 1024 = k := by
  rw [mem2 ho]
  have h0 : (i 0).val < 16 := (i 0).isLt
  show ((0 ≤ (i 0).val ∧ (i 0).val < 0 + 16) ∧ (1024 * k ≤ (i 1).val ∧ (i 1).val < 1024 * k + 1024)) ↔ _
  omega

/-- Stage of an element written in chunks of 1024 columns. -/
def pX (i : S16x12288.Idx) : ℕ := (i 1).val / 1024

theorem t2_trip (k : Fin k0_t2_loop.trips) (acc : FVec F S16x1024 .f32) :
    iprop(own (c : Thread nD τ) A.arg17 Finset.univ fullShare I.x ∗ ⌜acc = sqAt I k.val⌝)
      ⊢ wp (M := 𝕄) frame (wpE (defs₀ (F := F)) 𝒱 (c : Thread nD τ) none) Set.univ (t2Body A k acc)
          fun r => iprop(own (c : Thread nD τ) A.arg17 Finset.univ fullShare I.x ∗ ⌜r = sqAt I (k.val + 1)⌝) := by
  unfold t2Body k0_t2_body
  simp only [Prog.bind_lift]
  iintro ⟨H, %hacc⟩
  iapply (wp_load_own 𝒱 (c : Thread nD τ) none (Finset.subset_univ _)) $$ H; iintro H
  sl_step
  isplitl [H]; · iexact H
  ipureintro
  subst hacc
  rw [ld_x4]; rfl

theorem t3_trip (k : Fin k0_t3_loop.trips) (acc : FVec F S16x1024 .f32) (y0 : FVec F S16x12288 .f32) :
    iprop(own (c : Thread nD τ) A.arg17 Finset.univ fullShare I.x ∗ own (c : Thread nD τ) A.arg18 Finset.univ fullShare I.gain
        ∗ own (c : Thread nD τ) A.arg27 Finset.univ fullShare (upto pX k.val (yv I) y0) ∗ ⌜acc = amaxAt I k.val⌝)
      ⊢ wp (M := 𝕄) frame (wpE (defs₀ (F := F)) 𝒱 (c : Thread nD τ) none) Set.univ (t3Body A (sq I) k acc)
          fun r => iprop(own (c : Thread nD τ) A.arg17 Finset.univ fullShare I.x ∗ own (c : Thread nD τ) A.arg18 Finset.univ fullShare I.gain
            ∗ own (c : Thread nD τ) A.arg27 Finset.univ fullShare (upto pX (k.val + 1) (yv I) y0) ∗ ⌜r = amaxAt I (k.val + 1)⌝) := by
  have hk : k.val < 12 := Nat.lt_of_lt_of_le k.isLt k0_t3_abs.2.1
  unfold t3Body k0_t3_body
  simp only [Prog.bind_lift]
  iintro ⟨HX, HG, HY, %hacc⟩
  iapply (wp_load_own 𝒱 (c : Thread nD τ) none (Finset.subset_univ _)) $$ HX; iintro HX
  iapply (wp_load_own 𝒱 (c : Thread nD τ) none (Finset.subset_univ _)) $$ HG; iintro HG
  iapply (wp_load_own 𝒱 (c : Thread nD τ) none (Finset.subset_univ _)) $$ HY; iintro HY
  iapply (wp_store_upto 𝒱 (c : Thread nD τ) none pX k.val (yv I) y0 (fun i => chunk_set (k0_off5_eq k) i) (fun i _ => Finset.mem_univ i) (fun j => ?_)) $$ HY
  · rw [ld_x5, ld_g6]
    exact chunk_at (fun k => k0_pay46 (sq I) (colsX I.x k) (colsG I.gain k)) hk (yv I) (fun _ => rfl) (k0_off5_eq k) j
  iintro HY
  sl_step
  isplitl [HX]; · iexact HX
  isplitl [HG]; · iexact HG
  isplitl [HY]; · iexact HY
  ipureintro; subst hacc; rw [ld_x5, ld_g6]; rfl

theorem t4_trip (k : Fin k0_t4_loop.trips) (y0 : Vec F S16x12288 .fp8e4m3) :
    iprop(own (c : Thread nD τ) A.arg27 Finset.univ fullShare (yv I) ∗ own (c : Thread nD τ) A.arg28 Finset.univ fullShare (upto pX k.val (codesv I) y0))
      ⊢ wp (M := 𝕄) frame (wpE (defs₀ (F := F)) 𝒱 (c : Thread nD τ) none) Set.univ (t4Body A (av I) k0_pay49 k ())
          fun _ => iprop(own (c : Thread nD τ) A.arg27 Finset.univ fullShare (yv I) ∗ own (c : Thread nD τ) A.arg28 Finset.univ fullShare (upto pX (k.val + 1) (codesv I) y0)) := by
  have hk : k.val < 12 := Nat.lt_of_lt_of_le k.isLt k0_t4_abs.2.1
  unfold t4Body k0_t4_body
  simp only [Prog.bind_lift]
  iintro ⟨HX, HY⟩
  iapply (wp_load_own 𝒱 (c : Thread nD τ) none (Finset.subset_univ _)) $$ HX; iintro HX
  iapply (wp_load_own 𝒱 (c : Thread nD τ) none (Finset.subset_univ _)) $$ HY; iintro HY
  iapply (wp_store_upto 𝒱 (c : Thread nD τ) none pX k.val (codesv I) y0 (fun i => chunk_set (k0_off7_eq k) i) (fun i _ => Finset.mem_univ i) (fun j => ?_)) $$ HY
  · rw [ld_x7]
    exact chunk_at (fun k => k0_pay51 (av I) k0_pay49 (colsX (yv I) k)) hk (codesv I) (fun _ => rfl) (k0_off7_eq k) j
  iintro HY
  sl_step
  isplitl [HX]; · iexact HX
  iexact HY

/-- Stage of an element of the counts: its sequence. -/
def pC (i : S4096x128.Idx) : ℕ := (i 0).val % 16

theorem t5_trip (k : Fin k0_t5_loop.trips) (v88 : FVec F S16x1 .f32) (v98 : FVec F S1x16 .f32) (y0 : FVec F S4096x128 .f32) :
    iprop(own (c : Thread nD τ) A.arg20 Finset.univ fullShare (idsv I) ∗ own (c : Thread nD τ) A.arg29 Finset.univ fullShare (upto pC k.val (cntv I) y0))
      ⊢ wp (M := 𝕄) frame (wpE (defs₀ (F := F)) 𝒱 (c : Thread nD τ) none) Set.univ (t5Body A v88 v98 k ())
          fun _ => iprop(own (c : Thread nD τ) A.arg20 Finset.univ fullShare (idsv I) ∗ own (c : Thread nD τ) A.arg29 Finset.univ fullShare (upto pC (k.val + 1) (cntv I) y0)) := by
  have hk : k.val < 16 := Nat.lt_of_lt_of_le k.isLt k0_t5_abs.2.1
  unfold t5Body k0_t5_body
  simp only [Prog.bind_lift]
  iintro ⟨HX, HY⟩
  iapply (wp_load_own 𝒱 (c : Thread nD τ) none (Finset.subset_univ _)) $$ HX; iintro HX
  iapply (wp_load_own 𝒱 (c : Thread nD τ) none (Finset.subset_univ _)) $$ HY; iintro HY
  iapply (wp_store_upto 𝒱 (c : Thread nD τ) none pC k.val (cntv I) y0 (fun i => ?_) (fun i _ => Finset.mem_univ i) (fun j => ?_)) $$ HY
  · rw [LoadRect.mem_set]
    have h0 : (i 0).val < 4096 := (i 0).isLt
    have h1 : (i 1).val < 128 := (i 1).isLt
    have o0 : k0_off9 k 0 = k.val := congrFun (k0_off9_eq k) 0
    have o1 : k0_off9 k 1 = 0 := congrFun (k0_off9_eq k) 1
    constructor
    · intro H
      obtain ⟨q, hq, e⟩ := H 0
      have e : (i 0).val = k0_off9 k 0 + 16 * q := e
      show (i 0).val % 16 = k.val
      omega
    · intro H a
      have H : (i 0).val % 16 = k.val := H
      match a with
      | ⟨0, _⟩ => exact ⟨(i 0).val / 16, by show _ < 256; omega, by show (i 0).val = k0_off9 k 0 + 16 * _; omega⟩
      | ⟨1, _⟩ => exact ⟨(i 1).val, h1, by show (i 1).val = k0_off9 k 1 + 1 * _; omega⟩
  · rw [ld_i8]
    have h0 : (j 0).val < 256 := (j 0).isLt
    have h1 : (j 1).val < 128 := (j 1).isLt
    have o0 : k0_off9 k 0 = k.val := congrFun (k0_off9_eq k) 0
    have o1 : k0_off9 k 1 = 0 := congrFun (k0_off9_eq k) 1
    have e : (⟨k0_off9 k, S256x128.size, ![16, 1], k0_off9_inb k⟩ : LoadRect S4096x128).idx j
        = ix2 ⟨k.val + 16 * (j 0).val, by omega⟩ (j 1) := by
      funext a
      match a with
      | ⟨0, _⟩ => exact Fin.ext (by show k0_off9 k 0 + 16 * (j 0).val = k.val + 16 * (j 0).val; omega)
      | ⟨1, _⟩ => exact Fin.ext (by show k0_off9 k 1 + 1 * (j 1).val = (j 1).val; omega)
    refine (congrArg (cntv I) e).trans ?_
    have e1 : (k.val + 16 * (j 0).val) % 16 = k.val := by omega
    have e2 : (k.val + 16 * (j 0).val) / 16 = (j 0).val := by omega
    show k0_pay56 (rowI (idsv I) ((k.val + 16 * (j 0).val) % 16)) (ix2 ⟨(k.val + 16 * (j 0).val) / 16, _⟩ (j 1)) = k0_pay56 (rowI (idsv I) k.val) j
    rw [e1]
    refine congrArg (k0_pay56 (rowI (idsv I) k.val)) (Eq.trans ?_ (ix2_eta j))
    exact congrArg (fun q => ix2 q (j 1)) (Fin.ext e2)
  iintro HY
  sl_step
  isplitl [HX]; · iexact HX
  iexact HY

/-- Plane of a candidate. -/
def pP (i : S20x16x128.Idx) : ℕ := (i 0).val

theorem plane_set {j : ℕ} {off : Fin 3 → ℕ} {inb} (ho : off = ![j, 0, 0]) (i : S20x16x128.Idx) :
    i ∈ (Rect.unit (s := S20x16x128) off S1x16x128.size inb).set ↔ pP i = j := by
  rw [mem3 ho]
  have h1 : (i 1).val < 16 := (i 1).isLt
  have h2 : (i 2).val < 128 := (i 2).isLt
  show ((j ≤ (i 0).val ∧ (i 0).val < j + 1) ∧ (0 ≤ (i 1).val ∧ (i 1).val < 0 + 16) ∧ (0 ≤ (i 2).val ∧ (i 2).val < 0 + 128)) ↔ (i 0).val = j
  omega

theorem plane_idx {j : ℕ} (hj : j < 20) {off : Fin 3 → ℕ} {inb} (ho : off = ![j, 0, 0]) (i : S1x16x128.Idx) :
    (Rect.unit (s := S20x16x128) off S1x16x128.size inb).toLoadRect.idx i = ix3 ⟨j, hj⟩ (i 1) (i 2) := by
  have h0 : (i 0).val < 1 := (i 0).isLt
  exact idx3 ho (by show j = j + (i 0).val; omega) (Nat.zero_add _).symm (Nat.zero_add _).symm

theorem ix3_zero (i : S1x16x128.Idx) : (ix3 0 (i 1) (i 2) : S1x16x128.Idx) = i :=
  (congrArg (fun q => ix3 q (i 1) (i 2)) (Fin.ext (by have h0 : (i 0).val < 1 := (i 0).isLt; show 0 = (i 0).val; omega))).trans (ix3_eta i)

theorem t6_trip (k : Fin k0_t6_loop.trips) (y0 : IVec S20x16x128 32) (z0 : FVec F S20x16x128 .f32) :
    iprop(own (c : Thread nD τ) A.arg26 Finset.univ fullShare I.cand ∗ own (c : Thread nD τ) A.arg31 Finset.univ fullShare (upto pP k.val (candv I) y0)
        ∗ own (c : Thread nD τ) A.arg32 Finset.univ fullShare (upto pP k.val (accAt I 0) z0))
      ⊢ wp (M := 𝕄) frame (wpE (defs₀ (F := F)) 𝒱 (c : Thread nD τ) none) Set.univ (t6Body A k ())
          fun _ => iprop(own (c : Thread nD τ) A.arg26 Finset.univ fullShare I.cand ∗ own (c : Thread nD τ) A.arg31 Finset.univ fullShare (upto pP (k.val + 1) (candv I) y0)
            ∗ own (c : Thread nD τ) A.arg32 Finset.univ fullShare (upto pP (k.val + 1) (accAt I 0) z0)) := by
  have hk : k.val < 20 := Nat.lt_of_lt_of_le k.isLt k0_t6_abs.2.1
  unfold t6Body k0_t6_body
  simp only [Prog.bind_lift]
  iintro ⟨HX, HY, HZ⟩
  iapply (wp_load_own 𝒱 (c : Thread nD τ) none (Finset.subset_univ _)) $$ HX; iintro HX
  iapply (wp_load_own 𝒱 (c : Thread nD τ) none (Finset.subset_univ _)) $$ HY; iintro HY
  iapply (wp_store_upto 𝒱 (c : Thread nD τ) none pP k.val (candv I) y0 (fun i => plane_set (k0_off10_eq k) i) (fun i _ => Finset.mem_univ i) (fun j => ?_)) $$ HY
  · refine (congrArg (candv I) (plane_idx hk (k0_off10_eq k) j)).trans ?_
    rw [ld_all2]
    exact congrArg (k0_pay62 k I.cand) (ix3_zero j)
  iintro HY
  iapply (wp_load_own 𝒱 (c : Thread nD τ) none (Finset.subset_univ _)) $$ HZ; iintro HZ
  iapply (wp_store_upto 𝒱 (c : Thread nD τ) none pP k.val (accAt I 0) z0 (fun i => plane_set (k0_off10_eq k) i) (fun i _ => Finset.mem_univ i) (fun j => ?_)) $$ HZ
  · refine (congrArg (accAt I 0) (plane_idx hk (k0_off10_eq k) j)).trans ?_
    exact congrArg k0_pay63 (ix3_zero j)
  iintro HZ
  sl_step
  isplitl [HX]; · iexact HX
  isplitl [HY]; · iexact HY
  iexact HZ

end Cert.KernelIdeal.Hand

end
-- ==== Proof.KernelIdeal.Copies.lean ====
/-
  The transfers of the kernel's loops: a slab of weights into a slot of the ring, a block of logits
  out to the result; and the loop that starts the first fourteen slabs.
-/
module

public import proofs.«01_k».proof.Proof.KernelIdeal.Loops

@[expose] public section

noncomputable section

namespace Cert.KernelIdeal.Hand

open Cert.KernelIdeal Cert.KernelIdeal.Gen Cert.Own
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

variable (𝒱 : Variants) (c : Dev nD) (A : Args) (I : In F)

/-- The embedding of the transfers' counters. -/
abbrev EC : UEmb Counters 𝕄 := countersEmb (U := UC sig nD τ)

/-! ## Semaphores, slots and blocks -/

/-- The cell of slot `s` of the ring. -/
def wsem (s : ℕ) : DmaSem sig := A.arg38.ix (ix1 ⟨s % 14, Nat.mod_lt _ (by decide)⟩)

theorem wsem_eq {s : ℕ} (hs : s < 14) {off : Fin 1 → ℕ} {inb} (ho : off = ![s]) :
    ((A.arg38.slice (Rect.unit (s := S14) off S1.size inb)).squeeze S_ squeezes_S1_S_).sem = wsem A s := by
  refine congrArg A.arg38.ix (idx1 ho ?_)
  have h0 : ∀ q : Fin 1, q.val = 0 := fun q => by omega
  exact (Nat.mod_eq_of_lt hs).trans ((Nat.add_zero s).symm.trans (congrArg (s + ·) (h0 _).symm))

/-- The elements of slot `s` of the ring. -/
def slotSet (s : ℕ) : Finset S14x12288x256.Idx := Finset.univ.filter fun i => (i 0).val = s

/-- The elements of block `b` of the weights. -/
def wblk (b : ℕ) : Finset S12288x32000.Idx := Finset.univ.filter fun i => (i 1).val / 256 = b

/-- The elements of block `b` of the logits. -/
def zblk (b : ℕ) : Finset S16x32000.Idx := Finset.univ.filter fun i => (i 1).val / 256 = b

/-- The ring's values where a slot holds block `b`. -/
def ringv (b : ℕ) : S14x12288x256.Idx → Elt F .fp8e4m3 := fun i =>
  I.w (ix2 (i 1) ⟨(256 * b + (i 2).val) % 32000, Nat.mod_lt _ (by decide)⟩)

/-- What a slab's transfer delivers: block `b` in slot `s`, and the weights back. -/
def slabD (b s : ℕ) : sProp 𝕄 :=
  iprop(own (c : Thread nD τ) A.arg16 (slotSet s) fullShare (ringv I b) ∗ own (c : Thread nD τ) A.arg2 (wblk b) fullShare I.w)

/-- The amount of a slab's transfer. -/
def wN : ℕ := sig.dmaCredit .tc (Kind.tc.table .vmem) A.arg16.view.buf S12288x256 .fp8e4m3

theorem wN_pos : 0 < wN A := sig.dmaCredit_pos _ _ _ _ _ (by decide)

/-- The amount of a block's transfer. -/
def zN : ℕ := sig.dmaCredit .tc (Kind.tc.table .hbm) A.arg13.view.buf S16x256 .f32

theorem zN_pos : 0 < zN A := sig.dmaCredit_pos _ _ _ _ _ (by decide)

/-- What a block's transfer delivers: the logits in the result, and the scratch back. -/
def zD (t : Fin 125) : sProp 𝕄 :=
  iprop(own (c : Thread nD τ) A.arg13 (zblk t.val) fullShare (zv I) ∗ own (c : Thread nD τ) A.arg30 (zblk t.val) fullShare (zv I))

instance (t : Fin 125) : Storable (upEmb : UEmb _ 𝕄) (zD c A I t) := by unfold zD; infer_instance

theorem slot_set {s : ℕ} {off : Fin 3 → ℕ} {inb} (ho : off = ![s, 0, 0]) :
    (Rect.unit (s := S14x12288x256) off S1x12288x256.size inb).set = slotSet s := by
  ext i
  rw [mem3 ho, slotSet, Finset.mem_filter]
  have h1 : (i 1).val < 12288 := (i 1).isLt
  have h2 : (i 2).val < 256 := (i 2).isLt
  show ((s ≤ (i 0).val ∧ (i 0).val < s + 1) ∧ (0 ≤ (i 1).val ∧ (i 1).val < 0 + 12288) ∧ (0 ≤ (i 2).val ∧ (i 2).val < 0 + 256)) ↔ (_ ∧ (i 0).val = s)
  constructor
  · intro H; exact ⟨Finset.mem_univ _, by omega⟩
  · intro H; have := H.2; omega

theorem wblk_set {b : ℕ} {off : Fin 2 → ℕ} {inb} (ho : off = ![0, 256 * b]) :
    (Rect.unit (s := S12288x32000) off S12288x256.size inb).set = wblk b := by
  ext i
  rw [mem2 ho, wblk, Finset.mem_filter]
  have h0 : (i 0).val < 12288 := (i 0).isLt
  show ((0 ≤ (i 0).val ∧ (i 0).val < 0 + 12288) ∧ (256 * b ≤ (i 1).val ∧ (i 1).val < 256 * b + 256)) ↔ (_ ∧ (i 1).val / 256 = b)
  constructor
  · intro H; exact ⟨Finset.mem_univ _, by omega⟩
  · intro H; have := H.2; omega

theorem zblk_set {b : ℕ} {off : Fin 2 → ℕ} {inb} (ho : off = ![0, 256 * b]) :
    (Rect.unit (s := S16x32000) off S16x256.size inb).set = zblk b := by
  ext i
  rw [mem2 ho, zblk, Finset.mem_filter]
  have h0 : (i 0).val < 16 := (i 0).isLt
  show ((0 ≤ (i 0).val ∧ (i 0).val < 0 + 16) ∧ (256 * b ≤ (i 1).val ∧ (i 1).val < 256 * b + 256)) ↔ (_ ∧ (i 1).val / 256 = b)
  constructor
  · intro H; exact ⟨Finset.mem_univ _, by omega⟩
  · intro H; have := H.2; omega

/-! ## The two transfers -/

/-- The transfer of block `b` of the weights into slot `s`. -/
theorem slab_copy {α : Type} {Q : α → sProp 𝕄} {b s : ℕ} (hb : b < 125) (hs : s < 14) {o1 : Fin 1 → ℕ} {o3 : Fin 3 → ℕ} {o2 : Fin 2 → ℕ} {inb1 inb3 inb2}
    (h1 : o1 = ![s]) (h3 : o3 = ![s, 0, 0]) (h2 : o2 = ![0, 256 * b]) {hr3 hr2} (y : S14x12288x256.Idx → Elt F .fp8e4m3)
    {hsrc hdst hsem} {k : PUnit → Prog (TpuEff nD τ sig (Elt F) Λ₀ .tc) α} :
    iprop(own (c : Thread nD τ) A.arg2 (wblk b) fullShare I.w ∗ own (c : Thread nD τ) A.arg16 (slotSet s) fullShare y
        ∗ semVal ((c : Thread nD τ), .dma (wsem A s)) 0)
      ⊢ iprop((Flight EC (c : Thread nD τ) (.dma (wsem A s)) () (wN A) (slabD c A I b s)
              -∗ wp frame (wpE (defs₀ (F := F)) 𝒱 (c : Thread nD τ) none) Set.univ (k ⟨⟩) Q)
          -∗ wp frame (wpE (defs₀ (F := F)) 𝒱 (c : Thread nD τ) none) Set.univ
            (.op (.enqueueDma (A.arg2.slice (Rect.unit (s := S12288x32000) o2 S12288x256.size inb2) hr2)
              (.here ((A.arg16.slice (Rect.unit (s := S14x12288x256) o3 S1x12288x256.size inb3) hr3).squeeze S12288x256 squeezes_S1x12288x256_S12288x256))
              (.dma ((A.arg38.slice (Rect.unit (s := S14) o1 S1.size inb1)).squeeze S_ squeezes_S1_S_).sem) hsrc hdst hsem) k) Q) := by
  rw [← wsem_eq A hs (inb := inb1) h1]
  rw [← wblk_set (inb := inb2) h2, ← slot_set (inb := inb3) h3, ← own_slice (hr := hr2), ← own_slice (hr := hr3), ← own_squeeze (h := squeezes_S1x12288x256_S12288x256)]
  iintro H Hk
  iapply (wp_dma_own 𝒱 (c : Thread nD τ) none EC () (wN A) rfl (wN_pos A)) $$ H
  iintro HF
  iapply Hk
  iapply (Flight_mono (D' := slabD c A I b s) (h := ?_)) $$ HF
  have hx : (own (c : Thread nD τ) ((A.arg16.slice (Rect.unit (s := S14x12288x256) o3 S1x12288x256.size inb3) hr3).squeeze S12288x256 squeezes_S1x12288x256_S12288x256)
      Finset.univ fullShare (fun j => I.w ((Rect.unit (s := S12288x32000) o2 S12288x256.size inb2).emb j)) : sProp 𝕄)
      = own (c : Thread nD τ) A.arg16 (slotSet s) fullShare (ringv I b) := by
    rw [← slot_set (inb := inb3) h3, ← own_slice (hr := hr3), ← own_squeeze (h := squeezes_S1x12288x256_S12288x256)]
    refine own_congr fun j _ => ?_
    have hj1 : (j 1).val < 256 := (j 1).isLt
    have e1 : (Rect.unit (s := S12288x32000) o2 S12288x256.size inb2).emb j = ix2 (j 0) ⟨256 * b + (j 1).val, by omega⟩ :=
      idx2 h2 (Nat.zero_add _).symm rfl
    have e2 : Shape.reshapeEquiv squeezes_S1x12288x256_S12288x256.numel_eq j = ix3 (0 : Fin 1) (j 0) (j 1) :=
      (Shape.reshapeEquiv_cons_one (d := S12288x256.size) _ j).trans (funext fun a => match a with | ⟨0, _⟩ => rfl | ⟨1, _⟩ => rfl | ⟨2, _⟩ => rfl)
    have e3 : (Rect.unit (s := S14x12288x256) o3 S1x12288x256.size inb3).emb (ix3 (0 : Fin 1) (j 0) (j 1)) = ix3 ⟨s, hs⟩ (j 0) (j 1) :=
      idx3 h3 rfl (Nat.zero_add _).symm (Nat.zero_add _).symm
    refine (congrArg I.w e1).trans (Eq.trans ?_ ((congrArg (ringv I b) ((congrArg _ e2).trans e3)).symm))
    show I.w _ = I.w (ix2 (j 0) ⟨(256 * b + (j 1).val) % 32000, _⟩)
    exact congrArg (fun q => I.w (ix2 (j 0) q)) (Fin.ext (by show 256 * b + (j 1).val = (256 * b + (j 1).val) % 32000; omega))
  have hw : (own (c : Thread nD τ) (A.arg2.slice (Rect.unit (s := S12288x32000) o2 S12288x256.size inb2) hr2) Finset.univ fullShare
      (fun j => I.w ((Rect.unit (s := S12288x32000) o2 S12288x256.size inb2).emb j)) : sProp 𝕄)
      = own (c : Thread nD τ) A.arg2 (wblk b) fullShare I.w := by
    rw [own_slice, wblk_set h2]
  show iprop(_ ∗ _) ⊢ iprop(_ ∗ _)
  rw [← hx, ← hw]
  exact .rfl

/-- The transfer of block `b` of the logits out of the scratch. -/
theorem block_copy {α : Type} {Q : α → sProp 𝕄} {b : ℕ} (hb : b < 125) {o1 o2 : Fin 2 → ℕ} {inb1 inb2} (h1 : o1 = ![0, 256 * b]) (h2 : o2 = ![0, 256 * b]) {hr1 hr2}
    (y : S16x32000.Idx → Elt F .f32)
    {hsrc hdst hsem} {k : PUnit → Prog (TpuEff nD τ sig (Elt F) Λ₀ .tc) α} :
    iprop(own (c : Thread nD τ) A.arg30 (zblk b) fullShare (zv I) ∗ own (c : Thread nD τ) A.arg13 (zblk b) fullShare y
        ∗ Batch EC (c : Thread nD τ) (.dma A.arg40.sem) () (zN A) (zD c A I) b 0)
      ⊢ iprop((Batch EC (c : Thread nD τ) (.dma A.arg40.sem) () (zN A) (zD c A I) (b + 1) 0
              -∗ wp frame (wpE (defs₀ (F := F)) 𝒱 (c : Thread nD τ) none) Set.univ (k ⟨⟩) Q)
          -∗ wp frame (wpE (defs₀ (F := F)) 𝒱 (c : Thread nD τ) none) Set.univ
            (.op (.enqueueDma (A.arg30.slice (Rect.unit (s := S16x32000) o1 S16x256.size inb1) hr1)
              (.here (A.arg13.slice (Rect.unit (s := S16x32000) o2 S16x256.size inb2) hr2))
              (.dma A.arg40.sem) hsrc hdst hsem) k) Q) := by
  subst h1 h2
  have e := zblk_set (b := b) (inb := inb1) rfl
  rw [← e, ← own_slice (hr := hr1), ← own_slice (c := (c : Thread nD τ)) (m := A.arg13) (r := Rect.unit (s := S16x32000) ![0, 256 * b] S16x256.size inb2) (hr := hr2)]
  refine wp_dmaBatch_own 𝒱 (c : Thread nD τ) none EC () (zN A) rfl hb (Nat.zero_le _) ?_
  have e1 : (own (c : Thread nD τ) (A.arg13.slice (Rect.unit (s := S16x32000) ![0, 256 * b] S16x256.size inb2) hr2) Finset.univ fullShare
      (fun j => zv I ((Rect.unit (s := S16x32000) ![0, 256 * b] S16x256.size inb1).emb j)) : sProp 𝕄)
      = own (c : Thread nD τ) A.arg13 (zblk b) fullShare (zv I) := by rw [own_slice, e]
  have e2 : (own (c : Thread nD τ) (A.arg30.slice (Rect.unit (s := S16x32000) ![0, 256 * b] S16x256.size inb1) hr1) Finset.univ fullShare
      (fun j => zv I ((Rect.unit (s := S16x32000) ![0, 256 * b] S16x256.size inb1).emb j)) : sProp 𝕄)
      = own (c : Thread nD τ) A.arg30 (zblk b) fullShare (zv I) := by rw [own_slice, e]
  show iprop(_ ∗ _) ⊢ iprop(_ ∗ _)
  rw [← e1, ← e2]

/-! ## The ring's slots -/

/-- A slot with nothing in flight. -/
def slotFree (s : ℕ) : sProp 𝕄 :=
  iprop((∃ y : S14x12288x256.Idx → Elt F .fp8e4m3, own (c : Thread nD τ) A.arg16 (slotSet s) fullShare y) ∗ semVal ((c : Thread nD τ), .dma (wsem A s)) 0)

/-- A slot with block `b` on its way. -/
def slotBusy (b s : ℕ) : sProp 𝕄 := Flight EC (c : Thread nD τ) (.dma (wsem A s)) () (wN A) (slabD c A I b s)

/-- The slots while the first slabs are started: those below `k` are busy. -/
def slotsUp (k s : ℕ) : sProp 𝕄 := if s < k then slotBusy c A I s s else slotFree c A s

/-- The block in slot `s` before block `k` is taken up. -/
def slotb (k s : ℕ) : ℕ := k + (s + 14 - k % 14) % 14

/-- The slots before block `k` is taken up. -/
def slotsAt (k s : ℕ) : sProp 𝕄 := if slotb k s < 125 then slotBusy c A I (slotb k s) s else slotFree c A s

theorem slotsAt_next {k s : ℕ} (hs : s < 14) (h : s ≠ k % 14) : slotsAt c A I (k + 1) s = slotsAt c A I k s := by
  have e : slotb (k + 1) s = slotb k s := by unfold slotb; omega
  unfold slotsAt; rw [e]

theorem slotsAt_zero : bigSep (Finset.range 14) (slotsUp c A I 14) = bigSep (Finset.range 14) (slotsAt c A I 0) := by
  refine bigSep_congr fun s hs => ?_
  have hs := Finset.mem_range.mp hs
  have e : slotb 0 s = s := by unfold slotb; omega
  unfold slotsUp slotsAt
  rw [e, if_pos hs, if_pos (by omega)]

/-- The weights from block `k` on. -/
def wfrom (k : ℕ) : Finset S12288x32000.Idx := Finset.univ.filter fun i => k ≤ (i 1).val / 256

theorem wfrom_split (k : ℕ) : (own (c : Thread nD τ) A.arg2 (wfrom k) fullShare I.w : sProp 𝕄)
    = iprop(own (c : Thread nD τ) A.arg2 (wblk k) fullShare I.w ∗ own (c : Thread nD τ) A.arg2 (wfrom (k + 1)) fullShare I.w) := by
  have e : wfrom k = wblk k ∪ wfrom (k + 1) := by
    ext i; simp only [wfrom, wblk, Finset.mem_union, Finset.mem_filter_univ]; omega
  rw [e, own_union]
  rw [Finset.disjoint_left]; intro i; simp only [wfrom, wblk, Finset.mem_filter_univ]; omega

/-- One of the slots apart from the others. -/
theorem slot_take {t : ℕ} (ht : t < 14) (P : ℕ → sProp 𝕄) :
    bigSep (Finset.range 14) P = iprop(P t ∗ bigSep ((Finset.range 14).erase t) P) := bigSep_erase (Finset.mem_range.mpr ht)

theorem t1_trip (k : Fin k0_t1_loop.trips) :
    iprop(bigSep (Finset.range 14) (slotsUp c A I k.val) ∗ own (c : Thread nD τ) A.arg2 (wfrom k.val) fullShare I.w)
      ⊢ wp (M := 𝕄) frame (wpE (defs₀ (F := F)) 𝒱 (c : Thread nD τ) none) Set.univ (t1Body A k ())
          fun _ => iprop(bigSep (Finset.range 14) (slotsUp c A I (k.val + 1)) ∗ own (c : Thread nD τ) A.arg2 (wfrom (k.val + 1)) fullShare I.w) := by
  have hk : k.val < 14 := Nat.lt_of_lt_of_le k.isLt k0_t1_abs.2.1
  have e1 : slotsUp c A I k.val k.val = slotFree c A k.val := if_neg (Nat.lt_irrefl _)
  have e2 : slotsUp c A I (k.val + 1) k.val = slotBusy c A I k.val k.val := if_pos (Nat.lt_succ_self _)
  have e3 : bigSep ((Finset.range 14).erase k.val) (slotsUp c A I k.val) = bigSep ((Finset.range 14).erase k.val) (slotsUp c A I (k.val + 1)) := by
    refine bigSep_congr fun s hs => ?_
    have hne := (Finset.mem_erase.mp hs).1
    unfold slotsUp
    by_cases h : s < k.val
    · rw [if_pos h, if_pos (by omega)]
    · rw [if_neg h, if_neg (by omega)]
  rw [slot_take hk, slot_take hk (slotsUp c A I (k.val + 1)), e1, e2, e3, wfrom_split]
  unfold t1Body k0_t1_body slotFree
  simp only [Prog.bind_lift]
  iintro ⟨⟨⟨⟨%y, HS⟩, Hv⟩, Hrest⟩, HW, HW'⟩
  iapply (slab_copy 𝒱 c A I (by omega) hk (k0_off1_eq k) (k0_off2_eq k) (k0_off3_eq k) y) $$ [HW HS Hv]
  · isplitl [HW]; · iexact HW
    isplitl [HS]; · iexact HS
    iexact Hv
  iintro HF
  sl_step
  isplitr [HW']
  · isplitl [HF]; · unfold slotBusy; iexact HF
    iexact Hrest
  iexact HW'

end Cert.KernelIdeal.Hand

end
-- ==== Proof.KernelIdeal.Cands.lean ====
/-
  The candidates' rows within one trip of the main loop: each row is loaded, mixed with the
  block's two halves, and stored.
-/
module

public import proofs.«01_k».proof.Proof.KernelIdeal.Copies

@[expose] public section

noncomputable section

namespace Cert.KernelIdeal.Hand

open Cert.KernelIdeal Cert.KernelIdeal.Gen Cert.Own
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

variable (𝒱 : Variants) (c : Dev nD) (A : Args) (I : In F)

/-- The candidates' array, held. -/
def candsH : sProp 𝕄 := own (c : Thread nD τ) A.arg31 Finset.univ fullShare (candv I)

/-- The candidates' logits while block `k` is mixed in: rows below `j` are done. -/
def accH (k : ℕ) (acc : FVec F S20x16x128 .f32) (j : ℕ) : sProp 𝕄 :=
  own (c : Thread nD τ) A.arg32 Finset.univ fullShare (upto pP j (mixAll I k acc) acc)

theorem plane_read {V : Type} (x : S20x16x128.Idx → V) {j : ℕ} (hj : j < 20) {inb} :
    (fun i => x ((Rect.unit (s := S20x16x128) ![j, 0, 0] S1x16x128.size inb).toLoadRect.idx i)) = plane x j := by
  funext i
  refine (congrArg x (plane_idx hj rfl i)).trans ?_
  exact congrArg (fun q => x (ix3 q (i 1) (i 2))) (Fin.ext (Nat.mod_eq_of_lt hj).symm)

/-- A load of a candidate's row. -/
theorem load_cand {α : Type} {Q : α → sProp 𝕄} {j : ℕ} (hj : j < 20) {inb hl} {k : (S1x16x128.Idx → Elt F .i32) → Prog (TpuEff nD τ sig (Elt F) Λ₀ .tc) α} :
    candsH c A I ⊢ iprop((candsH c A I -∗ wp (M := 𝕄) frame (wpE (defs₀ (F := F)) 𝒱 (c : Thread nD τ) none) Set.univ (k (plane (candv I) j)) Q)
      -∗ wp (M := 𝕄) frame (wpE (defs₀ (F := F)) 𝒱 (c : Thread nD τ) none) Set.univ
          ((.op (.load A.arg31 (Rect.unit (s := S20x16x128) ![j, 0, 0] S1x16x128.size inb).toLoadRect hl) k : Prog (TpuEff nD τ sig (Elt F) Λ₀ .tc) α)) Q) := by
  rw [← plane_read (inb := inb) (candv I) hj]
  exact wp_load_own 𝒱 (c : Thread nD τ) none (Finset.subset_univ _)

/-- A load of a candidate's logits not yet mixed. -/
theorem load_acc {α : Type} {Q : α → sProp 𝕄} {n : ℕ} {acc : FVec F S20x16x128 .f32} {j : ℕ} (hj : j < 20) {inb hl} {k : (S1x16x128.Idx → Elt F .f32) → Prog (TpuEff nD τ sig (Elt F) Λ₀ .tc) α} :
    accH c A I n acc j ⊢ iprop((accH c A I n acc j -∗ wp (M := 𝕄) frame (wpE (defs₀ (F := F)) 𝒱 (c : Thread nD τ) none) Set.univ (k (plane acc j)) Q)
      -∗ wp (M := 𝕄) frame (wpE (defs₀ (F := F)) 𝒱 (c : Thread nD τ) none) Set.univ
          ((.op (.load A.arg32 (Rect.unit (s := S20x16x128) ![j, 0, 0] S1x16x128.size inb).toLoadRect hl) k : Prog (TpuEff nD τ sig (Elt F) Λ₀ .tc) α)) Q) := by
  have e : plane acc j = (fun i => upto pP j (mixAll I n acc) acc ((Rect.unit (s := S20x16x128) ![j, 0, 0] S1x16x128.size inb).toLoadRect.idx i)) := by
    rw [← plane_read (inb := inb) acc hj]
    funext i
    exact (upto_not ((plane_set rfl _).mp (LoadRect.idx_mem _ i)).ge).symm
  rw [e]
  exact wp_load_own 𝒱 (c : Thread nD τ) none (Finset.subset_univ _)

/-- A store of a candidate's mixed logits. -/
theorem store_acc {α : Type} {Q : α → sProp 𝕄} {n : ℕ} {acc : FVec F S20x16x128 .f32} {j : ℕ} (hj : j < 20) {inb hx hm} {w : FVec F S1x16x128 .f32}
    (hw : w = mix (z0 I n) (pos0 n) (z1 I n) (pos1 n) (plane acc j) (plane (candv I) j))
    {k : PUnit → Prog (TpuEff nD τ sig (Elt F) Λ₀ .tc) α} :
    accH c A I n acc j ⊢ iprop((accH c A I n acc (j + 1) -∗ wp (M := 𝕄) frame (wpE (defs₀ (F := F)) 𝒱 (c : Thread nD τ) none) Set.univ (k ⟨⟩) Q)
      -∗ wp (M := 𝕄) frame (wpE (defs₀ (F := F)) 𝒱 (c : Thread nD τ) none) Set.univ
          (.op (.store A.arg32 (Rect.unit (s := S20x16x128) ![j, 0, 0] S1x16x128.size inb) w Finset.univ hx hm) k) Q) := by
  have e : ∀ i, mixAll I n acc ((Rect.unit (s := S20x16x128) ![j, 0, 0] S1x16x128.size inb).toLoadRect.idx i) = w i := by
    intro i
    rw [plane_idx hj rfl i, hw]
    exact congrArg (mix (z0 I n) (pos0 n) (z1 I n) (pos1 n) (plane acc j) (plane (candv I) j)) (ix3_zero i)
  have es : ∀ i, i ∈ (Rect.unit (s := S20x16x128) ![j, 0, 0] S1x16x128.size inb).set ↔ pP i = j := fun i => plane_set rfl i
  unfold accH
  generalize mixAll I n acc = M at e ⊢
  iintro HZ Hk
  iapply (wp_store_upto 𝒱 (c : Thread nD τ) none pP j M acc es (fun i _ => Finset.mem_univ i) e) $$ HZ
  iexact Hk

/-! ## The parts -/

theorem part4_spec (k : ℕ) (acc : FVec F S20x16x128 .f32) :
    iprop(candsH c A I ∗ accH c A I k acc 0)
      ⊢ wp (M := 𝕄) frame (wpE (defs₀ (F := F)) 𝒱 (c : Thread nD τ) none) Set.univ (part4 A (z0 I k) (pos0 k) (z1 I k) (pos1 k) (k0_pay16 (presB I) (tempB I) (z0 I k) (pos0 k) (BitVec.ofNat 32 (256 * k + 128)) (zb I k) (zs I k) (plane acc 0) (plane (candv I) 0) (plane (candv I) 0)))
          fun _ => iprop(candsH c A I ∗ accH c A I k acc 3) := by
  unfold part4 k0_part4_skel
  simp only [Prog.bind_lift]
  iintro ⟨HC, HA⟩
  iapply (load_acc 𝒱 c A I (by decide)) $$ HA; iintro HA
  iapply (store_acc 𝒱 c A I (by decide) rfl) $$ HA; iintro HA
  iapply (load_acc 𝒱 c A I (by decide)) $$ HA; iintro HA
  iapply (load_cand 𝒱 c A I (by decide)) $$ HC; iintro HC
  iapply (load_cand 𝒱 c A I (by decide)) $$ HC; iintro HC
  iapply (load_acc 𝒱 c A I (by decide)) $$ HA; iintro HA
  iapply (store_acc 𝒱 c A I (by decide) rfl) $$ HA; iintro HA
  iapply (load_acc 𝒱 c A I (by decide)) $$ HA; iintro HA
  iapply (load_cand 𝒱 c A I (by decide)) $$ HC; iintro HC
  iapply (load_cand 𝒱 c A I (by decide)) $$ HC; iintro HC
  iapply (load_acc 𝒱 c A I (by decide)) $$ HA; iintro HA
  iapply (store_acc 𝒱 c A I (by decide) rfl) $$ HA; iintro HA
  sl_step
  isplitl [HC]; · iexact HC
  iexact HA

theorem part5_spec (k : ℕ) (acc : FVec F S20x16x128 .f32) :
    iprop(candsH c A I ∗ accH c A I k acc 3)
      ⊢ wp (M := 𝕄) frame (wpE (defs₀ (F := F)) 𝒱 (c : Thread nD τ) none) Set.univ (part5 A (z0 I k) (pos0 k) (z1 I k) (pos1 k))
          fun r => iprop(candsH c A I ∗ accH c A I k acc 5 ∗ ⌜r = ⟨k0_pay22 (plane acc 5), (plane (candv I) 5)⟩⌝) := by
  unfold part5 k0_part5_skel
  simp only [Prog.bind_lift]
  iintro ⟨HC, HA⟩
  iapply (load_acc 𝒱 c A I (by decide)) $$ HA; iintro HA
  iapply (load_cand 𝒱 c A I (by decide)) $$ HC; iintro HC
  iapply (load_cand 𝒱 c A I (by decide)) $$ HC; iintro HC
  iapply (load_acc 𝒱 c A I (by decide)) $$ HA; iintro HA
  iapply (store_acc 𝒱 c A I (by decide) rfl) $$ HA; iintro HA
  iapply (load_acc 𝒱 c A I (by decide)) $$ HA; iintro HA
  iapply (load_cand 𝒱 c A I (by decide)) $$ HC; iintro HC
  iapply (load_cand 𝒱 c A I (by decide)) $$ HC; iintro HC
  iapply (load_acc 𝒱 c A I (by decide)) $$ HA; iintro HA
  iapply (store_acc 𝒱 c A I (by decide) rfl) $$ HA; iintro HA
  iapply (load_acc 𝒱 c A I (by decide)) $$ HA; iintro HA
  iapply (load_cand 𝒱 c A I (by decide)) $$ HC; iintro HC
  sl_step
  isplitl [HC]; · iexact HC
  isplitl [HA]; · iexact HA
  ipureintro; rfl

theorem part6_spec (k : ℕ) (acc : FVec F S20x16x128 .f32) :
    iprop(candsH c A I ∗ accH c A I k acc 5)
      ⊢ wp (M := 𝕄) frame (wpE (defs₀ (F := F)) 𝒱 (c : Thread nD τ) none) Set.univ (part6 A (z0 I k) (pos0 k) (z1 I k) (pos1 k) (k0_pay22 (plane acc 5)) (plane (candv I) 5))
          fun r => iprop(candsH c A I ∗ accH c A I k acc 7 ∗ ⌜r = ⟨k0_pay25 (z0 I k) (pos0 k) (plane acc 7) (plane (candv I) 7), k0_pay26 (F := F) (plane (candv I) 7)⟩⌝) := by
  unfold part6 k0_part6_skel
  simp only [Prog.bind_lift]
  iintro ⟨HC, HA⟩
  iapply (load_cand 𝒱 c A I (by decide)) $$ HC; iintro HC
  iapply (load_acc 𝒱 c A I (by decide)) $$ HA; iintro HA
  iapply (store_acc 𝒱 c A I (by decide) rfl) $$ HA; iintro HA
  iapply (load_acc 𝒱 c A I (by decide)) $$ HA; iintro HA
  iapply (load_cand 𝒱 c A I (by decide)) $$ HC; iintro HC
  iapply (load_cand 𝒱 c A I (by decide)) $$ HC; iintro HC
  iapply (load_acc 𝒱 c A I (by decide)) $$ HA; iintro HA
  iapply (store_acc 𝒱 c A I (by decide) rfl) $$ HA; iintro HA
  iapply (load_acc 𝒱 c A I (by decide)) $$ HA; iintro HA
  iapply (load_cand 𝒱 c A I (by decide)) $$ HC; iintro HC
  iapply (load_cand 𝒱 c A I (by decide)) $$ HC; iintro HC
  sl_step
  isplitl [HC]; · iexact HC
  isplitl [HA]; · iexact HA
  ipureintro; rfl

theorem part7_spec (k : ℕ) (acc : FVec F S20x16x128 .f32) :
    iprop(candsH c A I ∗ accH c A I k acc 7)
      ⊢ wp (M := 𝕄) frame (wpE (defs₀ (F := F)) 𝒱 (c : Thread nD τ) none) Set.univ (part7 A (z0 I k) (pos0 k) (z1 I k) (pos1 k) (k0_pay25 (z0 I k) (pos0 k) (plane acc 7) (plane (candv I) 7)) (k0_pay26 (F := F) (plane (candv I) 7)))
          fun r => iprop(candsH c A I ∗ accH c A I k acc 9 ∗ ⌜r = k0_pay29 (z0 I k) (pos0 k) (z1 I k) (pos1 k) (plane acc 9) (plane (candv I) 9) (plane (candv I) 9)⌝) := by
  unfold part7 k0_part7_skel
  simp only [Prog.bind_lift]
  iintro ⟨HC, HA⟩
  iapply (load_acc 𝒱 c A I (by decide)) $$ HA; iintro HA
  iapply (store_acc 𝒱 c A I (by decide) rfl) $$ HA; iintro HA
  iapply (load_acc 𝒱 c A I (by decide)) $$ HA; iintro HA
  iapply (load_cand 𝒱 c A I (by decide)) $$ HC; iintro HC
  iapply (load_cand 𝒱 c A I (by decide)) $$ HC; iintro HC
  iapply (load_acc 𝒱 c A I (by decide)) $$ HA; iintro HA
  iapply (store_acc 𝒱 c A I (by decide) rfl) $$ HA; iintro HA
  iapply (load_acc 𝒱 c A I (by decide)) $$ HA; iintro HA
  iapply (load_cand 𝒱 c A I (by decide)) $$ HC; iintro HC
  iapply (load_cand 𝒱 c A I (by decide)) $$ HC; iintro HC
  iapply (load_acc 𝒱 c A I (by decide)) $$ HA; iintro HA
  sl_step
  isplitl [HC]; · iexact HC
  isplitl [HA]; · iexact HA
  ipureintro; rfl

theorem part8_spec (k : ℕ) (acc : FVec F S20x16x128 .f32) :
    iprop(candsH c A I ∗ accH c A I k acc 9)
      ⊢ wp (M := 𝕄) frame (wpE (defs₀ (F := F)) 𝒱 (c : Thread nD τ) none) Set.univ (part8 A (z0 I k) (pos0 k) (z1 I k) (pos1 k) (k0_pay29 (z0 I k) (pos0 k) (z1 I k) (pos1 k) (plane acc 9) (plane (candv I) 9) (plane (candv I) 9)))
          fun r => iprop(candsH c A I ∗ accH c A I k acc 12 ∗ ⌜r = k0_pay32 (plane acc 12)⌝) := by
  unfold part8 k0_part8_skel
  simp only [Prog.bind_lift]
  iintro ⟨HC, HA⟩
  iapply (store_acc 𝒱 c A I (by decide) rfl) $$ HA; iintro HA
  iapply (load_acc 𝒱 c A I (by decide)) $$ HA; iintro HA
  iapply (load_cand 𝒱 c A I (by decide)) $$ HC; iintro HC
  iapply (load_cand 𝒱 c A I (by decide)) $$ HC; iintro HC
  iapply (load_acc 𝒱 c A I (by decide)) $$ HA; iintro HA
  iapply (store_acc 𝒱 c A I (by decide) rfl) $$ HA; iintro HA
  iapply (load_acc 𝒱 c A I (by decide)) $$ HA; iintro HA
  iapply (load_cand 𝒱 c A I (by decide)) $$ HC; iintro HC
  iapply (load_cand 𝒱 c A I (by decide)) $$ HC; iintro HC
  iapply (load_acc 𝒱 c A I (by decide)) $$ HA; iintro HA
  iapply (store_acc 𝒱 c A I (by decide) rfl) $$ HA; iintro HA
  iapply (load_acc 𝒱 c A I (by decide)) $$ HA; iintro HA
  sl_step
  isplitl [HC]; · iexact HC
  isplitl [HA]; · iexact HA
  ipureintro; rfl

theorem part9_spec (k : ℕ) (acc : FVec F S20x16x128 .f32) :
    iprop(candsH c A I ∗ accH c A I k acc 12)
      ⊢ wp (M := 𝕄) frame (wpE (defs₀ (F := F)) 𝒱 (c : Thread nD τ) none) Set.univ (part9 A (z0 I k) (pos0 k) (z1 I k) (pos1 k) (k0_pay32 (plane acc 12)))
          fun r => iprop(candsH c A I ∗ accH c A I k acc 14 ∗ ⌜r = k0_pay35 (z0 I k) (pos0 k) (plane acc 14) (plane (candv I) 14)⌝) := by
  unfold part9 k0_part9_skel
  simp only [Prog.bind_lift]
  iintro ⟨HC, HA⟩
  iapply (load_cand 𝒱 c A I (by decide)) $$ HC; iintro HC
  iapply (load_cand 𝒱 c A I (by decide)) $$ HC; iintro HC
  iapply (load_acc 𝒱 c A I (by decide)) $$ HA; iintro HA
  iapply (store_acc 𝒱 c A I (by decide) rfl) $$ HA; iintro HA
  iapply (load_acc 𝒱 c A I (by decide)) $$ HA; iintro HA
  iapply (load_cand 𝒱 c A I (by decide)) $$ HC; iintro HC
  iapply (load_cand 𝒱 c A I (by decide)) $$ HC; iintro HC
  iapply (load_acc 𝒱 c A I (by decide)) $$ HA; iintro HA
  iapply (store_acc 𝒱 c A I (by decide) rfl) $$ HA; iintro HA
  iapply (load_acc 𝒱 c A I (by decide)) $$ HA; iintro HA
  iapply (load_cand 𝒱 c A I (by decide)) $$ HC; iintro HC
  sl_step
  isplitl [HC]; · iexact HC
  isplitl [HA]; · iexact HA
  ipureintro; rfl

theorem part10_spec (k : ℕ) (acc : FVec F S20x16x128 .f32) :
    iprop(candsH c A I ∗ accH c A I k acc 14)
      ⊢ wp (M := 𝕄) frame (wpE (defs₀ (F := F)) 𝒱 (c : Thread nD τ) none) Set.univ (part10 A (z0 I k) (pos0 k) (z1 I k) (pos1 k) (k0_pay35 (z0 I k) (pos0 k) (plane acc 14) (plane (candv I) 14)))
          fun r => iprop(candsH c A I ∗ accH c A I k acc 16 ∗ ⌜r = ⟨k0_pay38 (z0 I k) (pos0 k) (z1 I k) (pos1 k) (plane acc 16) (plane (candv I) 16) (plane (candv I) 16), (plane acc 16)⟩⌝) := by
  unfold part10 k0_part10_skel
  simp only [Prog.bind_lift]
  iintro ⟨HC, HA⟩
  iapply (load_cand 𝒱 c A I (by decide)) $$ HC; iintro HC
  iapply (load_acc 𝒱 c A I (by decide)) $$ HA; iintro HA
  iapply (store_acc 𝒱 c A I (by decide) rfl) $$ HA; iintro HA
  iapply (load_acc 𝒱 c A I (by decide)) $$ HA; iintro HA
  iapply (load_cand 𝒱 c A I (by decide)) $$ HC; iintro HC
  iapply (load_cand 𝒱 c A I (by decide)) $$ HC; iintro HC
  iapply (load_acc 𝒱 c A I (by decide)) $$ HA; iintro HA
  iapply (store_acc 𝒱 c A I (by decide) rfl) $$ HA; iintro HA
  iapply (load_acc 𝒱 c A I (by decide)) $$ HA; iintro HA
  iapply (load_cand 𝒱 c A I (by decide)) $$ HC; iintro HC
  iapply (load_cand 𝒱 c A I (by decide)) $$ HC; iintro HC
  iapply (load_acc 𝒱 c A I (by decide)) $$ HA; iintro HA
  sl_step
  isplitl [HC]; · iexact HC
  isplitl [HA]; · iexact HA
  ipureintro; rfl

theorem part11_spec (k : ℕ) (acc : FVec F S20x16x128 .f32) :
    iprop(candsH c A I ∗ accH c A I k acc 16)
      ⊢ wp (M := 𝕄) frame (wpE (defs₀ (F := F)) 𝒱 (c : Thread nD τ) none) Set.univ (part11 A (z0 I k) (pos0 k) (z1 I k) (pos1 k) (k0_pay38 (z0 I k) (pos0 k) (z1 I k) (pos1 k) (plane acc 16) (plane (candv I) 16) (plane (candv I) 16)) (plane acc 16))
          fun r => iprop(candsH c A I ∗ accH c A I k acc 19 ∗ ⌜r = k0_pay42 (plane acc 19)⌝) := by
  unfold part11 k0_part11_skel
  simp only [Prog.bind_lift]
  iintro ⟨HC, HA⟩
  iapply (store_acc 𝒱 c A I (by decide) rfl) $$ HA; iintro HA
  iapply (load_acc 𝒱 c A I (by decide)) $$ HA; iintro HA
  iapply (load_cand 𝒱 c A I (by decide)) $$ HC; iintro HC
  iapply (load_cand 𝒱 c A I (by decide)) $$ HC; iintro HC
  iapply (load_acc 𝒱 c A I (by decide)) $$ HA; iintro HA
  iapply (store_acc 𝒱 c A I (by decide) rfl) $$ HA; iintro HA
  iapply (load_acc 𝒱 c A I (by decide)) $$ HA; iintro HA
  iapply (load_cand 𝒱 c A I (by decide)) $$ HC; iintro HC
  iapply (load_cand 𝒱 c A I (by decide)) $$ HC; iintro HC
  iapply (load_acc 𝒱 c A I (by decide)) $$ HA; iintro HA
  iapply (store_acc 𝒱 c A I (by decide) rfl) $$ HA; iintro HA
  iapply (load_acc 𝒱 c A I (by decide)) $$ HA; iintro HA
  sl_step
  isplitl [HC]; · iexact HC
  isplitl [HA]; · iexact HA
  ipureintro; rfl

end Cert.KernelIdeal.Hand

end
-- ==== Proof.KernelIdeal.Block.lean ====
/-
  One block of the main loop up to the candidates: wait for the block's weights, load the
  operands, store the two halves of the logits, fold them into the running maximum and sum.
-/
module

public import proofs.«01_k».proof.Proof.KernelIdeal.Cands

@[expose] public section

noncomputable section

namespace Cert.KernelIdeal.Hand

open Cert.KernelIdeal Cert.KernelIdeal.Gen Cert.Own
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

variable (𝒱 : Variants) (c : Dev nD) (A : Args) (I : In F)

/-- A part of a program, by its specification. -/
theorem wp_part {α β : Type} {P : sProp 𝕄} {p : Prog (TpuEff nD τ sig (Elt F) Λ₀ .tc) β} {R : β → sProp 𝕄} {Q : α → sProp 𝕄}
    {k : β → Prog (TpuEff nD τ sig (Elt F) Λ₀ .tc) α}
    (h : P ⊢ wp (M := 𝕄) frame (wpE (defs₀ (F := F)) 𝒱 (c : Thread nD τ) none) Set.univ p R) :
    P ⊢ iprop((∀ r, R r -∗ wp (M := 𝕄) frame (wpE (defs₀ (F := F)) 𝒱 (c : Thread nD τ) none) Set.univ (k r) Q)
      -∗ wp (M := 𝕄) frame (wpE (defs₀ (F := F)) 𝒱 (c : Thread nD τ) none) Set.univ (p >>= k) Q) := by
  rw [wp_bind]
  iintro HP HK
  iapply (wp_wand_r frame (wpE (defs₀ (F := F)) 𝒱 (c : Thread nD τ) none) Set.univ)
  isplitl [HP]
  · iapply h; iexact HP
  · iintro %r HR
    iapply HK; iexact HR

/-! ## What the loads read -/

theorem ld_codes {V : Type} (x : S16x12288.Idx → V) {h : ℕ} (hh : h < 2) {off : Fin 2 → ℕ} {inb} (ho : off = ![0, 6144 * h]) :
    (fun j => x ((Rect.unit (s := S16x12288) off S16x6144.size inb).toLoadRect.idx j)) = halfX x h := by
  funext j
  have h1 : (j 1).val < 6144 := (j 1).isLt
  exact congrArg x (idx2 ho (by show (j 0).val = 0 + (j 0).val; omega) (by show (6144 * h + (j 1).val) % 12288 = 6144 * h + (j 1).val; omega))

theorem ld_ring {b s h : ℕ} (hb : b < 125) (hs : s < 14) (hh : h < 2) {off : Fin 3 → ℕ} {inb} (ho : off = ![s, 6144 * h, 0]) :
    (fun j => ringv I b ((Rect.unit (s := S14x12288x256) off S1x6144x256.size inb).toLoadRect.idx j)) = halfW I.w b h := by
  funext j
  have h0 : (j 0).val < 1 := (j 0).isLt
  have h1 : (j 1).val < 6144 := (j 1).isLt
  have h2 : (j 2).val < 256 := (j 2).isLt
  have e : (Rect.unit (s := S14x12288x256) off S1x6144x256.size inb).toLoadRect.idx j
      = ix3 ⟨s, hs⟩ ⟨(6144 * h + (j 1).val) % 12288, Nat.mod_lt _ (by decide)⟩ (j 2) :=
    idx3 ho (by show s = s + (j 0).val; omega) (by show (6144 * h + (j 1).val) % 12288 = 6144 * h + (j 1).val; omega) (Nat.zero_add _).symm
  exact congrArg (ringv I b) e

theorem ring_sub {s h : ℕ} {off : Fin 3 → ℕ} {inb} (ho : off = ![s, 6144 * h, 0]) :
    (Rect.unit (s := S14x12288x256) off S1x6144x256.size inb).toLoadRect.set ⊆ slotSet s := by
  intro i hi
  have hi := (mem3 (size := S1x6144x256.size) (inb := inb) ho).mp hi
  have h0 : s ≤ (i 0).val ∧ (i 0).val < s + 1 := hi.1
  rw [slotSet, Finset.mem_filter_univ]; omega

theorem ld_ws {V : Type} (x : S32000.Idx → V) {b h : ℕ} (hb : b < 125) (hh : h < 2) {off : Fin 1 → ℕ} {inb} (ho : off = ![256 * b + 128 * h]) :
    (fun j => x ((Rect.unit (s := S32000) off S128.size inb).toLoadRect.idx j)) = cols128 x b h := by
  funext j
  have h0 : (j 0).val < 128 := (j 0).isLt
  exact congrArg x (idx1 ho (by show (256 * b + 128 * h + (j 0).val) % 32000 = 256 * b + 128 * h + (j 0).val; omega))

theorem ld_cnt {V : Type} (x : S4096x128.Idx → V) {b h : ℕ} (hb : b < 125) (hh : h < 2) {off : Fin 2 → ℕ} {inb} (ho : off = ![32 * b + 16 * h, 0]) :
    (fun j => x ((Rect.unit (s := S4096x128) off S16x128.size inb).toLoadRect.idx j)) = rowsC x b h := by
  funext j
  have h0 : (j 0).val < 16 := (j 0).isLt
  exact congrArg x (idx2 ho (by show (32 * b + 16 * h + (j 0).val) % 4096 = 32 * b + 16 * h + (j 0).val; omega) (Nat.zero_add _).symm)

/-! ## The halves of the logits -/

/-- Stage of an element of the logits: its half block. -/
def pZ (i : S16x32000.Idx) : ℕ := (i 1).val / 128

theorem half_set {k h : ℕ} (hh : h < 2) {off : Fin 2 → ℕ} {inb} (ho : off = ![0, 256 * k + 128 * h]) (i : S16x32000.Idx) :
    i ∈ (Rect.unit (s := S16x32000) off S16x128.size inb).set ↔ pZ i = 2 * k + h := by
  rw [mem2 ho]
  have h0 : (i 0).val < 16 := (i 0).isLt
  show ((0 ≤ (i 0).val ∧ (i 0).val < 0 + 16) ∧ (256 * k + 128 * h ≤ (i 1).val ∧ (i 1).val < 256 * k + 128 * h + 128)) ↔ (i 1).val / 128 = 2 * k + h
  omega

theorem half_idx {k h : ℕ} (hk : k < 125) (hh : h < 2) {off : Fin 2 → ℕ} {inb} (ho : off = ![0, 256 * k + 128 * h]) (j : S16x128.Idx) :
    (Rect.unit (s := S16x32000) off S16x128.size inb).toLoadRect.idx j
      = ix2 (j 0) ⟨256 * k + 128 * h + (j 1).val, by have h1 : (j 1).val < 128 := (j 1).isLt; omega⟩ :=
  idx2 ho (Nat.zero_add _).symm rfl

theorem zv_half0 {k : ℕ} (hk : k < 125) (j : S16x128.Idx) (hlt : 256 * k + 128 * 0 + (j 1).val < 32000) :
    zv I (ix2 (j 0) ⟨256 * k + 128 * 0 + (j 1).val, hlt⟩) = k0_pay5 (presB I) (freqB I) (repB I) (tempB I) (za I k) (rowsC (cntv I) k 0) k0_pay3 j := by
  have h1 : (j 1).val < 128 := (j 1).isLt
  have e1 : (256 * k + 128 * 0 + (j 1).val) / 128 % 2 = 0 := by omega
  have e2 : (256 * k + 128 * 0 + (j 1).val) / 256 = k := by omega
  have e3 : (256 * k + 128 * 0 + (j 1).val) % 128 = (j 1).val := by omega
  unfold zv
  show (if (256 * k + 128 * 0 + (j 1).val) / 128 % 2 = 0 then k0_pay5 (presB I) (freqB I) (repB I) (tempB I) (za I ((256 * k + 128 * 0 + (j 1).val) / 256))
      (rowsC (cntv I) ((256 * k + 128 * 0 + (j 1).val) / 256) 0) k0_pay3 (ix2 (j 0) ⟨(256 * k + 128 * 0 + (j 1).val) % 128, _⟩) else _) = _
  rw [if_pos e1, e2]
  refine congrArg (k0_pay5 _ _ _ _ _ _ _) (Eq.trans ?_ (ix2_eta j))
  exact congrArg (ix2 (j 0)) (Fin.ext e3)

theorem zv_half1 {k : ℕ} (hk : k < 125) (j : S16x128.Idx) (hlt : 256 * k + 128 * 1 + (j 1).val < 32000) :
    zv I (ix2 (j 0) ⟨256 * k + 128 * 1 + (j 1).val, hlt⟩) = k0_pay11 (presB I) (tempB I) (zb I k) (zs I k) j := by
  have h1 : (j 1).val < 128 := (j 1).isLt
  have e1 : ¬ (256 * k + 128 * 1 + (j 1).val) / 128 % 2 = 0 := by omega
  have e2 : (256 * k + 128 * 1 + (j 1).val) / 256 = k := by omega
  have e3 : (256 * k + 128 * 1 + (j 1).val) % 128 = (j 1).val := by omega
  unfold zv
  show (if (256 * k + 128 * 1 + (j 1).val) / 128 % 2 = 0 then _ else k0_pay11 (presB I) (tempB I) (zb I ((256 * k + 128 * 1 + (j 1).val) / 256))
      (zs I ((256 * k + 128 * 1 + (j 1).val) / 256)) (ix2 (j 0) ⟨(256 * k + 128 * 1 + (j 1).val) % 128, _⟩)) = _
  rw [if_neg e1, e2]
  refine congrArg (k0_pay11 _ _ _ _) (Eq.trans ?_ (ix2_eta j))
  exact congrArg (ix2 (j 0)) (Fin.ext e3)

/-- The columns from block `k - 1` on: those whose copy out has not been started before block `k`. -/
def zset (k : ℕ) : Finset S16x32000.Idx := Finset.univ.filter fun i => k ≤ (i 1).val / 256 + 1

/-- The logits' scratch once `t` half blocks have been written, where its copy out has not been started. -/
def zH (k t : ℕ) (y : S16x32000.Idx → Elt F .f32) : sProp 𝕄 :=
  own (c : Thread nD τ) A.arg30 (zset k) fullShare (upto pZ t (zv I) y)

/-! ## The induction variable's columns -/

theorem col0_eq : ∀ k : Fin k0_t7_loop.trips, Scalar.addi (Scalar.muli (Scf.iv 0#32 1#32 k.val) 256#32) 0#32 = BitVec.ofNat 32 (256 * k.val) := by decide +kernel

theorem col1_eq : ∀ k : Fin k0_t7_loop.trips, Scalar.addi (Scalar.muli (Scf.iv 0#32 1#32 k.val) 256#32) 128#32 = BitVec.ofNat 32 (256 * k.val + 128) := by decide +kernel

/-! ## The parts -/

/-- What the main loop only reads: the codes at a share, the weights' scales and the counts. -/
def roH (q : PosShare TreeShare) : sProp 𝕄 :=
  iprop(own (c : Thread nD τ) A.arg28 Finset.univ q (codesv I) ∗ own (c : Thread nD τ) A.arg19 Finset.univ fullShare I.ws
    ∗ own (c : Thread nD τ) A.arg29 Finset.univ fullShare (cntv I))

theorem part1_spec (q : PosShare TreeShare) (k : Fin k0_t7_loop.trips) :
    iprop(slotBusy c A I k.val (k.val % 14) ∗ roH c A I q ∗ owed (c : Thread nD τ))
      ⊢ wp (M := 𝕄) frame (wpE (defs₀ (F := F)) 𝒱 (c : Thread nD τ) none) Set.univ (part1 A (xsB I) 0#32 1#32 k)
          fun r => iprop(slabD c A I k.val (k.val % 14) ∗ semVal ((c : Thread nD τ), .dma (wsem A (k.val % 14))) 0 ∗ roH c A I q ∗ owed (c : Thread nD τ)
            ∗ ⌜r = ⟨Scf.iv 0#32 1#32 k.val, prodv I k.val, BitVec.ofNat 32 (256 * k.val), za I k.val, rowsC (cntv I) k.val 0, k0_pay3⟩⌝) := by
  have hk : k.val < 125 := Nat.lt_of_lt_of_le k.isLt k0_t7_abs.2.1
  have hs : k.val % 14 < 14 := Nat.mod_lt _ (by decide)
  unfold part1 k0_part1_skel slotBusy slabD roH
  simp only [Prog.bind_lift]
  rw [wsem_eq A hs (k0_off11_eq k)]
  iintro ⟨HF, ⟨HC, HW, HN⟩, HO⟩
  iapply (wp_wait_own 𝒱 (c : Thread nD τ) none EC () (N := wN A) rfl) $$ [HF HO]
  · isplitl [HF]; · iexact HF
    iexact HO
  iintro ⟨⟨HR, HB⟩, HS, HO⟩
  iapply (wp_load_own 𝒱 (c : Thread nD τ) none (Finset.subset_univ _)) $$ HC; iintro HC
  iapply (wp_load_own 𝒱 (c : Thread nD τ) none (ring_sub (h := 0) (k0_off14_eq k))) $$ HR; iintro HR
  iapply (wp_load_own 𝒱 (c : Thread nD τ) none (Finset.subset_univ _)) $$ HC; iintro HC
  iapply (wp_load_own 𝒱 (c : Thread nD τ) none (ring_sub (h := 1) (k0_off15_eq k))) $$ HR; iintro HR
  iapply (wp_load_own 𝒱 (c : Thread nD τ) none (Finset.subset_univ _)) $$ HW; iintro HW
  iapply (wp_load_own 𝒱 (c : Thread nD τ) none (Finset.subset_univ _)) $$ HN; iintro HN
  sl_step
  isplitl [HR HB]
  · isplitl [HR]; · iexact HR
    iexact HB
  isplitl [HS]; · iexact HS
  isplitl [HC HW HN]
  · isplitl [HC]; · iexact HC
    isplitl [HW]; · iexact HW
    iexact HN
  isplitl [HO]; · iexact HO
  ipureintro
  rw [ld_codes (codesv I) (h := 0) (by decide) rfl, ld_codes (codesv I) (h := 1) (by decide) rfl, ld_ring I hk hs (h := 0) (by decide) (k0_off14_eq k),
    ld_ring I hk hs (h := 1) (by decide) (k0_off15_eq k), ld_ws I.ws hk (h := 0) (by decide) (off := k0_off16 k 0#32) (k0_off16_eq k 0), ld_cnt (cntv I) hk (h := 0) (by decide) (off := k0_off17 k 0#32) (k0_off17_eq k 0),
    col0_eq]
  rfl

theorem part2_spec (q : PosShare TreeShare) (k : Fin k0_t7_loop.trips) (y : S16x32000.Idx → Elt F .f32) :
    iprop(zH c A I k.val (2 * k.val) y ∗ roH c A I q)
      ⊢ wp (M := 𝕄) frame (wpE (defs₀ (F := F)) 𝒱 (c : Thread nD τ) none) Set.univ
          (part2 A (xsB I) (presB I) (freqB I) (repB I) (tempB I) k (Scf.iv 0#32 1#32 k.val) (prodv I k.val) (BitVec.ofNat 32 (256 * k.val)) (za I k.val) (rowsC (cntv I) k.val 0) k0_pay3)
          fun r => iprop(zH c A I k.val (2 * k.val + 1) y ∗ roH c A I q
            ∗ ⌜r = ⟨z0 I k.val, pos0 k.val, BitVec.ofNat 32 (256 * k.val + 128), zb I k.val, zs I k.val⟩⌝) := by
  have hk : k.val < 125 := Nat.lt_of_lt_of_le k.isLt k0_t7_abs.2.1
  unfold part2 k0_part2_skel roH zH
  simp only [Prog.bind_lift]
  have hin : ∀ i : S16x32000.Idx, pZ i = 2 * k.val → i ∈ zset k.val := by
    intro i hi; rw [zset, Finset.mem_filter_univ]; unfold pZ at hi; omega
  have hset : ∀ i, i ∈ (Rect.unit (s := S16x32000) (k0_off18 k 0#32) S16x128.size (k0_off18_inb k 0)).set ↔ pZ i = 2 * k.val :=
    fun i => half_set (h := 0) (by decide) (k0_off18_eq k 0) i
  iintro ⟨HZ, HC, HW, HN⟩
  iapply (wp_load_own 𝒱 (c : Thread nD τ) none (fun i hi => hin i ((hset i).mp hi))) $$ HZ; iintro HZ
  iapply (wp_store_upto 𝒱 (c : Thread nD τ) none pZ (2 * k.val) (zv I) y hset hin (fun j => ?_)) $$ HZ
  · exact (congrArg (zv I) (half_idx hk (h := 0) (by decide) (k0_off18_eq k 0) j)).trans (zv_half0 I hk j _)
  iintro HZ
  iapply (wp_load_own 𝒱 (c : Thread nD τ) none (Finset.subset_univ _)) $$ HW; iintro HW
  iapply (wp_load_own 𝒱 (c : Thread nD τ) none (Finset.subset_univ _)) $$ HN; iintro HN
  sl_step
  isplitl [HZ]; · iexact HZ
  isplitl [HC HW HN]
  · isplitl [HC]; · iexact HC
    isplitl [HW]; · iexact HW
    iexact HN
  ipureintro
  rw [ld_ws I.ws hk (h := 1) (by decide) (off := k0_off16 k 128#32) (k0_off16_eq k 1), ld_cnt (cntv I) hk (h := 1) (by decide) (off := k0_off17 k 1#32) (k0_off17_eq k 1), col1_eq]
  rfl

theorem part3_spec (k : Fin k0_t7_loop.trips) (y : S16x32000.Idx → Elt F .f32) (acc : FVec F S20x16x128 .f32) :
    iprop(zH c A I k.val (2 * k.val + 1) y ∗ own (c : Thread nD τ) A.arg33 Finset.univ fullShare (mAt I k.val) ∗ own (c : Thread nD τ) A.arg34 Finset.univ fullShare (sAt I k.val)
        ∗ candsH c A I ∗ accH c A I k.val acc 0)
      ⊢ wp (M := 𝕄) frame (wpE (defs₀ (F := F)) 𝒱 (c : Thread nD τ) none) Set.univ
          (part3 A (presB I) (tempB I) k (z0 I k.val) (pos0 k.val) (BitVec.ofNat 32 (256 * k.val + 128)) (zb I k.val) (zs I k.val))
          fun r => iprop(zH c A I k.val (2 * k.val + 2) y ∗ own (c : Thread nD τ) A.arg33 Finset.univ fullShare (mAt I (k.val + 1))
            ∗ own (c : Thread nD τ) A.arg34 Finset.univ fullShare (sAt I (k.val + 1)) ∗ candsH c A I ∗ accH c A I k.val acc 0
            ∗ ⌜r = ⟨z1 I k.val, pos1 k.val, k0_pay16 (presB I) (tempB I) (z0 I k.val) (pos0 k.val) (BitVec.ofNat 32 (256 * k.val + 128)) (zb I k.val) (zs I k.val)
                (plane acc 0) (plane (candv I) 0) (plane (candv I) 0)⟩⌝) := by
  have hk : k.val < 125 := Nat.lt_of_lt_of_le k.isLt k0_t7_abs.2.1
  unfold part3 k0_part3_skel zH
  simp only [Prog.bind_lift]
  have hin : ∀ i : S16x32000.Idx, pZ i = 2 * k.val + 1 → i ∈ zset k.val := by
    intro i hi; rw [zset, Finset.mem_filter_univ]; unfold pZ at hi; omega
  have hset : ∀ i, i ∈ (Rect.unit (s := S16x32000) (k0_off18 k 128#32) S16x128.size (k0_off18_inb k 1)).set ↔ pZ i = 2 * k.val + 1 :=
    fun i => half_set (h := 1) (by decide) (k0_off18_eq k 1) i
  have hall : ∀ i : S16x128.Idx, i ∈ (Rect.unit (s := S16x128) ![0, 0] S16x128.size inb_S16x128_S16x128_0_0).set := by
    intro i
    rw [mem2 rfl]
    have h0 : (i 0).val < 16 := (i 0).isLt
    have h1 : (i 1).val < 128 := (i 1).isLt
    exact ⟨⟨Nat.zero_le _, by show _ < 0 + 16; omega⟩, ⟨Nat.zero_le _, by show _ < 0 + 128; omega⟩⟩
  iintro ⟨HZ, HM, HS, HC, HA⟩
  iapply (wp_load_own 𝒱 (c : Thread nD τ) none (fun i hi => hin i ((hset i).mp hi))) $$ HZ; iintro HZ
  iapply (wp_store_upto 𝒱 (c : Thread nD τ) none pZ (2 * k.val + 1) (zv I) y hset hin (fun j => ?_)) $$ HZ
  · exact (congrArg (zv I) (half_idx hk (h := 1) (by decide) (k0_off18_eq k 1) j)).trans (zv_half1 I hk j _)
  iintro HZ
  iapply (wp_load_own 𝒱 (c : Thread nD τ) none (Finset.subset_univ _)) $$ HM; iintro HM
  iapply (wp_load_own 𝒱 (c : Thread nD τ) none (Finset.subset_univ _)) $$ HS; iintro HS
  iapply (wp_load_own 𝒱 (c : Thread nD τ) none (Finset.subset_univ _)) $$ HM; iintro HM
  iapply (wp_store_own 𝒱 (c : Thread nD τ) none (mAt I (k.val + 1)) (Finset.subset_univ _) (fun j => ?_) (fun i _ hi => absurd (hall i) hi)) $$ HM
  · rw [ld_all2]
    exact congrArg (mAt I (k.val + 1)) ((idx2 rfl (Nat.zero_add _).symm (Nat.zero_add _).symm).trans (ix2_eta j))
  iintro HM
  iapply (wp_load_own 𝒱 (c : Thread nD τ) none (Finset.subset_univ _)) $$ HS; iintro HS
  iapply (wp_store_own 𝒱 (c : Thread nD τ) none (sAt I (k.val + 1)) (Finset.subset_univ _) (fun j => ?_) (fun i _ hi => absurd (hall i) hi)) $$ HS
  · rw [ld_all2, ld_all2]
    exact congrArg (sAt I (k.val + 1)) ((idx2 rfl (Nat.zero_add _).symm (Nat.zero_add _).symm).trans (ix2_eta j))
  iintro HS
  iapply (load_acc 𝒱 c A I (by decide)) $$ HA; iintro HA
  iapply (load_cand 𝒱 c A I (by decide)) $$ HC; iintro HC
  iapply (load_cand 𝒱 c A I (by decide)) $$ HC; iintro HC
  sl_step
  isplitl [HZ]; · iexact HZ
  isplitl [HM]; · iexact HM
  isplitl [HS]; · iexact HS
  isplitl [HC]; · iexact HC
  isplitl [HA]; · iexact HA
  ipureintro; rfl

end Cert.KernelIdeal.Hand

end
-- ==== Proof.KernelIdeal.Main.lean ====
/-
  The main loop: one trip takes up one block of the weights, and hands the block before it to
  its transfer out and the ring's freed slot to the block fourteen ahead.
-/
module

public import proofs.«01_k».proof.Proof.KernelIdeal.Block

@[expose] public section

noncomputable section

namespace Cert.KernelIdeal.Hand

open Cert.KernelIdeal Cert.KernelIdeal.Gen Cert.Own
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

variable (𝒱 : Variants) (c : Dev nD) (A : Args) (I : In F)

/-! ## The two conditions and the offset of the copy out -/

theorem cond1_iff : ∀ k : Fin k0_t7_loop.trips, k0_cond1 k = 1#1 ↔ 1 ≤ k.val := by decide +kernel

theorem cond2_iff : ∀ k : Fin k0_t7_loop.trips, k0_cond2 k = 1#1 ↔ k.val + 14 < 125 := by decide +kernel

theorem off19_eq : ∀ k : Fin k0_t7_loop.trips, k0_cond1 k = 1#1 → k0_off19 k = ![0, 256 * (k.val - 1)] := by decide +kernel

/-! ## The parts of the arrays at rest -/

/-- The weights not on their way into the ring before block `k` is taken up. -/
def wrest (k : ℕ) : Finset S12288x32000.Idx := Finset.univ.filter fun i => (i 1).val / 256 < k ∨ k + 14 ≤ (i 1).val / 256

theorem wrest_zero : wrest 0 = wfrom 14 := by
  ext i; simp only [wrest, wfrom, Finset.mem_filter_univ]; omega

theorem wrest_join {k : ℕ} (h : k + 14 < 125) : (iprop(own (c : Thread nD τ) A.arg2 (wblk k) fullShare I.w ∗ own (c : Thread nD τ) A.arg2 (wrest k) fullShare I.w) : sProp 𝕄)
    = iprop(own (c : Thread nD τ) A.arg2 (wblk (k + 14)) fullShare I.w ∗ own (c : Thread nD τ) A.arg2 (wrest (k + 1)) fullShare I.w) := by
  have e : wblk k ∪ wrest k = wblk (k + 14) ∪ wrest (k + 1) := by
    ext i; simp only [wrest, wblk, Finset.mem_union, Finset.mem_filter_univ]; omega
  rw [← own_union, ← own_union, e]
  · rw [Finset.disjoint_left]; intro i; simp only [wrest, wblk, Finset.mem_filter_univ]; omega
  · rw [Finset.disjoint_left]; intro i; simp only [wrest, wblk, Finset.mem_filter_univ]; omega

theorem wrest_last {k : ℕ} (h : ¬ k + 14 < 125) : (iprop(own (c : Thread nD τ) A.arg2 (wblk k) fullShare I.w ∗ own (c : Thread nD τ) A.arg2 (wrest k) fullShare I.w) : sProp 𝕄)
    = own (c : Thread nD τ) A.arg2 (wrest (k + 1)) fullShare I.w := by
  have e : wblk k ∪ wrest k = wrest (k + 1) := by
    ext i; have := (i 1).isLt; change _ < 32000 at this; simp only [wrest, wblk, Finset.mem_union, Finset.mem_filter_univ]; omega
  rw [← own_union, e]
  rw [Finset.disjoint_left]; intro i; simp only [wrest, wblk, Finset.mem_filter_univ]; omega

theorem zset_one : zset 0 = zset 1 := by
  ext i; simp only [zset, Finset.mem_filter_univ]; omega

theorem zset_split {k : ℕ} (h : 1 ≤ k) : zset k = zblk (k - 1) ∪ zset (k + 1) := by
  ext i; simp only [zset, zblk, Finset.mem_union, Finset.mem_filter_univ]; omega

theorem zset_disj {k : ℕ} (h : 1 ≤ k) : Disjoint (zblk (k - 1)) (zset (k + 1)) := by
  rw [Finset.disjoint_left]; intro i; simp only [zset, zblk, Finset.mem_filter_univ]; omega

/-- The finished block before `k` apart from the scratch. -/
theorem zH_split {k : ℕ} (h : 1 ≤ k) (y : S16x32000.Idx → Elt F .f32) :
    (zH c A I k (2 * k + 2) y : sProp 𝕄) = iprop(own (c : Thread nD τ) A.arg30 (zblk (k - 1)) fullShare (zv I) ∗ zH c A I (k + 1) (2 * (k + 1)) y) := by
  unfold zH
  rw [zset_split h, own_union (zset_disj h)]
  have e : (own (c : Thread nD τ) A.arg30 (zblk (k - 1)) fullShare (upto pZ (2 * k + 2) (zv I) y) : sProp 𝕄) = own (c : Thread nD τ) A.arg30 (zblk (k - 1)) fullShare (zv I) := by
    refine own_congr fun i hi => ?_
    rw [zblk, Finset.mem_filter_univ] at hi
    rw [upto, if_pos (by unfold pZ; omega)]
  rw [e]; rfl

theorem out_split {k : ℕ} (h : 1 ≤ k) (y : S16x32000.Idx → Elt F .f32) :
    (own (c : Thread nD τ) A.arg13 (zset k) fullShare y : sProp 𝕄)
      = iprop(own (c : Thread nD τ) A.arg13 (zblk (k - 1)) fullShare y ∗ own (c : Thread nD τ) A.arg13 (zset (k + 1)) fullShare y) := by
  rw [← own_union (zset_disj h), ← zset_split h]

/-! ## One trip -/

/-- What the loop holds before block `k`. -/
def mainInv (q : PosShare TreeShare) (y : S16x32000.Idx → Elt F .f32) (yh : S16x32000.Idx → Elt F .f32) (k : ℕ) : sProp 𝕄 :=
  iprop(bigSep (Finset.range 14) (slotsAt c A I k) ∗ own (c : Thread nD τ) A.arg2 (wrest k) fullShare I.w
    ∗ zH c A I k (2 * k) y ∗ own (c : Thread nD τ) A.arg13 (zset k) fullShare yh
    ∗ Batch EC (c : Thread nD τ) (.dma A.arg40.sem) () (zN A) (zD c A I) (k - 1) 0
    ∗ own (c : Thread nD τ) A.arg33 Finset.univ fullShare (mAt I k) ∗ own (c : Thread nD τ) A.arg34 Finset.univ fullShare (sAt I k)
    ∗ candsH c A I ∗ own (c : Thread nD τ) A.arg32 Finset.univ fullShare (accAt I k) ∗ roH c A I q ∗ owed (c : Thread nD τ))

/-- All candidates' rows are done at the twentieth. -/
theorem accH_end (k : ℕ) : (accH c A I k (accAt I k) 20 : sProp 𝕄) = own (c : Thread nD τ) A.arg32 Finset.univ fullShare (accAt I (k + 1)) := by
  unfold accH
  rw [upto_all]
  · rfl
  · intro i; exact (i 0).isLt

theorem accH_start (k : ℕ) : (accH c A I k (accAt I k) 0 : sProp 𝕄) = own (c : Thread nD τ) A.arg32 Finset.univ fullShare (accAt I k) := by
  unfold accH; rw [upto_zero]

theorem t7_trip (q : PosShare TreeShare) (y : S16x32000.Idx → Elt F .f32) (yh : S16x32000.Idx → Elt F .f32) (k : Fin k0_t7_loop.trips)
    (u0 : FVec F S16x128 .f32) (u1 : Vec F S16x128 .f32) :
    mainInv c A I q y yh k.val
      ⊢ wp (M := 𝕄) frame (wpE (defs₀ (F := F)) 𝒱 (c : Thread nD τ) none) Set.univ (t7Body A (xsB I) (presB I) (freqB I) (repB I) (tempB I) u0 u1 k ())
          fun _ => mainInv c A I q y yh (k.val + 1) := by
  have hk : k.val < 125 := Nat.lt_of_lt_of_le k.isLt k0_t7_abs.2.1
  have hs : k.val % 14 < 14 := Nat.mod_lt _ (by decide)
  have eb : slotb k.val (k.val % 14) = k.val := by unfold slotb; omega
  have eb' : slotb (k.val + 1) (k.val % 14) = k.val + 14 := by unfold slotb; omega
  have e1 : slotsAt c A I k.val (k.val % 14) = slotBusy c A I k.val (k.val % 14) := by unfold slotsAt; rw [eb, if_pos hk]
  have e2 : bigSep ((Finset.range 14).erase (k.val % 14)) (slotsAt c A I k.val) = bigSep ((Finset.range 14).erase (k.val % 14)) (slotsAt c A I (k.val + 1)) := by
    refine bigSep_congr fun s hs' => ?_
    have h1 := Finset.mem_erase.mp hs'
    exact (slotsAt_next c A I (Finset.mem_range.mp h1.2) h1.1).symm
  unfold mainInv
  rw [slot_take hs, slot_take hs (slotsAt c A I (k.val + 1)), e1, e2, ← accH_end, ← accH_start]
  unfold t7Body k0_t7_body
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, Prog.bind_lift]
  iintro ⟨⟨HB, Hrest⟩, HW, HZ, HOUT, HBT, HM, HS, HC, HA, HRO, HO⟩
  iapply (wp_part 𝒱 c (part1_spec 𝒱 c A I q k)) $$ [HB HRO HO]
  · isplitl [HB]; · iexact HB
    isplitl [HRO]; · iexact HRO
    iexact HO
  iintro %r ⟨HSL, HV, HRO, HO, %hr⟩
  subst hr
  iapply (wp_part 𝒱 c (part2_spec 𝒱 c A I q k y)) $$ [HZ HRO]
  · isplitl [HZ]; · iexact HZ
    iexact HRO
  iintro %r ⟨HZ, HRO, %hr⟩
  subst hr
  iapply (wp_part 𝒱 c (part3_spec 𝒱 c A I k y (accAt I k.val))) $$ [HZ HM HS HC HA]
  · isplitl [HZ]; · iexact HZ
    isplitl [HM]; · iexact HM
    isplitl [HS]; · iexact HS
    isplitl [HC]; · iexact HC
    iexact HA
  iintro %r ⟨HZ, HM, HS, HC, HA, %hr⟩
  subst hr
  iapply (wp_part 𝒱 c (part4_spec 𝒱 c A I k.val (accAt I k.val))) $$ [HC HA]
  · isplitl [HC]; · iexact HC
    iexact HA
  iintro %r ⟨HC, HA⟩
  iapply (wp_part 𝒱 c (part5_spec 𝒱 c A I k.val (accAt I k.val))) $$ [HC HA]
  · isplitl [HC]; · iexact HC
    iexact HA
  iintro %r ⟨HC, HA, %hr⟩
  subst hr
  iapply (wp_part 𝒱 c (part6_spec 𝒱 c A I k.val (accAt I k.val))) $$ [HC HA]
  · isplitl [HC]; · iexact HC
    iexact HA
  iintro %r ⟨HC, HA, %hr⟩
  subst hr
  iapply (wp_part 𝒱 c (part7_spec 𝒱 c A I k.val (accAt I k.val))) $$ [HC HA]
  · isplitl [HC]; · iexact HC
    iexact HA
  iintro %r ⟨HC, HA, %hr⟩
  subst hr
  iapply (wp_part 𝒱 c (part8_spec 𝒱 c A I k.val (accAt I k.val))) $$ [HC HA]
  · isplitl [HC]; · iexact HC
    iexact HA
  iintro %r ⟨HC, HA, %hr⟩
  subst hr
  iapply (wp_part 𝒱 c (part9_spec 𝒱 c A I k.val (accAt I k.val))) $$ [HC HA]
  · isplitl [HC]; · iexact HC
    iexact HA
  iintro %r ⟨HC, HA, %hr⟩
  subst hr
  iapply (wp_part 𝒱 c (part10_spec 𝒱 c A I k.val (accAt I k.val))) $$ [HC HA]
  · isplitl [HC]; · iexact HC
    iexact HA
  iintro %r ⟨HC, HA, %hr⟩
  subst hr
  iapply (wp_part 𝒱 c (part11_spec 𝒱 c A I k.val (accAt I k.val))) $$ [HC HA]
  · isplitl [HC]; · iexact HC
    iexact HA
  iintro %r ⟨HC, HA, %hr⟩
  subst hr
  iapply (load_cand 𝒱 c A I (by decide)) $$ HC; iintro HC
  iapply (load_cand 𝒱 c A I (by decide)) $$ HC; iintro HC
  iapply (load_acc 𝒱 c A I (by decide)) $$ HA; iintro HA
  iapply (store_acc 𝒱 c A I (by decide) rfl) $$ HA; iintro HA
  by_cases h1 : k0_cond1 k = 1#1
  -- the finished block before this one goes out
  on_goal 1 =>
    have hk1 : 1 ≤ k.val := (cond1_iff k).mp h1
    rw [dif_pos h1]
    ihave HZ := (Entails.of_eq (zH_split c A I hk1 y)) $$ HZ
    ihave HOUT := (Entails.of_eq (out_split c A hk1 yh)) $$ HOUT
    icases HZ with ⟨HZb, HZ⟩
    icases HOUT with ⟨HOb, HOUT⟩
    iapply (block_copy 𝒱 c A I (b := k.val - 1) (by omega) (off19_eq k h1) (off19_eq k h1) yh) $$ [HZb HOb HBT]
    · isplitl [HZb]; · iexact HZb
      isplitl [HOb]; · iexact HOb
      iexact HBT
    iintro HBT
    have eB : k.val - 1 + 1 = k.val + 1 - 1 := by omega
    ihave HBT := (Entails.of_eq (congrArg (fun n => Batch EC (c : Thread nD τ) (.dma A.arg40.sem) () (zN A) (zD c A I) n 0) eB)) $$ HBT
  on_goal 2 =>
    have hk0 : k.val = 0 := by have := (cond1_iff k).not.mp h1; omega
    rw [dif_neg h1]
    have eZ : zH c A I k.val (2 * k.val + 2) y = zH c A I (k.val + 1) (2 * (k.val + 1)) y := by rw [hk0]; unfold zH; rw [zset_one]
    have eO : zset k.val = zset (k.val + 1) := by rw [hk0]; exact zset_one
    have eB : k.val - 1 = k.val + 1 - 1 := by omega
    ihave HZ := (Entails.of_eq eZ) $$ HZ
    ihave HOUT := (Entails.of_eq (congrArg (fun n => own (c : Thread nD τ) A.arg13 n fullShare yh) eO)) $$ HOUT
    ihave HBT := (Entails.of_eq (congrArg (fun n => Batch EC (c : Thread nD τ) (.dma A.arg40.sem) () (zN A) (zD c A I) n 0) eB)) $$ HBT
  all_goals
    unfold slabD
    icases HSL with ⟨HR, HWb⟩
    by_cases h2 : k0_cond2 k = 1#1
    -- the freed slot takes the block fourteen ahead
    · have hk2 : k.val + 14 < 125 := (cond2_iff k).mp h2
      rw [dif_pos h2]
      have hj := wrest_join c A I hk2
      ihave HWW := (Entails.of_eq hj) $$ [HWb HW]
      · isplitl [HWb]; · iexact HWb
        iexact HW
      icases HWW with ⟨HWn, HW⟩
      iapply (slab_copy 𝒱 c A I (b := k.val + 14) hk2 hs (k0_off20_eq k) (k0_off21_eq k) (k0_off22_eq k) (ringv I k.val)) $$ [HWn HR HV]
      · isplitl [HWn]; · iexact HWn
        isplitl [HR]; · iexact HR
        iexact HV
      iintro HF
      sl_step
      have e3 : slotsAt c A I (k.val + 1) (k.val % 14) = slotBusy c A I (k.val + 14) (k.val % 14) := by unfold slotsAt; rw [eb', if_pos hk2]
      rw [e3]; unfold slotBusy
      isplitl [HF Hrest]
      · isplitl [HF]; · iexact HF
        iexact Hrest
      isplitl [HW]; · iexact HW
      isplitl [HZ]; · iexact HZ
      isplitl [HOUT]; · iexact HOUT
      isplitl [HBT]; · iexact HBT
      isplitl [HM]; · iexact HM
      isplitl [HS]; · iexact HS
      isplitl [HC]; · iexact HC
      isplitl [HA]; · iexact HA
      isplitl [HRO]; · iexact HRO
      iexact HO
    · have hk2 : ¬ k.val + 14 < 125 := (cond2_iff k).not.mp h2
      rw [dif_neg h2]
      have hj := wrest_last c A I hk2
      ihave HWW := (Entails.of_eq hj) $$ [HWb HW]
      · isplitl [HWb]; · iexact HWb
        iexact HW
      sl_step
      have e3 : slotsAt c A I (k.val + 1) (k.val % 14) = slotFree c A (k.val % 14) := by unfold slotsAt; rw [eb', if_neg hk2]
      rw [e3]; unfold slotFree
      isplitl [HR HV Hrest]
      · isplitl [HR HV]
        · isplitl [HR]; · iexists (ringv I k.val); iexact HR
          iexact HV
        iexact Hrest
      isplitl [HWW]; · iexact HWW
      isplitl [HZ]; · iexact HZ
      isplitl [HOUT]; · iexact HOUT
      isplitl [HBT]; · iexact HBT
      isplitl [HM]; · iexact HM
      isplitl [HS]; · iexact HS
      isplitl [HC]; · iexact HC
      isplitl [HA]; · iexact HA
      isplitl [HRO]; · iexact HRO
      iexact HO

end Cert.KernelIdeal.Hand

end
-- ==== Proof.KernelIdeal.Pre.lean ====
/-
  The kernel up to its main loop: the inputs come in, the activations are quantised, the history
  is counted, the candidates' planes are set up.
-/
module

public import proofs.«01_k».proof.Proof.KernelIdeal.Main

@[expose] public section

noncomputable section

namespace Cert.KernelIdeal.Hand

open Cert.KernelIdeal Cert.KernelIdeal.Gen Cert.Own
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

variable (𝒱 : Variants) (c : Dev nD) (A : Args) (I : In F)

/-! ## Copies of whole arrays -/

/-- A whole memref, held at named values. -/
abbrev hold {sp : Space} {s : Shape} {e : EltTy} (m : Memref sig .tc sp s e) (x : s.Idx → Elt F e) : sProp 𝕄 :=
  own (c : Thread nD τ) m Finset.univ fullShare x

/-- A whole memref, held at some values. -/
def anyH {sp : Space} {s : Shape} {e : EltTy} (m : Memref sig .tc sp s e) : sProp 𝕄 := iprop(∃ y : s.Idx → Elt F e, hold c m y)

/-- A copy of a whole array under way. -/
def flown {sp sp' : Space} {s : Shape} {e : EltTy} (sm : DmaSem sig) (src : Memref sig .tc sp s e) (dst : Memref sig .tc sp' s e) (q : PosShare TreeShare)
    (x : s.Idx → Elt F e) : sProp 𝕄 :=
  Flight EC (c : Thread nD τ) (.dma sm) () dst.view.dmaCredit iprop(hold c dst x ∗ own (c : Thread nD τ) src Finset.univ q x)

/-- A copy of a whole array is started. -/
theorem start {α : Type} {Q : α → sProp 𝕄} {sp sp' : Space} {s : Shape} {e : EltTy} {sm sm' : DmaSem sig} (h : sm = sm')
    {src : Memref sig .tc sp s e} {dst : Memref sig .tc sp' s e} (hp : 0 < dst.view.dmaCredit) {q : PosShare TreeShare} {x : s.Idx → Elt F e}
    {hsrc hdst hsem} {k : PUnit → Prog (TpuEff nD τ sig (Elt F) Λ₀ .tc) α} :
    iprop(own (c : Thread nD τ) src Finset.univ q x ∗ anyH c dst ∗ semVal ((c : Thread nD τ), .dma sm') 0)
      ⊢ iprop((flown c sm' src dst q x -∗ wp (M := 𝕄) frame (wpE (defs₀ (F := F)) 𝒱 (c : Thread nD τ) none) Set.univ (k ⟨⟩) Q)
          -∗ wp (M := 𝕄) frame (wpE (defs₀ (F := F)) 𝒱 (c : Thread nD τ) none) Set.univ
            (.op (.enqueueDma src (.here dst) (.dma sm) hsrc hdst hsem) k) Q) := by
  subst h
  unfold flown anyH
  iintro ⟨HS, ⟨%y, HD⟩, HV⟩ Hk
  iapply (wp_dma_own 𝒱 (c : Thread nD τ) none EC () dst.view.dmaCredit rfl hp (y := y)) $$ [HS HD HV]
  · isplitl [HS]; · iexact HS
    isplitl [HD]; · iexact HD
    iexact HV
  iexact Hk

/-- The wait for a copy of a whole array. -/
theorem arrive {α : Type} {Q : α → sProp 𝕄} {sp sp' : Space} {s : Shape} {e : EltTy} {sm sm' : DmaSem sig} (h : sm = sm')
    {src : Memref sig .tc sp s e} {dst : Memref sig .tc sp' s e} {q : PosShare TreeShare} {x : s.Idx → Elt F e}
    {hsrc hdst} {k : PUnit → Prog (TpuEff nD τ sig (Elt F) Λ₀ .tc) α} :
    iprop(flown c sm' src dst q x ∗ owed (c : Thread nD τ))
      ⊢ iprop((iprop(hold c dst x ∗ own (c : Thread nD τ) src Finset.univ q x ∗ semVal ((c : Thread nD τ), .dma sm') 0 ∗ owed (c : Thread nD τ))
            -∗ wp (M := 𝕄) frame (wpE (defs₀ (F := F)) 𝒱 (c : Thread nD τ) none) Set.univ (k ⟨⟩) Q)
          -∗ wp (M := 𝕄) frame (wpE (defs₀ (F := F)) 𝒱 (c : Thread nD τ) none) Set.univ
            (.op (.waitDma2 sm src dst hsrc hdst) k) Q) := by
  subst h
  unfold flown
  iintro ⟨HF, HO⟩ Hk
  iapply (wp_wait_own 𝒱 (c : Thread nD τ) none EC () rfl) $$ [HF HO]
  · isplitl [HF]; · iexact HF
    iexact HO
  iintro ⟨⟨HD, HS⟩, HV, HO⟩
  iapply Hk
  isplitl [HD]; · iexact HD
  isplitl [HS]; · iexact HS
  isplitl [HV]; · iexact HV
  iexact HO

/-- The cell of the `n`-th input copy. -/
def isem (n : ℕ) : DmaSem sig := A.arg39.ix (ix1 ⟨n % 10, Nat.mod_lt _ (by decide)⟩)

theorem isem_eq {n : ℕ} (hn : n < 10) {off : Fin 1 → ℕ} {inb} (ho : off = ![n]) :
    ((A.arg39.slice (Rect.unit (s := S10) off S1.size inb)).squeeze S_ squeezes_S1_S_).sem = isem A n := by
  refine congrArg A.arg39.ix (idx1 ho ?_)
  have h0 : ∀ q : Fin 1, q.val = 0 := fun q => by omega
  exact (Nat.mod_eq_of_lt hn).trans ((Nat.add_zero n).symm.trans (congrArg (n + ·) (h0 _).symm))

/-- The cell of the `n`-th output copy. -/
def outsem (n : ℕ) : DmaSem sig := A.arg41.ix (ix1 ⟨n % 4, Nat.mod_lt _ (by decide)⟩)

theorem outsem_eq {n : ℕ} (hn : n < 4) {off : Fin 1 → ℕ} {inb} (ho : off = ![n]) :
    ((A.arg41.slice (Rect.unit (s := S4) off S1.size inb)).squeeze S_ squeezes_S1_S_).sem = outsem A n := by
  refine congrArg A.arg41.ix (idx1 ho ?_)
  have h0 : ∀ q : Fin 1, q.val = 0 := fun q => by omega
  exact (Nat.mod_eq_of_lt hn).trans ((Nat.add_zero n).symm.trans (congrArg (n + ·) (h0 _).symm))

/-! ## The inputs -/

/-- Input copy 0: its source, its destination and its cell, before it starts. -/
def in0B : sProp 𝕄 := iprop(hold c A.arg0 I.x ∗ anyH (F := F) c A.arg17 ∗ semVal ((c : Thread nD τ), .dma (isem A 0)) 0)

/-- Input copy 0 under way. -/
def in0F : sProp 𝕄 := flown c (isem A 0) A.arg0 A.arg17 fullShare I.x

/-- The source and the cell of input copy 0, once it has arrived. -/
def in0E : sProp 𝕄 := iprop(hold c A.arg0 I.x ∗ semVal ((c : Thread nD τ), .dma (isem A 0)) 0)

/-- Input copy 1: its source, its destination and its cell, before it starts. -/
def in1B : sProp 𝕄 := iprop(hold c A.arg1 I.gain ∗ anyH (F := F) c A.arg18 ∗ semVal ((c : Thread nD τ), .dma (isem A 1)) 0)

/-- Input copy 1 under way. -/
def in1F : sProp 𝕄 := flown c (isem A 1) A.arg1 A.arg18 fullShare I.gain

/-- The source and the cell of input copy 1, once it has arrived. -/
def in1E : sProp 𝕄 := iprop(hold c A.arg1 I.gain ∗ semVal ((c : Thread nD τ), .dma (isem A 1)) 0)

/-- Input copy 2: its source, its destination and its cell, before it starts. -/
def in2B : sProp 𝕄 := iprop(hold c A.arg4 I.ids ∗ anyH (F := F) c A.arg20 ∗ semVal ((c : Thread nD τ), .dma (isem A 2)) 0)

/-- Input copy 2 under way. -/
def in2F : sProp 𝕄 := flown c (isem A 2) A.arg4 A.arg20 fullShare I.ids

/-- The source and the cell of input copy 2, once it has arrived. -/
def in2E : sProp 𝕄 := iprop(hold c A.arg4 I.ids ∗ semVal ((c : Thread nD τ), .dma (isem A 2)) 0)

/-- Input copy 3: its source, its destination and its cell, before it starts. -/
def in3B : sProp 𝕄 := iprop(hold c A.arg5 I.len ∗ anyH (F := F) c A.arg21 ∗ semVal ((c : Thread nD τ), .dma (isem A 3)) 0)

/-- Input copy 3 under way. -/
def in3F : sProp 𝕄 := flown c (isem A 3) A.arg5 A.arg21 fullShare I.len

/-- The source and the cell of input copy 3, once it has arrived. -/
def in3E : sProp 𝕄 := iprop(hold c A.arg5 I.len ∗ semVal ((c : Thread nD τ), .dma (isem A 3)) 0)

/-- Input copy 4: its source, its destination and its cell, before it starts. -/
def in4B : sProp 𝕄 := iprop(hold c A.arg6 I.pres ∗ anyH (F := F) c A.arg22 ∗ semVal ((c : Thread nD τ), .dma (isem A 4)) 0)

/-- Input copy 4 under way. -/
def in4F : sProp 𝕄 := flown c (isem A 4) A.arg6 A.arg22 fullShare I.pres

/-- The source and the cell of input copy 4, once it has arrived. -/
def in4E : sProp 𝕄 := iprop(hold c A.arg6 I.pres ∗ semVal ((c : Thread nD τ), .dma (isem A 4)) 0)

/-- Input copy 5: its source, its destination and its cell, before it starts. -/
def in5B : sProp 𝕄 := iprop(hold c A.arg7 I.freq ∗ anyH (F := F) c A.arg23 ∗ semVal ((c : Thread nD τ), .dma (isem A 5)) 0)

/-- Input copy 5 under way. -/
def in5F : sProp 𝕄 := flown c (isem A 5) A.arg7 A.arg23 fullShare I.freq

/-- The source and the cell of input copy 5, once it has arrived. -/
def in5E : sProp 𝕄 := iprop(hold c A.arg7 I.freq ∗ semVal ((c : Thread nD τ), .dma (isem A 5)) 0)

/-- Input copy 6: its source, its destination and its cell, before it starts. -/
def in6B : sProp 𝕄 := iprop(hold c A.arg8 I.rep ∗ anyH (F := F) c A.arg24 ∗ semVal ((c : Thread nD τ), .dma (isem A 6)) 0)

/-- Input copy 6 under way. -/
def in6F : sProp 𝕄 := flown c (isem A 6) A.arg8 A.arg24 fullShare I.rep

/-- The source and the cell of input copy 6, once it has arrived. -/
def in6E : sProp 𝕄 := iprop(hold c A.arg8 I.rep ∗ semVal ((c : Thread nD τ), .dma (isem A 6)) 0)

/-- Input copy 7: its source, its destination and its cell, before it starts. -/
def in7B : sProp 𝕄 := iprop(hold c A.arg9 I.temp ∗ anyH (F := F) c A.arg25 ∗ semVal ((c : Thread nD τ), .dma (isem A 7)) 0)

/-- Input copy 7 under way. -/
def in7F : sProp 𝕄 := flown c (isem A 7) A.arg9 A.arg25 fullShare I.temp

/-- The source and the cell of input copy 7, once it has arrived. -/
def in7E : sProp 𝕄 := iprop(hold c A.arg9 I.temp ∗ semVal ((c : Thread nD τ), .dma (isem A 7)) 0)

/-- Input copy 8: its source, its destination and its cell, before it starts. -/
def in8B : sProp 𝕄 := iprop(hold c A.arg10 I.cand ∗ anyH (F := F) c A.arg26 ∗ semVal ((c : Thread nD τ), .dma (isem A 8)) 0)

/-- Input copy 8 under way. -/
def in8F : sProp 𝕄 := flown c (isem A 8) A.arg10 A.arg26 fullShare I.cand

/-- The source and the cell of input copy 8, once it has arrived. -/
def in8E : sProp 𝕄 := iprop(hold c A.arg10 I.cand ∗ semVal ((c : Thread nD τ), .dma (isem A 8)) 0)

/-- Input copy 9: its source, its destination and its cell, before it starts. -/
def in9B : sProp 𝕄 := iprop(hold c A.arg3 I.ws ∗ anyH (F := F) c A.arg19 ∗ semVal ((c : Thread nD τ), .dma (isem A 9)) 0)

/-- Input copy 9 under way. -/
def in9F : sProp 𝕄 := flown c (isem A 9) A.arg3 A.arg19 fullShare I.ws

/-- The source and the cell of input copy 9, once it has arrived. -/
def in9E : sProp 𝕄 := iprop(hold c A.arg3 I.ws ∗ semVal ((c : Thread nD τ), .dma (isem A 9)) 0)

/-! ## The parts -/

theorem part12_spec :
    iprop(in0B c A I ∗ in1B c A I ∗ in2B c A I ∗ in3B c A I ∗ in4B c A I ∗ in5B c A I ∗ in6B c A I ∗ in7B c A I ∗ in8B c A I ∗ in9B c A I ∗ bigSep (Finset.range 14) (slotsUp c A I 0) ∗ own (c : Thread nD τ) A.arg2 (wfrom 0) fullShare I.w ∗ owed (c : Thread nD τ))
      ⊢ wp (M := 𝕄) frame (wpE (defs₀ (F := F)) 𝒱 (c : Thread nD τ) none) Set.univ (part12 A)
          fun _ => iprop(hold c A.arg17 I.x ∗ hold c A.arg18 I.gain ∗ hold c A.arg20 I.ids ∗ in0E c A I ∗ in1E c A I ∗ in2E c A I ∗ in3F c A I ∗ in4F c A I ∗ in5F c A I ∗ in6F c A I ∗ in7F c A I ∗ in8F c A I ∗ in9F c A I ∗ bigSep (Finset.range 14) (slotsUp c A I 14) ∗ own (c : Thread nD τ) A.arg2 (wfrom 14) fullShare I.w ∗ owed (c : Thread nD τ)) := by
  unfold part12 k0_part12_skel in0B in0E in1B in1E in2B in2E in3B in3F in4B in4F in5B in5F in6B in6F in7B in7F in8B in8F in9B in9F
  simp only [Prog.bind_lift]
  iintro ⟨HI0, HI1, HI2, HI3, HI4, HI5, HI6, HI7, HI8, HI9, HB, HW, HO⟩
  iapply (start 𝒱 c (isem_eq A (n := 0) (by decide) rfl) (sig.dmaCredit_pos _ _ _ _ _ (by decide))) $$ HI0; iintro HI0
  iapply (start 𝒱 c (isem_eq A (n := 1) (by decide) rfl) (sig.dmaCredit_pos _ _ _ _ _ (by decide))) $$ HI1; iintro HI1
  iapply (start 𝒱 c (isem_eq A (n := 2) (by decide) rfl) (sig.dmaCredit_pos _ _ _ _ _ (by decide))) $$ HI2; iintro HI2
  iapply (start 𝒱 c (isem_eq A (n := 3) (by decide) rfl) (sig.dmaCredit_pos _ _ _ _ _ (by decide))) $$ HI3; iintro HI3
  iapply (start 𝒱 c (isem_eq A (n := 4) (by decide) rfl) (sig.dmaCredit_pos _ _ _ _ _ (by decide))) $$ HI4; iintro HI4
  iapply (start 𝒱 c (isem_eq A (n := 5) (by decide) rfl) (sig.dmaCredit_pos _ _ _ _ _ (by decide))) $$ HI5; iintro HI5
  iapply (start 𝒱 c (isem_eq A (n := 6) (by decide) rfl) (sig.dmaCredit_pos _ _ _ _ _ (by decide))) $$ HI6; iintro HI6
  iapply (start 𝒱 c (isem_eq A (n := 7) (by decide) rfl) (sig.dmaCredit_pos _ _ _ _ _ (by decide))) $$ HI7; iintro HI7
  iapply (start 𝒱 c (isem_eq A (n := 8) (by decide) rfl) (sig.dmaCredit_pos _ _ _ _ _ (by decide))) $$ HI8; iintro HI8
  iapply (start 𝒱 c (isem_eq A (n := 9) (by decide) rfl) (sig.dmaCredit_pos _ _ _ _ _ (by decide))) $$ HI9; iintro HI9
  iapply (Scf.wp_for_bind frame (wpE (defs₀ (F := F)) 𝒱 (c : Thread nD τ) none) Set.univ k0_t1_loop.lb k0_t1_loop.ub k0_t1_loop.st k0_t1_ok PUnit.unit
    (t1Body A) (fun k _ => iprop(bigSep (Finset.range 14) (slotsUp c A I k) ∗ own (c : Thread nD τ) A.arg2 (wfrom k) fullShare I.w)) (fun k _ => t1_trip 𝒱 c A I k)) $$ [HB HW]
  · isplitl [HB]; · iexact HB
    iexact HW
  iintro %u ⟨HB, HW⟩
  iapply (arrive 𝒱 c (isem_eq A (n := 0) (by decide) rfl)) $$ [HI0 HO]
  · isplitl [HI0]; · iexact HI0
    iexact HO
  iintro ⟨HD0, HI0, HV0, HO⟩
  iapply (arrive 𝒱 c (isem_eq A (n := 1) (by decide) rfl)) $$ [HI1 HO]
  · isplitl [HI1]; · iexact HI1
    iexact HO
  iintro ⟨HD1, HI1, HV1, HO⟩
  iapply (arrive 𝒱 c (isem_eq A (n := 2) (by decide) rfl)) $$ [HI2 HO]
  · isplitl [HI2]; · iexact HI2
    iexact HO
  iintro ⟨HD2, HI2, HV2, HO⟩
  sl_step
  isplitl [HD0]; · iexact HD0
  isplitl [HD1]; · iexact HD1
  isplitl [HD2]; · iexact HD2
  isplitl [HI0 HV0]
  · isplitl [HI0]; · iexact HI0
    iexact HV0
  isplitl [HI1 HV1]
  · isplitl [HI1]; · iexact HI1
    iexact HV1
  isplitl [HI2 HV2]
  · isplitl [HI2]; · iexact HI2
    iexact HV2
  isplitl [HI3]; · iexact HI3
  isplitl [HI4]; · iexact HI4
  isplitl [HI5]; · iexact HI5
  isplitl [HI6]; · iexact HI6
  isplitl [HI7]; · iexact HI7
  isplitl [HI8]; · iexact HI8
  isplitl [HI9]; · iexact HI9
  isplitl [HB]; · iexact HB
  isplitl [HW]; · iexact HW
  iexact HO

theorem part13_spec :
    iprop(in3F c A I ∗ in4F c A I ∗ in5F c A I ∗ in6F c A I ∗ in7F c A I ∗ in8F c A I ∗ in9F c A I ∗ hold c A.arg17 I.x ∗ hold c A.arg18 I.gain ∗ anyH (F := F) c A.arg27 ∗ owed (c : Thread nD τ))
      ⊢ wp (M := 𝕄) frame (wpE (defs₀ (F := F)) 𝒱 (c : Thread nD τ) none) Set.univ (part13 A)
          fun r => iprop(hold c A.arg21 I.len ∗ hold c A.arg22 I.pres ∗ hold c A.arg23 I.freq ∗ hold c A.arg24 I.rep ∗ hold c A.arg25 I.temp ∗ hold c A.arg26 I.cand ∗ hold c A.arg19 I.ws ∗ in3E c A I ∗ in4E c A I ∗ in5E c A I ∗ in6E c A I ∗ in7E c A I ∗ in8E c A I ∗ in9E c A I ∗ hold c A.arg17 I.x ∗ hold c A.arg18 I.gain ∗ hold c A.arg27 (yv I) ∗ owed (c : Thread nD τ) ∗ ⌜r = ⟨av I, k0_pay49⟩⌝) := by
  unfold part13 k0_part13_skel in3F in3E in4F in4E in5F in5E in6F in6E in7F in7E in8F in8E in9F in9E
  simp only [Prog.bind_lift]
  iintro ⟨HI3, HI4, HI5, HI6, HI7, HI8, HI9, HX, HG, HY, HO⟩
  iapply (arrive 𝒱 c (isem_eq A (n := 3) (by decide) rfl)) $$ [HI3 HO]
  · isplitl [HI3]; · iexact HI3
    iexact HO
  iintro ⟨HD3, HI3, HV3, HO⟩
  iapply (arrive 𝒱 c (isem_eq A (n := 4) (by decide) rfl)) $$ [HI4 HO]
  · isplitl [HI4]; · iexact HI4
    iexact HO
  iintro ⟨HD4, HI4, HV4, HO⟩
  iapply (arrive 𝒱 c (isem_eq A (n := 5) (by decide) rfl)) $$ [HI5 HO]
  · isplitl [HI5]; · iexact HI5
    iexact HO
  iintro ⟨HD5, HI5, HV5, HO⟩
  iapply (arrive 𝒱 c (isem_eq A (n := 6) (by decide) rfl)) $$ [HI6 HO]
  · isplitl [HI6]; · iexact HI6
    iexact HO
  iintro ⟨HD6, HI6, HV6, HO⟩
  iapply (arrive 𝒱 c (isem_eq A (n := 7) (by decide) rfl)) $$ [HI7 HO]
  · isplitl [HI7]; · iexact HI7
    iexact HO
  iintro ⟨HD7, HI7, HV7, HO⟩
  iapply (arrive 𝒱 c (isem_eq A (n := 8) (by decide) rfl)) $$ [HI8 HO]
  · isplitl [HI8]; · iexact HI8
    iexact HO
  iintro ⟨HD8, HI8, HV8, HO⟩
  iapply (arrive 𝒱 c (isem_eq A (n := 9) (by decide) rfl)) $$ [HI9 HO]
  · isplitl [HI9]; · iexact HI9
    iexact HO
  iintro ⟨HD9, HI9, HV9, HO⟩
  iapply (Scf.wp_for_bind frame (wpE (defs₀ (F := F)) 𝒱 (c : Thread nD τ) none) Set.univ k0_t2_loop.lb k0_t2_loop.ub k0_t2_loop.st k0_t2_ok (k0_pay43 (F := F))
    (t2Body A) (fun k acc => iprop(hold c A.arg17 I.x ∗ ⌜acc = sqAt I k⌝)) (fun k acc => t2_trip 𝒱 c A I k acc)) $$ [HX]
  · isplitl [HX]; · iexact HX
    ipureintro; rfl
  iintro %s2 ⟨HX, %hs2⟩
  have e2 : s2 = sq I := hs2.trans (congrArg (sqAt I) (by decide +kernel : k0_t2_loop.trips = 12))
  subst e2
  unfold anyH
  icases HY with ⟨%y0, HY⟩
  iapply (Scf.wp_for_bind frame (wpE (defs₀ (F := F)) 𝒱 (c : Thread nD τ) none) Set.univ k0_t3_loop.lb k0_t3_loop.ub k0_t3_loop.st k0_t3_ok (k0_pay43 (F := F))
    (t3Body A (sq I)) (fun k acc => iprop(hold c A.arg17 I.x ∗ hold c A.arg18 I.gain ∗ hold c A.arg27 (upto pX k (yv I) y0) ∗ ⌜acc = amaxAt I k⌝)) (fun k acc => t3_trip 𝒱 c A I k acc y0)) $$ [HX HG HY]
  · isplitl [HX]; · iexact HX
    isplitl [HG]; · iexact HG
    isplitl [HY]; · rw [upto_zero]; iexact HY
    ipureintro; rfl
  iintro %a3 ⟨HX, HG, HY, %ha3⟩
  have t3 : k0_t3_loop.trips = 12 := by decide +kernel
  have e3 : a3 = amaxAt I 12 := ha3.trans (congrArg (amaxAt I) t3)
  subst e3
  have ey : upto pX k0_t3_loop.trips (yv I) y0 = yv I := by
    rw [t3]; refine upto_all _ _ fun i => ?_
    have h1 : (i 1).val < 12288 := (i 1).isLt
    unfold pX; omega
  ihave HY := (Entails.of_eq (congrArg (hold c A.arg27) ey)) $$ HY
  sl_step
  isplitl [HD3]; · iexact HD3
  isplitl [HD4]; · iexact HD4
  isplitl [HD5]; · iexact HD5
  isplitl [HD6]; · iexact HD6
  isplitl [HD7]; · iexact HD7
  isplitl [HD8]; · iexact HD8
  isplitl [HD9]; · iexact HD9
  isplitl [HI3 HV3]
  · isplitl [HI3]; · iexact HI3
    iexact HV3
  isplitl [HI4 HV4]
  · isplitl [HI4]; · iexact HI4
    iexact HV4
  isplitl [HI5 HV5]
  · isplitl [HI5]; · iexact HI5
    iexact HV5
  isplitl [HI6 HV6]
  · isplitl [HI6]; · iexact HI6
    iexact HV6
  isplitl [HI7 HV7]
  · isplitl [HI7]; · iexact HI7
    iexact HV7
  isplitl [HI8 HV8]
  · isplitl [HI8]; · iexact HI8
    iexact HV8
  isplitl [HI9 HV9]
  · isplitl [HI9]; · iexact HI9
    iexact HV9
  isplitl [HX]; · iexact HX
  isplitl [HG]; · iexact HG
  isplitl [HY]; · iexact HY
  isplitl [HO]; · iexact HO
  ipureintro; rfl

theorem part14_spec :
    iprop(hold c A.arg27 (yv I) ∗ anyH (F := F) c A.arg28)
      ⊢ wp (M := 𝕄) frame (wpE (defs₀ (F := F)) 𝒱 (c : Thread nD τ) none) Set.univ (part14 A (av I) k0_pay49)
          fun r => iprop(hold c A.arg27 (yv I) ∗ hold c A.arg28 (codesv I) ∗ ⌜r = ⟨xsCol I, k0_pay53 (av I) k0_pay49⟩⌝) := by
  unfold part14 k0_part14_skel anyH
  simp only [Prog.bind_lift]
  iintro ⟨HY, %y0, HC⟩
  iapply (Scf.wp_for_bind frame (wpE (defs₀ (F := F)) 𝒱 (c : Thread nD τ) none) Set.univ k0_t4_loop.lb k0_t4_loop.ub k0_t4_loop.st k0_t4_ok PUnit.unit
    (t4Body A (av I) k0_pay49) (fun k acc => iprop(hold c A.arg27 (yv I) ∗ hold c A.arg28 (upto pX k (codesv I) y0))) (fun k acc => t4_trip 𝒱 c A I k y0)) $$ [HY HC]
  · isplitl [HY]; · iexact HY
    rw [upto_zero]; iexact HC
  iintro %u ⟨HY, HC⟩
  have ec : upto pX k0_t4_loop.trips (codesv I) y0 = codesv I := by
    rw [(by decide +kernel : k0_t4_loop.trips = 12)]; refine upto_all _ _ fun i => ?_
    have h1 : (i 1).val < 12288 := (i 1).isLt
    unfold pX; omega
  ihave HC := (Entails.of_eq (congrArg (hold c A.arg28) ec)) $$ HC
  sl_step
  isplitl [HY]; · iexact HY
  isplitl [HC]; · iexact HC
  ipureintro; rfl

/-- A store over a whole two-axis array. -/
theorem store_all {α : Type} {Q : α → sProp 𝕄} {n0 n1 : ℕ} {e : EltTy} {m : Memref sig .tc .vmem ⟨2, ![n0, n1]⟩ e} {inb hx hm} {w : (⟨2, ![n0, n1]⟩ : Shape).Idx → Elt F e}
    {x : (⟨2, ![n0, n1]⟩ : Shape).Idx → Elt F e} {k : PUnit → Prog (TpuEff nD τ sig (Elt F) Λ₀ .tc) α} :
    hold c m x ⊢ iprop((hold c m w -∗ wp (M := 𝕄) frame (wpE (defs₀ (F := F)) 𝒱 (c : Thread nD τ) none) Set.univ (k ⟨⟩) Q)
      -∗ wp (M := 𝕄) frame (wpE (defs₀ (F := F)) 𝒱 (c : Thread nD τ) none) Set.univ
          (.op (.store m (Rect.unit (s := ⟨2, ![n0, n1]⟩) ![0, 0] ![n0, n1] inb) w Finset.univ hx hm) k) Q) := by
  have hall : ∀ i : (⟨2, ![n0, n1]⟩ : Shape).Idx, i ∈ (Rect.unit (s := ⟨2, ![n0, n1]⟩) ![0, 0] ![n0, n1] inb).set := by
    intro i
    rw [mem2 rfl]
    have h0 : (i 0).val < n0 := (i 0).isLt
    have h1 : (i 1).val < n1 := (i 1).isLt
    exact ⟨⟨Nat.zero_le _, by show _ < 0 + n0; omega⟩, ⟨Nat.zero_le _, by show _ < 0 + n1; omega⟩⟩
  exact wp_store_own 𝒱 (c : Thread nD τ) none w (Finset.subset_univ _) (fun j => congrArg w ((idx2 rfl (Nat.zero_add _).symm (Nat.zero_add _).symm).trans (ix2_eta j)))
    (fun i _ hi => absurd (hall i) hi)

/-- A load of a whole two-axis array. -/
theorem load_all {α : Type} {Q : α → sProp 𝕄} {n0 n1 : ℕ} {e : EltTy} {m : Memref sig .tc .vmem ⟨2, ![n0, n1]⟩ e} {inb hl}
    {x : (⟨2, ![n0, n1]⟩ : Shape).Idx → Elt F e} {k : ((⟨2, ![n0, n1]⟩ : Shape).Idx → Elt F e) → Prog (TpuEff nD τ sig (Elt F) Λ₀ .tc) α} :
    hold c m x ⊢ iprop((hold c m x -∗ wp (M := 𝕄) frame (wpE (defs₀ (F := F)) 𝒱 (c : Thread nD τ) none) Set.univ (k x) Q)
      -∗ wp (M := 𝕄) frame (wpE (defs₀ (F := F)) 𝒱 (c : Thread nD τ) none) Set.univ
          ((.op (.load m (Rect.unit (s := ⟨2, ![n0, n1]⟩) ![0, 0] ![n0, n1] inb).toLoadRect hl) k : Prog (TpuEff nD τ sig (Elt F) Λ₀ .tc) α)) Q) := by
  have h := wp_load_own (defs := defs₀ (F := F)) 𝒱 (c : Thread nD τ) none (Q := Q) (E := Set.univ) (m := m) (r := (Rect.unit (s := ⟨2, ![n0, n1]⟩) ![0, 0] ![n0, n1] inb).toLoadRect)
    (hl := hl) (k := k) (S := Finset.univ) (q := fullShare) (x := x) (Finset.subset_univ _)
  rw [ld_all2] at h
  exact h

theorem part15_spec :
    iprop(anyH (F := F) c A.arg37 ∗ hold c A.arg21 I.len ∗ hold c A.arg20 I.ids ∗ anyH (F := F) c A.arg29 ∗ hold c A.arg22 I.pres)
      ⊢ wp (M := 𝕄) frame (wpE (defs₀ (F := F)) 𝒱 (c : Thread nD τ) none) Set.univ (part15 A (xsCol I) (k0_pay53 (av I) k0_pay49))
          fun r => iprop(hold c A.arg37 (xsv I) ∗ hold c A.arg21 I.len ∗ hold c A.arg20 (idsv I) ∗ hold c A.arg29 (cntv I) ∗ hold c A.arg22 I.pres
            ∗ ⌜r = ⟨xsB I, presB I⟩⌝) := by
  unfold part15 k0_part15_skel anyH
  simp only [Prog.bind_lift]
  iintro ⟨⟨%y1, HX⟩, HL, HI, ⟨%y0, HN⟩, HP⟩
  iapply (load_all 𝒱 c) $$ HX; iintro HX
  iapply (store_all 𝒱 c) $$ HX; iintro HX
  iapply (load_all 𝒱 c) $$ HL; iintro HL
  iapply (load_all 𝒱 c) $$ HI; iintro HI
  iapply (load_all 𝒱 c) $$ HI; iintro HI
  iapply (store_all 𝒱 c) $$ HI; iintro HI
  iapply (Scf.wp_for_bind frame (wpE (defs₀ (F := F)) 𝒱 (c : Thread nD τ) none) Set.univ k0_t5_loop.lb k0_t5_loop.ub k0_t5_loop.st k0_t5_ok PUnit.unit
    (t5Body A (xsCol I) (k0_pay53 (av I) k0_pay49)) (fun k acc => iprop(hold c A.arg20 (idsv I) ∗ hold c A.arg29 (upto pC k (cntv I) y0))) (fun k acc => t5_trip 𝒱 c A I k _ _ y0)) $$ [HI HN]
  · isplitl [HI]; · iexact HI
    rw [upto_zero]; iexact HN
  iintro %u ⟨HI, HN⟩
  have en : upto pC k0_t5_loop.trips (cntv I) y0 = cntv I := by
    rw [(by decide +kernel : k0_t5_loop.trips = 16)]; refine upto_all _ _ fun i => ?_
    exact Nat.mod_lt _ (by decide)
  ihave HN := (Entails.of_eq (congrArg (hold c A.arg29) en)) $$ HN
  iapply (load_all 𝒱 c) $$ HP; iintro HP
  sl_step
  isplitl [HX]; · iexact HX
  isplitl [HL]; · iexact HL
  isplitl [HI]; · iexact HI
  isplitl [HN]; · iexact HN
  isplitl [HP]; · iexact HP
  ipureintro; rfl

theorem part16_spec (y33 : S16x128.Idx → Elt F .f32) :
    iprop(hold c A.arg23 I.freq ∗ hold c A.arg24 I.rep ∗ hold c A.arg25 I.temp ∗ hold c A.arg26 I.cand ∗ anyH (F := F) c A.arg31 ∗ anyH (F := F) c A.arg32 ∗ hold c A.arg33 y33)
      ⊢ wp (M := 𝕄) frame (wpE (defs₀ (F := F)) 𝒱 (c : Thread nD τ) none) Set.univ (part16 A)
          fun r => iprop(hold c A.arg23 I.freq ∗ hold c A.arg24 I.rep ∗ hold c A.arg25 I.temp ∗ hold c A.arg26 I.cand ∗ hold c A.arg31 (candv I) ∗ hold c A.arg32 (accAt I 0) ∗ hold c A.arg33 y33
            ∗ ⌜r = ⟨freqB I, repB I, tempB I, k0_pay64, y33⟩⌝) := by
  unfold part16 k0_part16_skel anyH
  simp only [Prog.bind_lift]
  iintro ⟨H23, H24, H25, HC, ⟨%y0, HA⟩, ⟨%z0, HZ⟩, HM⟩
  iapply (load_all 𝒱 c) $$ H23; iintro H23
  iapply (load_all 𝒱 c) $$ H24; iintro H24
  iapply (load_all 𝒱 c) $$ H25; iintro H25
  iapply (Scf.wp_for_bind frame (wpE (defs₀ (F := F)) 𝒱 (c : Thread nD τ) none) Set.univ k0_t6_loop.lb k0_t6_loop.ub k0_t6_loop.st k0_t6_ok PUnit.unit
    (t6Body A) (fun k acc => iprop(hold c A.arg26 I.cand ∗ hold c A.arg31 (upto pP k (candv I) y0) ∗ hold c A.arg32 (upto pP k (accAt I 0) z0))) (fun k acc => t6_trip 𝒱 c A I k y0 z0)) $$ [HC HA HZ]
  · isplitl [HC]; · iexact HC
    rw [upto_zero, upto_zero]
    isplitl [HA]; · iexact HA
    iexact HZ
  iintro %u ⟨HC, HA, HZ⟩
  have ha : ∀ i, pP i < k0_t6_loop.trips := by
    rw [(by decide +kernel : k0_t6_loop.trips = 20)]; exact fun i => (i 0).isLt
  ihave HA := (Entails.of_eq (congrArg (hold c A.arg31) (upto_all (candv I) y0 ha))) $$ HA
  ihave HZ := (Entails.of_eq (congrArg (hold c A.arg32) (upto_all (accAt I 0) z0 ha))) $$ HZ
  iapply (load_all 𝒱 c) $$ HM; iintro HM
  sl_step
  isplitl [H23]; · iexact H23
  isplitl [H24]; · iexact H24
  isplitl [H25]; · iexact H25
  isplitl [HC]; · iexact HC
  isplitl [HA]; · iexact HA
  isplitl [HZ]; · iexact HZ
  isplitl [HM]; · iexact HM
  ipureintro; rfl

end Cert.KernelIdeal.Hand

end
-- ==== Proof.KernelIdeal.Post.lean ====
/-
  The kernel from its main loop on: the loop itself, the row sums, the candidates' log
  probabilities and the results' way out.
-/
module

public import proofs.«01_k».proof.Proof.KernelIdeal.Pre

@[expose] public section

noncomputable section

namespace Cert.KernelIdeal.Hand

open Cert.KernelIdeal Cert.KernelIdeal.Gen Cert.Own
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

variable (𝒱 : Variants) (c : Dev nD) (A : Args) (I : In F)

/-! ## Before and after the main loop -/

/-- The share of the codes that the kernel keeps while they are copied out. -/
abbrev qk : PosShare TreeShare := fullShare.left

/-- The share of the codes that their copy out holds. -/
abbrev qc : PosShare TreeShare := fullShare.right

theorem share_codes : (hold c A.arg28 (codesv I) : sProp 𝕄) = iprop(own (c : Thread nD τ) A.arg28 Finset.univ qk (codesv I) ∗ own (c : Thread nD τ) A.arg28 Finset.univ qc (codesv I)) :=
  own_share fullShare.mem_left_op_right

/-- What the main loop holds before its first block. -/
theorem mainInv_zero (y yh : S16x32000.Idx → Elt F .f32) :
    (mainInv c A I qk y yh 0 : sProp 𝕄)
      = iprop(bigSep (Finset.range 14) (slotsUp c A I 14) ∗ own (c : Thread nD τ) A.arg2 (wfrom 14) fullShare I.w
        ∗ hold c A.arg30 y ∗ hold c A.arg13 yh
        ∗ Batch EC (c : Thread nD τ) (.dma A.arg40.sem) () (zN A) (zD c A I) 0 0
        ∗ hold c A.arg33 (mAt I 0) ∗ hold c A.arg34 (sAt I 0)
        ∗ hold c A.arg31 (candv I) ∗ hold c A.arg32 (accAt I 0)
        ∗ iprop(own (c : Thread nD τ) A.arg28 Finset.univ qk (codesv I) ∗ hold c A.arg19 I.ws ∗ hold c A.arg29 (cntv I)) ∗ owed (c : Thread nD τ)) := by
  have e : zset 0 = Finset.univ := by
    ext i
    simp only [zset, Finset.mem_filter_univ, Finset.mem_univ, iff_true]; omega
  unfold mainInv zH
  rw [← slotsAt_zero, wrest_zero, e, Nat.mul_zero, upto_zero]
  rfl

/-- What the main loop leaves. -/
def mainEnd (y yh : S16x32000.Idx → Elt F .f32) : sProp 𝕄 :=
  iprop(bigSep (Finset.range 14) (slotFree c A) ∗ hold c A.arg2 I.w
    ∗ own (c : Thread nD τ) A.arg30 (zblk 124) fullShare (zv I) ∗ own (c : Thread nD τ) A.arg13 (zblk 124) fullShare yh
    ∗ Batch EC (c : Thread nD τ) (.dma A.arg40.sem) () (zN A) (zD c A I) 124 0
    ∗ hold c A.arg33 (mAt I 125) ∗ hold c A.arg34 (sAt I 125)
    ∗ hold c A.arg31 (candv I) ∗ hold c A.arg32 (accAt I 125)
    ∗ own (c : Thread nD τ) A.arg28 Finset.univ qk (codesv I) ∗ hold c A.arg19 I.ws ∗ hold c A.arg29 (cntv I) ∗ owed (c : Thread nD τ))

theorem mainInv_end (y yh : S16x32000.Idx → Elt F .f32) : (mainInv c A I qk y yh 125 : sProp 𝕄) ⊢ mainEnd c A I y yh := by
  have e1 : bigSep (Finset.range 14) (slotsAt c A I 125) = bigSep (Finset.range 14) (slotFree c A) := by
    refine bigSep_congr fun s hs => ?_
    unfold slotsAt; rw [if_neg (by unfold slotb; omega)]
  have e2 : wrest 125 = Finset.univ := by
    ext i
    have h1 : (i 1).val < 32000 := (i 1).isLt
    simp only [wrest, Finset.mem_filter_univ, Finset.mem_univ, iff_true]; omega
  have e3 : zset 125 = zblk 124 := by
    ext i
    have h1 : (i 1).val < 32000 := (i 1).isLt
    simp only [zset, zblk, Finset.mem_filter_univ]; omega
  have e4 : upto pZ (2 * 125) (zv I) y = zv I := by
    refine upto_all _ _ fun i => ?_
    have h1 : (i 1).val < 32000 := (i 1).isLt
    unfold pZ; omega
  unfold mainInv mainEnd zH roH candsH
  rw [e1, e2, e3, e4]
  iintro ⟨H1, H2, H3, H4, H5, H6, H7, H8, H9, ⟨H10, H11, H12⟩, H13⟩
  iframe H1 H2 H3 H4 H5 H6 H7 H8 H9 H10 H11 H12 H13

theorem part17_spec (y33 : S16x128.Idx → Elt F .f32) (y yh : S16x32000.Idx → Elt F .f32) :
    iprop(hold c A.arg33 y33 ∗ anyH (F := F) c A.arg34
        ∗ (hold c A.arg28 (codesv I) ∗ anyH (F := F) c A.arg14 ∗ semVal ((c : Thread nD τ), .dma (outsem A 0)) 0)
        ∗ (hold c A.arg37 (xsv I) ∗ anyH (F := F) c A.arg15 ∗ semVal ((c : Thread nD τ), .dma (outsem A 1)) 0)
        ∗ bigSep (Finset.range 14) (slotsUp c A I 14) ∗ own (c : Thread nD τ) A.arg2 (wfrom 14) fullShare I.w
        ∗ hold c A.arg30 y ∗ hold c A.arg13 yh ∗ semVal ((c : Thread nD τ), .dma A.arg40.sem) 0
        ∗ hold c A.arg31 (candv I) ∗ hold c A.arg32 (accAt I 0)
        ∗ hold c A.arg19 I.ws ∗ hold c A.arg29 (cntv I) ∗ anyH (F := F) c A.arg35 ∗ owed (c : Thread nD τ))
      ⊢ wp (M := 𝕄) frame (wpE (defs₀ (F := F)) 𝒱 (c : Thread nD τ) none) Set.univ (part17 A (xsB I) (presB I) (freqB I) (repB I) (tempB I) k0_pay64 y33)
          fun r => iprop(mainEnd c A I y yh ∗ flown c (outsem A 0) A.arg28 A.arg14 qc (codesv I) ∗ flown c (outsem A 1) A.arg37 A.arg15 fullShare (xsv I)
            ∗ anyH (F := F) c A.arg35 ∗ ⌜r = ⟨lseCol I, lsev I⟩⌝) := by
  unfold part17 k0_part17_skel
  simp only [Prog.bind_lift]
  iintro ⟨HM, HS, ⟨HC, HCO, HCV⟩, HX, HB, HW, HZ, HO, HV, HCA, HAC, HWS, HN, HL, HOW⟩
  iapply (store_all 𝒱 c) $$ HM; iintro HM
  unfold anyH
  icases HS with ⟨%y34, HS⟩
  icases HL with ⟨%y35, HL⟩
  iapply (load_all 𝒱 c) $$ HS; iintro HS
  iapply (store_all 𝒱 c) $$ HS; iintro HS
  ihave HC := (Entails.of_eq (share_codes c A I)) $$ HC
  icases HC with ⟨HC, HC2⟩
  iapply (start 𝒱 c (outsem_eq A (n := 0) (by decide) rfl) (sig.dmaCredit_pos _ _ _ _ _ (by decide))) $$ [HC2 HCO HCV]
  · unfold anyH
    iframe HC2 HCO HCV
  iintro HF0
  iapply (start 𝒱 c (outsem_eq A (n := 1) (by decide) rfl) (sig.dmaCredit_pos _ _ _ _ _ (by decide))) $$ [HX]
  · unfold anyH
    iexact HX
  iintro HF1
  imod (batch_alloc' EC (c : Thread nD τ) () (zN A) (zD c A I) (E := Set.univ)) $$ HV with HBT
  iapply (Scf.wp_for_bind frame (wpE (defs₀ (F := F)) 𝒱 (c : Thread nD τ) none) Set.univ k0_t7_loop.lb k0_t7_loop.ub k0_t7_loop.st k0_t7_ok PUnit.unit
    (t7Body A (xsB I) (presB I) (freqB I) (repB I) (tempB I) k0_pay64 y33) (fun k _ => mainInv c A I qk y yh k) (fun k _ => t7_trip 𝒱 c A I qk y yh k _ _)) $$ [HB HW HZ HO HBT HM HS HCA HAC HC HWS HN HOW]
  · rw [mainInv_zero]
    isplitl [HB]; · iexact HB
    isplitl [HW]; · iexact HW
    isplitl [HZ]; · iexact HZ
    isplitl [HO]; · iexact HO
    isplitl [HBT]; · iexact HBT
    isplitl [HM]; · iexact HM
    isplitl [HS]; · iexact HS
    isplitl [HCA]; · iexact HCA
    isplitl [HAC]; · iexact HAC
    isplitl [HC HWS HN]
    · isplitl [HC]; · iexact HC
      isplitl [HWS]; · iexact HWS
      iexact HN
    iexact HOW
  iintro %u HE
  ihave HE := (Entails.of_eq (congrArg (mainInv c A I qk y yh) (by decide +kernel : k0_t7_loop.trips = 125))) $$ HE
  ihave HE := (mainInv_end c A I y yh) $$ HE
  unfold mainEnd
  icases HE with ⟨H1, H2, H3, H4, H5, HM, HS, H8⟩
  iapply (load_all 𝒱 c) $$ HM; iintro HM
  iapply (load_all 𝒱 c) $$ HS; iintro HS
  iapply (load_all 𝒱 c) $$ HL; iintro HL
  sl_step
  isplitl [H1 H2 H3 H4 H5 HM HS H8]
  · isplitl [H1]; · iexact H1
    isplitl [H2]; · iexact H2
    isplitl [H3]; · iexact H3
    isplitl [H4]; · iexact H4
    isplitl [H5]; · iexact H5
    isplitl [HM]; · iexact HM
    isplitl [HS]; · iexact HS
    iexact H8
  isplitl [HF0]; · iexact HF0
  isplitl [HF1]; · iexact HF1
  isplitl [HL]; · iexists y35; iexact HL
  ipureintro; rfl

/-! ## The candidates' columns -/

/-- The candidate a result element belongs to. -/
def pL (i : S16x20.Idx) : ℕ := (i 1).val

/-- The candidates' log probabilities, written below candidate `t`. -/
def clpH (t : ℕ) (y : S16x20.Idx → Elt F .f32) : sProp 𝕄 := hold c A.arg36 (upto pL t (clpv I) y)

theorem col_set {j : ℕ} {inb} (i : S16x20.Idx) : i ∈ (Rect.unit (s := S16x20) ![0, j] S16x1.size inb).set ↔ pL i = j := by
  rw [mem2 rfl]
  have h0 : (i 0).val < 16 := (i 0).isLt
  show ((0 ≤ (i 0).val ∧ (i 0).val < 0 + 16) ∧ (j ≤ (i 1).val ∧ (i 1).val < j + 1)) ↔ (i 1).val = j
  omega

/-- A load of a candidate's mixed logits. -/
theorem load_done {α : Type} {Q : α → sProp 𝕄} {acc : FVec F S20x16x128 .f32} {j : ℕ} (hj : j < 20) {inb hl} {k : (S1x16x128.Idx → Elt F .f32) → Prog (TpuEff nD τ sig (Elt F) Λ₀ .tc) α} :
    hold c A.arg32 acc ⊢ iprop((hold c A.arg32 acc -∗ wp (M := 𝕄) frame (wpE (defs₀ (F := F)) 𝒱 (c : Thread nD τ) none) Set.univ (k (plane acc j)) Q)
      -∗ wp (M := 𝕄) frame (wpE (defs₀ (F := F)) 𝒱 (c : Thread nD τ) none) Set.univ
          ((.op (.load A.arg32 (Rect.unit (s := S20x16x128) ![j, 0, 0] S1x16x128.size inb).toLoadRect hl) k : Prog (TpuEff nD τ sig (Elt F) Λ₀ .tc) α)) Q) := by
  rw [← plane_read (inb := inb) acc hj]
  exact wp_load_own 𝒱 (c : Thread nD τ) none (Finset.subset_univ _)

/-- A load of a result column. -/
theorem load_col {α : Type} {Q : α → sProp 𝕄} {t : ℕ} {y : S16x20.Idx → Elt F .f32} {j : ℕ} {inb hl} {k : Prog (TpuEff nD τ sig (Elt F) Λ₀ .tc) α} :
    clpH c A I t y ⊢ iprop((clpH c A I t y -∗ wp (M := 𝕄) frame (wpE (defs₀ (F := F)) 𝒱 (c : Thread nD τ) none) Set.univ k Q)
      -∗ wp (M := 𝕄) frame (wpE (defs₀ (F := F)) 𝒱 (c : Thread nD τ) none) Set.univ
          ((.op (.load A.arg36 (Rect.unit (s := S16x20) ![0, j] S16x1.size inb).toLoadRect hl) (fun _ => k) : Prog (TpuEff nD τ sig (Elt F) Λ₀ .tc) α)) Q) :=
  wp_load_own (defs := defs₀ (F := F)) 𝒱 (c : Thread nD τ) none (Q := Q) (E := Set.univ) (m := A.arg36) (r := (Rect.unit (s := S16x20) ![0, j] S16x1.size inb).toLoadRect)
    (hl := hl) (k := fun _ => k) (S := Finset.univ) (q := fullShare) (Finset.subset_univ _)

/-- A store of a result column. -/
theorem store_col {α : Type} {Q : α → sProp 𝕄} {y : S16x20.Idx → Elt F .f32} {j : ℕ} (hj : j < 20) {inb hx hm} {w : FVec F S16x1 .f32}
    (hw : w = k0_pay70 (lseCol I) (plane (accAt I 125) j))
    {k : PUnit → Prog (TpuEff nD τ sig (Elt F) Λ₀ .tc) α} :
    clpH c A I j y ⊢ iprop((clpH c A I (j + 1) y -∗ wp (M := 𝕄) frame (wpE (defs₀ (F := F)) 𝒱 (c : Thread nD τ) none) Set.univ (k ⟨⟩) Q)
      -∗ wp (M := 𝕄) frame (wpE (defs₀ (F := F)) 𝒱 (c : Thread nD τ) none) Set.univ
          (.op (.store A.arg36 (Rect.unit (s := S16x20) ![0, j] S16x1.size inb) w Finset.univ hx hm) k) Q) := by
  have e : ∀ i, clpv I ((Rect.unit (s := S16x20) ![0, j] S16x1.size inb).toLoadRect.idx i) = w i := by
    intro i
    have h1 : (i 1).val = 0 := by have : (i 1).val < 1 := (i 1).isLt; omega
    have h0 : (i 0).val < 16 := (i 0).isLt
    have e2 : (Rect.unit (s := S16x20) ![0, j] S16x1.size inb).toLoadRect.idx i = ix2 (⟨(i 0).val, h0⟩ : Fin 16) (⟨j, hj⟩ : Fin 20) :=
      idx2 rfl (Nat.zero_add _).symm ((Nat.add_zero j).symm.trans (congrArg (j + ·) h1.symm))
    refine (congrArg (clpv I) e2).trans ?_
    rw [hw]
    refine congrArg (k0_pay70 (lseCol I) (plane (accAt I 125) j)) ?_
    funext a
    match a with
    | ⟨0, _⟩ => rfl
    | ⟨1, _⟩ => exact Fin.ext h1.symm
  have es : ∀ i, i ∈ (Rect.unit (s := S16x20) ![0, j] S16x1.size inb).set ↔ pL i = j := fun i => col_set i
  unfold clpH
  generalize clpv I = M at e ⊢
  iintro HZ Hk
  iapply (wp_store_upto 𝒱 (c : Thread nD τ) none pL j M y es (fun i _ => Finset.mem_univ i) e) $$ HZ
  iexact Hk

theorem part18_spec (y : S16x20.Idx → Elt F .f32) :
    iprop(anyH (F := F) c A.arg35 ∗ hold c A.arg32 (accAt I 125) ∗ clpH c A I 0 y)
      ⊢ wp (M := 𝕄) frame (wpE (defs₀ (F := F)) 𝒱 (c : Thread nD τ) none) Set.univ (part18 A (lseCol I) (lsev I))
          fun r => iprop(hold c A.arg35 (lsev I) ∗ hold c A.arg32 (accAt I 125) ∗ clpH c A I 3 y ∗ ⌜r = k0_pay70 (lseCol I) (plane (accAt I 125) 3)⌝) := by
  unfold part18 k0_part18_skel
  simp only [Prog.bind_lift]
  unfold anyH
  iintro ⟨⟨%y35, HL⟩, HA, HC⟩
  iapply (store_all 𝒱 c) $$ HL; iintro HL
  iapply (load_done 𝒱 c A (by decide)) $$ HA; iintro HA
  iapply (load_col 𝒱 c A I) $$ HC; iintro HC
  iapply (store_col 𝒱 c A I (j := 0) (by decide) rfl) $$ HC; iintro HC
  iapply (load_done 𝒱 c A (by decide)) $$ HA; iintro HA
  iapply (load_col 𝒱 c A I) $$ HC; iintro HC
  iapply (store_col 𝒱 c A I (j := 1) (by decide) rfl) $$ HC; iintro HC
  iapply (load_done 𝒱 c A (by decide)) $$ HA; iintro HA
  iapply (load_col 𝒱 c A I) $$ HC; iintro HC
  iapply (store_col 𝒱 c A I (j := 2) (by decide) rfl) $$ HC; iintro HC
  iapply (load_done 𝒱 c A (by decide)) $$ HA; iintro HA
  iapply (load_col 𝒱 c A I) $$ HC; iintro HC
  sl_step
  isplitl [HL]; · iexact HL
  isplitl [HA]; · iexact HA
  isplitl [HC]; · iexact HC
  ipureintro; rfl

theorem part19_spec (y : S16x20.Idx → Elt F .f32) :
    iprop(hold c A.arg32 (accAt I 125) ∗ clpH c A I 3 y)
      ⊢ wp (M := 𝕄) frame (wpE (defs₀ (F := F)) 𝒱 (c : Thread nD τ) none) Set.univ (part19 A (lseCol I) (k0_pay70 (lseCol I) (plane (accAt I 125) 3)))
          fun r => iprop(hold c A.arg32 (accAt I 125) ∗ clpH c A I 7 y ∗ ⌜r = k0_pay70 (lseCol I) (plane (accAt I 125) 7)⌝) := by
  unfold part19 k0_part19_skel
  simp only [Prog.bind_lift]
  iintro ⟨HA, HC⟩
  iapply (store_col 𝒱 c A I (j := 3) (by decide) rfl) $$ HC; iintro HC
  iapply (load_done 𝒱 c A (by decide)) $$ HA; iintro HA
  iapply (load_col 𝒱 c A I) $$ HC; iintro HC
  iapply (store_col 𝒱 c A I (j := 4) (by decide) rfl) $$ HC; iintro HC
  iapply (load_done 𝒱 c A (by decide)) $$ HA; iintro HA
  iapply (load_col 𝒱 c A I) $$ HC; iintro HC
  iapply (store_col 𝒱 c A I (j := 5) (by decide) rfl) $$ HC; iintro HC
  iapply (load_done 𝒱 c A (by decide)) $$ HA; iintro HA
  iapply (load_col 𝒱 c A I) $$ HC; iintro HC
  iapply (store_col 𝒱 c A I (j := 6) (by decide) rfl) $$ HC; iintro HC
  iapply (load_done 𝒱 c A (by decide)) $$ HA; iintro HA
  iapply (load_col 𝒱 c A I) $$ HC; iintro HC
  sl_step
  isplitl [HA]; · iexact HA
  isplitl [HC]; · iexact HC
  ipureintro; rfl

theorem part20_spec (y : S16x20.Idx → Elt F .f32) :
    iprop(hold c A.arg32 (accAt I 125) ∗ clpH c A I 7 y)
      ⊢ wp (M := 𝕄) frame (wpE (defs₀ (F := F)) 𝒱 (c : Thread nD τ) none) Set.univ (part20 A (lseCol I) (k0_pay70 (lseCol I) (plane (accAt I 125) 7)))
          fun r => iprop(hold c A.arg32 (accAt I 125) ∗ clpH c A I 11 y ∗ ⌜r = k0_pay70 (lseCol I) (plane (accAt I 125) 11)⌝) := by
  unfold part20 k0_part20_skel
  simp only [Prog.bind_lift]
  iintro ⟨HA, HC⟩
  iapply (store_col 𝒱 c A I (j := 7) (by decide) rfl) $$ HC; iintro HC
  iapply (load_done 𝒱 c A (by decide)) $$ HA; iintro HA
  iapply (load_col 𝒱 c A I) $$ HC; iintro HC
  iapply (store_col 𝒱 c A I (j := 8) (by decide) rfl) $$ HC; iintro HC
  iapply (load_done 𝒱 c A (by decide)) $$ HA; iintro HA
  iapply (load_col 𝒱 c A I) $$ HC; iintro HC
  iapply (store_col 𝒱 c A I (j := 9) (by decide) rfl) $$ HC; iintro HC
  iapply (load_done 𝒱 c A (by decide)) $$ HA; iintro HA
  iapply (load_col 𝒱 c A I) $$ HC; iintro HC
  iapply (store_col 𝒱 c A I (j := 10) (by decide) rfl) $$ HC; iintro HC
  iapply (load_done 𝒱 c A (by decide)) $$ HA; iintro HA
  iapply (load_col 𝒱 c A I) $$ HC; iintro HC
  sl_step
  isplitl [HA]; · iexact HA
  isplitl [HC]; · iexact HC
  ipureintro; rfl

theorem part21_spec (y : S16x20.Idx → Elt F .f32) :
    iprop(hold c A.arg32 (accAt I 125) ∗ clpH c A I 11 y)
      ⊢ wp (M := 𝕄) frame (wpE (defs₀ (F := F)) 𝒱 (c : Thread nD τ) none) Set.univ (part21 A (lseCol I) (k0_pay70 (lseCol I) (plane (accAt I 125) 11)))
          fun r => iprop(hold c A.arg32 (accAt I 125) ∗ clpH c A I 15 y ∗ ⌜r = k0_pay70 (lseCol I) (plane (accAt I 125) 15)⌝) := by
  unfold part21 k0_part21_skel
  simp only [Prog.bind_lift]
  iintro ⟨HA, HC⟩
  iapply (store_col 𝒱 c A I (j := 11) (by decide) rfl) $$ HC; iintro HC
  iapply (load_done 𝒱 c A (by decide)) $$ HA; iintro HA
  iapply (load_col 𝒱 c A I) $$ HC; iintro HC
  iapply (store_col 𝒱 c A I (j := 12) (by decide) rfl) $$ HC; iintro HC
  iapply (load_done 𝒱 c A (by decide)) $$ HA; iintro HA
  iapply (load_col 𝒱 c A I) $$ HC; iintro HC
  iapply (store_col 𝒱 c A I (j := 13) (by decide) rfl) $$ HC; iintro HC
  iapply (load_done 𝒱 c A (by decide)) $$ HA; iintro HA
  iapply (load_col 𝒱 c A I) $$ HC; iintro HC
  iapply (store_col 𝒱 c A I (j := 14) (by decide) rfl) $$ HC; iintro HC
  iapply (load_done 𝒱 c A (by decide)) $$ HA; iintro HA
  iapply (load_col 𝒱 c A I) $$ HC; iintro HC
  sl_step
  isplitl [HA]; · iexact HA
  isplitl [HC]; · iexact HC
  ipureintro; rfl

theorem part22_spec (y : S16x20.Idx → Elt F .f32) :
    iprop(hold c A.arg32 (accAt I 125) ∗ clpH c A I 15 y)
      ⊢ wp (M := 𝕄) frame (wpE (defs₀ (F := F)) 𝒱 (c : Thread nD τ) none) Set.univ (part22 A (lseCol I) (k0_pay70 (lseCol I) (plane (accAt I 125) 15)))
          fun r => iprop(hold c A.arg32 (accAt I 125) ∗ clpH c A I 19 y ∗ ⌜r = k0_pay70 (lseCol I) (plane (accAt I 125) 19)⌝) := by
  unfold part22 k0_part22_skel
  simp only [Prog.bind_lift]
  iintro ⟨HA, HC⟩
  iapply (store_col 𝒱 c A I (j := 15) (by decide) rfl) $$ HC; iintro HC
  iapply (load_done 𝒱 c A (by decide)) $$ HA; iintro HA
  iapply (load_col 𝒱 c A I) $$ HC; iintro HC
  iapply (store_col 𝒱 c A I (j := 16) (by decide) rfl) $$ HC; iintro HC
  iapply (load_done 𝒱 c A (by decide)) $$ HA; iintro HA
  iapply (load_col 𝒱 c A I) $$ HC; iintro HC
  iapply (store_col 𝒱 c A I (j := 17) (by decide) rfl) $$ HC; iintro HC
  iapply (load_done 𝒱 c A (by decide)) $$ HA; iintro HA
  iapply (load_col 𝒱 c A I) $$ HC; iintro HC
  iapply (store_col 𝒱 c A I (j := 18) (by decide) rfl) $$ HC; iintro HC
  iapply (load_done 𝒱 c A (by decide)) $$ HA; iintro HA
  iapply (load_col 𝒱 c A I) $$ HC; iintro HC
  sl_step
  isplitl [HA]; · iexact HA
  isplitl [HC]; · iexact HC
  ipureintro; rfl

end Cert.KernelIdeal.Hand

end
-- ==== Proof.KernelIdeal.Whole.lean ====
/-
  The kernel's body as a whole: from the inputs, the scratch arrays and the cells to the five
  results.
-/
module

public import proofs.«01_k».proof.Proof.KernelIdeal.Post

@[expose] public section

noncomputable section

namespace Cert.KernelIdeal.Hand

open Cert.KernelIdeal Cert.KernelIdeal.Gen Cert.Own
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

variable (𝒱 : Variants) (c : Dev nD) (A : Args) (I : In F)

/-! ## The blocks of the logits together -/

theorem zblk_all {sp0 : Space} {m : Memref sig .tc sp0 S16x32000 .f32} (x : S16x32000.Idx → Elt F .f32) :
    (bigSep Finset.univ fun t : Fin 125 => own (c : Thread nD τ) m (zblk t.val) fullShare x : sProp 𝕄) = hold c m x := by
  rw [← own_biUnion (c := (c : Thread nD τ)) (m := m) (q := fullShare) (x := x) Finset.univ (fun t : Fin 125 => zblk t.val)]
  · refine congrArg (fun S => own (c : Thread nD τ) m S fullShare x) ?_
    ext i
    have h1 : (i 1).val < 32000 := (i 1).isLt
    simp only [Finset.mem_biUnion, zblk, Finset.mem_filter_univ, Finset.mem_univ, true_and, iff_true]
    exact ⟨⟨(i 1).val / 256, by omega⟩, rfl⟩
  · intro t _ t' _ h
    rw [Finset.disjoint_left]; intro i h1 h2
    rw [zblk, Finset.mem_filter_univ] at h1 h2
    exact h (Fin.ext (h1.symm.trans h2))

theorem zD_all : (bigSep Finset.univ (zD c A I) : sProp 𝕄) = iprop(hold c A.arg13 (zv I) ∗ hold c A.arg30 (zv I)) := by
  rw [← zblk_all c (m := A.arg13), ← zblk_all c (m := A.arg30)]
  exact bigSep_sep _ _ _

theorem anyH_eq {sp : Space} {s : Shape} {e : EltTy} (m : Memref sig .tc sp s e) : (anyH (F := F) c m : sProp 𝕄) = iprop(∃ y : s.Idx → Elt F e, hold c m y) := rfl

/-! ## The body -/

/-- What the body starts from. -/
def bodyIn : sProp 𝕄 :=
  iprop(in0B c A I
    ∗ in1B c A I
    ∗ in2B c A I
    ∗ in3B c A I
    ∗ in4B c A I
    ∗ in5B c A I
    ∗ in6B c A I
    ∗ in7B c A I
    ∗ in8B c A I
    ∗ in9B c A I
    ∗ bigSep (Finset.range 14) (slotFree c A)
    ∗ hold c A.arg2 I.w
    ∗ anyH (F := F) c A.arg11
    ∗ anyH (F := F) c A.arg12
    ∗ anyH (F := F) c A.arg13
    ∗ anyH (F := F) c A.arg14
    ∗ anyH (F := F) c A.arg15
    ∗ anyH (F := F) c A.arg27
    ∗ anyH (F := F) c A.arg28
    ∗ anyH (F := F) c A.arg29
    ∗ anyH (F := F) c A.arg30
    ∗ anyH (F := F) c A.arg31
    ∗ anyH (F := F) c A.arg32
    ∗ anyH (F := F) c A.arg33
    ∗ anyH (F := F) c A.arg34
    ∗ anyH (F := F) c A.arg35
    ∗ anyH (F := F) c A.arg36
    ∗ anyH (F := F) c A.arg37
    ∗ semVal ((c : Thread nD τ), .dma (outsem A 0)) 0
    ∗ semVal ((c : Thread nD τ), .dma (outsem A 1)) 0
    ∗ semVal ((c : Thread nD τ), .dma (outsem A 2)) 0
    ∗ semVal ((c : Thread nD τ), .dma (outsem A 3)) 0
    ∗ semVal ((c : Thread nD τ), .dma A.arg40.sem) 0
    ∗ owed (c : Thread nD τ))

/-- What the body leaves. -/
def bodyOut : sProp 𝕄 :=
  iprop(in0E c A I
    ∗ in1E c A I
    ∗ in2E c A I
    ∗ in3E c A I
    ∗ in4E c A I
    ∗ in5E c A I
    ∗ in6E c A I
    ∗ in7E c A I
    ∗ in8E c A I
    ∗ in9E c A I
    ∗ bigSep (Finset.range 14) (slotFree c A)
    ∗ hold c A.arg2 I.w
    ∗ hold c A.arg11 (lsev I)
    ∗ hold c A.arg12 (clpv I)
    ∗ hold c A.arg13 (zv I)
    ∗ hold c A.arg14 (codesv I)
    ∗ hold c A.arg15 (xsv I)
    ∗ hold c A.arg17 I.x
    ∗ hold c A.arg18 I.gain
    ∗ hold c A.arg19 I.ws
    ∗ hold c A.arg20 (idsv I)
    ∗ hold c A.arg21 I.len
    ∗ hold c A.arg22 I.pres
    ∗ hold c A.arg23 I.freq
    ∗ hold c A.arg24 I.rep
    ∗ hold c A.arg25 I.temp
    ∗ hold c A.arg26 I.cand
    ∗ hold c A.arg27 (yv I)
    ∗ hold c A.arg28 (codesv I)
    ∗ hold c A.arg29 (cntv I)
    ∗ hold c A.arg30 (zv I)
    ∗ hold c A.arg31 (candv I)
    ∗ hold c A.arg32 (accAt I 125)
    ∗ hold c A.arg33 (mAt I 125)
    ∗ hold c A.arg34 (sAt I 125)
    ∗ hold c A.arg35 (lsev I)
    ∗ hold c A.arg36 (clpv I)
    ∗ hold c A.arg37 (xsv I)
    ∗ semVal ((c : Thread nD τ), .dma (outsem A 0)) 0
    ∗ semVal ((c : Thread nD τ), .dma (outsem A 1)) 0
    ∗ semVal ((c : Thread nD τ), .dma (outsem A 2)) 0
    ∗ semVal ((c : Thread nD τ), .dma (outsem A 3)) 0
    ∗ semVal ((c : Thread nD τ), .dma A.arg40.sem) 0
    ∗ owed (c : Thread nD τ))

theorem whole_spec (hJ : A.arg13.view.dmaCredit = zN A * 125) :
    bodyIn c A I ⊢ wp (M := 𝕄) frame (wpE (defs₀ (F := F)) 𝒱 (c : Thread nD τ) none) Set.univ (whole A) fun _ => bodyOut c A I := by
  unfold whole cc0_fp8_head_skel bodyIn
  simp only [k0_part12_eq_skeleton, k0_part13_eq_skeleton, k0_part14_eq_skeleton, k0_part15_eq_skeleton, k0_part16_eq_skeleton, k0_part17_eq_skeleton,
    k0_part18_eq_skeleton, k0_part19_eq_skeleton, k0_part20_eq_skeleton, k0_part21_eq_skeleton, k0_part22_eq_skeleton, Prog.bind_lift]
  iintro ⟨HI0, HI1, HI2, HI3, HI4, HI5, HI6, HI7, HI8, HI9, HB, HW, H11, H12, H13, H14, H15, H27, H28, H29, H30, H31, H32, H33, H34, H35, H36, H37, HV0, HV1, HV2, HV3, HZV, HO⟩
  have eu : bigSep (Finset.range 14) (slotFree c A) = bigSep (Finset.range 14) (slotsUp c A I 0) :=
    bigSep_congr fun s _ => by unfold slotsUp; rw [if_neg (Nat.not_lt_zero _)]
  have ew : (Finset.univ : Finset S12288x32000.Idx) = wfrom 0 := by
    ext i; simp only [wfrom, Finset.mem_filter_univ, Finset.mem_univ, Nat.zero_le]
  ihave HB := (Entails.of_eq eu) $$ HB
  ihave HW := (Entails.of_eq (congrArg (fun S => own (c : Thread nD τ) A.arg2 S fullShare I.w) ew)) $$ HW
  iapply (wp_part 𝒱 c (part12_spec 𝒱 c A I)) $$ [HI0 HI1 HI2 HI3 HI4 HI5 HI6 HI7 HI8 HI9 HB HW HO]
  · isplitl [HI0]; · iexact HI0
    isplitl [HI1]; · iexact HI1
    isplitl [HI2]; · iexact HI2
    isplitl [HI3]; · iexact HI3
    isplitl [HI4]; · iexact HI4
    isplitl [HI5]; · iexact HI5
    isplitl [HI6]; · iexact HI6
    isplitl [HI7]; · iexact HI7
    isplitl [HI8]; · iexact HI8
    isplitl [HI9]; · iexact HI9
    isplitl [HB]; · iexact HB
    isplitl [HW]; · iexact HW
    iexact HO
  iintro %r ⟨H17, H18, H20, HI0, HI1, HI2, HI3, HI4, HI5, HI6, HI7, HI8, HI9, HB, HW, HO⟩
  iapply (wp_part 𝒱 c (part13_spec 𝒱 c A I)) $$ [HI3 HI4 HI5 HI6 HI7 HI8 HI9 H17 H18 H27 HO]
  · isplitl [HI3]; · iexact HI3
    isplitl [HI4]; · iexact HI4
    isplitl [HI5]; · iexact HI5
    isplitl [HI6]; · iexact HI6
    isplitl [HI7]; · iexact HI7
    isplitl [HI8]; · iexact HI8
    isplitl [HI9]; · iexact HI9
    isplitl [H17]; · iexact H17
    isplitl [H18]; · iexact H18
    isplitl [H27]; · iexact H27
    iexact HO
  iintro %r ⟨H21, H22, H23, H24, H25, H26, H19, HI3, HI4, HI5, HI6, HI7, HI8, HI9, H17, H18, H27, HO, %hr⟩
  subst hr
  iapply (wp_part 𝒱 c (part14_spec 𝒱 c A I)) $$ [H27 H28]
  · isplitl [H27]; · iexact H27
    iexact H28
  iintro %r ⟨H27, H28, %hr⟩
  subst hr
  iapply (wp_part 𝒱 c (part15_spec 𝒱 c A I)) $$ [H37 H21 H20 H29 H22]
  · isplitl [H37]; · iexact H37
    isplitl [H21]; · iexact H21
    isplitl [H20]; · iexact H20
    isplitl [H29]; · iexact H29
    iexact H22
  iintro %r ⟨H37, H21, H20, H29, H22, %hr⟩
  subst hr
  ihave H33 := (Entails.of_eq (anyH_eq c A.arg33)) $$ H33
  ihave H30 := (Entails.of_eq (anyH_eq c A.arg30)) $$ H30
  ihave H13 := (Entails.of_eq (anyH_eq c A.arg13)) $$ H13
  icases H33 with ⟨%y33, H33⟩
  icases H30 with ⟨%y30, H30⟩
  icases H13 with ⟨%y13, H13⟩
  iapply (wp_part 𝒱 c (part16_spec 𝒱 c A I y33)) $$ [H23 H24 H25 H26 H31 H32 H33]
  · isplitl [H23]; · iexact H23
    isplitl [H24]; · iexact H24
    isplitl [H25]; · iexact H25
    isplitl [H26]; · iexact H26
    isplitl [H31]; · iexact H31
    isplitl [H32]; · iexact H32
    iexact H33
  iintro %r ⟨H23, H24, H25, H26, H31, H32, H33, %hr⟩
  subst hr
  iapply (wp_part 𝒱 c (part17_spec 𝒱 c A I y33 y30 y13)) $$ [H33 H34 H28 H14 HV0 H37 H15 HV1 HB HW H30 H13 HZV H31 H32 H19 H29 H35 HO]
  · isplitl [H33]; · iexact H33
    isplitl [H34]; · iexact H34
    isplitl [H28 H14 HV0]
    · isplitl [H28]; · iexact H28
      isplitl [H14]; · iexact H14
      iexact HV0
    isplitl [H37 H15 HV1]
    · isplitl [H37]; · iexact H37
      isplitl [H15]; · iexact H15
      iexact HV1
    isplitl [HB]; · iexact HB
    isplitl [HW]; · iexact HW
    isplitl [H30]; · iexact H30
    isplitl [H13]; · iexact H13
    isplitl [HZV]; · iexact HZV
    isplitl [H31]; · iexact H31
    isplitl [H32]; · iexact H32
    isplitl [H19]; · iexact H19
    isplitl [H29]; · iexact H29
    isplitl [H35]; · iexact H35
    iexact HO
  iintro %r ⟨HE, HF0, HF1, H35, %hr⟩
  subst hr
  unfold mainEnd
  icases HE with ⟨HB, HW, HZb, HOb, HBT, H33, H34, H31, H32, H28, H19, H29, HO⟩
  ihave H36 := (Entails.of_eq (anyH_eq c A.arg36)) $$ H36
  icases H36 with ⟨%y36, H36⟩
  have e36 : (hold c A.arg36 y36 : sProp 𝕄) = clpH c A I 0 y36 := by unfold clpH; rw [upto_zero]
  ihave H36 := (Entails.of_eq e36) $$ H36
  iapply (wp_part 𝒱 c (part18_spec 𝒱 c A I y36)) $$ [H35 H32 H36]
  · isplitl [H35]; · iexact H35
    isplitl [H32]; · iexact H32
    iexact H36
  iintro %r ⟨H35, H32, H36, %hr⟩
  subst hr
  iapply (wp_part 𝒱 c (part19_spec 𝒱 c A I y36)) $$ [H32 H36]
  · isplitl [H32]; · iexact H32
    iexact H36
  iintro %r ⟨H32, H36, %hr⟩
  subst hr
  iapply (wp_part 𝒱 c (part20_spec 𝒱 c A I y36)) $$ [H32 H36]
  · isplitl [H32]; · iexact H32
    iexact H36
  iintro %r ⟨H32, H36, %hr⟩
  subst hr
  iapply (wp_part 𝒱 c (part21_spec 𝒱 c A I y36)) $$ [H32 H36]
  · isplitl [H32]; · iexact H32
    iexact H36
  iintro %r ⟨H32, H36, %hr⟩
  subst hr
  iapply (wp_part 𝒱 c (part22_spec 𝒱 c A I y36)) $$ [H32 H36]
  · isplitl [H32]; · iexact H32
    iexact H36
  iintro %r ⟨H32, H36, %hr⟩
  subst hr
  iapply (store_col 𝒱 c A I (j := 19) (by decide) rfl) $$ H36; iintro H36
  have e36' : (clpH c A I (19 + 1) y36 : sProp 𝕄) = hold c A.arg36 (clpv I) := by
    unfold clpH; rw [upto_all]; intro i; exact (i 1).isLt
  ihave H36 := (Entails.of_eq e36') $$ H36
  iapply (block_copy 𝒱 c A I (b := 124) (by decide) rfl rfl y13) $$ [HZb HOb HBT]
  · isplitl [HZb]; · iexact HZb
    isplitl [HOb]; · iexact HOb
    iexact HBT
  iintro HBT
  iapply (start 𝒱 c (outsem_eq A (n := 2) (by decide) rfl) (sig.dmaCredit_pos _ _ _ _ _ (by decide))) $$ [H35 H11 HV2]
  · isplitl [H35]; · iexact H35
    isplitl [H11]; · iexact H11
    iexact HV2
  iintro HF2
  iapply (start 𝒱 c (outsem_eq A (n := 3) (by decide) rfl) (sig.dmaCredit_pos _ _ _ _ _ (by decide))) $$ [H36 H12 HV3]
  · isplitl [H36]; · iexact H36
    isplitl [H12]; · iexact H12
    iexact HV3
  iintro HF3
  iapply (arrive 𝒱 c (outsem_eq A (n := 0) (by decide) rfl)) $$ [HF0 HO]
  · isplitl [HF0]; · iexact HF0
    iexact HO
  iintro ⟨H14, HC2, HV0, HO⟩
  iapply (arrive 𝒱 c (outsem_eq A (n := 1) (by decide) rfl)) $$ [HF1 HO]
  · isplitl [HF1]; · iexact HF1
    iexact HO
  iintro ⟨H15, H37, HV1, HO⟩
  iapply (arrive 𝒱 c (outsem_eq A (n := 2) (by decide) rfl)) $$ [HF2 HO]
  · isplitl [HF2]; · iexact HF2
    iexact HO
  iintro ⟨H11, H35, HV2, HO⟩
  iapply (arrive 𝒱 c (outsem_eq A (n := 3) (by decide) rfl)) $$ [HF3 HO]
  · isplitl [HF3]; · iexact HF3
    iexact HO
  iintro ⟨H12, H36, HV3, HO⟩
  iapply (wp_waitAll_own 𝒱 (c : Thread nD τ) none EC () (n := 125) (u := 0) (D := zD c A I) hJ (zN_pos A) (Nat.zero_add _)) $$ [HBT HO]
  · isplitl [HBT]; · iexact HBT
    iexact HO
  iintro ⟨HD, HZV, HO⟩
  ihave HD := (Entails.of_eq (zD_all c A I)) $$ HD
  icases HD with ⟨H13, H30⟩
  ihave H28 := (Entails.of_eq (share_codes c A I).symm) $$ [H28 HC2]
  · isplitl [H28]; · iexact H28
    iexact HC2
  sl_step
  unfold bodyOut
  isplitl [HI0]; · iexact HI0
  isplitl [HI1]; · iexact HI1
  isplitl [HI2]; · iexact HI2
  isplitl [HI3]; · iexact HI3
  isplitl [HI4]; · iexact HI4
  isplitl [HI5]; · iexact HI5
  isplitl [HI6]; · iexact HI6
  isplitl [HI7]; · iexact HI7
  isplitl [HI8]; · iexact HI8
  isplitl [HI9]; · iexact HI9
  isplitl [HB]; · iexact HB
  isplitl [HW]; · iexact HW
  isplitl [H11]; · iexact H11
  isplitl [H12]; · iexact H12
  isplitl [H13]; · iexact H13
  isplitl [H14]; · iexact H14
  isplitl [H15]; · iexact H15
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [HV0]; · iexact HV0
  isplitl [HV1]; · iexact HV1
  isplitl [HV2]; · iexact HV2
  isplitl [HV3]; · iexact HV3
  isplitl [HZV]; · iexact HZV
  iexact HO

end Cert.KernelIdeal.Hand

end
-- ==== Proof.KernelIdeal.Launch.lean ====
/-
  The kernel's launch: the body's ends as the region states them (the routed arrays, the
  kernel's own cells, its scratch), the body's obligation at the one grid point, and the run of
  the whole program with the five results at their values.
-/
module

public import proofs.«01_k».proof.Proof.KernelIdeal.Whole
public import proofs.«01_k».proof.Proof.Gen.KernelIdeal.Frame
public import Idealize.ShloMosaic.Lib.Pipeline.Routed

@[expose] public section

set_option maxRecDepth 16384

noncomputable section

namespace Cert.KernelIdeal.Hand

open Cert.KernelIdeal Cert.KernelIdeal.Gen Cert.Own
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline (UC Dat BodyObligation)

variable {F : FTy → Type} [FloatOps F]

local notation "𝕄" => MT nD τ sig Unit (Elt F) ℕ (UC sig nD τ) ℕ

/-! ## The ring's slots together -/

section Ring

variable (c : Dev nD) (A : Args)

theorem slots_disjoint : ∀ s ∈ Finset.range 14, ∀ s' ∈ Finset.range 14, s ≠ s' → Disjoint (slotSet s) (slotSet s') := by
  intro s _ s' _ h
  rw [Finset.disjoint_left]; intro i h1 h2
  rw [slotSet, Finset.mem_filter_univ] at h1 h2
  exact h (h1.symm.trans h2)

theorem slots_all : (Finset.range 14).biUnion slotSet = Finset.univ := by
  ext i
  have h1 : (i 0).val < 14 := (i 0).isLt
  simp only [Finset.mem_biUnion, slotSet, Finset.mem_filter_univ, Finset.mem_range, Finset.mem_univ, iff_true]
  exact ⟨(i 0).val, h1, rfl⟩

/-- The ring at one contents, slot by slot. -/
theorem ring_slots (y : S14x12288x256.Idx → Elt F .fp8e4m3) :
    (bigSep (Finset.range 14) fun s => own (c : Thread nD τ) A.arg16 (slotSet s) fullShare y : sProp 𝕄) = hold c A.arg16 y := by
  rw [← own_biUnion (c := (c : Thread nD τ)) (m := A.arg16) (q := fullShare) (x := y) (Finset.range 14) slotSet slots_disjoint, slots_all]

theorem ring_split : iprop(anyH (F := F) c A.arg16 ∗ bigSep (Finset.range 14) fun s => semVal ((c : Thread nD τ), .dma (wsem A s)) 0)
    ⊢ (bigSep (Finset.range 14) (slotFree (F := F) c A) : sProp 𝕄) := by
  iintro ⟨H, HS⟩
  ihave H := (Entails.of_eq (anyH_eq c A.arg16)) $$ H
  icases H with ⟨%y, H⟩
  ihave H := (Entails.of_eq (ring_slots c A y).symm) $$ H
  have e1 : (iprop((bigSep (Finset.range 14) fun s => own (c : Thread nD τ) A.arg16 (slotSet s) fullShare y)
        ∗ bigSep (Finset.range 14) fun s => semVal ((c : Thread nD τ), .dma (wsem A s)) 0) : sProp 𝕄)
      = bigSep (Finset.range 14) (fun s => iprop(own (c : Thread nD τ) A.arg16 (slotSet s) fullShare y ∗ semVal ((c : Thread nD τ), .dma (wsem A s)) 0)) :=
    (bigSep_sep _ _ _).symm
  ihave H := (Entails.of_eq e1) $$ [H HS]
  · isplitl [H]; · iexact H
    iexact HS
  have key : (bigSep (Finset.range 14) (fun s => iprop(own (c : Thread nD τ) A.arg16 (slotSet s) fullShare y ∗ semVal ((c : Thread nD τ), .dma (wsem A s)) 0)) : sProp 𝕄)
      ⊢ bigSep (Finset.range 14) (slotFree (F := F) c A) := BI.bigSep_mono fun s _ => by
    show (iprop(own (c : Thread nD τ) A.arg16 (slotSet s) fullShare y ∗ semVal ((c : Thread nD τ), .dma (wsem A s)) 0) : sProp 𝕄)
      ⊢ iprop((∃ y : S14x12288x256.Idx → Elt F .fp8e4m3, own (c : Thread nD τ) A.arg16 (slotSet s) fullShare y) ∗ semVal ((c : Thread nD τ), .dma (wsem A s)) 0)
    iintro ⟨H, HS⟩
    isplitl [H]; · iexists y; iexact H
    iexact HS
  iapply key $$ H

theorem ring_nonempty (_ : ℕ) : Nonempty (S14x12288x256.Idx → Elt F .fp8e4m3) := ⟨fun _ => Classical.choice (Elt.nonempty F _)⟩

theorem ring_join : (bigSep (Finset.range 14) (slotFree (F := F) c A) : sProp 𝕄)
    ⊢ iprop(anyH (F := F) c A.arg16 ∗ bigSep (Finset.range 14) fun s => semVal ((c : Thread nD τ), .dma (wsem A s)) 0) := by
  have e : (bigSep (Finset.range 14) (slotFree (F := F) c A) : sProp 𝕄)
      = iprop((bigSep (Finset.range 14) fun s => iprop(∃ y : S14x12288x256.Idx → Elt F .fp8e4m3, own (c : Thread nD τ) A.arg16 (slotSet s) fullShare y))
        ∗ bigSep (Finset.range 14) fun s => semVal ((c : Thread nD τ), .dma (wsem A s)) 0) := bigSep_sep _ _ _
  iintro H
  ihave H := (Entails.of_eq e) $$ H
  icases H with ⟨H, HS⟩
  isplitl [H]
  · ihave H := (@BI.bigSep_exists_pi _ _ _ _ (fun _ => S14x12288x256.Idx → Elt F .fp8e4m3) ring_nonempty (Finset.range 14) fun s y => own (c : Thread nD τ) A.arg16 (slotSet s) fullShare y) $$ H
    icases H with ⟨%y, H⟩
    iapply (Entails.of_eq (anyH_eq c A.arg16).symm)
    iexists (fun i => y (i 0).val i)
    iapply (Entails.of_eq (ring_slots c A _))
    have key : (bigSep (Finset.range 14) (fun s => own (c : Thread nD τ) A.arg16 (slotSet s) fullShare (y s)) : sProp 𝕄)
        ⊢ bigSep (Finset.range 14) (fun s => own (c : Thread nD τ) A.arg16 (slotSet s) fullShare (fun i => y (i 0).val i)) :=
      BI.bigSep_mono fun s _ => Entails.of_eq (own_congr fun i hi => by
        rw [slotSet, Finset.mem_filter_univ] at hi; rw [hi])
    iapply key $$ H
  iexact HS

end Ring

/-! ## The record of the launch -/

/-- The kernel's arguments as the launch passes them. -/
def A0 : Args := ⟨Memref.whole main_arg0, Memref.isWhole_whole _, Memref.whole main_v0, Memref.isWhole_whole _, Memref.whole main_arg2, Memref.isWhole_whole _, Memref.whole main_arg3, Memref.isWhole_whole _, Memref.whole main_arg4, Memref.isWhole_whole _, Memref.whole main_v1, Memref.isWhole_whole _, Memref.whole main_v2, Memref.isWhole_whole _, Memref.whole main_v3, Memref.isWhole_whole _, Memref.whole main_v4, Memref.isWhole_whole _, Memref.whole main_v5, Memref.isWhole_whole _, Memref.whole main_arg10, Memref.isWhole_whole _, Memref.whole main_v6_0, Memref.isWhole_whole _, Memref.whole main_v6_1, Memref.isWhole_whole _, Memref.whole main_v6_2, Memref.isWhole_whole _, Memref.whole main_v6_3, Memref.isWhole_whole _, Memref.whole main_v6_4, Memref.isWhole_whole _, Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _, Memref.whole cc0_scratch5, Memref.isWhole_whole _, Memref.whole cc0_scratch6, Memref.isWhole_whole _, Memref.whole cc0_scratch7, Memref.isWhole_whole _, Memref.whole cc0_scratch8, Memref.isWhole_whole _, Memref.whole cc0_scratch9, Memref.isWhole_whole _, Memref.whole cc0_scratch10, Memref.isWhole_whole _, Memref.whole cc0_scratch11, Memref.isWhole_whole _, Memref.whole cc0_scratch12, Memref.isWhole_whole _, Memref.whole cc0_scratch13, Memref.isWhole_whole _, Memref.whole cc0_scratch14, Memref.isWhole_whole _, Memref.whole cc0_scratch15, Memref.isWhole_whole _, Memref.whole cc0_scratch16, Memref.isWhole_whole _, Memref.whole cc0_scratch17, Memref.isWhole_whole _, Memref.whole cc0_scratch18, Memref.isWhole_whole _, Memref.whole cc0_scratch19, Memref.isWhole_whole _, Memref.whole cc0_scratch20, Memref.isWhole_whole _, Memref.whole cc0_scratch21, Memref.isWhole_whole _, cc0_scratch22, cc0_scratch23, cc0_scratch24, cc0_scratch25⟩

theorem body_whole (t : Fin cfg0.N) : bodyAt0 (F := F) t = whole (F := F) A0 := by
  show cc0_fp8_head (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole main_v5) (Memref.isWhole_whole _) (Memref.whole main_arg10) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole main_v6_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) cc0_scratch22 cc0_scratch23 cc0_scratch24 cc0_scratch25 = _
  rw [cc0_fp8_head_eq_skeleton]; rfl

theorem credits : A0.arg13.view.dmaCredit = zN A0 * 125 := by decide

/-- The kernel's own cells. -/
abbrev osem0 : Fin 29 → SemLoc sig := fun j => .dma j

theorem ownSemFacts0 : Pipeline.OwnSemFacts cfg0.spec osem0 := by decide

theorem wsem0 (s : Fin 14) : wsem A0 s.val = ⟨s.val, by show _ < 29; omega⟩ := by revert s; decide
theorem isem0 (n : Fin 10) : isem A0 n.val = ⟨14 + n.val, by show _ < 29; omega⟩ := by revert n; decide
theorem zsem0 : A0.arg40.sem = ⟨24, by decide⟩ := by decide
theorem outsem0 (n : Fin 4) : outsem A0 n.val = ⟨25 + n.val, by show _ < 29; omega⟩ := by revert n; decide

variable (c : Dev nD)

theorem sep2 {P P' Q Q' : sProp 𝕄} (h : P = P') (h' : Q = Q') : iprop(P ∗ Q) = iprop(P' ∗ Q') := by rw [h, h']

theorem sem_at {s s' : DmaSem sig} (h : s = s') : (semVal ((c : Thread nD τ), .dma s') 0 : sProp 𝕄) = semVal ((c : Thread nD τ), .dma s) 0 := by rw [h]

theorem hold_whole (b : Ref sig .tc) (f : b.ty.Contents (Elt F)) : (((c : Thread nD τ).loc b) ↦{fullShare} f : sProp 𝕄) = hold c (Memref.whole b) f :=
  (own_whole (c : Thread nD τ) b fullShare f).symm

theorem anyH_whole (b : Ref sig .tc) :
    (iprop(∃ f : Buf (Elt F) ((c : Thread nD τ).loc b), ((c : Thread nD τ).loc b) ↦{fullShare} f) : sProp 𝕄) = anyH c (Memref.whole b) := by
  unfold anyH hold
  exact congrArg (fun Φ : b.ty.Contents (Elt F) → sProp 𝕄 => iprop(∃ f, Φ f)) (funext fun f => (own_whole (c : Thread nD τ) b fullShare f).symm)

theorem wsems_eq : (bigSep (Finset.range 14) fun s => semVal ((c : Thread nD τ), .dma (wsem A0 s)) 0 : sProp 𝕄)
    = iprop(semVal ((c : Thread nD τ), .dma (wsem A0 0)) 0 ∗ semVal ((c : Thread nD τ), .dma (wsem A0 1)) 0 ∗ semVal ((c : Thread nD τ), .dma (wsem A0 2)) 0 ∗ semVal ((c : Thread nD τ), .dma (wsem A0 3)) 0 ∗ semVal ((c : Thread nD τ), .dma (wsem A0 4)) 0 ∗ semVal ((c : Thread nD τ), .dma (wsem A0 5)) 0 ∗ semVal ((c : Thread nD τ), .dma (wsem A0 6)) 0 ∗ semVal ((c : Thread nD τ), .dma (wsem A0 7)) 0 ∗ semVal ((c : Thread nD τ), .dma (wsem A0 8)) 0 ∗ semVal ((c : Thread nD τ), .dma (wsem A0 9)) 0 ∗ semVal ((c : Thread nD τ), .dma (wsem A0 10)) 0 ∗ semVal ((c : Thread nD τ), .dma (wsem A0 11)) 0 ∗ semVal ((c : Thread nD τ), .dma (wsem A0 12)) 0 ∗ semVal ((c : Thread nD τ), .dma (wsem A0 13)) 0) := by
  rw [bigSep_eq_bigSepL_of_eq [0,1,2,3,4,5,6,7,8,9,10,11,12,13] (by decide) (by decide)]; rfl

theorem sems_eq : (Pipeline.ownSems0 (Ix := Unit) (Name := ℕ) (U := UC sig nD τ) (Lvl := ℕ) (Val := Elt F) (τ := τ) osem0 c : sProp 𝕄)
    = iprop(semVal ((c : Thread nD τ), .dma (wsem A0 0)) 0 ∗ semVal ((c : Thread nD τ), .dma (wsem A0 1)) 0 ∗ semVal ((c : Thread nD τ), .dma (wsem A0 2)) 0 ∗ semVal ((c : Thread nD τ), .dma (wsem A0 3)) 0 ∗ semVal ((c : Thread nD τ), .dma (wsem A0 4)) 0 ∗ semVal ((c : Thread nD τ), .dma (wsem A0 5)) 0 ∗ semVal ((c : Thread nD τ), .dma (wsem A0 6)) 0 ∗ semVal ((c : Thread nD τ), .dma (wsem A0 7)) 0 ∗ semVal ((c : Thread nD τ), .dma (wsem A0 8)) 0 ∗ semVal ((c : Thread nD τ), .dma (wsem A0 9)) 0 ∗ semVal ((c : Thread nD τ), .dma (wsem A0 10)) 0 ∗ semVal ((c : Thread nD τ), .dma (wsem A0 11)) 0 ∗ semVal ((c : Thread nD τ), .dma (wsem A0 12)) 0 ∗ semVal ((c : Thread nD τ), .dma (wsem A0 13)) 0 ∗ semVal ((c : Thread nD τ), .dma (isem A0 0)) 0 ∗ semVal ((c : Thread nD τ), .dma (isem A0 1)) 0 ∗ semVal ((c : Thread nD τ), .dma (isem A0 2)) 0 ∗ semVal ((c : Thread nD τ), .dma (isem A0 3)) 0 ∗ semVal ((c : Thread nD τ), .dma (isem A0 4)) 0 ∗ semVal ((c : Thread nD τ), .dma (isem A0 5)) 0 ∗ semVal ((c : Thread nD τ), .dma (isem A0 6)) 0 ∗ semVal ((c : Thread nD τ), .dma (isem A0 7)) 0 ∗ semVal ((c : Thread nD τ), .dma (isem A0 8)) 0 ∗ semVal ((c : Thread nD τ), .dma (isem A0 9)) 0 ∗ semVal ((c : Thread nD τ), .dma (A0.arg40.sem)) 0 ∗ semVal ((c : Thread nD τ), .dma (outsem A0 0)) 0 ∗ semVal ((c : Thread nD τ), .dma (outsem A0 1)) 0 ∗ semVal ((c : Thread nD τ), .dma (outsem A0 2)) 0 ∗ semVal ((c : Thread nD τ), .dma (outsem A0 3)) 0) := by
  refine (Pipeline.ownSems0_eq_of_list c osem0 [0,1,2,3,4,5,6,7,8,9,10,11,12,13,14,15,16,17,18,19,20,21,22,23,24,25,26,27,28] (by decide) (by decide)).trans ?_
  exact (sep2 (sem_at c (wsem0 0)) (sep2 (sem_at c (wsem0 1)) (sep2 (sem_at c (wsem0 2)) (sep2 (sem_at c (wsem0 3)) (sep2 (sem_at c (wsem0 4)) (sep2 (sem_at c (wsem0 5)) (sep2 (sem_at c (wsem0 6)) (sep2 (sem_at c (wsem0 7)) (sep2 (sem_at c (wsem0 8)) (sep2 (sem_at c (wsem0 9)) (sep2 (sem_at c (wsem0 10)) (sep2 (sem_at c (wsem0 11)) (sep2 (sem_at c (wsem0 12)) (sep2 (sem_at c (wsem0 13)) (sep2 (sem_at c (isem0 0)) (sep2 (sem_at c (isem0 1)) (sep2 (sem_at c (isem0 2)) (sep2 (sem_at c (isem0 3)) (sep2 (sem_at c (isem0 4)) (sep2 (sem_at c (isem0 5)) (sep2 (sem_at c (isem0 6)) (sep2 (sem_at c (isem0 7)) (sep2 (sem_at c (isem0 8)) (sep2 (sem_at c (isem0 9)) (sep2 (sem_at c zsem0) (sep2 (sem_at c (outsem0 0)) (sep2 (sem_at c (outsem0 1)) (sep2 (sem_at c (outsem0 2)) (sem_at c (outsem0 3))))))))))))))))))))))))))))))

/-- The routed arrays: the kernel's inputs and results. -/
def RB : Finset (Ref sig .tc) := ([main_arg0, main_v0, main_arg2, main_arg3, main_arg4, main_v1, main_v2, main_v3, main_v4, main_v5, main_arg10, main_v6_0, main_v6_1, main_v6_2, main_v6_3, main_v6_4] : List (Ref sig .tc)).toFinset

theorem RB_sub : RB ⊆ Pipeline.restRefs sig cfg0.spec := by
  intro b hb
  rw [RB, List.mem_toFinset] at hb
  simp only [List.mem_cons, List.not_mem_nil, or_false] at hb
  rcases hb with rfl | rfl | rfl | rfl | rfl | rfl | rfl | rfl | rfl | rfl | rfl | rfl | rfl | rfl | rfl | rfl <;> exact Pipeline.mem_restRefs_of _ (by decide) (by decide)

theorem routed_eq (W : (b : Ref sig .tc) → Buf (Elt F) ((c.tc : Thread nD τ).loc b)) : (Pipeline.routed RB c W : sProp 𝕄)
    = iprop(hold c A0.arg0 (W main_arg0) ∗ hold c A0.arg1 (W main_v0) ∗ hold c A0.arg2 (W main_arg2) ∗ hold c A0.arg3 (W main_arg3) ∗ hold c A0.arg4 (W main_arg4) ∗ hold c A0.arg5 (W main_v1) ∗ hold c A0.arg6 (W main_v2) ∗ hold c A0.arg7 (W main_v3) ∗ hold c A0.arg8 (W main_v4) ∗ hold c A0.arg9 (W main_v5) ∗ hold c A0.arg10 (W main_arg10) ∗ hold c A0.arg11 (W main_v6_0) ∗ hold c A0.arg12 (W main_v6_1) ∗ hold c A0.arg13 (W main_v6_2) ∗ hold c A0.arg14 (W main_v6_3) ∗ hold c A0.arg15 (W main_v6_4)) := by
  unfold Pipeline.routed
  refine (bigSep_eq_bigSepL_of_eq [main_arg0, main_v0, main_arg2, main_arg3, main_arg4, main_v1, main_v2, main_v3, main_v4, main_v5, main_arg10, main_v6_0, main_v6_1, main_v6_2, main_v6_3, main_v6_4] rfl (by decide) _).trans ?_
  exact (sep2 (hold_whole c main_arg0 (W main_arg0)) (sep2 (hold_whole c main_v0 (W main_v0)) (sep2 (hold_whole c main_arg2 (W main_arg2)) (sep2 (hold_whole c main_arg3 (W main_arg3)) (sep2 (hold_whole c main_arg4 (W main_arg4)) (sep2 (hold_whole c main_v1 (W main_v1)) (sep2 (hold_whole c main_v2 (W main_v2)) (sep2 (hold_whole c main_v3 (W main_v3)) (sep2 (hold_whole c main_v4 (W main_v4)) (sep2 (hold_whole c main_v5 (W main_v5)) (sep2 (hold_whole c main_arg10 (W main_arg10)) (sep2 (hold_whole c main_v6_0 (W main_v6_0)) (sep2 (hold_whole c main_v6_1 (W main_v6_1)) (sep2 (hold_whole c main_v6_2 (W main_v6_2)) (sep2 (hold_whole c main_v6_3 (W main_v6_3)) (hold_whole c main_v6_4 (W main_v6_4)))))))))))))))))

theorem scoped_eq : (Pipeline.scopedRest (Ix := Unit) (Name := ℕ) (U := UC sig nD τ) (Lvl := ℕ) (Val := Elt F) cfg0.spec c : sProp 𝕄)
    = iprop(anyH (F := F) c A0.arg16 ∗ anyH (F := F) c A0.arg17 ∗ anyH (F := F) c A0.arg18 ∗ anyH (F := F) c A0.arg19 ∗ anyH (F := F) c A0.arg20 ∗ anyH (F := F) c A0.arg21 ∗ anyH (F := F) c A0.arg22 ∗ anyH (F := F) c A0.arg23 ∗ anyH (F := F) c A0.arg24 ∗ anyH (F := F) c A0.arg25 ∗ anyH (F := F) c A0.arg26 ∗ anyH (F := F) c A0.arg27 ∗ anyH (F := F) c A0.arg28 ∗ anyH (F := F) c A0.arg29 ∗ anyH (F := F) c A0.arg30 ∗ anyH (F := F) c A0.arg31 ∗ anyH (F := F) c A0.arg32 ∗ anyH (F := F) c A0.arg33 ∗ anyH (F := F) c A0.arg34 ∗ anyH (F := F) c A0.arg35 ∗ anyH (F := F) c A0.arg36 ∗ anyH (F := F) c A0.arg37) := by
  rw [scopedRest0_eq]
  exact (sep2 (anyH_whole c cc0_scratch0) (sep2 (anyH_whole c cc0_scratch1) (sep2 (anyH_whole c cc0_scratch2) (sep2 (anyH_whole c cc0_scratch3) (sep2 (anyH_whole c cc0_scratch4) (sep2 (anyH_whole c cc0_scratch5) (sep2 (anyH_whole c cc0_scratch6) (sep2 (anyH_whole c cc0_scratch7) (sep2 (anyH_whole c cc0_scratch8) (sep2 (anyH_whole c cc0_scratch9) (sep2 (anyH_whole c cc0_scratch10) (sep2 (anyH_whole c cc0_scratch11) (sep2 (anyH_whole c cc0_scratch12) (sep2 (anyH_whole c cc0_scratch13) (sep2 (anyH_whole c cc0_scratch14) (sep2 (anyH_whole c cc0_scratch15) (sep2 (anyH_whole c cc0_scratch16) (sep2 (anyH_whole c cc0_scratch17) (sep2 (anyH_whole c cc0_scratch18) (sep2 (anyH_whole c cc0_scratch19) (sep2 (anyH_whole c cc0_scratch20) (anyH_whole c cc0_scratch21))))))))))))))))))))))

/-! ## The body between the region's ends -/

variable (m : (ℓ : Loc nD τ sig) → Buf (Elt F) ℓ) (ρ : Dev nD → PrngReg)

/-- The kernel's inputs as the region finds them. -/
def inOf : In F := ⟨V m c main_arg0, V m c main_v0, V m c main_arg2, V m c main_arg3, V m c main_arg4, V m c main_v1, V m c main_v2, V m c main_v3, V m c main_v4, V m c main_v5, V m c main_arg10⟩

/-- The arrays after the region: the five results at the kernel's values, the others as found. -/
def Y (b : Ref sig .tc) : Buf (Elt F) ((c.tc : Thread nD τ).loc b) :=
  Function.update (Function.update (Function.update (Function.update (Function.update (V m c) main_v6_0 (lsev (inOf c m))) main_v6_1 (clpv (inOf c m)))
    main_v6_2 (zv (inOf c m))) main_v6_3 (codesv (inOf c m))) main_v6_4 (xsv (inOf c m)) b

theorem Y_res0 : Y c m main_v6_0 = lsev (inOf c m) := by
  unfold Y
  rw [Function.update_of_ne (by decide)]; rw [Function.update_of_ne (by decide)]; rw [Function.update_of_ne (by decide)]; rw [Function.update_of_ne (by decide)]; rw [Function.update_self]

theorem Y_res1 : Y c m main_v6_1 = clpv (inOf c m) := by
  unfold Y
  rw [Function.update_of_ne (by decide)]; rw [Function.update_of_ne (by decide)]; rw [Function.update_of_ne (by decide)]; rw [Function.update_self]

theorem Y_res2 : Y c m main_v6_2 = zv (inOf c m) := by
  unfold Y
  rw [Function.update_of_ne (by decide)]; rw [Function.update_of_ne (by decide)]; rw [Function.update_self]

theorem Y_res3 : Y c m main_v6_3 = codesv (inOf c m) := by
  unfold Y
  rw [Function.update_of_ne (by decide)]; rw [Function.update_self]

theorem Y_res4 : Y c m main_v6_4 = xsv (inOf c m) := by
  unfold Y
  rw [Function.update_self]

theorem Y_other {b : Ref sig .tc} (h0 : b ≠ main_v6_0) (h1 : b ≠ main_v6_1) (h2 : b ≠ main_v6_2) (h3 : b ≠ main_v6_3) (h4 : b ≠ main_v6_4) : Y c m b = V m c b := by
  unfold Y
  rw [Function.update_of_ne h4, Function.update_of_ne h3, Function.update_of_ne h2, Function.update_of_ne h1, Function.update_of_ne h0]

theorem ends_in : iprop(Pipeline.Ends cfg0.spec osem0 RB c (V m c) ∗ (Cert.Own.owed (c : Thread nD τ) : sProp 𝕄)) ⊢ (iprop(bodyIn c A0 (inOf c m) ∗ ∃ r, prngReg c r) : sProp 𝕄) := by
  unfold Pipeline.Ends
  iintro ⟨⟨HR, HS, HC, HP⟩, HO⟩
  ihave HR := (Entails.of_eq (routed_eq c (V m c))) $$ HR
  ihave HS := (Entails.of_eq (sems_eq c)) $$ HS
  ihave HC := (Entails.of_eq (scoped_eq c)) $$ HC
  icases HR with ⟨R0, R1, R2, R3, R4, R5, R6, R7, R8, R9, R10, R11, R12, R13, R14, R15⟩
  icases HS with ⟨S0, S1, S2, S3, S4, S5, S6, S7, S8, S9, S10, S11, S12, S13, S14, S15, S16, S17, S18, S19, S20, S21, S22, S23, S24, S25, S26, S27, S28⟩
  icases HC with ⟨C16, C17, C18, C19, C20, C21, C22, C23, C24, C25, C26, C27, C28, C29, C30, C31, C32, C33, C34, C35, C36, C37⟩
  ihave HW := (Entails.of_eq (wsems_eq c).symm) $$ [S0 S1 S2 S3 S4 S5 S6 S7 S8 S9 S10 S11 S12 S13]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iexact S13
  ihave HB := (ring_split c A0) $$ [C16 HW]
  · isplitl [C16]; · iexact C16
    iexact HW
  isplitr [HP]
  swap; · iexact HP
  unfold bodyIn
  isplitl [R0 C17 S14]
  · unfold in0B
    isplitl [R0]; · iexact R0
    isplitl [C17]; · iexact C17
    iexact S14
  isplitl [R1 C18 S15]
  · unfold in1B
    isplitl [R1]; · iexact R1
    isplitl [C18]; · iexact C18
    iexact S15
  isplitl [R4 C20 S16]
  · unfold in2B
    isplitl [R4]; · iexact R4
    isplitl [C20]; · iexact C20
    iexact S16
  isplitl [R5 C21 S17]
  · unfold in3B
    isplitl [R5]; · iexact R5
    isplitl [C21]; · iexact C21
    iexact S17
  isplitl [R6 C22 S18]
  · unfold in4B
    isplitl [R6]; · iexact R6
    isplitl [C22]; · iexact C22
    iexact S18
  isplitl [R7 C23 S19]
  · unfold in5B
    isplitl [R7]; · iexact R7
    isplitl [C23]; · iexact C23
    iexact S19
  isplitl [R8 C24 S20]
  · unfold in6B
    isplitl [R8]; · iexact R8
    isplitl [C24]; · iexact C24
    iexact S20
  isplitl [R9 C25 S21]
  · unfold in7B
    isplitl [R9]; · iexact R9
    isplitl [C25]; · iexact C25
    iexact S21
  isplitl [R10 C26 S22]
  · unfold in8B
    isplitl [R10]; · iexact R10
    isplitl [C26]; · iexact C26
    iexact S22
  isplitl [R3 C19 S23]
  · unfold in9B
    isplitl [R3]; · iexact R3
    isplitl [C19]; · iexact C19
    iexact S23
  isplitl [HB]; · iexact HB
  isplitl [R2]; · iexact R2
  isplitl [R11]
  · iapply (Entails.of_eq (anyH_eq c A0.arg11).symm)
    iexists _; iexact R11
  isplitl [R12]
  · iapply (Entails.of_eq (anyH_eq c A0.arg12).symm)
    iexists _; iexact R12
  isplitl [R13]
  · iapply (Entails.of_eq (anyH_eq c A0.arg13).symm)
    iexists _; iexact R13
  isplitl [R14]
  · iapply (Entails.of_eq (anyH_eq c A0.arg14).symm)
    iexists _; iexact R14
  isplitl [R15]
  · iapply (Entails.of_eq (anyH_eq c A0.arg15).symm)
    iexists _; iexact R15
  isplitl [C27]; · iexact C27
  isplitl [C28]; · iexact C28
  isplitl [C29]; · iexact C29
  isplitl [C30]; · iexact C30
  isplitl [C31]; · iexact C31
  isplitl [C32]; · iexact C32
  isplitl [C33]; · iexact C33
  isplitl [C34]; · iexact C34
  isplitl [C35]; · iexact C35
  isplitl [C36]; · iexact C36
  isplitl [C37]; · iexact C37
  isplitl [S25]; · iexact S25
  isplitl [S26]; · iexact S26
  isplitl [S27]; · iexact S27
  isplitl [S28]; · iexact S28
  isplitl [S24]; · iexact S24
  iexact HO

theorem ends_out : (iprop(bodyOut c A0 (inOf c m) ∗ ∃ r, prngReg c r) : sProp 𝕄) ⊢ iprop(Pipeline.Ends cfg0.spec osem0 RB c (Y c m) ∗ (Cert.Own.owed (c : Thread nD τ) : sProp 𝕄)) := by
  unfold bodyOut
  iintro ⟨⟨I0, I1, I2, I3, I4, I5, I6, I7, I8, I9, HB, R2, H11, H12, H13, H14, H15, H17, H18, H19, H20, H21, H22, H23, H24, H25, H26, H27, H28, H29, H30, H31, H32, H33, H34, H35, H36, H37, S25, S26, S27, S28, S24, HO⟩, HP⟩
  unfold in0E
  icases I0 with ⟨R0, S14⟩
  unfold in1E
  icases I1 with ⟨R1, S15⟩
  unfold in2E
  icases I2 with ⟨R4, S16⟩
  unfold in3E
  icases I3 with ⟨R5, S17⟩
  unfold in4E
  icases I4 with ⟨R6, S18⟩
  unfold in5E
  icases I5 with ⟨R7, S19⟩
  unfold in6E
  icases I6 with ⟨R8, S20⟩
  unfold in7E
  icases I7 with ⟨R9, S21⟩
  unfold in8E
  icases I8 with ⟨R10, S22⟩
  unfold in9E
  icases I9 with ⟨R3, S23⟩
  ihave HB := (ring_join c A0) $$ HB
  icases HB with ⟨C16, HW⟩
  ihave HW := (Entails.of_eq (wsems_eq c)) $$ HW
  icases HW with ⟨S0, S1, S2, S3, S4, S5, S6, S7, S8, S9, S10, S11, S12, S13⟩
  isplitr [HO]
  swap; · iexact HO
  unfold Pipeline.Ends
  isplitl [R0 R1 R2 R3 R4 R5 R6 R7 R8 R9 R10 H11 H12 H13 H14 H15]
  · iapply (Entails.of_eq (routed_eq c (Y c m)).symm)
    rw [Y_other c m (b := main_arg0) (by decide) (by decide) (by decide) (by decide) (by decide)]
    rw [Y_other c m (b := main_v0) (by decide) (by decide) (by decide) (by decide) (by decide)]
    rw [Y_other c m (b := main_arg2) (by decide) (by decide) (by decide) (by decide) (by decide)]
    rw [Y_other c m (b := main_arg3) (by decide) (by decide) (by decide) (by decide) (by decide)]
    rw [Y_other c m (b := main_arg4) (by decide) (by decide) (by decide) (by decide) (by decide)]
    rw [Y_other c m (b := main_v1) (by decide) (by decide) (by decide) (by decide) (by decide)]
    rw [Y_other c m (b := main_v2) (by decide) (by decide) (by decide) (by decide) (by decide)]
    rw [Y_other c m (b := main_v3) (by decide) (by decide) (by decide) (by decide) (by decide)]
    rw [Y_other c m (b := main_v4) (by decide) (by decide) (by decide) (by decide) (by decide)]
    rw [Y_other c m (b := main_v5) (by decide) (by decide) (by decide) (by decide) (by decide)]
    rw [Y_other c m (b := main_arg10) (by decide) (by decide) (by decide) (by decide) (by decide)]
    rw [Y_res0, Y_res1, Y_res2, Y_res3, Y_res4]
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [H11]; · iexact H11
    isplitl [H12]; · iexact H12
    isplitl [H13]; · iexact H13
    isplitl [H14]; · iexact H14
    iexact H15
  isplitl [S0 S1 S2 S3 S4 S5 S6 S7 S8 S9 S10 S11 S12 S13 S14 S15 S16 S17 S18 S19 S20 S21 S22 S23 S24 S25 S26 S27 S28]
  · iapply (Entails.of_eq (sems_eq c).symm)
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    iexact S28
  isplitr [HP]
  · iapply (Entails.of_eq (scoped_eq c).symm)
    isplitl [C16]; · iexact C16
    isplitl [H17]
    · iapply (Entails.of_eq (anyH_eq c A0.arg17).symm)
      iexists _; iexact H17
    isplitl [H18]
    · iapply (Entails.of_eq (anyH_eq c A0.arg18).symm)
      iexists _; iexact H18
    isplitl [H19]
    · iapply (Entails.of_eq (anyH_eq c A0.arg19).symm)
      iexists _; iexact H19
    isplitl [H20]
    · iapply (Entails.of_eq (anyH_eq c A0.arg20).symm)
      iexists _; iexact H20
    isplitl [H21]
    · iapply (Entails.of_eq (anyH_eq c A0.arg21).symm)
      iexists _; iexact H21
    isplitl [H22]
    · iapply (Entails.of_eq (anyH_eq c A0.arg22).symm)
      iexists _; iexact H22
    isplitl [H23]
    · iapply (Entails.of_eq (anyH_eq c A0.arg23).symm)
      iexists _; iexact H23
    isplitl [H24]
    · iapply (Entails.of_eq (anyH_eq c A0.arg24).symm)
      iexists _; iexact H24
    isplitl [H25]
    · iapply (Entails.of_eq (anyH_eq c A0.arg25).symm)
      iexists _; iexact H25
    isplitl [H26]
    · iapply (Entails.of_eq (anyH_eq c A0.arg26).symm)
      iexists _; iexact H26
    isplitl [H27]
    · iapply (Entails.of_eq (anyH_eq c A0.arg27).symm)
      iexists _; iexact H27
    isplitl [H28]
    · iapply (Entails.of_eq (anyH_eq c A0.arg28).symm)
      iexists _; iexact H28
    isplitl [H29]
    · iapply (Entails.of_eq (anyH_eq c A0.arg29).symm)
      iexists _; iexact H29
    isplitl [H30]
    · iapply (Entails.of_eq (anyH_eq c A0.arg30).symm)
      iexists _; iexact H30
    isplitl [H31]
    · iapply (Entails.of_eq (anyH_eq c A0.arg31).symm)
      iexists _; iexact H31
    isplitl [H32]
    · iapply (Entails.of_eq (anyH_eq c A0.arg32).symm)
      iexists _; iexact H32
    isplitl [H33]
    · iapply (Entails.of_eq (anyH_eq c A0.arg33).symm)
      iexists _; iexact H33
    isplitl [H34]
    · iapply (Entails.of_eq (anyH_eq c A0.arg34).symm)
      iexists _; iexact H34
    isplitl [H35]
    · iapply (Entails.of_eq (anyH_eq c A0.arg35).symm)
      iexists _; iexact H35
    isplitl [H36]
    · iapply (Entails.of_eq (anyH_eq c A0.arg36).symm)
      iexists _; iexact H36
    iapply (Entails.of_eq (anyH_eq c A0.arg37).symm)
    iexists _; iexact H37
  iexact HP

/-! ## The run -/

/-- The proof data of the one region on core `c`: no window, the body's ends as its invariant. -/
def dats (_ : Fin 1) (c : Dev nD) : Dat τ (Elt F) Unit ℕ (UC sig nD τ) ℕ cfg0 c where
  A w := V m c (Pipeline.arrRef cfg0.spec w)
  after w _ := w.elim0
  Φ i := if i.val = 0 then Pipeline.Ends cfg0.spec osem0 RB c (V m c) else Pipeline.Ends cfg0.spec osem0 RB c (Y c m)
  q _ := fullShare
  owed _ := 0

theorem Phi_first (i : Fin (cfg0.N + 1)) (h : i.val = 0) : (dats m 0 c).Φ i = Pipeline.Ends cfg0.spec osem0 RB c (V m c) := by
  dsimp only [dats]; rw [if_pos h]

theorem Phi_later (i : Fin (cfg0.N + 1)) (h : i.val ≠ 0) : (dats m 0 c).Φ i = Pipeline.Ends cfg0.spec osem0 RB c (Y c m) := by
  dsimp only [dats]; rw [if_neg h]

theorem Phi_last : (dats m 0 c).Φ (Fin.last cfg0.N) = Pipeline.Ends cfg0.spec osem0 RB c (Y c m) :=
  Phi_later c m _ (by
    have h : cfg0.N = 1 := N_0
    show cfg0.N ≠ 0
    omega)

theorem defs₀_row (t : Fin cfg0.N) : defs₀ (F := F) .tc cfg0.body (cfg0.bodyArgs t (cfg0.slots t)) = whole (F := F) A0 := by
  rw [← body_whole t]
  unfold defs₀; rw [Defs.onTc_tc]

theorem sound_body (t : Fin cfg0.N) :
    iprop((dats m 0 c).Φ t.castSucc ∗ (dats m 0 c).owesAt () t.castSucc)
      ⊢ wp (M := 𝕄) frame (wpE (defs₀ (F := F)) Variants.none (c : Thread nD τ) none) Set.univ (whole A0)
          (fun _ => iprop((dats m 0 c).Φ t.succ ∗ (dats m 0 c).owesAt () t.succ)) := by
  have ht : t.val = 0 := by
    have h1 : t.val < cfg0.N := t.isLt
    have h2 : cfg0.N = 1 := N_0
    omega
  rw [Phi_first c m t.castSucc ht, Phi_later c m t.succ (Nat.succ_ne_zero t.val)]
  unfold Dat.owesAt Pipeline.owesWithin
  rw [show (dats m 0 c).owed t.castSucc = 0 from rfl, show (dats m 0 c).owed t.succ = 0 from rfl]
  have h2 : (iprop(bodyIn c A0 (inOf c m) ∗ ∃ r, prngReg c r) : sProp 𝕄)
      ⊢ wp (M := 𝕄) frame (wpE (defs₀ (F := F)) Variants.none (c : Thread nD τ) none) Set.univ (whole A0) (fun _ => iprop(bodyOut c A0 (inOf c m) ∗ ∃ r, prngReg c r)) :=
    (BI.sep_mono_l (whole_spec Variants.none c A0 (inOf c m) credits)).trans
      (wp_frame_r (M := 𝕄) frame (wpE (defs₀ (F := F)) Variants.none (c : Thread nD τ) none) Set.univ)
  refine BIBase.Entails.trans ?_ (h2.trans (wp_mono (M := 𝕄) frame (wpE (defs₀ (F := F)) Variants.none (c : Thread nD τ) none) Set.univ fun _ => (ends_out c m).trans ?_))
  · iintro ⟨HE, ⟨%W, -, HW⟩⟩
    iapply (ends_in c m)
    isplitl [HE]; · iexact HE
    unfold Cert.Own.owed
    iexists W; iexact HW
  · unfold Cert.Own.owed
    iintro ⟨HE, ⟨%W', HW⟩⟩
    isplitl [HE]; · iexact HE
    iexists W'; isplitr; · ipureintro; exact fun _ _ => Or.inl trivial
    iexact HW

theorem no_windows (Φ : Fin cfg0.W → sProp 𝕄) : bigSep Finset.univ Φ = (BI.emp : sProp 𝕄) := by
  rw [show (Finset.univ : Finset (Fin cfg0.W)) = ∅ from rfl]; exact bigSep_empty

theorem body_obligation : BodyObligation (dats (F := F) m 0 c) (defs₀ (F := F)) Variants.none () Set.univ := fun t => by
  rw [defs₀_row]
  refine triple_restated (sound_body c m t) rfl ?_ fun _ => ?_
  · iintro ⟨H1, H2, -⟩
    isplitl [H1]; · iexact H1
    iexact H2
  · iintro ⟨H1, H2⟩
    isplitl [H1]; · iexact H1
    isplitl [H2]; · iexact H2
    iapply (Entails.of_eq (no_windows _).symm)
    iempintro

set_option maxHeartbeats 800000 in
theorem hmainC (𝒱₀ : Variants) : Pipeline.HMain (Ix := Unit) (Name := ℕ) (U := UC sig nD τ) (Lvl := ℕ) cfgs 0 defs₀ 𝒱₀ m (main (F := F)) (V m) :=
  Pipeline.hmain_prefix cfgs 0 defs₀ 𝒱₀ m main hostOps0 hostOps0_sub hostOps0_fresh main_chain

/-- What a run ends with: the routed arrays at `Y`, the other unscoped arrays as the region found them, the counters at zero. -/
def Final (r : PUnit × MemSt nD τ sig (Elt F)) : Prop :=
  (∀ c : Dev nD, (∀ b ∈ RB, r.2.mem ((c.tc : Thread nD τ).loc b) = Y c m b)
    ∧ (∀ b ∈ Pipeline.restRefs sig cfg0.spec \ RB, r.2.mem ((c.tc : Thread nD τ).loc b) = V m c b)) ∧ r.2.sem = fun _ => 0

set_option backward.isDefEq.respectTransparency.types false in
theorem run_main : θ_run defs (onTc (τ := τ) (main (F := F))) (s₀ m ρ) (Final m) :=
  Pipeline.θ_run_frame_routed (Q' := Final m) cfgs (dats m) (0 : Fin 1) launch0 ownSemFacts0 defs₀ Variants.none m ρ main
    (hbody := fun c => (body_obligation c m).loose) (hshare := fun c => (dats m 0 c).share_full fun _ => rfl)
    (howed := fun _ _ => rfl) (V := V m) (hmain := hmainC m Variants.none) (hA := fun _ _ => rfl)
    (R := RB) (hR := RB_sub) (Y := fun c => Y c m)
    (hin := fun _ => .rfl) (hout := fun c => Entails.of_eq (Phi_last c m))
    (hQ' := fun _ h => ⟨fun c => (h.1 c).2, h.2⟩)

/-- The results at the kernel's values, the arguments as launched, the counters at zero. -/
theorem run_values : θ_run defs (onTc (τ := τ) (main (F := F))) (s₀ m ρ) (fun r => (∀ c : Dev nD,
      r.2.mem ((c.tc : Thread nD τ).loc main_v6_0) = lsev (inOf c m)
      ∧ r.2.mem ((c.tc : Thread nD τ).loc main_v6_1) = clpv (inOf c m)
      ∧ r.2.mem ((c.tc : Thread nD τ).loc main_v6_2) = zv (inOf c m)
      ∧ r.2.mem ((c.tc : Thread nD τ).loc main_v6_3) = codesv (inOf c m)
      ∧ r.2.mem ((c.tc : Thread nD τ).loc main_v6_4) = xsv (inOf c m))
      ∧ (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) := by
  refine (θ_run defs _ _).mono (fun r h => ⟨fun c => ⟨?_, ?_, ?_, ?_, ?_⟩, fun c => ⟨?_, ?_, ?_, ?_, ?_, ?_, ?_, ?_, ?_, ?_, ?_⟩, h.2⟩) (run_main m ρ)
  · exact ((h.1 c).1 main_v6_0 (by rw [RB, List.mem_toFinset]; decide)).trans (Y_res0 c m)
  · exact ((h.1 c).1 main_v6_1 (by rw [RB, List.mem_toFinset]; decide)).trans (Y_res1 c m)
  · exact ((h.1 c).1 main_v6_2 (by rw [RB, List.mem_toFinset]; decide)).trans (Y_res2 c m)
  · exact ((h.1 c).1 main_v6_3 (by rw [RB, List.mem_toFinset]; decide)).trans (Y_res3 c m)
  · exact ((h.1 c).1 main_v6_4 (by rw [RB, List.mem_toFinset]; decide)).trans (Y_res4 c m)
  · exact ((h.1 c).1 main_arg0 (by rw [RB, List.mem_toFinset]; decide)).trans ((Y_other c m (by decide) (by decide) (by decide) (by decide) (by decide)).trans (V_main_arg0 m c))
  · exact ((h.1 c).2 main_arg1 (Finset.mem_sdiff.mpr ⟨Pipeline.mem_restRefs_of _ (by decide) (by decide), by rw [RB, List.mem_toFinset]; decide⟩)).trans (V_main_arg1 m c)
  · exact ((h.1 c).1 main_arg2 (by rw [RB, List.mem_toFinset]; decide)).trans ((Y_other c m (by decide) (by decide) (by decide) (by decide) (by decide)).trans (V_main_arg2 m c))
  · exact ((h.1 c).1 main_arg3 (by rw [RB, List.mem_toFinset]; decide)).trans ((Y_other c m (by decide) (by decide) (by decide) (by decide) (by decide)).trans (V_main_arg3 m c))
  · exact ((h.1 c).1 main_arg4 (by rw [RB, List.mem_toFinset]; decide)).trans ((Y_other c m (by decide) (by decide) (by decide) (by decide) (by decide)).trans (V_main_arg4 m c))
  · exact ((h.1 c).2 main_arg5 (Finset.mem_sdiff.mpr ⟨Pipeline.mem_restRefs_of _ (by decide) (by decide), by rw [RB, List.mem_toFinset]; decide⟩)).trans (V_main_arg5 m c)
  · exact ((h.1 c).2 main_arg6 (Finset.mem_sdiff.mpr ⟨Pipeline.mem_restRefs_of _ (by decide) (by decide), by rw [RB, List.mem_toFinset]; decide⟩)).trans (V_main_arg6 m c)
  · exact ((h.1 c).2 main_arg7 (Finset.mem_sdiff.mpr ⟨Pipeline.mem_restRefs_of _ (by decide) (by decide), by rw [RB, List.mem_toFinset]; decide⟩)).trans (V_main_arg7 m c)
  · exact ((h.1 c).2 main_arg8 (Finset.mem_sdiff.mpr ⟨Pipeline.mem_restRefs_of _ (by decide) (by decide), by rw [RB, List.mem_toFinset]; decide⟩)).trans (V_main_arg8 m c)
  · exact ((h.1 c).2 main_arg9 (Finset.mem_sdiff.mpr ⟨Pipeline.mem_restRefs_of _ (by decide) (by decide), by rw [RB, List.mem_toFinset]; decide⟩)).trans (V_main_arg9 m c)
  · exact ((h.1 c).1 main_arg10 (by rw [RB, List.mem_toFinset]; decide)).trans ((Y_other c m (by decide) (by decide) (by decide) (by decide) (by decide)).trans (V_main_arg10 m c))

end Cert.KernelIdeal.Hand

end
-- ==== Proof.RefIdeal.Terms.lean ====
/-
  What the reference computes, stage by stage, as functions of its arguments: the normalised
  activations, the scale's exponent, the codes, the token counts, the penalised logits. Each is
  the composed term of the printed operations.
-/
module

public import proofs.«01_k».proof.Defs
public import proofs.«01_k».proof.Proof.Gen.RefIdeal.Frame
public import Idealize.ShloMosaic.Lib.StableHlo.RunRead

@[expose] public section

noncomputable section

namespace Cert.RefIdeal.Hand

open Cert.RefIdeal Cert.RefIdeal.Gen
open Idealize.ShloMosaic Idealize.ShloMosaic.TcCoe
open Idealize.SL Idealize.SL.Sem

variable {F : FTy → Type} [FloatOps F]

/-! ## The stages -/

/-- The activations after the RMS normalisation and the gain. -/
def yR (x : FVec F S16x12288 .bf16) (g : FVec F S12288 .f32) : FVec F S16x12288 .f32 :=
  mulf (mulf (extf .f32 x bitsLt_bf16_f32) (broadcastInDim S16x12288 ![0, 1] bcast_S16x1_S16x12288_0_1
      (Host.rsqrt (addf (Host.divf (broadcastInDim S16x1 ![0] bcast_S16_S16x1_0
          (Host.reduceAdd (mulf (extf .f32 x bitsLt_bf16_f32) (extf .f32 x bitsLt_bf16_f32))
            (constant S_ .f32 0x00000000#32) reducesTo_S16x12288_S16_d1 h_S_))
          (broadcastInDim S16x1 ![] bcast_S_S16x1 (constant S_ .f32 0x46400000#32)))
        (broadcastInDim S16x1 ![] bcast_S_S16x1 (constant S_ .f32 0x358637BD#32))))))
    (broadcastInDim S16x12288 ![0, 1] bcast_S1x12288_S16x12288_0_1
      (broadcastInDim S1x12288 ![1] bcast_S12288_S1x12288_1 g))

/-- The largest magnitude of each row over the format's largest value. -/
def aR (y : FVec F S16x12288 .f32) : FVec F S16x1 .f32 :=
  mulf (broadcastInDim S16x1 ![0] bcast_S16_S16x1_0
      (Host.reduce FloatOps.maximumf (Host.absf y) (constant S_ .f32 0xFF800000#32)
        reducesTo_S16x12288_S16_d1 h_S_))
    (broadcastInDim S16x1 ![] bcast_S_S16x1 (constant S_ .f32 0x3B124925#32))

/-- How many of the powers of two from `2 ^ -126` on are at most the row's value. -/
def nR (a : FVec F S16x1 .f32) : IVec S16x1 32 :=
  broadcastInDim S16x1 ![0] bcast_S16_S16x1_0
    (Host.reduce IntOp.addi
      (select (cmpf .oge (broadcastInDim S16x254 ![0, 1] bcast_S16x1_S16x254_0_1 a)
          (broadcastInDim S16x254 ![0, 1] bcast_S1x254_S16x254_0_1
            (broadcastInDim S1x254 ![1] bcast_S254_S1x254_1
              (Host.powf (broadcastInDim S254 ![] bcast_S_S254 (constant S_ .f32 0x40000000#32))
                (sitofp .f32 (addi (broadcastInDim S254 ![] bcast_S_S254 (constantI S_ 32 4294967170#32))
                  (iotaInDim S254 32 0)))))))
        (broadcastInDim S16x254 ![] bcast_S_S16x254 (constantI S_ 32 1#32))
        (broadcastInDim S16x254 ![] bcast_S_S16x254 (constantI S_ 32 0#32)))
      (constantI S_ 32 0#32) reducesTo_S16x254_S16_d1 h_S_)

/-- The scale's exponent from the count: zero for none. -/
def eR (n : IVec S16x1 32) : IVec S16x1 32 :=
  select (cmpi .eq n (broadcastInDim S16x1 ![] bcast_S_S16x1 (constantI S_ 32 0#32)))
    (broadcastInDim S16x1 ![] bcast_S_S16x1 (constantI S_ 32 0#32))
    (subi n (broadcastInDim S16x1 ![] bcast_S_S16x1 (constantI S_ 32 126#32)))

/-- Two to the power of an integer. -/
def powR (e : IVec S16x1 32) : FVec F S16x1 .f32 :=
  Host.powf (broadcastInDim S16x1 ![] bcast_S_S16x1 (constant S_ .f32 0x40000000#32)) (sitofp .f32 e)

/-- The codes: the activations over the scale, cut to the format's range. -/
def codesR (y : FVec F S16x12288 .f32) (e : IVec S16x1 32) : FVec F S16x12288 .fp8e4m3 :=
  Host.convertf .fp8e4m3
    (minimumf (broadcastInDim S16x12288 ![] bcast_S_S16x12288 (constant S_ .f32 0x43E00000#32))
      (maximumf (broadcastInDim S16x12288 ![] bcast_S_S16x12288 (constant S_ .f32 0xC3E00000#32))
        (mulf y (broadcastInDim S16x12288 ![0, 1] bcast_S16x1_S16x12288_0_1 (powR (negi e))))))

/-- How often each token stands among the row's output ids. -/
def cR (ids : IVec S16x1024 32) (len : IVec S16 32) : FVec F S16x32000 .f32 :=
  Host.reduceAdd
    (select (andi
        (broadcastInDim S16x1024x32000 ![0, 1, 2] bcast_S16x1024x1_S16x1024x32000_0_1_2
          (broadcastInDim S16x1024x1 ![0, 1] bcast_S16x1024_S16x1024x1_0_1
            (cmpi .slt (broadcastInDim S16x1024 ![0, 1] bcast_S1x1024_S16x1024_0_1
                (broadcastInDim S1x1024 ![1] bcast_S1024_S1x1024_1 (iotaInDim S1024 32 0)))
              (broadcastInDim S16x1024 ![0, 1] bcast_S16x1_S16x1024_0_1
                (broadcastInDim S16x1 ![0] bcast_S16_S16x1_0 len)))))
        (cmpi .eq
          (broadcastInDim S16x1024x32000 ![0, 1, 2] bcast_S16x1024x1_S16x1024x32000_0_1_2
            (broadcastInDim S16x1024x1 ![0, 1] bcast_S16x1024_S16x1024x1_0_1 ids))
          (broadcastInDim S16x1024x32000 ![0, 1, 2] bcast_S1x1x32000_S16x1024x32000_0_1_2
            (broadcastInDim S1x1x32000 ![2] bcast_S32000_S1x1x32000_2 (iotaInDim S32000 32 0)))))
      (broadcastInDim S16x1024x32000 ![] bcast_S_S16x1024x32000 (constant S_ .f32 0x3F800000#32))
      (broadcastInDim S16x1024x32000 ![] bcast_S_S16x1024x32000 (constant S_ .f32 0x00000000#32)))
    (constant S_ .f32 0x00000000#32) reducesTo_S16x1024x32000_S16x32000_d1 h_S_

/-- The product with both scales. -/
def logitsR (p : FVec F S16x32000 .f32) (xs : FVec F S16x1 .f32) (ws : FVec F S32000 .f32) : FVec F S16x32000 .f32 :=
  mulf (mulf p (broadcastInDim S16x32000 ![0, 1] bcast_S16x1_S16x32000_0_1 xs))
    (broadcastInDim S16x32000 ![0, 1] bcast_S1x32000_S16x32000_0_1
      (broadcastInDim S1x32000 ![1] bcast_S32000_S1x32000_1 ws))

/-- A row's parameter at every token. -/
def rowR (v : FVec F S16 .f32) : FVec F S16x32000 .f32 :=
  broadcastInDim S16x32000 ![0, 1] bcast_S16x1_S16x32000_0_1 (broadcastInDim S16x1 ![0] bcast_S16_S16x1_0 v)

/-- Zero at every token. -/
def zeroR : FVec F S16x32000 .f32 :=
  broadcastInDim S16x32000 ![] bcast_S_S16x32000 (constant S_ .f32 0x00000000#32)

/-- The logits after the penalties and the temperature. -/
def zR (l c : FVec F S16x32000 .f32) (pres freq rep temp : FVec F S16 .f32) : FVec F S16x32000 .f32 :=
  Host.divf (subf (subf
      (select (cmpf .ogt c zeroR)
        (select (cmpf .ogt l zeroR) (Host.divf l (rowR rep)) (mulf l (rowR rep))) l)
      (mulf c (rowR freq)))
    (mulf (uitofp .f32 (cmpf .ogt c zeroR)) (rowR pres))) (rowR temp)

/-- The log of the sum of exponentials of each row. -/
def lseR (z : FVec F S16x32000 .f32) : FVec F S16x1 .f32 :=
  addf (Host.log (broadcastInDim S16x1 ![0] bcast_S16_S16x1_0
      (Host.reduceAdd (Host.exp (subf z (broadcastInDim S16x32000 ![0, 1] bcast_S16x1_S16x32000_0_1
          (broadcastInDim S16x1 ![0] bcast_S16_S16x1_0
            (Host.reduce FloatOps.maximumf z (constant S_ .f32 0xFF800000#32) reducesTo_S16x32000_S16_d1 h_S_)))))
        (constant S_ .f32 0x00000000#32) reducesTo_S16x32000_S16_d1 h_S_)))
    (broadcastInDim S16x1 ![0] bcast_S16_S16x1_0
      (Host.reduce FloatOps.maximumf z (constant S_ .f32 0xFF800000#32) reducesTo_S16x32000_S16_d1 h_S_))

/-- The candidates' log-probabilities. -/
def clpR (z : FVec F S16x32000 .f32) (lse : FVec F S16x1 .f32) (cand : IVec S16x20 32) : FVec F S16x20 .f32 :=
  subf (Host.reduceAdd
      (select (cmpi .eq
          (broadcastInDim S16x20x32000 ![0, 1, 2] bcast_S16x20x1_S16x20x32000_0_1_2
            (broadcastInDim S16x20x1 ![0, 1] bcast_S16x20_S16x20x1_0_1 cand))
          (broadcastInDim S16x20x32000 ![0, 1, 2] bcast_S1x1x32000_S16x20x32000_0_1_2
            (broadcastInDim S1x1x32000 ![2] bcast_S32000_S1x1x32000_2 (iotaInDim S32000 32 0))))
        (broadcastInDim S16x20x32000 ![0, 1, 2] bcast_S16x1x32000_S16x20x32000_0_1_2
          (broadcastInDim S16x1x32000 ![0, 2] bcast_S16x32000_S16x1x32000_0_2 z))
        (broadcastInDim S16x20x32000 ![] bcast_S_S16x20x32000 (constant S_ .f32 0x00000000#32)))
      (constant S_ .f32 0x00000000#32) reducesTo_S16x20x32000_S16x20_d2 h_S_)
    (broadcastInDim S16x20 ![0, 1] bcast_S16x1_S16x20_0_1 lse)

/-! ## The host operations before the product -/

/-- The operations before the product, in order. -/
abbrev pre : List (HloOp τ sig (Elt F)) :=
  List.flatten [hostOps0, hostOps0_1, hostOps0_2, hostOps0_3, hostOps0_4, hostOps0_5, hostOps0_6]

/-- The operations after the product, in order. -/
abbrev post : List (HloOp τ sig (Elt F)) :=
  List.flatten [hostOps1, hostOps1_1, hostOps1_2, hostOps1_3, hostOps1_4, hostOps1_5, hostOps1_6, hostOps1_7]

variable (W : Valuation τ sig (Elt F))

/-- The exponent of each row. -/
abbrev eOf (x : FVec F S16x12288 .bf16) (g : FVec F S12288 .f32) : IVec S16x1 32 := eR (nR (aR (yR x g)))

set_option maxHeartbeats 4000000 in
set_option maxRecDepth 8000 in
theorem pre_v45 : StableHlo.after pre W (Proc.devRef .tc main_v45)
    = codesR (yR (W (Proc.devRef .tc main_arg0)) (W (Proc.devRef .tc main_arg1)))
        (eOf (W (Proc.devRef .tc main_arg0)) (W (Proc.devRef .tc main_arg1))) := by
  dsimp only [pre, List.flatten_cons, List.flatten_nil, List.append_nil, List.cons_append, List.nil_append]
  after_reads_simp
  simp only [StableHlo.TRef.toBuf, StableHlo.TRef.ofBuf, cast_cast, cast_eq]
  rfl

set_option maxHeartbeats 4000000 in
set_option maxRecDepth 8000 in
theorem pre_v48 : StableHlo.after pre W (Proc.devRef .tc main_v48)
    = powR (eOf (W (Proc.devRef .tc main_arg0)) (W (Proc.devRef .tc main_arg1))) := by
  dsimp only [pre, List.flatten_cons, List.flatten_nil, List.append_nil, List.cons_append, List.nil_append]
  after_reads_simp
  simp only [StableHlo.TRef.toBuf, StableHlo.TRef.ofBuf, cast_cast, cast_eq]
  rfl

set_option maxHeartbeats 4000000 in
set_option maxRecDepth 8000 in
theorem post_v95 : StableHlo.after post W (Proc.devRef .tc main_v95)
    = zR (logitsR (W (Proc.devRef .tc main_v49)) (W (Proc.devRef .tc main_v48)) (W (Proc.devRef .tc main_arg3)))
        (cR (W (Proc.devRef .tc main_arg4)) (W (Proc.devRef .tc main_arg5)))
        (W (Proc.devRef .tc main_arg6)) (W (Proc.devRef .tc main_arg7)) (W (Proc.devRef .tc main_arg8))
        (W (Proc.devRef .tc main_arg9)) := by
  dsimp only [post, List.flatten_cons, List.flatten_nil, List.append_nil, List.cons_append, List.nil_append]
  after_reads_simp
  simp only [StableHlo.TRef.toBuf, StableHlo.TRef.ofBuf, cast_cast, cast_eq]
  rfl

set_option maxHeartbeats 4000000 in
set_option maxRecDepth 8000 in
theorem post_v115 : StableHlo.after post W (Proc.devRef .tc main_v115)
    = shapeCast S1x16 (W (Proc.devRef .tc main_v48)) shapeCasts_S16x1_S1x16 := by
  dsimp only [post, List.flatten_cons, List.flatten_nil, List.append_nil, List.cons_append, List.nil_append]
  after_reads_simp
  rfl

set_option maxHeartbeats 8000000 in
set_option maxRecDepth 8000 in
theorem post_v112 : StableHlo.after post W (Proc.devRef .tc main_v112)
    = shapeCast S1x16 (lseR (zR (logitsR (W (Proc.devRef .tc main_v49)) (W (Proc.devRef .tc main_v48)) (W (Proc.devRef .tc main_arg3)))
        (cR (W (Proc.devRef .tc main_arg4)) (W (Proc.devRef .tc main_arg5)))
        (W (Proc.devRef .tc main_arg6)) (W (Proc.devRef .tc main_arg7)) (W (Proc.devRef .tc main_arg8))
        (W (Proc.devRef .tc main_arg9)))) shapeCasts_S16x1_S1x16 := by
  dsimp only [post, List.flatten_cons, List.flatten_nil, List.append_nil, List.cons_append, List.nil_append]
  after_reads_simp
  simp only [StableHlo.TRef.toBuf, StableHlo.TRef.ofBuf, cast_cast, cast_eq]
  rfl

set_option maxHeartbeats 8000000 in
set_option maxRecDepth 8000 in
theorem post_v114 : StableHlo.after post W (Proc.devRef .tc main_v114)
    = clpR (zR (logitsR (W (Proc.devRef .tc main_v49)) (W (Proc.devRef .tc main_v48)) (W (Proc.devRef .tc main_arg3)))
        (cR (W (Proc.devRef .tc main_arg4)) (W (Proc.devRef .tc main_arg5)))
        (W (Proc.devRef .tc main_arg6)) (W (Proc.devRef .tc main_arg7)) (W (Proc.devRef .tc main_arg8))
        (W (Proc.devRef .tc main_arg9)))
      (lseR (zR (logitsR (W (Proc.devRef .tc main_v49)) (W (Proc.devRef .tc main_v48)) (W (Proc.devRef .tc main_arg3)))
        (cR (W (Proc.devRef .tc main_arg4)) (W (Proc.devRef .tc main_arg5)))
        (W (Proc.devRef .tc main_arg6)) (W (Proc.devRef .tc main_arg7)) (W (Proc.devRef .tc main_arg8))
        (W (Proc.devRef .tc main_arg9))))
      (W (Proc.devRef .tc main_arg10)) := by
  dsimp only [post, List.flatten_cons, List.flatten_nil, List.append_nil, List.cons_append, List.nil_append]
  after_reads_simp
  simp only [StableHlo.TRef.toBuf, StableHlo.TRef.ofBuf, cast_cast, cast_eq]
  rfl

end Cert.RefIdeal.Hand

end
-- ==== Proof.RefIdeal.Run.lean ====
/-
  The reference's run: each claimed result as a function of the arguments, and the arguments
  unchanged.
-/
module

public import proofs.«01_k».proof.Proof.RefIdeal.Terms
public import Idealize.ShloMosaic.Lib.Pipeline.Value

@[expose] public section

noncomputable section

namespace Cert.RefIdeal.Hand

open Cert.RefIdeal Cert.RefIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-! ## The product's array -/

theorem hz : (![0, 0] : Fin 2 → Nat) = fun _ => 0 := funext fun a => by fin_cases a <;> rfl

/-- The product of the codes and the weights, as the region computes it. -/
abbrev prodR (c : Dev nD) : Buf (Elt F) ((c : Thread nD τ).loc main_v49) :=
  k0_pay1 (V m c main_v45) (V m c main_arg2)

theorem iblk0 (c : Dev nD) (t : Fin cfg0.N) : (iblk m c 0 t : Vec F S16x12288 .fp8e4m3) = V m c main_v45 := by
  obtain rfl := fin_N0 t
  funext j
  show V m c main_v45 (((cfg0.win 0).blk t0_0).view.emb j) = _
  congr 1
  funext a
  fin_cases a <;> exact Fin.ext (by first | (rfl; done) | exact Nat.zero_add _ | exact (Nat.zero_add _).symm | exact (Nat.zero_add _).trans (Nat.mul_one _) | exact (Nat.zero_add _).trans (Nat.one_mul _) | exact ((Nat.zero_add _).trans (Nat.mul_one _)).symm | exact ((Nat.zero_add _).trans (Nat.one_mul _)).symm)

theorem iblk1 (c : Dev nD) (t : Fin cfg0.N) : (iblk m c 1 t : Vec F S12288x32000 .fp8e4m3) = V m c main_arg2 := by
  obtain rfl := fin_N0 t
  funext j
  show V m c main_arg2 (((cfg0.win 1).blk t0_0).view.emb j) = _
  congr 1
  funext a
  fin_cases a <;> exact Fin.ext (by first | (rfl; done) | exact Nat.zero_add _ | exact (Nat.zero_add _).symm | exact (Nat.zero_add _).trans (Nat.mul_one _) | exact (Nat.zero_add _).trans (Nat.one_mul _) | exact ((Nat.zero_add _).trans (Nat.mul_one _)).symm | exact ((Nat.zero_add _).trans (Nat.one_mul _)).symm)

theorem flushed_eq (c : Dev nD) (t : Fin cfg0.N) :
    (dats m 0 c).flushed 2 t = (win0_2.blk t).view.read (Elt F) (prodR m c) := by
  show (cfg0.win 2).cut (grid0.coords t) ((dats m 0 c).after 2 t) = _
  rw [after0_2]
  unfold out0_2
  rw [View.canon_unit_zero hz, View.ld_unit_zero hz, View.ld_unit_zero hz, iblk0, iblk1]
  obtain rfl := fin_N0 t
  funext j
  show prodR m c _ = prodR m c (((cfg0.win 2).blk t0_0).view.emb j)
  congr 1
  funext a
  fin_cases a <;> exact Fin.ext (by first | (rfl; done) | exact Nat.zero_add _ | exact (Nat.zero_add _).symm | exact (Nat.zero_add _).trans (Nat.mul_one _) | exact (Nat.zero_add _).trans (Nat.one_mul _) | exact ((Nat.zero_add _).trans (Nat.mul_one _)).symm | exact ((Nat.zero_add _).trans (Nat.one_mul _)).symm)

/-- The one block is the whole array. -/
theorem cover (i : S16x32000.Idx) :
    ∃ t : Fin cfg0.N, (cfg0.win 2).flush t = true ∧ i ∈ ((cfg0.win 2).blk t).view.set := by
  refine ⟨t0_0, flush0_2 _, ?_⟩
  show i ∈ ((View.whole main_v49).slice (win0_2.rect t0_0)).set
  rw [View.set_slice_whole, Rect.mem_set_unit]
  have h0 : (i 0 : Nat) < 16 := (i 0).isLt
  have h1 : (i 1 : Nat) < 32000 := (i 1).isLt
  have e : win0_2.index t0_0 0 * win0_2.size 0 = 0 ∧ win0_2.xsize (grid0.coords t0_0) 0 = 16
      ∧ win0_2.index t0_0 1 * win0_2.size 1 = 0 ∧ win0_2.xsize (grid0.coords t0_0) 1 = 32000 := by
    decide +kernel
  intro a
  match a with
  | ⟨0, _⟩ => show win0_2.index t0_0 0 * win0_2.size 0 ≤ (i 0 : Nat) ∧ (i 0 : Nat) < win0_2.index t0_0 0 * win0_2.size 0 + win0_2.xsize (grid0.coords t0_0) 0
              rw [e.1, e.2.1]; omega
  | ⟨1, _⟩ => show win0_2.index t0_0 1 * win0_2.size 1 ≤ (i 1 : Nat) ∧ (i 1 : Nat) < win0_2.index t0_0 1 * win0_2.size 1 + win0_2.xsize (grid0.coords t0_0) 1
              rw [e.2.2.1, e.2.2.2]; omega

theorem final_prod (c : Dev nD) : (dats m 0 c).arrAt 2 cfg0.N = prodR m c :=
  (dats m 0 c).arrAt_eq_of_cover 2 (prodR m c) (fun t _ => flushed_eq m c t) cover

/-! ## The run -/

/-- The arguments of device `c`. -/
abbrev argX (c : Dev nD) : FVec F S16x12288 .bf16 := m ((c : Thread nD τ).loc main_arg0)
abbrev argG (c : Dev nD) : FVec F S12288 .f32 := m ((c : Thread nD τ).loc main_arg1)

/-- The codes, the scale and the penalised logits of device `c`. -/
def codesOf (c : Dev nD) : FVec F S16x12288 .fp8e4m3 :=
  codesR (yR (argX m c) (argG m c)) (eOf (argX m c) (argG m c))
def scaleOf (c : Dev nD) : FVec F S16x1 .f32 := powR (eOf (argX m c) (argG m c))
def logOf (c : Dev nD) : FVec F S16x32000 .f32 :=
  logitsR (k0_pay1 (codesOf m c) (m ((c : Thread nD τ).loc main_arg2))) (scaleOf m c) (m ((c : Thread nD τ).loc main_arg3))
def zOf (c : Dev nD) : FVec F S16x32000 .f32 :=
  zR (logOf m c)
    (cR (m ((c : Thread nD τ).loc main_arg4)) (m ((c : Thread nD τ).loc main_arg5)))
    (m ((c : Thread nD τ).loc main_arg6)) (m ((c : Thread nD τ).loc main_arg7))
    (m ((c : Thread nD τ).loc main_arg8)) (m ((c : Thread nD τ).loc main_arg9))

def lseOf (c : Dev nD) : FVec F S16x1 .f32 := lseR (zOf m c)
def clpOf (c : Dev nD) : FVec F S16x20 .f32 :=
  clpR (zOf m c) (lseOf m c) (m ((c : Thread nD τ).loc main_arg10))

theorem V_v45 (c : Dev nD) : V m c main_v45 = codesOf m c := pre_v45 _
theorem V_v48 (c : Dev nD) : V m c main_v48 = scaleOf m c := pre_v48 _

/-- The contents when the operations after the product start. -/
abbrev mid (c : Dev nD) : Valuation τ sig (Elt F) :=
  Pipeline.withArrays spec0 c (V0 m c) fun w => (dats m 0 c).arrAt w cfg0.N

theorem arr_ne {b : Ref sig .tc} (h : ∀ w, Pipeline.arrRef spec0 w ≠ b) (c : Dev nD) :
    mid m c (Proc.devRef .tc b) = V m c b := Pipeline.withArrays_of_ne _ c (V0 m c) _ b h

theorem mid_v49 (c : Dev nD) : mid m c (Proc.devRef .tc main_v49)
    = k0_pay1 (codesOf m c) (m ((c : Thread nD τ).loc main_arg2)) := by
  refine (Pipeline.withArrays_arr spec0 (by decide) c (V0 m c) _ 2).trans ((final_prod m c).trans ?_)
  show k0_pay1 (V m c main_v45) (V m c main_arg2) = _
  rw [V_v45, V_main_arg2]

theorem tail_z (c : Dev nD) : StableHlo.after post (mid m c) (Proc.devRef .tc main_v95) = zOf m c := by
  rw [post_v95, mid_v49, arr_ne m (b := main_v48) (by decide), arr_ne m (b := main_arg3) (by decide),
    arr_ne m (b := main_arg4) (by decide), arr_ne m (b := main_arg5) (by decide),
    arr_ne m (b := main_arg6) (by decide), arr_ne m (b := main_arg7) (by decide),
    arr_ne m (b := main_arg8) (by decide), arr_ne m (b := main_arg9) (by decide), V_v48,
    V_main_arg3, V_main_arg4, V_main_arg5, V_main_arg6, V_main_arg7, V_main_arg8, V_main_arg9]
  rfl

theorem tail_lse (c : Dev nD) : StableHlo.after post (mid m c) (Proc.devRef .tc main_v112)
    = shapeCast S1x16 (lseOf m c) shapeCasts_S16x1_S1x16 := by
  rw [post_v112, mid_v49, arr_ne m (b := main_v48) (by decide), arr_ne m (b := main_arg3) (by decide),
    arr_ne m (b := main_arg4) (by decide), arr_ne m (b := main_arg5) (by decide),
    arr_ne m (b := main_arg6) (by decide), arr_ne m (b := main_arg7) (by decide),
    arr_ne m (b := main_arg8) (by decide), arr_ne m (b := main_arg9) (by decide), V_v48,
    V_main_arg3, V_main_arg4, V_main_arg5, V_main_arg6, V_main_arg7, V_main_arg8, V_main_arg9]
  rfl

theorem tail_clp (c : Dev nD) : StableHlo.after post (mid m c) (Proc.devRef .tc main_v114) = clpOf m c := by
  rw [post_v114, mid_v49, arr_ne m (b := main_v48) (by decide), arr_ne m (b := main_arg3) (by decide),
    arr_ne m (b := main_arg4) (by decide), arr_ne m (b := main_arg5) (by decide),
    arr_ne m (b := main_arg6) (by decide), arr_ne m (b := main_arg7) (by decide),
    arr_ne m (b := main_arg8) (by decide), arr_ne m (b := main_arg9) (by decide), arr_ne m (b := main_arg10) (by decide), V_v48,
    V_main_arg3, V_main_arg4, V_main_arg5, V_main_arg6, V_main_arg7, V_main_arg8, V_main_arg9, V_main_arg10]
  rfl

theorem tail_xs (c : Dev nD) : StableHlo.after post (mid m c) (Proc.devRef .tc main_v115)
    = shapeCast S1x16 (scaleOf m c) shapeCasts_S16x1_S1x16 := by
  rw [post_v115, arr_ne m (b := main_v48) (by decide), V_v48]

/-- The reference's run, read at its results. -/
theorem run_values : θ_run defs (onTc (τ := τ) (main (F := F))) ⟨m, fun _ => 0, ρ⟩ fun r => ∀ c : Dev nD,
      r.2.mem ((c : Thread nD τ).loc main_v112) = shapeCast S1x16 (lseOf m c) shapeCasts_S16x1_S1x16
      ∧ r.2.mem ((c : Thread nD τ).loc main_v114) = clpOf m c
      ∧ r.2.mem ((c : Thread nD τ).loc main_v95) = zOf m c
      ∧ r.2.mem ((c : Thread nD τ).loc main_v45) = codesOf m c
      ∧ r.2.mem ((c : Thread nD τ).loc main_v115) = shapeCast S1x16 (scaleOf m c) shapeCasts_S16x1_S1x16 :=
  (θ_run defs _ _).mono (fun _ h c => ⟨
      ((h c).2 main_v112 (Pipeline.mem_restRefs_of main_v112 (by decide) (by decide))).trans (tail_lse m c),
      ((h c).2 main_v114 (Pipeline.mem_restRefs_of main_v114 (by decide) (by decide))).trans (tail_clp m c),
      ((h c).2 main_v95 (Pipeline.mem_restRefs_of main_v95 (by decide) (by decide))).trans (tail_z m c),
      ((h c).1 0).trans (((dats m 0 c).arrAt_in 0 rfl _).trans (V_v45 m c)),
      ((h c).2 main_v115 (Pipeline.mem_restRefs_of main_v115 (by decide) (by decide))).trans (tail_xs m c)⟩)
    (run_main m ρ)

end Cert.RefIdeal.Hand

end
-- ==== Proof.Value.Math.lean ====
/-
  The mathematics under the value claim: sums cut in chunks, maxima of magnitudes, powers of two
  as bit patterns and as powers, counts of thresholds, and the two digits of a token id.
-/
module

public import Idealize.ShloMosaic.Lib.Pointwise
public import Idealize.ShloMosaic.Lib.IndicatorCount

@[expose] public section

set_option maxRecDepth 16384

noncomputable section

namespace Cert.Val

open Idealize.ShloMosaic

/-! ## Sums and maxima -/

/-- A sum over 12288 positions, lane by lane over the twelve chunks of 1024. -/
theorem sum_chunks (f : Fin 12288 → EReal) :
    ∑ l : Fin 1024, ∑ k ∈ Finset.range 12, f ⟨(1024 * k + l.val) % 12288, Nat.mod_lt _ (by decide)⟩
      = ∑ k : Fin 12288, f k := by
  rw [show (∑ k : Fin 12288, f k) = ∑ k : Fin (12 * 1024), f k from rfl,
    ← (finProdFinEquiv (m := 12) (n := 1024)).sum_comp, Fintype.sum_prod_type, Finset.sum_comm]
  rw [Finset.sum_range]
  refine Finset.sum_congr rfl fun k _ => Finset.sum_congr rfl fun l _ => ?_
  congr 1
  apply Fin.ext
  show (1024 * k.val + l.val) % 12288 = l.val + 1024 * k.val
  have := k.isLt; have := l.isLt
  omega

/-- A magnitude is not negative. -/
theorem absf_nonneg (a : EReal) : 0 ≤ max a (-a) := by
  rcases le_total 0 a with h | h
  · exact le_max_of_le_left h
  · exact le_max_of_le_right (by simpa using EReal.neg_le_neg_iff.2 h)

/-- The largest magnitude over 12288 positions, from the lanes' largest magnitudes over twelve chunks. -/
theorem max_chunks (a : Fin 1024 → EReal) (y : Fin 12288 → EReal)
    (h : ∀ l c, a l ≤ c ↔ 0 ≤ c ∧ ∀ j < 12,
      max (y ⟨(1024 * j + l.val) % 12288, Nat.mod_lt _ (by decide)⟩)
        (-(y ⟨(1024 * j + l.val) % 12288, Nat.mod_lt _ (by decide)⟩)) ≤ c) :
    Finset.fold max ⊥ a Finset.univ = Finset.fold max ⊥ (fun j => max (y j) (-(y j))) Finset.univ := by
  refine eq_of_forall_ge_iff fun c => ?_
  rw [Finset.fold_max_le, Finset.fold_max_le]
  refine and_congr_right fun _ => ?_
  constructor
  · intro hh j _
    have := ((h ⟨j.val % 1024, Nat.mod_lt _ (by decide)⟩ c).1 (hh _ (Finset.mem_univ _))).2
      (j.val / 1024) (by have := j.isLt; omega)
    have e : (⟨(1024 * (j.val / 1024) + j.val % 1024) % 12288, Nat.mod_lt _ (by decide)⟩ : Fin 12288) = j := by
      apply Fin.ext
      have := j.isLt
      show (1024 * (j.val / 1024) + j.val % 1024) % 12288 = j.val
      omega
    rw [e] at this
    exact this
  · intro hh l _
    refine (h l c).2 ⟨?_, fun j _ => hh _ (Finset.mem_univ _)⟩
    exact le_trans (absf_nonneg _) (hh ⟨0, by decide⟩ (Finset.mem_univ _))

/-- The pattern of minus infinity. -/
theorem ofBits_neg_inf : Ideal.ofBits .f32 4286578688#32 = ⊥ := by
  simp [Ideal.ofBits, Ideal.ieee]

/-- The running maxima start from a real number. -/
theorem ofBits_start : ∃ c : ℝ, Ideal.ofBits .f32 4284592614#32 = (c : EReal) := by
  have h : Ideal.ofBits .f32 4284592614#32 = Ideal.ieee 8 23 4284592614#32 := rfl
  have e2 : ((4284592614#32).extractLsb' 23 8).toNat = 254 := by decide +kernel
  rw [h]
  simp only [Ideal.ieee, Nat.reduceAdd, e2]
  rw [if_neg (by omega), if_neg (by omega)]
  exact ⟨_, rfl⟩

/-! ## Powers of two -/

theorem ofBits_two : Ideal.ofBits .f32 1073741824#32 = ((2 : ℝ) : EReal) := by
  simp [Ideal.ofBits, Ideal.ieee, -EReal.coe_mul]
  norm_num

/-- The fields of the pattern whose exponent field alone is set. -/
theorem exp_fields : ∀ k : Fin 256,
    ((BitVec.ofNat 32 k.val <<< 23).extractLsb' 31 1 == 1#1) = false
    ∧ ((BitVec.ofNat 32 k.val <<< 23).extractLsb' 23 8).toNat = k.val
    ∧ ((BitVec.ofNat 32 k.val <<< 23).extractLsb' 0 23).toNat = 0 := by
  decide +kernel

/-- A positive pattern with fraction field zero and exponent field `k`, from 1 to 254. -/
theorem ofBits_fields (b : BitVec 32) (k : Nat) (h1 : 1 ≤ k) (h2 : k ≤ 254)
    (e1 : (b.extractLsb' 31 1 == 1#1) = false) (e2 : (b.extractLsb' 23 8).toNat = k)
    (e3 : (b.extractLsb' 0 23).toNat = 0) :
    Ideal.ofBits .f32 b = (((2 : ℝ) ^ ((k : ℤ) - 127) : ℝ) : EReal) := by
  have h : Ideal.ofBits .f32 b = Ideal.ieee 8 23 b := rfl
  rw [h]
  simp only [Ideal.ieee, Nat.reduceAdd, e1, e2, e3]
  rw [if_neg (by omega), if_neg (by omega)]
  congr 1
  rw [show ((k : ℤ) - 127) = 23 + ((k : ℤ) - 127 - 23) by ring,
    zpow_add₀ (by norm_num : (2 : ℝ) ≠ 0)]
  norm_num

/-- A pattern with exponent field `k`, from 1 to 254, is `2 ^ (k - 127)`. -/
theorem ofBits_exp (k : Nat) (h1 : 1 ≤ k) (h2 : k ≤ 254) :
    Ideal.ofBits .f32 (BitVec.ofNat 32 k <<< 23) = (((2 : ℝ) ^ ((k : ℤ) - 127) : ℝ) : EReal) :=
  ofBits_fields _ k h1 h2 (exp_fields ⟨k, by omega⟩).1 (exp_fields ⟨k, by omega⟩).2.1 (exp_fields ⟨k, by omega⟩).2.2

/-- The pattern with the exponent field all ones is infinity. -/
theorem ofBits_exp_255 : Ideal.ofBits .f32 (BitVec.ofNat 32 255 <<< 23) = ⊤ := by
  simp [Ideal.ofBits, Ideal.ieee]

/-- Two to the power of an integer. -/
theorem pow_two (z : ℤ) : Ideal.pow (Ideal.ofBits .f32 1073741824#32) (((z : ℝ)) : EReal)
    = (((2 : ℝ) ^ z : ℝ) : EReal) := by
  rw [ofBits_two, Ideal.pow_coe_coe]
  congr 1
  exact Real.rpow_intCast 2 z

/-! ## Counts -/

/-- A fold of indicators is the count, as a word. -/
theorem fold_ind {n : Nat} (P : Fin n → Prop) [DecidablePred P] :
    Finset.fold IntOp.addi (0#32) (fun x => if P x then 1#32 else 0#32) Finset.univ
      = BitVec.ofNat 32 (Finset.univ.filter P).card := by
  have e : (fun x => if P x then 1#32 else 0#32)
      = fun x => (BitVec.ofBool (decide (P x))).setWidth 32 := by
    funext x
    by_cases h : P x <;> simp [h]
  rw [e, IndicatorCount.fold_addi_setWidth_eq_card]
  congr 2
  ext x
  by_cases h : P x <;> simp [h]

/-- The kernel's thresholds are the reference's and infinity. -/
theorem shli_thr (x : Nat) (h : x < 255) :
    IntOp.shli ArithUnit.vector (IntOp.addi (BitVec.ofNat 32 x) 1#32) 23#32 = BitVec.ofNat 32 (x + 1) <<< 23 := by
  have : ∀ x : Fin 255, IntOp.shli ArithUnit.vector (IntOp.addi (BitVec.ofNat 32 x.val) 1#32) 23#32
      = BitVec.ofNat 32 (x.val + 1) <<< 23 := by decide +kernel
  exact this ⟨x, h⟩

theorem toInt_thr (x : Nat) (h : x < 254) :
    (IntOp.addi (4294967170#32) (BitVec.ofNat 32 x)).toInt = (x : ℤ) - 126 := by
  have : ∀ x : Fin 254, (IntOp.addi (4294967170#32) (BitVec.ofNat 32 x.val)).toInt = (x.val : ℤ) - 126 := by
    decide +kernel
  exact this ⟨x, h⟩

/-- How many of the thresholds `2 ^ (x - 126)` are at most `a`. -/
def cnt (a : EReal) : Nat :=
  (Finset.univ.filter fun x : Fin 254 => (((2 : ℝ) ^ ((x.val : ℤ) - 126) : ℝ) : EReal) ≤ a).card

/-- Below `2 ^ 126` at most 252 thresholds are reached. -/
theorem cnt_le {a : EReal} (h : a < (((2 : ℝ) ^ (126 : ℤ) : ℝ) : EReal)) : cnt a ≤ 252 := by
  unfold cnt
  refine (Finset.card_le_card (t := Finset.univ.filter fun x : Fin 254 => x.val < 252) ?_).trans (by decide +kernel)
  intro x hx
  rw [Finset.mem_filter] at hx ⊢
  refine ⟨hx.1, ?_⟩
  by_contra hc
  have h2 := lt_of_le_of_lt hx.2 h
  rw [EReal.coe_lt_coe_iff] at h2
  have := (zpow_lt_zpow_iff_right₀ (by norm_num : (1 : ℝ) < 2)).1 h2
  omega

/-- The reference's count. -/
theorem cnt_ref (a : EReal) :
    Finset.fold IntOp.addi (0#32)
      (fun x : Fin 254 =>
        if Ideal.pow (Ideal.ofBits FTy.f32 1073741824#32)
            (((IntOp.addi (4294967170#32) (BitVec.ofNat 32 x.val)).toInt : ℝ) : EReal) ≤ a then 1#32 else 0#32)
      Finset.univ = BitVec.ofNat 32 (cnt a) := by
  classical
  rw [fold_ind]
  unfold cnt
  congr 2
  ext x
  rw [Finset.mem_filter, Finset.mem_filter, pow_two, toInt_thr _ x.isLt]

/-- The kernel's count, with one more threshold that a finite `a` does not reach. -/
theorem cnt_ker {a : EReal} (h : a < (((2 : ℝ) ^ (126 : ℤ) : ℝ) : EReal)) :
    Finset.fold IntOp.addi (0#32)
      (fun x : Fin 255 =>
        if Ideal.ofBits FTy.f32 (IntOp.shli ArithUnit.vector (IntOp.addi (BitVec.ofNat 32 x.val) 1#32) 23#32) ≤ a
          then 1#32 else 0#32)
      Finset.univ = BitVec.ofNat 32 (cnt a) := by
  classical
  rw [fold_ind]
  congr 1
  unfold cnt
  rw [Finset.card_filter, Finset.card_filter, Fin.sum_univ_castSucc]
  have hl : ¬ Ideal.ofBits FTy.f32 (IntOp.shli ArithUnit.vector
      (IntOp.addi (BitVec.ofNat 32 (Fin.last 254).val) 1#32) 23#32) ≤ a := by
    rw [shli_thr _ (Fin.last 254).isLt]
    show ¬ Ideal.ofBits FTy.f32 (BitVec.ofNat 32 255 <<< 23) ≤ a
    rw [ofBits_exp_255]
    intro hc
    rw [top_le_iff.1 hc] at h
    exact absurd h (not_lt.2 le_top)
  rw [if_neg hl, Nat.add_zero]
  refine Finset.sum_congr rfl fun x _ => ?_
  have hx := x.isLt
  rw [shli_thr _ x.castSucc.isLt, Fin.val_castSucc, ofBits_exp _ (by omega) (by omega)]
  rw [show (((x.val + 1 : Nat) : ℤ) - 127) = (x.val : ℤ) - 126 by push_cast; ring]

/-- The exponent from the count. -/
def expo (n : BitVec 32) : BitVec 32 :=
  Scalar.select (IntOp.cmpi CmpIPredicate.eq n 0#32) (0#32) (IntOp.subi n 126#32)

theorem expo_words : ∀ c : Fin 253,
    (IntOp.shli ArithUnit.vector (IntOp.addi (expo (BitVec.ofNat 32 c.val)) 127#32) 23#32
      = BitVec.ofNat 32 ((expo (BitVec.ofNat 32 c.val)).toInt + 127).toNat <<< 23)
    ∧ 1 ≤ (expo (BitVec.ofNat 32 c.val)).toInt + 127 ∧ (expo (BitVec.ofNat 32 c.val)).toInt + 127 ≤ 254
    ∧ (IntOp.shli ArithUnit.vector (IntOp.addi (IntOp.subi 0#32 (expo (BitVec.ofNat 32 c.val))) 127#32) 23#32
      = BitVec.ofNat 32 ((-expo (BitVec.ofNat 32 c.val)).toInt + 127).toNat <<< 23)
    ∧ 1 ≤ (-expo (BitVec.ofNat 32 c.val)).toInt + 127
    ∧ (-expo (BitVec.ofNat 32 c.val)).toInt + 127 ≤ 254 := by
  decide +kernel

/-- The scale as a bit pattern is the scale as a power. -/
theorem scale_eq (n : Nat) (h : n ≤ 252) :
    Ideal.ofBits FTy.f32 (IntOp.shli ArithUnit.vector (IntOp.addi (expo (BitVec.ofNat 32 n)) 127#32) 23#32)
      = Ideal.pow (Ideal.ofBits FTy.f32 1073741824#32) (((expo (BitVec.ofNat 32 n)).toInt : ℝ) : EReal) := by
  obtain ⟨e, h1, h2, -⟩ := expo_words ⟨n, by omega⟩
  dsimp only at e h1 h2
  rw [e, ofBits_exp _ (by omega) (by omega), pow_two]
  congr 2
  omega

/-- The scale's inverse as a bit pattern is the inverse as a power. -/
theorem inv_eq (n : Nat) (h : n ≤ 252) :
    Ideal.ofBits FTy.f32 (IntOp.shli ArithUnit.vector
        (IntOp.addi (IntOp.subi 0#32 (expo (BitVec.ofNat 32 n))) 127#32) 23#32)
      = Ideal.pow (Ideal.ofBits FTy.f32 1073741824#32)
          (((-expo (BitVec.ofNat 32 n)).toInt : ℝ) : EReal) := by
  obtain ⟨-, -, -, e, h1, h2⟩ := expo_words ⟨n, by omega⟩
  dsimp only at e h1 h2
  rw [e, ofBits_exp _ (by omega) (by omega), pow_two]
  congr 2
  omega

/-! ## One-hot sums -/

theorem select_eq {V : Type} (x y : BitVec 32) (a b : V) :
    Scalar.select (IntOp.cmpi CmpIPredicate.eq x y) a b = if x = y then a else b := by
  unfold Scalar.select IntOp.cmpi
  by_cases h : x = y
  · subst h; simp
  · rw [if_neg h, if_neg]
    show ¬ BitVec.ofBool (x == y) = 1
    rw [beq_false_of_ne h]; decide

/-- Small numbers are equal as words only if they are equal. -/
theorem word_eq {n : ℕ} (hn : n ≤ 2 ^ 32) (x b : Fin n) : BitVec.ofNat 32 x.val = BitVec.ofNat 32 b.val ↔ x = b := by
  constructor
  · intro h
    have := congrArg BitVec.toNat h
    have h1 := x.isLt; have h2 := b.isLt
    simp only [BitVec.toNat_ofNat] at this
    rw [Nat.mod_eq_of_lt (by omega), Nat.mod_eq_of_lt (by omega)] at this
    exact Fin.ext this
  · rintro rfl; rfl

/-- A diagonal sum is its one entry. -/
theorem diag_sum (f : Fin 16 → EReal) (b : Fin 16) :
    ∑ x : Fin 16, Scalar.select (IntOp.cmpi CmpIPredicate.eq (BitVec.ofNat 32 b.val) (BitVec.ofNat 32 x.val)) (f x)
      (((0#32).toInt : ℝ) : EReal) = f b := by
  simp only [select_eq, word_eq (n := 16) (by decide)]
  rw [Finset.sum_eq_single b]
  · rw [if_pos rfl]
  · intro x _ hx
    rw [if_neg (fun h => hx h.symm)]
    simp
  · intro h; exact absurd (Finset.mem_univ _) h

/-- The same with the sides of the comparison turned. -/
theorem diag_sum' (f : Fin 16 → EReal) (b : Fin 16) :
    ∑ x : Fin 16, Scalar.select (IntOp.cmpi CmpIPredicate.eq (BitVec.ofNat 32 x.val) (BitVec.ofNat 32 b.val)) (f x)
      (((0#32).toInt : ℝ) : EReal) = f b := by
  rw [← diag_sum f b]
  refine Finset.sum_congr rfl fun x _ => ?_
  simp only [select_eq, word_eq (n := 16) (by decide), eq_comm]

/-- A diagonal sum of words is its one entry. -/
theorem diag_fold {n : ℕ} (hn : n ≤ 2 ^ 32) (f : Fin n → BitVec 32) (b : Fin n) :
    Finset.fold IntOp.addi (0#32) (fun x : Fin n =>
      Scalar.select (IntOp.cmpi CmpIPredicate.eq (BitVec.ofNat 32 b.val) (BitVec.ofNat 32 x.val)) (f x) 0#32)
      Finset.univ = f b := by
  simp only [select_eq, word_eq hn]
  have key : ∀ S : Finset (Fin n), Finset.fold IntOp.addi (0#32) (fun x : Fin n => if b = x then f x else 0#32) S
        = if b ∈ S then f b else 0#32 := by
    intro S
    induction S using Finset.induction_on with
    | empty => rfl
    | insert a S ha ih =>
      rw [Finset.fold_insert ha, ih]
      unfold IntOp.addi
      by_cases hab : b = a
      · subst hab
        rw [if_pos rfl, if_neg ha, if_pos (Finset.mem_insert_self _ _)]
        exact BitVec.add_zero _
      · rw [if_neg hab, BitVec.zero_add]
        simp only [Finset.mem_insert, hab, false_or]
  rw [key, if_pos (Finset.mem_univ _)]

/-! ## The two digits of a token id -/

/-- A word is `128 h + l` just when its digits are `h` and `l`. -/
theorem digits (w : BitVec 32) (h l : Nat) (hh : h < 256) (hl : l < 128) :
    (IntOp.shrsi ArithUnit.vector w 7#32 = BitVec.ofNat 32 h ∧ IntOp.andi w 127#32 = BitVec.ofNat 32 l)
      ↔ w = BitVec.ofNat 32 (128 * h + l) := by
  have e1 : IntOp.shrsi ArithUnit.vector w 7#32 = w.sshiftRight 7 := rfl
  have e2 : IntOp.andi w 127#32 = w &&& 127#32 := rfl
  have i1 : (w.sshiftRight 7).toInt = w.toInt / 128 := by
    rw [BitVec.toInt_sshiftRight, Int.shiftRight_eq_div_pow]; rfl
  have i2 : (w &&& 127#32).toNat = w.toNat % 128 := by
    rw [BitVec.toNat_and]; exact Nat.and_two_pow_sub_one_eq_mod w.toNat 7
  have i3 : w.toInt = if 2 * w.toNat < 2 ^ 32 then (w.toNat : ℤ) else (w.toNat : ℤ) - 2 ^ 32 := by
    rw [BitVec.toInt_eq_toNat_cond]; norm_num
  have i4 : (BitVec.ofNat 32 h).toInt = h := by
    rw [BitVec.toInt_eq_toNat_cond, BitVec.toNat_ofNat, Nat.mod_eq_of_lt (by omega), if_pos (by omega)]
  have hw := w.isLt
  rw [e1, e2]
  constructor
  · rintro ⟨a, b⟩
    have a' := congrArg BitVec.toInt a
    have b' := congrArg BitVec.toNat b
    rw [i1, i4] at a'
    rw [i2, BitVec.toNat_ofNat, Nat.mod_eq_of_lt (show l < 2 ^ 32 by omega)] at b'
    apply BitVec.eq_of_toNat_eq
    rw [BitVec.toNat_ofNat, Nat.mod_eq_of_lt (by omega)]
    by_cases hc : 2 * w.toNat < 2 ^ 32
    · rw [if_pos hc] at i3; omega
    · rw [if_neg hc] at i3; omega
  · intro a
    have a' := congrArg BitVec.toNat a
    rw [BitVec.toNat_ofNat, Nat.mod_eq_of_lt (by omega)] at a'
    constructor
    · apply BitVec.eq_of_toInt_eq
      rw [i1, i4]
      by_cases hc : 2 * w.toNat < 2 ^ 32
      · rw [if_pos hc] at i3; omega
      · rw [if_neg hc] at i3; omega
    · apply BitVec.eq_of_toNat_eq
      rw [i2, BitVec.toNat_ofNat, Nat.mod_eq_of_lt (show l < 2 ^ 32 by omega)]
      omega

/-- The product of the two digits' indicators is the id's indicator, the padding word counting nowhere. -/
theorem hit (q : BitVec 1) (w : BitVec 32) (h l : Nat) (hh : h < 250) (hl : l < 128) :
    (((BitVec.setWidth 32 (IntOp.cmpi CmpIPredicate.eq
        (IntOp.shrsi ArithUnit.vector (Scalar.select q w 4294967295#32) 7#32) (BitVec.ofNat 32 h))).toInt : ℝ) : EReal)
      * (((BitVec.setWidth 32 (IntOp.cmpi CmpIPredicate.eq
        (IntOp.andi (Scalar.select q w 4294967295#32) 127#32) (BitVec.ofNat 32 l))).toInt : ℝ) : EReal)
      = Scalar.select (IntOp.andi q (IntOp.cmpi CmpIPredicate.eq w (BitVec.ofNat 32 (128 * h + l)))) 1 0 := by
  have key : ∀ v : BitVec 32,
      (((BitVec.setWidth 32 (IntOp.cmpi CmpIPredicate.eq
        (IntOp.shrsi ArithUnit.vector v 7#32) (BitVec.ofNat 32 h))).toInt : ℝ) : EReal)
      * (((BitVec.setWidth 32 (IntOp.cmpi CmpIPredicate.eq
        (IntOp.andi v 127#32) (BitVec.ofNat 32 l))).toInt : ℝ) : EReal)
      = if v = BitVec.ofNat 32 (128 * h + l) then 1 else 0 := by
    intro v
    have d := digits v h l (by omega) hl
    unfold IntOp.cmpi
    by_cases h1 : IntOp.shrsi ArithUnit.vector v 7#32 = BitVec.ofNat 32 h
    · by_cases h2 : IntOp.andi v 127#32 = BitVec.ofNat 32 l
      · rw [if_pos (d.1 ⟨h1, h2⟩), h1, h2]; simp
      · rw [if_neg (fun e => h2 (d.2 e).2)]; simp [beq_false_of_ne h2]
    · rw [if_neg (fun e => h1 (d.2 e).1)]; simp [beq_false_of_ne h1]
  have hs : ∀ c : BitVec 1, Scalar.select c w 4294967295#32 = if c = 1#1 then w else 4294967295#32 := fun _ => rfl
  rw [key]
  have hq : q = 1#1 ∨ q = 0#1 := by revert q; decide
  rcases hq with rfl | rfl
  · rw [hs, if_pos rfl]
    have : IntOp.andi 1#1 (IntOp.cmpi CmpIPredicate.eq w (BitVec.ofNat 32 (128 * h + l)))
        = IntOp.cmpi CmpIPredicate.eq w (BitVec.ofNat 32 (128 * h + l)) := by
      generalize IntOp.cmpi CmpIPredicate.eq w (BitVec.ofNat 32 (128 * h + l)) = x
      revert x; decide
    rw [this, select_eq]
  · rw [hs, if_neg (by decide : ¬ (0#1 = 1#1)), if_neg]
    · have : IntOp.andi 0#1 (IntOp.cmpi CmpIPredicate.eq w (BitVec.ofNat 32 (128 * h + l))) = 0#1 := by
        generalize IntOp.cmpi CmpIPredicate.eq w (BitVec.ofNat 32 (128 * h + l)) = x
        revert x; decide
      rw [this]; rfl
    · intro e
      have := congrArg BitVec.toNat e
      simp only [BitVec.toNat_ofNat] at this
      omega

/-- An indicator read unsigned or widened and read signed. -/
theorem ind_eq (p : Bool) : (((BitVec.setWidth 32 (BitVec.ofBool p)).toInt : ℝ) : EReal)
    = (((BitVec.ofBool p).toNat : ℝ) : EReal) := by
  cases p <;> simp

end Cert.Val

end
-- ==== Proof.Value.Soft.lean ====
/-
  The sum of exponentials on the extended reals: moving it from one shift to a larger one, taking
  it in blocks, and its logarithm, which does not depend on the shift.
-/
module

public import proofs.«01_k».proof.Proof.Value.Math

@[expose] public section

noncomputable section

namespace Cert.Val

open Idealize.ShloMosaic

/-- The exponential of a logit under a shift. -/
def ex (z m : EReal) : EReal := Ideal.exp (z - m)

theorem ideal_exp_coe (r : ℝ) : Ideal.exp (r : EReal) = ((Real.exp r : ℝ) : EReal) := rfl
theorem ideal_exp_bot : Ideal.exp ⊥ = 0 := rfl

theorem ex_nonneg (z m : EReal) : 0 ≤ ex z m := by
  unfold ex
  generalize z - m = a
  induction a with
  | bot => exact le_refl _
  | top => exact le_top
  | coe r => exact EReal.coe_nonneg.2 (Real.exp_pos r).le

theorem ex_bot (m : EReal) : ex ⊥ m = 0 := by
  unfold ex
  rw [sub_eq_add_neg, EReal.bot_add]
  rfl

theorem ex_top (z : EReal) : ex z ⊤ = 0 := by
  unfold ex
  rw [sub_eq_add_neg, EReal.neg_top, EReal.add_bot]
  rfl

theorem ex_coe (z m : ℝ) : ex z m = ((Real.exp (z - m) : ℝ) : EReal) := by
  unfold ex
  rw [← EReal.coe_sub]
  rfl

/-- A sum moves to a larger shift by one factor. -/
theorem ex_mul {z m m' : EReal} (h : z ≤ m) (h' : m ≤ m') : ex z m * ex m m' = ex z m' := by
  induction m with
  | bot => rw [le_bot_iff.1 h, ex_bot, ex_bot, zero_mul]
  | top => rw [top_le_iff.1 h', ex_top, ex_top, zero_mul]
  | coe r =>
    induction z with
    | bot => rw [ex_bot, ex_bot, zero_mul]
    | top => exact absurd h (by simp)
    | coe s =>
      induction m' with
      | bot => exact absurd h' (by simp)
      | top => rw [ex_top, ex_top, mul_zero]
      | coe t =>
        rw [ex_coe, ex_coe, ex_coe, ← EReal.coe_mul, ← Real.exp_add]
        rw [show s - r + (r - t) = s - t from by ring]

/-- A sum of nonnegative numbers times a number. -/
theorem sum_mul' {ι : Type} (S : Finset ι) (f : ι → EReal) (hf : ∀ i, 0 ≤ f i) (c : EReal) :
    (∑ i ∈ S, f i) * c = ∑ i ∈ S, f i * c := by
  classical
  induction S using Finset.induction_on with
  | empty => simp
  | insert a S ha ih =>
    rw [Finset.sum_insert ha, Finset.sum_insert ha,
      EReal.right_distrib_of_nonneg (hf a) (Finset.sum_nonneg fun i _ => hf i), ih]

/-- Twice as many terms, taken in pairs. -/
theorem sum_pairs (g : ℕ → EReal) (n : ℕ) :
    ∑ q ∈ Finset.range (2 * n), g q = ∑ j ∈ Finset.range n, (g (2 * j) + g (2 * j + 1)) := by
  induction n with
  | zero => rfl
  | succ n ih =>
    rw [Finset.sum_range_succ, ← ih, show 2 * (n + 1) = 2 * n + 1 + 1 from by ring, Finset.sum_range_succ,
      Finset.sum_range_succ, add_assoc]

/-- A sum taken by remainder and quotient. -/
theorem sum_rem (n d : ℕ) (f : ℕ → EReal) :
    ∑ v : Fin (n * d), f v.val = ∑ l : Fin d, ∑ q ∈ Finset.range n, f (l.val + d * q) := by
  rw [← (finProdFinEquiv (m := n) (n := d)).sum_comp, Fintype.sum_prod_type, Finset.sum_comm]
  refine Finset.sum_congr rfl fun l _ => ?_
  rw [Finset.sum_range]
  rfl

/-- A sum over the vocabulary, taken by column and block. -/
theorem sum_blocks (f : ℕ → EReal) :
    ∑ l : Fin 128, ∑ j ∈ Finset.range 125, (f (256 * j + l.val) + f (256 * j + 128 + l.val))
      = ∑ v : Fin 32000, f v.val := by
  refine Eq.symm ((sum_rem 250 128 f).trans ?_)
  refine Finset.sum_congr rfl fun l _ => ?_
  refine (sum_pairs (fun q => f (l.val + 128 * q)) 125).trans ?_
  refine Finset.sum_congr rfl fun j _ => ?_
  rw [show l.val + 128 * (2 * j) = 256 * j + l.val from by ring,
    show l.val + 128 * (2 * j + 1) = 256 * j + 128 + l.val from by ring]

/-- The sum of real numbers. -/
theorem coe_sum' {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The logarithm of the sum of exponentials, with the shift put back, is the same under the row's
    maximum and under the larger of that and a real number. -/
theorem log_shift {n : ℕ} (z : Fin n → EReal) (c : ℝ) (M M' : EReal) (hM : ∀ v, z v ≤ M)
    (hM' : M' = max (c : EReal) M) :
    Ideal.log (∑ v, ex (z v) M') + M' = Ideal.log (∑ v, ex (z v) M) + M := by
  by_cases h : (c : EReal) ≤ M
  · rw [hM', max_eq_right h]
  have hlt : M < (c : EReal) := lt_of_not_ge h
  rw [hM', max_eq_left hlt.le]
  induction M with
  | top => exact absurd hlt (by simp)
  | bot =>
    have hz : ∀ v, z v = ⊥ := fun v => le_bot_iff.1 (hM v)
    simp only [hz, ex_bot, Finset.sum_const_zero]
    have : Ideal.log 0 = ⊥ := by
      show (if (0 : ℝ) ≤ 0 then (⊥ : EReal) else _) = ⊥
      rw [if_pos (le_refl _)]
    rw [this, EReal.bot_add, EReal.bot_add]
  | coe r =>
    have key : ∀ v, ∃ t : ℝ, 0 ≤ t ∧ ex (z v) r = (t : EReal) := by
      intro v
      have hv := hM v
      generalize z v = a at hv
      induction a with
      | bot => exact ⟨0, le_refl _, ex_bot _⟩
      | top => exact absurd hv (by simp)
      | coe s => exact ⟨_, (Real.exp_pos _).le, ex_coe s r⟩
    choose t ht0 ht using key
    have e1 : ∑ v, ex (z v) (r : EReal) = ((∑ v, t v : ℝ) : EReal) := by
      rw [coe_sum']
      exact Finset.sum_congr rfl fun v _ => ht v
    have e2 : ∑ v, ex (z v) (c : EReal) = (((∑ v, t v) * Real.exp (r - c) : ℝ) : EReal) := by
      rw [EReal.coe_mul, ← e1, sum_mul' _ _ (fun v => ex_nonneg _ _)]
      refine Finset.sum_congr rfl fun v _ => ?_
      rw [← ex_mul (hM v) hlt.le, ex_coe]
    rw [e1, e2]
    generalize ∑ v, t v = S
    have hx := Real.exp_pos (r - c)
    show (if S * Real.exp (r - c) ≤ 0 then (⊥ : EReal) else (Real.log (S * Real.exp (r - c)) : EReal)) + (c : EReal)
      = (if S ≤ 0 then (⊥ : EReal) else (Real.log S : EReal)) + (r : EReal)
    by_cases hS : S ≤ 0
    · rw [if_pos hS, if_pos (mul_nonpos_of_nonpos_of_nonneg hS hx.le), EReal.bot_add, EReal.bot_add]
    · have hS' : 0 < S := lt_of_not_ge hS
      rw [if_neg hS, if_neg (not_le.2 (mul_pos hS' hx)), Real.log_mul hS'.ne' hx.ne', Real.log_exp,
        ← EReal.coe_add, ← EReal.coe_add]
      congr 1
      ring

/-! ## The running maximum and the running sum -/

section

variable (za zb : ℕ → EReal) (m s : ℕ → EReal) (c : EReal) (hm0 : m 0 = c)
  (hm : ∀ k, m (k + 1) = max (max (m k) (za k)) (zb k)) (hs0 : s 0 = 0)
  (hs : ∀ k, s (k + 1) = s k * ex (m k) (m (k + 1)) + ex (za k) (m (k + 1)) + ex (zb k) (m (k + 1)))

include hm0 hm in
theorem run_max (k : ℕ) (x : EReal) : m k ≤ x ↔ c ≤ x ∧ ∀ j < k, za j ≤ x ∧ zb j ≤ x := by
  induction k with
  | zero => rw [hm0]; exact ⟨fun h => ⟨h, fun j hj => absurd hj (Nat.not_lt_zero j)⟩, fun h => h.1⟩
  | succ k ih =>
    rw [hm, max_le_iff, max_le_iff, ih]
    constructor
    · rintro ⟨⟨⟨h1, h2⟩, h3⟩, h4⟩
      refine ⟨h1, fun j hj => ?_⟩
      rcases Nat.lt_succ_iff_lt_or_eq.1 hj with h | rfl
      · exact h2 j h
      · exact ⟨h3, h4⟩
    · rintro ⟨h1, h2⟩
      exact ⟨⟨⟨h1, fun j hj => h2 j (by omega)⟩, (h2 k (by omega)).1⟩, (h2 k (by omega)).2⟩

include hm0 hm hs0 hs in
theorem run_sum (k : ℕ) : s k = ∑ j ∈ Finset.range k, (ex (za j) (m k) + ex (zb j) (m k)) := by
  induction k with
  | zero => rw [hs0]; rfl
  | succ k ih =>
    have hle : m k ≤ m (k + 1) := by rw [hm]; exact le_trans (le_max_left _ _) (le_max_left _ _)
    have hz := ((run_max za zb m c hm0 hm k (m k)).1 (le_refl _)).2
    rw [hs, ih, Finset.sum_range_succ, add_assoc,
      sum_mul' _ _ (fun j => add_nonneg (ex_nonneg _ _) (ex_nonneg _ _))]
    congr 1
    refine Finset.sum_congr rfl fun j hj => ?_
    have hj' := hz j (Finset.mem_range.1 hj)
    rw [EReal.right_distrib_of_nonneg (ex_nonneg _ _) (ex_nonneg _ _), ex_mul hj'.1 hle, ex_mul hj'.2 hle]

end

/-- The whole sum and its logarithm, from the columns' running maxima and sums. -/
theorem log_blocks (z : ℕ → EReal) (za zb : Fin 128 → ℕ → EReal) (c : ℝ) (m s : Fin 128 → ℕ → EReal)
    (hza : ∀ l k, k < 125 → za l k = z (256 * k + l.val))
    (hzb : ∀ l k, k < 125 → zb l k = z (256 * k + 128 + l.val))
    (hm0 : ∀ l, m l 0 = c) (hm : ∀ l k, m l (k + 1) = max (max (m l k) (za l k)) (zb l k)) (hs0 : ∀ l, s l 0 = 0)
    (hs : ∀ l k, s l (k + 1) = s l k * ex (m l k) (m l (k + 1)) + ex (za l k) (m l (k + 1)) + ex (zb l k) (m l (k + 1))) :
    Ideal.log (∑ l, s l 125 * ex (m l 125) (Finset.fold max ⊥ (fun l => m l 125) Finset.univ))
        + Finset.fold max ⊥ (fun l => m l 125) Finset.univ
      = Ideal.log (∑ v : Fin 32000, ex (z v.val) (Finset.fold max ⊥ (fun v : Fin 32000 => z v.val) Finset.univ))
        + Finset.fold max ⊥ (fun v : Fin 32000 => z v.val) Finset.univ := by
  have hrun := fun l => run_max (za l) (zb l) (m l) c (hm0 l) (hm l) 125
  have hsum := fun l => run_sum (za l) (zb l) (m l) (s l) c (hm0 l) (hm l) (hs0 l) (hs l) 125
  have hF : ∀ {n : ℕ} (f : Fin n → EReal) (x : EReal), Finset.fold max ⊥ f Finset.univ ≤ x ↔ ∀ v, f v ≤ x := by
    intro n f x
    rw [Finset.fold_max_le]
    exact ⟨fun h v => h.2 v (Finset.mem_univ _), fun h => ⟨bot_le, fun v _ => h v⟩⟩
  have h1 := hF (fun l => m l 125)
  have h2 := hF (fun v : Fin 32000 => z v.val)
  generalize Finset.fold max ⊥ (fun l => m l 125) Finset.univ = M' at h1 ⊢
  generalize Finset.fold max ⊥ (fun v : Fin 32000 => z v.val) Finset.univ = M at h2 ⊢
  have hM' : M' = max (c : EReal) M := by
    refine eq_of_forall_ge_iff fun x => ?_
    rw [h1, max_le_iff, h2]
    constructor
    · intro h
      refine ⟨((hrun 0 x).1 (h 0)).1, fun v => ?_⟩
      have hv := v.isLt
      have hj := ((hrun ⟨v.val % 128, Nat.mod_lt _ (by decide)⟩ x).1 (h _)).2 (v.val / 256) (by omega)
      rw [hza _ _ (by omega), hzb _ _ (by omega)] at hj
      by_cases hp : v.val / 128 % 2 = 0
      · have e : 256 * (v.val / 256) + v.val % 128 = v.val := by omega
        have := hj.1
        simp only [e] at this
        exact this
      · have e : 256 * (v.val / 256) + 128 + v.val % 128 = v.val := by omega
        have := hj.2
        simp only [e] at this
        exact this
    · rintro ⟨hc, h⟩ l
      have hl := l.isLt
      refine (hrun l x).2 ⟨hc, fun j hj => ?_⟩
      rw [hza _ _ hj, hzb _ _ hj]
      exact ⟨h ⟨256 * j + l.val, by omega⟩, h ⟨256 * j + 128 + l.val, by omega⟩⟩
  have e : ∑ l, s l 125 * ex (m l 125) M' = ∑ v : Fin 32000, ex (z v.val) M' := by
    rw [← sum_blocks (fun n => ex (z n) M')]
    refine Finset.sum_congr rfl fun l _ => ?_
    have hle : m l 125 ≤ M' := (h1 M').1 (le_refl _) l
    have hz := ((hrun l _).1 (le_refl _)).2
    rw [hsum, sum_mul' _ _ (fun j => add_nonneg (ex_nonneg _ _) (ex_nonneg _ _))]
    refine Finset.sum_congr rfl fun j hj => ?_
    have hj' := Finset.mem_range.1 hj
    rw [EReal.right_distrib_of_nonneg (ex_nonneg _ _) (ex_nonneg _ _), ex_mul (hz j hj').1 hle, ex_mul (hz j hj').2 hle,
      hza _ _ hj', hzb _ _ hj']
  rw [e]
  exact log_shift (fun v : Fin 32000 => z v.val) c M M' ((h2 M).1 (le_refl _)) hM'

/-! ## The logit at a given position -/

/-- A column's value after the blocks: the logit at the wanted position where it lies in the column. -/
theorem run_pick (w : BitVec 32) (za zb a : ℕ → EReal) (l : ℕ) (hl : l < 128) (h0 : a 0 = 0)
    (ha : ∀ k, a (k + 1) = if BitVec.ofNat 32 (256 * k + 128 + l) = w then zb k
      else if BitVec.ofNat 32 (256 * k + l) = w then za k else a k) (n : ℕ) (hn : n ≤ 125) :
    a n = ∑ j ∈ Finset.range n, ((if w = BitVec.ofNat 32 (256 * j + l) then za j else 0)
      + (if w = BitVec.ofNat 32 (256 * j + 128 + l) then zb j else 0)) := by
  have ne : ∀ x y : ℕ, x < 32000 → y < 32000 → BitVec.ofNat 32 x = BitVec.ofNat 32 y → x = y := by
    intro x y hx hy h
    have := congrArg BitVec.toNat h
    simp only [BitVec.toNat_ofNat] at this
    omega
  induction n with
  | zero => rw [h0]; rfl
  | succ k ih =>
    rw [ha, Finset.sum_range_succ]
    have zero : ∀ p : ℕ, p < 32000 → 256 * k ≤ p → w = BitVec.ofNat 32 p →
        ∑ j ∈ Finset.range k, ((if w = BitVec.ofNat 32 (256 * j + l) then za j else 0)
          + (if w = BitVec.ofNat 32 (256 * j + 128 + l) then zb j else 0)) = 0 := by
      intro p hp hkp hw
      refine Finset.sum_eq_zero fun j hj => ?_
      have hj := Finset.mem_range.1 hj
      rw [if_neg, if_neg, add_zero]
      · intro h
        have := ne _ _ (by omega) (by omega) (hw.symm.trans h)
        omega
      · intro h
        have := ne _ _ (by omega) (by omega) (hw.symm.trans h)
        omega
    by_cases h1 : BitVec.ofNat 32 (256 * k + 128 + l) = w
    · rw [if_pos h1, zero _ (by omega) (by omega) h1.symm, if_neg, if_pos h1.symm, zero_add, zero_add]
      intro h
      have := ne _ _ (by omega) (by omega) (h1.trans h)
      omega
    · rw [if_neg h1, if_neg (fun h : w = BitVec.ofNat 32 (256 * k + 128 + l) => h1 h.symm), add_zero]
      by_cases h2 : BitVec.ofNat 32 (256 * k + l) = w
      · rw [if_pos h2, zero _ (by omega) (by omega) h2.symm, if_pos h2.symm, zero_add]
      · rw [if_neg h2, if_neg (fun h : w = BitVec.ofNat 32 (256 * k + l) => h2 h.symm), add_zero, ih (by omega)]

/-- The columns' values add to the logit at the wanted position, zero where there is none. -/
theorem pick_blocks (w : BitVec 32) (z : ℕ → EReal) (za zb a : Fin 128 → ℕ → EReal)
    (hza : ∀ l k, k < 125 → za l k = z (256 * k + l.val))
    (hzb : ∀ l k, k < 125 → zb l k = z (256 * k + 128 + l.val))
    (h0 : ∀ l, a l 0 = 0)
    (ha : ∀ l k, a l (k + 1) = if BitVec.ofNat 32 (256 * k + 128 + l.val) = w then zb l k
      else if BitVec.ofNat 32 (256 * k + l.val) = w then za l k else a l k) :
    ∑ l, a l 125 = ∑ v : Fin 32000, if w = BitVec.ofNat 32 v.val then z v.val else 0 := by
  rw [← sum_blocks (fun n => if w = BitVec.ofNat 32 n then z n else 0)]
  refine Finset.sum_congr rfl fun l _ => ?_
  rw [run_pick w (za l) (zb l) (a l) l.val l.isLt (h0 l) (ha l) 125 (le_refl _)]
  refine Finset.sum_congr rfl fun j hj => ?_
  have hj' := Finset.mem_range.1 hj
  rw [hza _ _ hj', hzb _ _ hj']

end Cert.Val

end
-- ==== Proof.Value.KerAt.lean ====
/-
  The kernel's payloads read at one index.
-/
module

public import proofs.«01_k».proof.Proof.KernelIdeal.Spec
public import proofs.«01_k».proof.Proof.Value.Soft

@[expose] public section

set_option maxRecDepth 16384

noncomputable section

namespace Cert.KernelIdeal.Hand

open Cert.KernelIdeal Cert.KernelIdeal.Gen Cert.Val
open Idealize.ShloMosaic Idealize.ShloMosaic.TcCoe

theorem p43_at (b : Fin 16) (l : Fin 1024) : k0_pay43 (F := Ideal) (ix2 b l) = 0 := by
  pointwise [k0_pay43]

theorem p44_at (s : FVec Ideal S16x1024 .f32) (x : Vec Ideal S16x1024 .bf16) (b : Fin 16) (l : Fin 1024) :
    k0_pay44 s x (ix2 b l) = s (ix2 b l) + (x (ix2 b l) : EReal) * (x (ix2 b l) : EReal) := by
  pointwise [k0_pay44]

theorem p45_at (s : FVec Ideal S16x1024 .f32) (x : Vec Ideal S16x1024 .bf16) (g : Vec Ideal S1x1024 .f32)
    (b : Fin 16) (l : Fin 1024) :
    k0_pay45 s x g (ix2 b l) = (x (ix2 b l) : EReal) *
        Ideal.rsqrt
          (Ideal.div (∑ j : Fin 1024, s (ix2 b j)) (Ideal.ofBits FTy.f32 1178599424#32) +
            Ideal.ofBits FTy.f32 897988541#32) * (g (ix2 0 l) : EReal) := by
  pointwise [k0_pay45]

theorem p46_at (s : FVec Ideal S16x1024 .f32) (x : Vec Ideal S16x1024 .bf16) (g : Vec Ideal S1x1024 .f32)
    (b : Fin 16) (l : Fin 1024) : k0_pay46 s x g (ix2 b l) = k0_pay45 s x g (ix2 b l) := by
  pointwise [k0_pay46]

theorem p47_at (s a : FVec Ideal S16x1024 .f32) (x : Vec Ideal S16x1024 .bf16) (g : Vec Ideal S1x1024 .f32)
    (b : Fin 16) (l : Fin 1024) :
    k0_pay47 s a x g (ix2 b l)
      = max (a (ix2 b l)) (max (k0_pay45 s x g (ix2 b l)) (-(k0_pay45 s x g (ix2 b l)))) := by
  pointwise [k0_pay47]
  rfl

theorem p48_at (s : FVec Ideal S16x1024 .f32) (b : Fin 16) (l : Fin 1) :
    k0_pay48 s (ix2 b l)
      = Finset.fold max ⊥ (fun j : Fin 1024 => s (ix2 b j)) Finset.univ * Ideal.ofBits FTy.f32 991054117#32 := by
  rw [← ofBits_neg_inf]
  pointwise [k0_pay48]

theorem p50_at (s : FVec Ideal S16x1 .f32) (b : Fin 16) (l : Fin 1)
    (h : s (ix2 b 0) < (((2 : ℝ) ^ (126 : ℤ) : ℝ) : EReal)) :
    k0_pay50 s k0_pay49 (ix2 b l) = expo (BitVec.ofNat 32 (cnt (s (ix2 b 0)))) := by
  rw [← cnt_ker h]
  unfold expo
  pointwise [k0_pay50, k0_pay49]

theorem p51_at (s : FVec Ideal S16x1 .f32) (y : IVec S16x255 32) (x : Vec Ideal S16x1024 .f32) (b : Fin 16) (l : Fin 1024) :
    k0_pay51 s y x (ix2 b l)
      = min (Ideal.ofBits FTy.f32 1138753536#32)
      (max (Ideal.ofBits FTy.f32 3286237184#32)
        ((x (ix2 b l) : EReal) *
          Ideal.ofBits FTy.f32
            (IntOp.shli ArithUnit.vector (IntOp.addi (IntOp.subi (0#32) (k0_pay50 s y (ix2 b 0))) 127#32) 23#32))) := by
  pointwise [k0_pay51]

theorem p52_at (s : FVec Ideal S16x1 .f32) (y : IVec S16x255 32) (b : Fin 16) (l : Fin 1) :
    k0_pay52 s y (ix2 b l)
      = Ideal.ofBits FTy.f32 (IntOp.shli ArithUnit.vector (IntOp.addi (k0_pay50 s y (ix2 b l)) 127#32) 23#32) := by
  pointwise [k0_pay52]

theorem p54_at (s : FVec Ideal S16x1 .f32) (y : IVec S16x255 32) (b : Fin 1) (l : Fin 16) :
    k0_pay54 (k0_pay53 s y) (ix2 b l) = k0_pay52 s y (ix2 l 0) := by
  rw [← diag_sum' (fun x => k0_pay52 s y (ix2 x 0)) l]
  pointwise [k0_pay53, k0_pay54]

theorem p55_at (s : IVec S1x16 32) (y : IVec S16x1024 32) (b : Fin 16) (l : Fin 1024) :
    k0_pay55 (F := Ideal) s y (ix2 b l)
      = Scalar.select (IntOp.cmpi CmpIPredicate.slt (BitVec.ofNat 32 l.val) (s (ix2 0 b))) (y (ix2 b l)) 4294967295#32 := by
  rw [← diag_fold (n := 16) (by decide) (fun x => s (ix2 0 x)) b]
  pointwise [k0_pay55]

theorem p56_at (y : IVec S1x1024 32) (b : Fin 256) (l : Fin 128) :
    k0_pay56 (F := Ideal) y (ix2 b l)
      = ∑ x : Fin 1024,
        (((BitVec.setWidth 32
            (IntOp.cmpi CmpIPredicate.eq (IntOp.shrsi ArithUnit.vector (y (ix2 0 x)) 7#32) (BitVec.ofNat 32 b.val))).toInt : ℝ) : EReal) *
        (((BitVec.setWidth 32
            (IntOp.cmpi CmpIPredicate.eq (IntOp.andi (y (ix2 0 x)) 127#32) (BitVec.ofNat 32 l.val))).toInt : ℝ) : EReal) := by
  pointwise [k0_pay56]
  rfl

theorem p57_at (y : FVec Ideal S16x1 .f32) (b : Fin 16) (l : Fin 128) : k0_pay57 y (ix2 b l) = y (ix2 b 0) := by
  pointwise [k0_pay57]

theorem p58_at (y : FVec Ideal S1x16 .f32) (b : Fin 16) (l : Fin 128) : k0_pay58 y (ix2 b l) = y (ix2 0 b) := by
  rw [← diag_sum (fun x => y (ix2 0 x)) b]
  pointwise [k0_pay58]

theorem p59_at (y : FVec Ideal S1x16 .f32) (b : Fin 16) (l : Fin 128) : k0_pay59 y (ix2 b l) = y (ix2 0 b) := by
  rw [← diag_sum (fun x => y (ix2 0 x)) b]
  pointwise [k0_pay59]

theorem p60_at (y : FVec Ideal S1x16 .f32) (b : Fin 16) (l : Fin 128) : k0_pay60 y (ix2 b l) = y (ix2 0 b) := by
  rw [← diag_sum (fun x => y (ix2 0 x)) b]
  pointwise [k0_pay60]

theorem p61_at (y : FVec Ideal S1x16 .f32) (b : Fin 16) (l : Fin 128) : k0_pay61 y (ix2 b l) = y (ix2 0 b) := by
  rw [← diag_sum (fun x => y (ix2 0 x)) b]
  pointwise [k0_pay61]

theorem p1_at (x0 x1 : Vec Ideal S16x6144 .fp8e4m3) (w0 w1 : Vec Ideal S1x6144x256 .fp8e4m3) (b : Fin 16) (l : Fin 256) :
    k0_pay1 x0 w0 x1 w1 (ix2 b l)
      = ∑ j : Fin 6144, (x0 (ix2 b j) : EReal) * (w0 (ix3 0 j l) : EReal)
        + ∑ j : Fin 6144, (x1 (ix2 b j) : EReal) * (w1 (ix3 0 j l) : EReal) := by
  pointwise [k0_pay1]

theorem p2_at (xs : FVec Ideal S16x128 .f32) (x0 x1 : Vec Ideal S16x6144 .fp8e4m3) (w0 w1 : Vec Ideal S1x6144x256 .fp8e4m3)
    (v : Vec Ideal S128 .f32) (b : Fin 16) (l : Fin 128) :
    k0_pay2 xs x0 w0 x1 w1 v (ix2 b l)
      = k0_pay1 x0 w0 x1 w1 (ix2 b ⟨l.val, by omega⟩) * xs (ix2 b l) * (v (ix1 l) : EReal) := by
  pointwise [k0_pay2]

theorem p4_at (p f r t l c : FVec Ideal S16x128 .f32) (b : Fin 16) (i : Fin 128) :
    k0_pay4 p f r t l c k0_pay3 (ix2 b i)
      = Ideal.div
      ((if 0 < c (ix2 b i) then
            if 0 < l (ix2 b i) then Ideal.div (l (ix2 b i)) (r (ix2 b i)) else l (ix2 b i) * r (ix2 b i)
          else l (ix2 b i)) -
          c (ix2 b i) * f (ix2 b i) -
        (((BitVec.setWidth 32 (BitVec.ofBool (decide (0 < c (ix2 b i))))).toInt : ℝ) : EReal) * p (ix2 b i))
      (t (ix2 b i)) := by
  pointwise [k0_pay4, k0_pay3]
  rfl

theorem p5_at (p f r t l c : FVec Ideal S16x128 .f32) (b : Fin 16) (i : Fin 128) :
    k0_pay5 p f r t l c k0_pay3 (ix2 b i) = k0_pay4 p f r t l c k0_pay3 (ix2 b i) := by
  pointwise [k0_pay5]

theorem p10_at (p f r t xs : FVec Ideal S16x128 .f32) (pr : FVec Ideal S16x256 .f32) (ws : Vec Ideal S128 .f32)
    (c : FVec Ideal S16x128 .f32) (b : Fin 16) (i : Fin 128) (l : EReal)
    (hl : pr (ix2 b ⟨128 + i.val, by omega⟩) * xs (ix2 b i) * (ws (ix1 i) : EReal) = l) :
    k0_pay10 p t (k0_pay8 xs f r pr ws c) (k0_pay9 c) (ix2 b i)
      = Ideal.div
      ((if 0 < c (ix2 b i) then
            if 0 < l then Ideal.div l (r (ix2 b i)) else l * r (ix2 b i)
          else l) -
          c (ix2 b i) * f (ix2 b i) -
        (((BitVec.setWidth 32 (BitVec.ofBool (decide (0 < c (ix2 b i))))).toInt : ℝ) : EReal) * p (ix2 b i))
      (t (ix2 b i)) := by
  subst hl
  pointwise [k0_pay10, k0_pay9, k0_pay8, k0_pay7]
  rfl

theorem p11_at (p t z s : FVec Ideal S16x128 .f32) (b : Fin 16) (i : Fin 128) :
    k0_pay11 p t z s (ix2 b i) = k0_pay10 p t z s (ix2 b i) := by
  pointwise [k0_pay11]

/-! ## The running maximum, the running sum and the candidates -/

theorem p6_at (w : BitVec 32) (b : Fin 16) (l : Fin 128) : k0_pay6 w (ix2 b l) = BitVec.ofNat 32 l.val + w := by
  pointwise [k0_pay6]
  rfl

theorem p12_at (w : BitVec 32) (b : Fin 16) (l : Fin 128) : k0_pay12 w (ix2 b l) = BitVec.ofNat 32 l.val + w := by
  pointwise [k0_pay12]
  rfl

theorem p14_at (p t z zb zs m : FVec Ideal S16x128 .f32) (b : Fin 16) (l : Fin 128) :
    k0_pay14 p t z zb zs m (ix2 b l) = max (max (m (ix2 b l)) (z (ix2 b l))) (k0_pay10 p t zb zs (ix2 b l)) := by
  pointwise [k0_pay14, k0_pay13]

theorem p15_at (p t z zb zs m s : FVec Ideal S16x128 .f32) (b : Fin 16) (l : Fin 128) :
    k0_pay15 p t z zb zs m s (ix2 b l)
      = s (ix2 b l) * ex (m (ix2 b l)) (k0_pay14 p t z zb zs m (ix2 b l))
        + ex (z (ix2 b l)) (k0_pay14 p t z zb zs m (ix2 b l))
        + ex (k0_pay10 p t zb zs (ix2 b l)) (k0_pay14 p t z zb zs m (ix2 b l)) := by
  unfold ex
  pointwise [k0_pay15, k0_pay14]

theorem p18_at (z0 z1 : FVec Ideal S16x128 .f32) (p0 p1 : IVec S16x128 32) (acc : Vec Ideal S1x16x128 .f32)
    (c d : Vec Ideal S1x16x128 .i32) (a : Fin 1) (b : Fin 16) (l : Fin 128) :
    k0_pay18 z0 p0 z1 p1 acc c d (ix3 a b l)
      = if p1 (ix2 b l) = d (ix3 0 b l) then z1 (ix2 b l)
        else if p0 (ix2 b l) = c (ix3 0 b l) then z0 (ix2 b l) else (acc (ix3 0 b l) : EReal) := by
  simp only [← select_eq]
  pointwise [k0_pay18]

theorem iv_at : ∀ q : Fin k0_t6_loop.trips, Scf.iv 0#32 1#32 q.val = BitVec.ofNat 32 q.val := by decide +kernel

theorem p62_at (q : Fin k0_t6_loop.trips) (c : Vec Ideal S16x20 .i32) (a : Fin 1) (b : Fin 16) (l : Fin 128)
    (r : Fin 20) (hr : r.val = q.val) :
    k0_pay62 (F := Ideal) q c (ix3 a b l) = c (ix2 b r) := by
  have h : k0_pay62 (F := Ideal) q c (ix3 a b l) = Finset.fold IntOp.addi (0#32)
      (fun x : Fin 20 => Scalar.select (IntOp.cmpi CmpIPredicate.eq (BitVec.ofNat 32 x.val) (Scf.iv 0#32 1#32 q.val))
        (c (ix2 b x)) 0#32) Finset.univ := by
    pointwise [k0_pay62]
  rw [h, iv_at, ← hr, ← diag_fold (n := 20) (by decide) (fun x => c (ix2 b x)) r]
  simp only [select_eq, eq_comm]

theorem p63_at (a : Fin 1) (b : Fin 16) (l : Fin 128) : k0_pay63 (F := Ideal) (ix3 a b l) = 0 := by
  pointwise [k0_pay63]

theorem p65_at (b : Fin 16) (l : Fin 128) :
    k0_pay65 (F := Ideal) k0_pay64 (ix2 b l) = Ideal.ofBits .f32 4284592614#32 := by
  pointwise [k0_pay65, k0_pay64]

theorem p66_at (b : Fin 16) (l : Fin 128) : k0_pay66 (F := Ideal) (ix2 b l) = 0 := by
  pointwise [k0_pay66]

theorem p68_at (m s : Vec Ideal S16x128 .f32) (b : Fin 16) (k : Fin 1) :
    k0_pay68 m s (ix2 b k)
      = Ideal.log (∑ l : Fin 128, (s (ix2 b l) : EReal)
          * ex (m (ix2 b l)) (Finset.fold max ⊥ (fun l : Fin 128 => (m (ix2 b l) : EReal)) Finset.univ))
        + Finset.fold max ⊥ (fun l : Fin 128 => (m (ix2 b l) : EReal)) Finset.univ := by
  rw [← ofBits_neg_inf]
  unfold ex
  pointwise [k0_pay68]

theorem p69_at (m s : Vec Ideal S16x128 .f32) (k : Fin 1) (b : Fin 16) :
    k0_pay69 m s (ix2 k b) = k0_pay68 m s (ix2 b 0) := by
  rw [← diag_sum' (fun x => k0_pay68 m s (ix2 x 0)) b]
  pointwise [k0_pay69]

theorem p70_at (e : FVec Ideal S16x1 .f32) (a : Vec Ideal S1x16x128 .f32) (b : Fin 16) (k : Fin 1) :
    k0_pay70 e a (ix2 b k) = (∑ l : Fin 128, (a (ix3 0 b l) : EReal)) - e (ix2 b k) := by
  pointwise [k0_pay70]

end Cert.KernelIdeal.Hand

end
-- ==== Proof.Value.RefAt.lean ====
/-
  The reference's terms read at one index.
-/
module

public import proofs.«01_k».proof.Proof.RefIdeal.Terms
public import proofs.«01_k».proof.Proof.Value.Soft

@[expose] public section

set_option maxRecDepth 16384

noncomputable section

namespace Cert.Val

open Idealize.ShloMosaic

/-- A logit from a scaled product, its count and the row's parameters. -/
def pen (l c p f r t : EReal) : EReal :=
  Ideal.div ((if 0 < c then if 0 < l then Ideal.div l r else l * r else l) - c * f
    - (((BitVec.ofBool (decide (0 < c))).toNat : ℝ) : EReal) * p) t

end Cert.Val

namespace Cert.RefIdeal.Hand

open Cert.RefIdeal Cert.RefIdeal.Gen Cert.Val
open Idealize.ShloMosaic Idealize.ShloMosaic.TcCoe

theorem yR_at (x : FVec Ideal S16x12288 .bf16) (g : FVec Ideal S12288 .f32) (b : Fin 16) (k : Fin 12288) :
    yR x g (ix2 b k) = x (ix2 b k) *
        Ideal.rsqrt
          (Ideal.div (∑ j : Fin 12288, x (ix2 b j) * x (ix2 b j)) (Ideal.ofBits FTy.f32 1178599424#32) +
            Ideal.ofBits FTy.f32 897988541#32) * g (ix1 k) := by
  pointwise [yR]

theorem aR_at (y : FVec Ideal S16x12288 .f32) (b : Fin 16) (k : Fin 1) :
    aR y (ix2 b k)
      = Finset.fold max ⊥ (fun j : Fin 12288 => max (y (ix2 b j)) (-(y (ix2 b j)))) Finset.univ *
          Ideal.ofBits FTy.f32 991054117#32 := by
  rw [← ofBits_neg_inf]
  pointwise [aR]
  rfl

theorem eR_at (a : FVec Ideal S16x1 .f32) (b : Fin 16) (k : Fin 1) :
    eR (nR a) (ix2 b k) = expo (BitVec.ofNat 32 (cnt (a (ix2 b 0)))) := by
  have h : nR a (ix2 b k) = BitVec.ofNat 32 (cnt (a (ix2 b 0))) := by
    rw [← cnt_ref]
    pointwise [nR]
    rfl
  unfold expo
  rw [← h]
  pointwise [eR]

theorem powR_at (e : IVec S16x1 32) (b : Fin 16) (k : Fin 1) :
    powR (F := Ideal) e (ix2 b k)
      = Ideal.pow (Ideal.ofBits FTy.f32 1073741824#32) (((e (ix2 b k)).toInt : ℝ) : EReal) := by
  pointwise [powR]
  rfl

theorem codesR_at (y : FVec Ideal S16x12288 .f32) (e : IVec S16x1 32) (b : Fin 16) (k : Fin 12288) :
    codesR y e (ix2 b k)
      = min (Ideal.ofBits FTy.f32 1138753536#32)
          (max (Ideal.ofBits FTy.f32 3286237184#32)
            (y (ix2 b k) * Ideal.pow (Ideal.ofBits FTy.f32 1073741824#32) (((-(e (ix2 b 0))).toInt : ℝ) : EReal))) := by
  have h : powR (F := Ideal) (negi e) (ix2 b 0) = _ := powR_at (negi e) b 0
  rw [negi_apply] at h
  rw [← h]
  pointwise [codesR]

theorem cR_at (ids : IVec S16x1024 32) (len : IVec S16 32) (b : Fin 16) (v : Fin 32000) :
    cR (F := Ideal) ids len (ix2 b v)
      = ∑ x : Fin 1024, Scalar.select
          (IntOp.andi (IntOp.cmpi CmpIPredicate.slt (BitVec.ofNat 32 x.val) (len (ix1 b)))
            (IntOp.cmpi CmpIPredicate.eq (ids (ix2 b x)) (BitVec.ofNat 32 v.val))) (1 : EReal) 0 := by
  pointwise [cR]

theorem prodR_at (x : Vec Ideal S16x12288 .fp8e4m3) (w : Vec Ideal S12288x32000 .fp8e4m3) (b : Fin 16) (k : Fin 32000) :
    k0_pay1 x w (ix2 b k) = ∑ j : Fin 12288, (x (ix2 b j) : EReal) * (w (ix2 j k) : EReal) := by
  pointwise [k0_pay1]

theorem logitsR_at (p : FVec Ideal S16x32000 .f32) (xs : FVec Ideal S16x1 .f32) (ws : FVec Ideal S32000 .f32)
    (b : Fin 16) (k : Fin 32000) :
    logitsR p xs ws (ix2 b k) = p (ix2 b k) * xs (ix2 b 0) * ws (ix1 k) := by
  pointwise [logitsR]

theorem zR_at (l c : FVec Ideal S16x32000 .f32) (p f r t : FVec Ideal S16 .f32) (b : Fin 16) (k : Fin 32000) :
    zR l c p f r t (ix2 b k)
      = pen (l (ix2 b k)) (c (ix2 b k)) (p (ix1 b)) (f (ix1 b)) (r (ix1 b)) (t (ix1 b)) := by
  pointwise [zR, rowR, zeroR]
  rfl

theorem lseR_at (z : FVec Ideal S16x32000 .f32) (b : Fin 16) (k : Fin 1) :
    lseR z (ix2 b k)
      = Ideal.log (∑ v : Fin 32000, ex (z (ix2 b v)) (Finset.fold max ⊥ (fun v : Fin 32000 => z (ix2 b v)) Finset.univ))
        + Finset.fold max ⊥ (fun v : Fin 32000 => z (ix2 b v)) Finset.univ := by
  rw [← ofBits_neg_inf]
  unfold ex
  pointwise [lseR]

theorem clpR_at (z : FVec Ideal S16x32000 .f32) (e : FVec Ideal S16x1 .f32) (c : IVec S16x20 32) (b : Fin 16)
    (q : Fin 20) :
    clpR z e c (ix2 b q)
      = (∑ v : Fin 32000, if c (ix2 b q) = BitVec.ofNat 32 v.val then z (ix2 b v) else 0) - e (ix2 b 0) := by
  simp only [← select_eq]
  pointwise [clpR]

end Cert.RefIdeal.Hand

end
-- ==== Proof.Value.Eq.lean ====
/-
  The kernel's values and the reference's are the same functions of the input arrays.
-/
module

public import proofs.«01_k».proof.Proof.Value.KerAt
public import proofs.«01_k».proof.Proof.Value.RefAt

@[expose] public section

set_option maxRecDepth 16384

noncomputable section

namespace Cert.Val

open Cert.KernelIdeal.Hand Cert.KernelIdeal.Gen Cert.KernelIdeal
open Cert.RefIdeal.Hand (yR aR nR eR powR codesR cR logitsR zR yR_at aR_at eR_at powR_at codesR_at cR_at
  prodR_at logitsR_at zR_at)
open Idealize.ShloMosaic

/-- A half's entry is the array's. -/
theorem halfX_at {V : Type} (x : S16x12288.Idx → V) (h : ℕ) (b : Fin 16) (j : Fin 6144) (v : Fin 12288)
    (hv : 6144 * h + j.val = v.val) : halfX x h (ix2 b j) = x (ix2 b v) := by
  have := v.isLt
  have e : (⟨(6144 * h + j.val) % 12288, Nat.mod_lt _ (by decide)⟩ : Fin 12288) = v :=
    Fin.ext (by show (6144 * h + j.val) % 12288 = v.val; omega)
  subst e
  rfl

/-- A block of the weights' entry is the array's. -/
theorem halfW_at {V : Type} (x : S12288x32000.Idx → V) (k h : ℕ) (j : Fin 6144) (l : Fin 256) (u : Fin 12288)
    (v : Fin 32000) (hu : 6144 * h + j.val = u.val) (hv : 256 * k + l.val = v.val) :
    halfW x k h (ix3 0 j l) = x (ix2 u v) := by
  have := u.isLt
  have := v.isLt
  have e : (⟨(6144 * h + j.val) % 12288, Nat.mod_lt _ (by decide)⟩ : Fin 12288) = u :=
    Fin.ext (by show (6144 * h + j.val) % 12288 = u.val; omega)
  have e' : (⟨(256 * k + l.val) % 32000, Nat.mod_lt _ (by decide)⟩ : Fin 32000) = v :=
    Fin.ext (by show (256 * k + l.val) % 32000 = v.val; omega)
  subst e e'
  rfl

variable (I : In Ideal) (g : FVec Ideal Cert.RefIdeal.S12288 .f32)

/-! ## The activations -/

/-- The running sums of squares: the squares of the chunks so far, lane by lane. -/
theorem sqAt_at (k : ℕ) (b : Fin 16) (l : Fin 1024) :
    sqAt I k (ix2 b l) = ∑ j ∈ Finset.range k,
      (I.x (ix2 b ⟨(1024 * j + l.val) % 12288, Nat.mod_lt _ (by decide)⟩) : EReal)
        * (I.x (ix2 b ⟨(1024 * j + l.val) % 12288, Nat.mod_lt _ (by decide)⟩) : EReal) := by
  induction k with
  | zero => exact p43_at b l
  | succ k ih =>
    rw [Finset.sum_range_succ, ← ih]
    exact p44_at _ _ b l

/-- Their sum over the lanes is the sum over the row. -/
theorem sq_sum (b : Fin 16) :
    ∑ l : Fin 1024, sq I (ix2 b l) = ∑ j : Fin 12288, (I.x (ix2 b j) : EReal) * (I.x (ix2 b j) : EReal) := by
  rw [← sum_chunks]
  exact Finset.sum_congr rfl fun l _ => sqAt_at I 12 b l

variable (hg : ∀ k : Fin 12288, I.gain (ix2 0 k) = g (ix1 k))

include hg

/-- A chunk's normalised activations. -/
theorem chunk_y (k : ℕ) (b : Fin 16) (l : Fin 1024) :
    k0_pay45 (sq I) (colsX I.x k) (colsG I.gain k) (ix2 b l)
      = yR I.x g (ix2 b ⟨(1024 * k + l.val) % 12288, Nat.mod_lt _ (by decide)⟩) := by
  rw [p45_at, sq_sum, yR_at, ← hg]
  rfl

/-- The normalised activations. -/
theorem yv_at (b : Fin 16) (k : Fin 12288) : yv I (ix2 b k) = yR I.x g (ix2 b k) := by
  have h : yv I (ix2 b k) = k0_pay46 (sq I) (colsX I.x (k.val / 1024)) (colsG I.gain (k.val / 1024))
      (ix2 b ⟨k.val % 1024, Nat.mod_lt _ (by decide)⟩) := rfl
  rw [h, p46_at, chunk_y I g hg]
  congr 2
  apply Fin.ext
  have := k.isLt
  show (1024 * (k.val / 1024) + k.val % 1024) % 12288 = k.val
  omega

/-- The running maxima of the magnitudes are at most `c` just when the magnitudes so far are. -/
theorem amaxAt_le (k : ℕ) (b : Fin 16) (l : Fin 1024) (c : EReal) :
    amaxAt I k (ix2 b l) ≤ c ↔ 0 ≤ c ∧ ∀ j < k,
      max (yR I.x g (ix2 b ⟨(1024 * j + l.val) % 12288, Nat.mod_lt _ (by decide)⟩))
        (-(yR I.x g (ix2 b ⟨(1024 * j + l.val) % 12288, Nat.mod_lt _ (by decide)⟩))) ≤ c := by
  induction k with
  | zero =>
    rw [show amaxAt I 0 (ix2 b l) = 0 from p43_at b l]
    simp
  | succ k ih =>
    rw [show amaxAt I (k + 1) (ix2 b l) = _ from p47_at _ _ _ _ b l, chunk_y I g hg, max_le_iff, ih]
    constructor
    · rintro ⟨⟨h0, h1⟩, h2⟩
      refine ⟨h0, fun j hj => ?_⟩
      rcases Nat.lt_succ_iff_lt_or_eq.1 hj with h | h
      · exact h1 j h
      · subst h; exact h2
    · rintro ⟨h0, h1⟩
      exact ⟨⟨h0, fun j hj => h1 j (Nat.lt_succ_of_lt hj)⟩, h1 k (Nat.lt_succ_self k)⟩

/-- Each row's largest magnitude over the largest code. -/
theorem av_at (b : Fin 16) (k : Fin 1) : av I (ix2 b k) = aR (yR I.x g) (ix2 b k) := by
  have h : av I (ix2 b k) = _ := p48_at (amaxAt I 12) b k
  rw [h, aR_at, max_chunks (fun l => amaxAt I 12 (ix2 b l)) (fun j => yR I.x g (ix2 b j))
    (fun l c => amaxAt_le I g hg 12 b l c)]

/-- A row whose largest magnitude over the largest code is below `2 ^ 126`. -/
def RowOk (x : FVec Ideal Cert.RefIdeal.S16x12288 .bf16) (g : FVec Ideal Cert.RefIdeal.S12288 .f32) (b : Fin 16) : Prop :=
  aR (yR x g) (ix2 b 0) < (((2 : ℝ) ^ (126 : ℤ) : ℝ) : EReal)

/-- The reference's exponents. -/
def eI : IVec Cert.RefIdeal.S16x1 32 := eR (nR (aR (yR I.x g)))

variable (b : Fin 16) (hb : RowOk I.x g b)

include hb

/-- The kernel's exponent of a row. -/
theorem expo_at (l : Fin 1) :
    k0_pay50 (av I) k0_pay49 (ix2 b l) = expo (BitVec.ofNat 32 (cnt (aR (yR I.x g) (ix2 b 0)))) := by
  rw [p50_at _ _ _ (by rw [av_at I g hg]; exact hb), av_at I g hg]

/-- The scales, as a column. -/
theorem xsCol_at (l : Fin 1) : xsCol I (ix2 b l) = powR (F := Ideal) (eI I g) (ix2 b l) := by
  have h : xsCol I (ix2 b l) = _ := p52_at (av I) k0_pay49 b l
  rw [h, expo_at I g hg b hb, scale_eq _ (cnt_le hb), powR_at, eI, eR_at]

/-- The scales. -/
theorem xsv_at (l : Fin 1) : xsv I (ix2 l b) = powR (F := Ideal) (eI I g) (ix2 b 0) := by
  have h : xsv I (ix2 l b) = _ := p54_at (av I) k0_pay49 l b
  rw [h]
  exact xsCol_at I g hg b hb 0

/-- The codes. -/
theorem codesv_at (k : Fin 12288) : codesv I (ix2 b k) = codesR (yR I.x g) (eI I g) (ix2 b k) := by
  have h : codesv I (ix2 b k) = k0_pay51 (av I) k0_pay49 (colsX (yv I) (k.val / 1024))
      (ix2 b ⟨k.val % 1024, Nat.mod_lt _ (by decide)⟩) := rfl
  have e : (colsX (yv I) (k.val / 1024) (ix2 b ⟨k.val % 1024, Nat.mod_lt _ (by decide)⟩) : EReal)
      = yR I.x g (ix2 b k) := by
    rw [← yv_at I g hg]
    show yv I (ix2 b _) = _
    congr 2
    apply Fin.ext
    have := k.isLt
    show (1024 * (k.val / 1024) + k.val % 1024) % 12288 = k.val
    omega
  rw [h, p51_at, expo_at I g hg b hb, inv_eq _ (cnt_le hb), codesR_at, eI, eR_at, e]

omit hg hb

/-! ## The counts -/

variable (len : IVec Cert.RefIdeal.S16 32) (hlen : ∀ b : Fin 16, I.len (ix2 0 b) = len (ix1 b))

include hlen

/-- The counts of a block's half. -/
theorem rowsC_at (k h : ℕ) (b : Fin 16) (l : Fin 128) (v : Fin 32000) (hh : h < 2)
    (hv : 256 * k + 128 * h + l.val = v.val) :
    rowsC (cntv I) k h (ix2 b l) = cR (F := Ideal) I.ids len (ix2 b v) := by
  have hvlt := v.isLt
  have hl := l.isLt
  have hb := b.isLt
  have e : rowsC (cntv I) k h (ix2 b l)
      = k0_pay56 (rowI (idsv I) (((32 * k + 16 * h + b.val) % 4096) % 16))
          (ix2 ⟨((32 * k + 16 * h + b.val) % 4096) / 16, by omega⟩ l) := rfl
  have e1 : ((32 * k + 16 * h + b.val) % 4096) % 16 = b.val := by omega
  have e2 : ((32 * k + 16 * h + b.val) % 4096) / 16 = 2 * k + h := by omega
  rw [e, p56_at, cR_at]
  refine Finset.sum_congr rfl fun x _ => ?_
  have e3 : rowI (idsv I) (((32 * k + 16 * h + b.val) % 4096) % 16) (ix2 0 x)
      = Scalar.select (IntOp.cmpi CmpIPredicate.slt (BitVec.ofNat 32 x.val) (len (ix1 b))) (I.ids (ix2 b x)) 4294967295#32 := by
    rw [← hlen, ← p55_at]
    show idsv I (ix2 _ x) = idsv I (ix2 b x)
    congr 2
    apply Fin.ext
    show ((32 * k + 16 * h + b.val) % 4096) % 16 % 16 = b.val
    omega
  rw [e3]
  dsimp only
  rw [e2, hit _ _ _ _ (by omega) hl, show 128 * (2 * k + h) + l.val = v.val by omega]

omit hlen

/-! ## The product and the logits -/

include hg hb

/-- The product of the codes with the block's weights. -/
theorem prodv_at (k : ℕ) (l : Fin 256) (v : Fin 32000) (hv : 256 * k + l.val = v.val) :
    prodv I k (ix2 b l) = Cert.RefIdeal.Gen.k0_pay1 (codesR (yR I.x g) (eI I g)) I.w (ix2 b v) := by
  have hvlt := v.isLt
  have h : prodv I k (ix2 b l) = _ := p1_at (halfX (codesv I) 0) (halfX (codesv I) 1) (halfW I.w k 0) (halfW I.w k 1) b l
  rw [h, prodR_at, Fin.sum_univ_two_halves 6144 6144 rfl]
  have hc := codesv_at I g hg b hb
  congr 1
  · refine Finset.sum_congr rfl fun j _ => ?_
    have hj := j.isLt
    rw [halfX_at _ 0 b j ⟨j.val, by omega⟩ (by show 6144 * 0 + j.val = j.val; omega),
      halfW_at _ k 0 j l ⟨j.val, by omega⟩ v (by show 6144 * 0 + j.val = j.val; omega) hv, hc]
  · refine Finset.sum_congr rfl fun j _ => ?_
    have hj := j.isLt
    rw [halfX_at _ 1 b j ⟨6144 + j.val, by omega⟩ (by show 6144 * 1 + j.val = 6144 + j.val; omega),
      halfW_at _ k 1 j l ⟨6144 + j.val, by omega⟩ v (by show 6144 * 1 + j.val = 6144 + j.val; omega) hv, hc]

variable (p f r t : FVec Ideal Cert.RefIdeal.S16 .f32) (hp : ∀ b : Fin 16, I.pres (ix2 0 b) = p (ix1 b))
  (hf : ∀ b : Fin 16, I.freq (ix2 0 b) = f (ix1 b)) (hr : ∀ b : Fin 16, I.rep (ix2 0 b) = r (ix1 b))
  (ht : ∀ b : Fin 16, I.temp (ix2 0 b) = t (ix1 b))

/-- The reference's scaled product. -/
def lI : FVec Ideal Cert.RefIdeal.S16x32000 .f32 :=
  logitsR (Cert.RefIdeal.Gen.k0_pay1 (codesR (yR I.x g) (eI I g)) I.w) (powR (eI I g)) I.ws

/-- The reference's logits. -/
def zI : FVec Ideal Cert.RefIdeal.S16x32000 .f32 := zR (lI I g) (cR I.ids len) p f r t

include hlen hp hf hr ht

/-- The first half's logits. -/
theorem z0_at (k : ℕ) (l : Fin 128) (v : Fin 32000) (hv : 256 * k + l.val = v.val) :
    z0 I k (ix2 b l) = zI I g len p f r t (ix2 b v) := by
  have hvlt := v.isLt
  have hl : za I k (ix2 b l) = lI I g (ix2 b v) := by
    have h : za I k (ix2 b l) = prodv I k (ix2 b ⟨l.val, by omega⟩) * xsB I (ix2 b l) * (cols128 I.ws k 0 (ix1 l) : EReal) :=
      p2_at _ _ _ _ _ _ b l
    have hx : xsB I (ix2 b l) = xsCol I (ix2 b 0) := p57_at _ b l
    have hw : (cols128 I.ws k 0 (ix1 l) : EReal) = I.ws (ix1 v) := by
      show I.ws (ix1 _) = _
      congr 2
      apply Fin.ext
      show (256 * k + 128 * 0 + l.val) % 32000 = v.val
      omega
    rw [h, hx, hw, xsCol_at I g hg b hb, prodv_at I g hg b hb k _ v hv, lI, logitsR_at]
  have h : z0 I k (ix2 b l) = _ := p4_at (presB I) (freqB I) (repB I) (tempB I) (za I k) (rowsC (cntv I) k 0) b l
  rw [h, hl, rowsC_at I len hlen k 0 b l v (by decide) (by omega), zI, zR_at, pen, ind_eq,
    show presB I (ix2 b l) = _ from p58_at _ b l, show freqB I (ix2 b l) = _ from p59_at _ b l,
    show repB I (ix2 b l) = _ from p60_at _ b l, show tempB I (ix2 b l) = _ from p61_at _ b l, hp, hf, hr, ht]

/-- The second half's logits. -/
theorem z1_at (k : ℕ) (l : Fin 128) (v : Fin 32000) (hv : 256 * k + 128 + l.val = v.val) :
    z1 I k (ix2 b l) = zI I g len p f r t (ix2 b v) := by
  have hvlt := v.isLt
  have hl : prodv I k (ix2 b ⟨128 + l.val, by omega⟩) * xsB I (ix2 b l) * (cols128 I.ws k 1 (ix1 l) : EReal)
      = lI I g (ix2 b v) := by
    have hx : xsB I (ix2 b l) = xsCol I (ix2 b 0) := p57_at _ b l
    have hw : (cols128 I.ws k 1 (ix1 l) : EReal) = I.ws (ix1 v) := by
      show I.ws (ix1 _) = _
      congr 2
      apply Fin.ext
      show (256 * k + 128 * 1 + l.val) % 32000 = v.val
      omega
    rw [hx, hw, xsCol_at I g hg b hb, prodv_at I g hg b hb k _ v (by show 256 * k + (128 + l.val) = v.val; omega), lI,
      logitsR_at]
  have h : z1 I k (ix2 b l) = _ :=
    p10_at (presB I) (freqB I) (repB I) (tempB I) (xsB I) (prodv I k) (cols128 I.ws k 1) (rowsC (cntv I) k 1) b l _ hl
  rw [h, rowsC_at I len hlen k 1 b l v (by decide) (by omega), zI, zR_at, pen, ind_eq,
    show presB I (ix2 b l) = _ from p58_at _ b l, show freqB I (ix2 b l) = _ from p59_at _ b l,
    show repB I (ix2 b l) = _ from p60_at _ b l, show tempB I (ix2 b l) = _ from p61_at _ b l, hp, hf, hr, ht]

/-- The logits. -/
theorem zv_at (v : Fin 32000) : zv I (ix2 b v) = zI I g len p f r t (ix2 b v) := by
  have hvlt := v.isLt
  have h : zv I (ix2 b v) = if v.val / 128 % 2 = 0 then
        k0_pay5 (presB I) (freqB I) (repB I) (tempB I) (za I (v.val / 256)) (rowsC (cntv I) (v.val / 256) 0) k0_pay3
          (ix2 b ⟨v.val % 128, Nat.mod_lt _ (by decide)⟩)
      else
        k0_pay11 (presB I) (tempB I) (zb I (v.val / 256)) (zs I (v.val / 256)) (ix2 b ⟨v.val % 128, Nat.mod_lt _ (by decide)⟩) := rfl
  rw [h]
  split
  · rw [p5_at]
    exact z0_at I g hg b hb len hlen p f r t hp hf hr ht (v.val / 256) ⟨v.val % 128, Nat.mod_lt _ (by decide)⟩ v
      (by show 256 * (v.val / 256) + v.val % 128 = v.val; omega)
  · rw [p11_at]
    exact z1_at I g hg b hb len hlen p f r t hp hf hr ht (v.val / 256) ⟨v.val % 128, Nat.mod_lt _ (by decide)⟩ v
      (by show 256 * (v.val / 256) + 128 + v.val % 128 = v.val; omega)

end Cert.Val

end
-- ==== Proof.Value.Lse.lean ====
/-
  The kernel's log of the sum of exponentials and its candidates' log-probabilities are the
  reference's: the columns' running maxima and sums, and the candidates' planes, after all blocks.
-/
module

public import proofs.«01_k».proof.Proof.Value.Eq

@[expose] public section

set_option maxRecDepth 16384

noncomputable section

namespace Cert.Val

open Idealize.ShloMosaic Idealize.ShloMosaic.TcCoe
open Cert.KernelIdeal Cert.KernelIdeal.Gen Cert.KernelIdeal.Hand
open Cert.RefIdeal.Hand (yR aR nR eR powR codesR cR logitsR zR lseR clpR lseR_at clpR_at)

/-- A row as a sequence: its entries, then zeros. -/
def seqOf (z : Fin 32000 → EReal) (n : ℕ) : EReal := if h : n < 32000 then z ⟨n, h⟩ else 0

theorem seqOf_lt (z : Fin 32000 → EReal) (v : Fin 32000) : seqOf z v.val = z v := by
  unfold seqOf
  rw [dif_pos v.isLt]

variable (I : In Ideal)

/-- The columns' start, one step of their running maxima and one of their running sums. -/
theorem mAt_zero (b : Fin 16) (l : Fin 128) : mAt I 0 (ix2 b l) = Ideal.ofBits .f32 4284592614#32 := p65_at b l

theorem mAt_succ (k : ℕ) (b : Fin 16) (l : Fin 128) :
    mAt I (k + 1) (ix2 b l) = max (max (mAt I k (ix2 b l)) (z0 I k (ix2 b l))) (z1 I k (ix2 b l)) :=
  p14_at (presB I) (tempB I) (z0 I k) (zb I k) (zs I k) (mAt I k) b l

theorem sAt_zero (b : Fin 16) (l : Fin 128) : sAt I 0 (ix2 b l) = 0 := p66_at b l

theorem sAt_succ (k : ℕ) (b : Fin 16) (l : Fin 128) :
    sAt I (k + 1) (ix2 b l)
      = sAt I k (ix2 b l) * ex (mAt I k (ix2 b l)) (mAt I (k + 1) (ix2 b l))
        + ex (z0 I k (ix2 b l)) (mAt I (k + 1) (ix2 b l)) + ex (z1 I k (ix2 b l)) (mAt I (k + 1) (ix2 b l)) :=
  p15_at (presB I) (tempB I) (z0 I k) (zb I k) (zs I k) (mAt I k) (sAt I k) b l

/-- The candidates' planes hold the candidates. -/
theorem candv_at (q : Fin 20) (b : Fin 16) (l : Fin 128) : candv (F := Ideal) I (ix3 q b l) = I.cand (ix2 b q) :=
  p62_at ⟨q.val, q.isLt⟩ I.cand 0 b l q rfl

theorem pos0_at (k : ℕ) (b : Fin 16) (l : Fin 128) : pos0 k (ix2 b l) = BitVec.ofNat 32 (256 * k + l.val) := by
  have h : pos0 k (ix2 b l) = BitVec.ofNat 32 l.val + BitVec.ofNat 32 (256 * k) := p6_at _ b l
  rw [h, ← BitVec.ofNat_add, Nat.add_comm]

theorem pos1_at (k : ℕ) (b : Fin 16) (l : Fin 128) : pos1 k (ix2 b l) = BitVec.ofNat 32 (256 * k + 128 + l.val) := by
  have h : pos1 k (ix2 b l) = BitVec.ofNat 32 l.val + BitVec.ofNat 32 (256 * k + 128) := p12_at _ b l
  rw [h, ← BitVec.ofNat_add, Nat.add_comm]

theorem plane_at {V : Type} (x : S20x16x128.Idx → V) (q : Fin 20) (b : Fin 16) (l : Fin 128) :
    plane x q.val (ix3 0 b l) = x (ix3 q b l) := by
  show x (ix3 _ b l) = _
  congr 2
  exact Fin.ext (Nat.mod_eq_of_lt q.isLt)

theorem accAt_zero (q : Fin 20) (b : Fin 16) (l : Fin 128) : accAt I 0 (ix3 q b l) = 0 := p63_at 0 b l

theorem accAt_succ (k : ℕ) (q : Fin 20) (b : Fin 16) (l : Fin 128) :
    accAt I (k + 1) (ix3 q b l)
      = if BitVec.ofNat 32 (256 * k + 128 + l.val) = I.cand (ix2 b q) then z1 I k (ix2 b l)
        else if BitVec.ofNat 32 (256 * k + l.val) = I.cand (ix2 b q) then z0 I k (ix2 b l)
        else accAt I k (ix3 q b l) := by
  have h : accAt I (k + 1) (ix3 q b l) = _ :=
    p18_at (z0 I k) (z1 I k) (pos0 k) (pos1 k) (plane (accAt I k) q.val) (plane (candv I) q.val)
      (plane (candv I) q.val) 0 b l
  rw [h, pos0_at, pos1_at, plane_at, plane_at, candv_at]

variable (g : FVec Ideal Cert.RefIdeal.S12288 .f32)
  (hg : ∀ k : Fin 12288, I.gain (ix2 0 k) = g (ix1 k)) (b : Fin 16) (hb : RowOk I.x g b)
  (len : IVec Cert.RefIdeal.S16 32) (hlen : ∀ b : Fin 16, I.len (ix2 0 b) = len (ix1 b))
  (p f r t : FVec Ideal Cert.RefIdeal.S16 .f32) (hp : ∀ b : Fin 16, I.pres (ix2 0 b) = p (ix1 b))
  (hf : ∀ b : Fin 16, I.freq (ix2 0 b) = f (ix1 b)) (hr : ∀ b : Fin 16, I.rep (ix2 0 b) = r (ix1 b))
  (ht : ∀ b : Fin 16, I.temp (ix2 0 b) = t (ix1 b))

include hg hb hlen hp hf hr ht

theorem z0_seq (l : Fin 128) (k : ℕ) (hk : k < 125) :
    z0 I k (ix2 b l) = seqOf (fun v => zI I g len p f r t (ix2 b v)) (256 * k + l.val) := by
  have hl := l.isLt
  rw [z0_at I g hg b hb len hlen p f r t hp hf hr ht k l ⟨256 * k + l.val, by omega⟩ rfl]
  exact (seqOf_lt (fun v => zI I g len p f r t (ix2 b v)) ⟨256 * k + l.val, by omega⟩).symm

theorem z1_seq (l : Fin 128) (k : ℕ) (hk : k < 125) :
    z1 I k (ix2 b l) = seqOf (fun v => zI I g len p f r t (ix2 b v)) (256 * k + 128 + l.val) := by
  have hl := l.isLt
  rw [z1_at I g hg b hb len hlen p f r t hp hf hr ht k l ⟨256 * k + 128 + l.val, by omega⟩ rfl]
  exact (seqOf_lt (fun v => zI I g len p f r t (ix2 b v)) ⟨256 * k + 128 + l.val, by omega⟩).symm

/-- The log of the sum of exponentials, as a column. -/
theorem lseCol_at (k : Fin 1) : lseCol I (ix2 b k) = lseR (zI I g len p f r t) (ix2 b k) := by
  obtain ⟨c, hc⟩ := ofBits_start
  have h : lseCol I (ix2 b k) = _ := p68_at (mAt I 125) (sAt I 125) b k
  have e := log_blocks (seqOf (fun v => zI I g len p f r t (ix2 b v))) (fun l k => z0 I k (ix2 b l))
    (fun l k => z1 I k (ix2 b l)) c (fun l k => mAt I k (ix2 b l)) (fun l k => sAt I k (ix2 b l))
    (fun l k hk => z0_seq I g hg b hb len hlen p f r t hp hf hr ht l k hk)
    (fun l k hk => z1_seq I g hg b hb len hlen p f r t hp hf hr ht l k hk)
    (fun l => (mAt_zero I b l).trans hc) (fun l k => mAt_succ I k b l) (fun l => sAt_zero I b l)
    (fun l k => sAt_succ I k b l)
  simp only [seqOf_lt] at e
  rw [h, lseR_at]
  exact e

/-- The log of the sum of exponentials, as the row the kernel returns. -/
theorem lsev_at : lsev I (ix2 0 b) = lseR (zI I g len p f r t) (ix2 b 0) :=
  (p69_at (mAt I 125) (sAt I 125) 0 b).trans (lseCol_at I g hg b hb len hlen p f r t hp hf hr ht 0)

/-- The candidates' log-probabilities. -/
theorem clpv_at (q : Fin 20) :
    clpv I (ix2 b q) = clpR (zI I g len p f r t) (lseR (zI I g len p f r t)) I.cand (ix2 b q) := by
  have h : clpv I (ix2 b q) = _ := p70_at (lseCol I) (plane (accAt I 125) q.val) b 0
  have e := pick_blocks (I.cand (ix2 b q)) (seqOf (fun v => zI I g len p f r t (ix2 b v)))
    (fun l k => z0 I k (ix2 b l)) (fun l k => z1 I k (ix2 b l)) (fun l k => accAt I k (ix3 q b l))
    (fun l k hk => z0_seq I g hg b hb len hlen p f r t hp hf hr ht l k hk)
    (fun l k hk => z1_seq I g hg b hb len hlen p f r t hp hf hr ht l k hk)
    (fun l => accAt_zero I q b l) (fun l k => accAt_succ I k q b l)
  simp only [seqOf_lt] at e
  rw [h, clpR_at, lseCol_at I g hg b hb len hlen p f r t hp hf hr ht, ← e]
  simp only [plane_at]

end Cert.Val

end
-- ==== Proof.Value.Claim.lean ====
/-
  The value claim: where the mask stands, the kernel's five results are the reference's.
-/
module

public import proofs.«01_k».proof.Defs
public import proofs.«01_k».proof.Proof.Gen.On_representable
public import proofs.«01_k».proof.Proof.KernelIdeal.Launch
public import proofs.«01_k».proof.Proof.RefIdeal.Run
public import proofs.«01_k».proof.Proof.Value.Lse
public import Idealize.ShloMosaic.Lib.Claim

@[expose] public section

set_option maxRecDepth 16384

noncomputable section

namespace Cert.Val

open Idealize.ShloMosaic Idealize.ShloMosaic.TcCoe Idealize.SL.Sem
open Cert.On_representable Cert.On_representable.Gen

/-! ## The mask -/

/-- The mask's bound. -/
theorem ofBits_bound : Ideal.ofBits .f32 0x7E800000#32 = (((2 : ℝ) ^ (126 : ℤ) : ℝ) : EReal) :=
  ofBits_fields _ 253 (by decide) (by decide) (by decide) (by decide) (by decide)

/-- The rows' mask from the rows' values. -/
def rowM (a : FVec Ideal S16x1 .f32) : IVec S16x1 1 :=
  cmpf .olt a (broadcastInDim S16x1 ![] bcast_S_S16x1 (constant S_ .f32 0x7E800000#32))

theorem rowM_at (a : FVec Ideal S16x1 .f32) (b : Fin 16)
    (h : rowM a (ix2 b 0) = 1#1) : a (ix2 b 0) < (((2 : ℝ) ^ (126 : ℤ) : ℝ) : EReal) := by
  rw [← ofBits_bound]
  have e : rowM a (ix2 b 0) = BitVec.ofBool (decide (a (ix2 b 0) < Ideal.ofBits .f32 0x7E800000#32)) := by
    pointwise [rowM]
  rw [e] at h
  by_contra hc
  rw [decide_eq_false hc] at h
  exact absurd h (by decide)

section

variable (x : FVec Ideal S16x12288 .bf16) (g : FVec Ideal S12288 .f32) (a2 : FVec Ideal S12288x32000 .fp8e4m3)
  (a3 : FVec Ideal S32000 .f32) (a4 : IVec S16x1024 32) (a5 : IVec S16 32) (a6 a7 a8 a9 : FVec Ideal S16 .f32)
  (a10 : IVec S16x20 32)

theorem mask_z (b : Fin 16) (v : Fin 32000)
    (h : (fn (F := Ideal) x g a2 a3 a4 a5 a6 a7 a8 a9 a10).2.2.1 (ix2 b v) = 1#1) : RowOk x g b := by
  have e : (fn (F := Ideal) x g a2 a3 a4 a5 a6 a7 a8 a9 a10).2.2.1
      = broadcastInDim S16x32000 ![0, 1] bcast_S16x1_S16x32000_0_1
        (rowM (Cert.RefIdeal.Hand.aR (Cert.RefIdeal.Hand.yR x g))) := rfl
  have e' : broadcastInDim S16x32000 ![0, 1] bcast_S16x1_S16x32000_0_1
      (rowM (Cert.RefIdeal.Hand.aR (Cert.RefIdeal.Hand.yR x g))) (ix2 b v)
      = rowM (Cert.RefIdeal.Hand.aR (Cert.RefIdeal.Hand.yR x g)) (ix2 b 0) := by
    generalize rowM (Cert.RefIdeal.Hand.aR (Cert.RefIdeal.Hand.yR x g)) = q
    pointwise
  rw [e, e'] at h
  exact rowM_at _ b h

theorem mask_codes (b : Fin 16) (v : Fin 12288)
    (h : (fn (F := Ideal) x g a2 a3 a4 a5 a6 a7 a8 a9 a10).2.2.2.1 (ix2 b v) = 1#1) : RowOk x g b := by
  have e : (fn (F := Ideal) x g a2 a3 a4 a5 a6 a7 a8 a9 a10).2.2.2.1
      = broadcastInDim S16x12288 ![0, 1] bcast_S16x1_S16x12288_0_1
        (rowM (Cert.RefIdeal.Hand.aR (Cert.RefIdeal.Hand.yR x g))) := rfl
  have e' : broadcastInDim S16x12288 ![0, 1] bcast_S16x1_S16x12288_0_1
      (rowM (Cert.RefIdeal.Hand.aR (Cert.RefIdeal.Hand.yR x g))) (ix2 b v)
      = rowM (Cert.RefIdeal.Hand.aR (Cert.RefIdeal.Hand.yR x g)) (ix2 b 0) := by
    generalize rowM (Cert.RefIdeal.Hand.aR (Cert.RefIdeal.Hand.yR x g)) = q
    pointwise
  rw [e, e'] at h
  exact rowM_at _ b h

/-- A column reshaped to a row. -/
theorem row_at {V : Type} (q : S16x1.Idx → V) (b : Fin 16) :
    shapeCast S1x16 q shapeCasts_S16x1_S1x16 (ix2 0 b) = q (ix2 b 0) := by
  pointwise

theorem mask_xs (b : Fin 16)
    (h : (fn (F := Ideal) x g a2 a3 a4 a5 a6 a7 a8 a9 a10).2.2.2.2 (ix2 0 b) = 1#1) : RowOk x g b := by
  have e : (fn (F := Ideal) x g a2 a3 a4 a5 a6 a7 a8 a9 a10).2.2.2.2
      = shapeCast S1x16 (rowM (Cert.RefIdeal.Hand.aR (Cert.RefIdeal.Hand.yR x g))) shapeCasts_S16x1_S1x16 := rfl
  rw [e, row_at] at h
  exact rowM_at _ b h

theorem mask_lse (b : Fin 16)
    (h : (fn (F := Ideal) x g a2 a3 a4 a5 a6 a7 a8 a9 a10).1 (ix2 0 b) = 1#1) : RowOk x g b := by
  have e : (fn (F := Ideal) x g a2 a3 a4 a5 a6 a7 a8 a9 a10).1
      = shapeCast S1x16 (rowM (Cert.RefIdeal.Hand.aR (Cert.RefIdeal.Hand.yR x g))) shapeCasts_S16x1_S1x16 := rfl
  rw [e, row_at] at h
  exact rowM_at _ b h

theorem mask_clp (b : Fin 16) (q : Fin 20)
    (h : (fn (F := Ideal) x g a2 a3 a4 a5 a6 a7 a8 a9 a10).2.1 (ix2 b q) = 1#1) : RowOk x g b := by
  have e : (fn (F := Ideal) x g a2 a3 a4 a5 a6 a7 a8 a9 a10).2.1
      = broadcastInDim S16x20 ![0, 1] bcast_S16x1_S16x20_0_1
        (rowM (Cert.RefIdeal.Hand.aR (Cert.RefIdeal.Hand.yR x g))) := rfl
  have e' : broadcastInDim S16x20 ![0, 1] bcast_S16x1_S16x20_0_1
      (rowM (Cert.RefIdeal.Hand.aR (Cert.RefIdeal.Hand.yR x g))) (ix2 b q)
      = rowM (Cert.RefIdeal.Hand.aR (Cert.RefIdeal.Hand.yR x g)) (ix2 b 0) := by
    generalize rowM (Cert.RefIdeal.Hand.aR (Cert.RefIdeal.Hand.yR x g)) = q
    pointwise
  rw [e, e'] at h
  exact rowM_at _ b h

end

/-! ## The kernel's inputs -/

section

open Cert.KernelIdeal Cert.KernelIdeal.Gen Cert.KernelIdeal.Hand

variable (m : (ℓ : Loc nD τ sig) → Buf (Elt Ideal) ℓ) (c : Dev nD)

/-- A vector reshaped to a row. -/
theorem vec_at {V : Type} (q : Cert.KernelIdeal.S16.Idx → V) (b : Fin 16) :
    shapeCast Cert.KernelIdeal.S1x16 q Cert.KernelIdeal.Gen.shapeCasts_S16_S1x16 (ix2 0 b) = q (ix1 b) := by
  pointwise

theorem gain_at (k : Fin 12288) :
    (inOf c m).gain (ix2 0 k) = (m ((c.tc : Thread nD τ).loc main_arg1) : FVec Ideal Cert.KernelIdeal.S12288 .f32) (ix1 k) := by
  have e : (inOf c m).gain = shapeCast Cert.KernelIdeal.S1x12288
      (m ((c.tc : Thread nD τ).loc main_arg1) : FVec Ideal Cert.KernelIdeal.S12288 .f32)
      Cert.KernelIdeal.Gen.shapeCasts_S12288_S1x12288 := by
    show V m c main_v0 = _
    dsimp only [V, hostOps0]
    after_reads_simp
    rfl
  rw [e]
  refine (shapeCast_addUnit_apply (![12288] : Fin 1 → Nat) _ _ _).trans ?_
  congr 1
  funext a
  fin_cases a
  rfl

theorem len_at (b : Fin 16) :
    (inOf c m).len (ix2 0 b) = (m ((c.tc : Thread nD τ).loc main_arg5) : IVec Cert.KernelIdeal.S16 32) (ix1 b) := by
  have e : (inOf c m).len = shapeCast Cert.KernelIdeal.S1x16
      (m ((c.tc : Thread nD τ).loc main_arg5) : IVec Cert.KernelIdeal.S16 32)
      Cert.KernelIdeal.Gen.shapeCasts_S16_S1x16 := by
    show V m c main_v1 = _
    dsimp only [V, hostOps0]
    after_reads_simp
    rfl
  rw [e]
  exact vec_at _ b

theorem pres_at (b : Fin 16) :
    (inOf c m).pres (ix2 0 b) = (m ((c.tc : Thread nD τ).loc main_arg6) : FVec Ideal Cert.KernelIdeal.S16 .f32) (ix1 b) := by
  have e : (inOf c m).pres = shapeCast Cert.KernelIdeal.S1x16
      (m ((c.tc : Thread nD τ).loc main_arg6) : FVec Ideal Cert.KernelIdeal.S16 .f32)
      Cert.KernelIdeal.Gen.shapeCasts_S16_S1x16 := by
    show V m c main_v2 = _
    dsimp only [V, hostOps0]
    after_reads_simp
    rfl
  rw [e]
  exact vec_at _ b

theorem freq_at (b : Fin 16) :
    (inOf c m).freq (ix2 0 b) = (m ((c.tc : Thread nD τ).loc main_arg7) : FVec Ideal Cert.KernelIdeal.S16 .f32) (ix1 b) := by
  have e : (inOf c m).freq = shapeCast Cert.KernelIdeal.S1x16
      (m ((c.tc : Thread nD τ).loc main_arg7) : FVec Ideal Cert.KernelIdeal.S16 .f32)
      Cert.KernelIdeal.Gen.shapeCasts_S16_S1x16 := by
    show V m c main_v3 = _
    dsimp only [V, hostOps0]
    after_reads_simp
    rfl
  rw [e]
  exact vec_at _ b

theorem rep_at (b : Fin 16) :
    (inOf c m).rep (ix2 0 b) = (m ((c.tc : Thread nD τ).loc main_arg8) : FVec Ideal Cert.KernelIdeal.S16 .f32) (ix1 b) := by
  have e : (inOf c m).rep = shapeCast Cert.KernelIdeal.S1x16
      (m ((c.tc : Thread nD τ).loc main_arg8) : FVec Ideal Cert.KernelIdeal.S16 .f32)
      Cert.KernelIdeal.Gen.shapeCasts_S16_S1x16 := by
    show V m c main_v4 = _
    dsimp only [V, hostOps0]
    after_reads_simp
    rfl
  rw [e]
  exact vec_at _ b

theorem temp_at (b : Fin 16) :
    (inOf c m).temp (ix2 0 b) = (m ((c.tc : Thread nD τ).loc main_arg9) : FVec Ideal Cert.KernelIdeal.S16 .f32) (ix1 b) := by
  have e : (inOf c m).temp = shapeCast Cert.KernelIdeal.S1x16
      (m ((c.tc : Thread nD τ).loc main_arg9) : FVec Ideal Cert.KernelIdeal.S16 .f32)
      Cert.KernelIdeal.Gen.shapeCasts_S16_S1x16 := by
    show V m c main_v5 = _
    dsimp only [V, hostOps0]
    after_reads_simp
    rfl
  rw [e]
  exact vec_at _ b

theorem x_eq : (inOf c m).x = m ((c.tc : Thread nD τ).loc main_arg0) := V_main_arg0 m c
theorem w_eq : (inOf c m).w = m ((c.tc : Thread nD τ).loc main_arg2) := V_main_arg2 m c
theorem ws_eq : (inOf c m).ws = m ((c.tc : Thread nD τ).loc main_arg3) := V_main_arg3 m c
theorem ids_eq : (inOf c m).ids = m ((c.tc : Thread nD τ).loc main_arg4) := V_main_arg4 m c
theorem cand_eq : (inOf c m).cand = m ((c.tc : Thread nD τ).loc main_arg10) := V_main_arg10 m c

end

/-! ## The results -/

section

variable (m : (ℓ : Loc Cert.KernelIdeal.nD Cert.KernelIdeal.τ Cert.KernelIdeal.sig) → Buf (Elt Ideal) ℓ)
  (m' : (ℓ : Loc Cert.RefIdeal.nD Cert.RefIdeal.τ Cert.RefIdeal.sig) → Buf (Elt Ideal) ℓ)

/-- The two programs start from the same arguments. -/
abbrev Args (c : Dev Cert.KernelIdeal.nD) : Prop :=
  m' ((c.tc : Thread Cert.RefIdeal.nD Cert.RefIdeal.τ).loc Cert.RefIdeal.main_arg0) = m ((c.tc : Thread Cert.KernelIdeal.nD Cert.KernelIdeal.τ).loc Cert.KernelIdeal.main_arg0)
  ∧ m' ((c.tc : Thread Cert.RefIdeal.nD Cert.RefIdeal.τ).loc Cert.RefIdeal.main_arg1) = m ((c.tc : Thread Cert.KernelIdeal.nD Cert.KernelIdeal.τ).loc Cert.KernelIdeal.main_arg1)
  ∧ m' ((c.tc : Thread Cert.RefIdeal.nD Cert.RefIdeal.τ).loc Cert.RefIdeal.main_arg2) = m ((c.tc : Thread Cert.KernelIdeal.nD Cert.KernelIdeal.τ).loc Cert.KernelIdeal.main_arg2)
  ∧ m' ((c.tc : Thread Cert.RefIdeal.nD Cert.RefIdeal.τ).loc Cert.RefIdeal.main_arg3) = m ((c.tc : Thread Cert.KernelIdeal.nD Cert.KernelIdeal.τ).loc Cert.KernelIdeal.main_arg3)
  ∧ m' ((c.tc : Thread Cert.RefIdeal.nD Cert.RefIdeal.τ).loc Cert.RefIdeal.main_arg4) = m ((c.tc : Thread Cert.KernelIdeal.nD Cert.KernelIdeal.τ).loc Cert.KernelIdeal.main_arg4)
  ∧ m' ((c.tc : Thread Cert.RefIdeal.nD Cert.RefIdeal.τ).loc Cert.RefIdeal.main_arg5) = m ((c.tc : Thread Cert.KernelIdeal.nD Cert.KernelIdeal.τ).loc Cert.KernelIdeal.main_arg5)
  ∧ m' ((c.tc : Thread Cert.RefIdeal.nD Cert.RefIdeal.τ).loc Cert.RefIdeal.main_arg6) = m ((c.tc : Thread Cert.KernelIdeal.nD Cert.KernelIdeal.τ).loc Cert.KernelIdeal.main_arg6)
  ∧ m' ((c.tc : Thread Cert.RefIdeal.nD Cert.RefIdeal.τ).loc Cert.RefIdeal.main_arg7) = m ((c.tc : Thread Cert.KernelIdeal.nD Cert.KernelIdeal.τ).loc Cert.KernelIdeal.main_arg7)
  ∧ m' ((c.tc : Thread Cert.RefIdeal.nD Cert.RefIdeal.τ).loc Cert.RefIdeal.main_arg8) = m ((c.tc : Thread Cert.KernelIdeal.nD Cert.KernelIdeal.τ).loc Cert.KernelIdeal.main_arg8)
  ∧ m' ((c.tc : Thread Cert.RefIdeal.nD Cert.RefIdeal.τ).loc Cert.RefIdeal.main_arg9) = m ((c.tc : Thread Cert.KernelIdeal.nD Cert.KernelIdeal.τ).loc Cert.KernelIdeal.main_arg9)
  ∧ m' ((c.tc : Thread Cert.RefIdeal.nD Cert.RefIdeal.τ).loc Cert.RefIdeal.main_arg10) = m ((c.tc : Thread Cert.KernelIdeal.nD Cert.KernelIdeal.τ).loc Cert.KernelIdeal.main_arg10)

variable (c : Dev Cert.KernelIdeal.nD) (h : Args m m' c)

/-- The input row's condition, in the kernel's memory. -/
abbrev Ok (b : Fin 16) : Prop :=
  RowOk (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) b

include h

theorem res_codes (b : Fin 16) (hb : Ok m c b) (k : Fin 12288) :
    Cert.RefIdeal.Hand.codesOf m' c (ix2 b k) = Cert.KernelIdeal.Hand.codesv (Cert.KernelIdeal.Hand.inOf c m) (ix2 b k) := by
  have e := codesv_at (Cert.KernelIdeal.Hand.inOf c m) _ (gain_at m c) b (by rw [x_eq]; exact hb) k
  rw [e, eI, x_eq]
  show Cert.RefIdeal.Hand.codesR _ (Cert.RefIdeal.Hand.eOf _ _) (ix2 b k) = _
  unfold Cert.RefIdeal.Hand.eOf
  rw [← h.1, ← h.2.1]

theorem res_xs (b : Fin 16) (hb : Ok m c b) :
    shapeCast Cert.RefIdeal.S1x16 (Cert.RefIdeal.Hand.scaleOf m' c) Cert.RefIdeal.Gen.shapeCasts_S16x1_S1x16 (ix2 0 b)
      = Cert.KernelIdeal.Hand.xsv (Cert.KernelIdeal.Hand.inOf c m) (ix2 0 b) := by
  have e := xsv_at (Cert.KernelIdeal.Hand.inOf c m) _ (gain_at m c) b (by rw [x_eq]; exact hb) 0
  rw [e, eI, x_eq]
  refine (row_at _ b).trans ?_
  show Cert.RefIdeal.Hand.powR (Cert.RefIdeal.Hand.eOf _ _) (ix2 b 0) = _
  unfold Cert.RefIdeal.Hand.eOf
  rw [← h.1, ← h.2.1]

/-- The reference's logits are those of the kernel's inputs. -/
theorem zOf_eq : Cert.RefIdeal.Hand.zOf m' c
    = zI (Cert.KernelIdeal.Hand.inOf c m) (m ((c.tc : Thread Cert.KernelIdeal.nD Cert.KernelIdeal.τ).loc Cert.KernelIdeal.main_arg1))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) := by
  rw [zI, lI, eI, x_eq, w_eq, ws_eq, ids_eq]
  unfold Cert.RefIdeal.Hand.zOf Cert.RefIdeal.Hand.logOf Cert.RefIdeal.Hand.codesOf Cert.RefIdeal.Hand.scaleOf
    Cert.RefIdeal.Hand.eOf
  obtain ⟨h0, h1, h2, h3, h4, h5, h6, h7, h8, h9, -⟩ := h
  rw [← h0, ← h1, ← h2, ← h3, ← h4, ← h5, ← h6, ← h7, ← h8, ← h9]

theorem res_z (b : Fin 16) (hb : Ok m c b) (v : Fin 32000) :
    Cert.RefIdeal.Hand.zOf m' c (ix2 b v) = Cert.KernelIdeal.Hand.zv (Cert.KernelIdeal.Hand.inOf c m) (ix2 b v) := by
  have e := zv_at (Cert.KernelIdeal.Hand.inOf c m) _ (gain_at m c) b (by rw [x_eq]; exact hb) _ (len_at m c)
    _ _ _ _ (pres_at m c) (freq_at m c) (rep_at m c) (temp_at m c) v
  rw [e, zOf_eq m m' c h]

theorem res_lse (b : Fin 16) (hb : Ok m c b) :
    shapeCast Cert.RefIdeal.S1x16 (Cert.RefIdeal.Hand.lseOf m' c) Cert.RefIdeal.Gen.shapeCasts_S16x1_S1x16 (ix2 0 b)
      = Cert.KernelIdeal.Hand.lsev (Cert.KernelIdeal.Hand.inOf c m) (ix2 0 b) := by
  have e := lsev_at (Cert.KernelIdeal.Hand.inOf c m) _ (gain_at m c) b (by rw [x_eq]; exact hb) _ (len_at m c)
    _ _ _ _ (pres_at m c) (freq_at m c) (rep_at m c) (temp_at m c)
  rw [e]
  refine (row_at _ b).trans ?_
  unfold Cert.RefIdeal.Hand.lseOf
  rw [zOf_eq m m' c h]

theorem res_clp (b : Fin 16) (hb : Ok m c b) (q : Fin 20) :
    Cert.RefIdeal.Hand.clpOf m' c (ix2 b q) = Cert.KernelIdeal.Hand.clpv (Cert.KernelIdeal.Hand.inOf c m) (ix2 b q) := by
  have e := clpv_at (Cert.KernelIdeal.Hand.inOf c m) _ (gain_at m c) b (by rw [x_eq]; exact hb) _ (len_at m c)
    _ _ _ _ (pres_at m c) (freq_at m c) (rep_at m c) (temp_at m c) q
  rw [e, cand_eq]
  unfold Cert.RefIdeal.Hand.clpOf Cert.RefIdeal.Hand.lseOf
  rw [zOf_eq m m' c h, ← h.2.2.2.2.2.2.2.2.2.2]

end

/-- The value claim. -/
theorem algebraic : Cert.algebraic_KernelIdeal_RefIdeal_on_representable := by
  intro m g m' g' _ hm
  refine ⟨fun c => Cert.KernelIdeal.Hand.lsev (Cert.KernelIdeal.Hand.inOf c m),
    fun c => Cert.KernelIdeal.Hand.clpv (Cert.KernelIdeal.Hand.inOf c m),
    fun c => Cert.KernelIdeal.Hand.zv (Cert.KernelIdeal.Hand.inOf c m),
    fun c => Cert.KernelIdeal.Hand.codesv (Cert.KernelIdeal.Hand.inOf c m),
    fun c => Cert.KernelIdeal.Hand.xsv (Cert.KernelIdeal.Hand.inOf c m), ?_, ?_⟩
  · refine (θ_run Cert.KernelIdeal.defs _ _).mono (fun r hr c => ?_) (Cert.KernelIdeal.Hand.run_values m g)
    obtain ⟨h0, h1, h2, h3, h4⟩ := hr.1 c
    exact ⟨fun i _ => congrFun h0 i, fun i _ => congrFun h1 i, fun i _ => congrFun h2 i, fun i _ => congrFun h3 i,
      fun i _ => congrFun h4 i, hr.2.1 c⟩
  · refine (θ_run Cert.RefIdeal.defs _ _).mono (fun r hr c => ?_)
      (θ_run_and (Cert.RefIdeal.Hand.run_values m' g') (Cert.RefIdeal.Gen.unchanged m' g'))
    obtain ⟨h0, h1, h2, h3, h4⟩ := hr.1 c
    refine ⟨fun i hi => ?_, fun i hi => ?_, fun i hi => ?_, fun i hi => ?_, fun i hi => ?_, hr.2 c⟩
    · idx_vars i
      obtain rfl : i0 = 0 := Subsingleton.elim _ _
      have hb := mask_lse _ _ _ _ _ _ _ _ _ _ _ i1 hi
      have e := res_lse m m' c (hm c) i1 hb
      exact (congrFun h0 _).trans e
    · idx_vars i
      have hb := mask_clp _ _ _ _ _ _ _ _ _ _ _ _ _ hi
      have e := res_clp m m' c (hm c) i0 hb i1
      exact (congrFun h1 _).trans e
    · idx_vars i
      have hb := mask_z _ _ _ _ _ _ _ _ _ _ _ _ _ hi
      have e := res_z m m' c (hm c) i0 hb i1
      exact (congrFun h2 _).trans e
    · idx_vars i
      have hb := mask_codes _ _ _ _ _ _ _ _ _ _ _ _ _ hi
      have e := res_codes m m' c (hm c) i0 hb i1
      exact (congrFun h3 _).trans e
    · idx_vars i
      obtain rfl : i0 = 0 := Subsingleton.elim _ _
      have hb := mask_xs _ _ _ _ _ _ _ _ _ _ _ i1 hi
      have e := res_xs m m' c (hm c) i1 hb
      exact (congrFun h4 _).trans e

end Cert.Val

end
-- ==== Proof.lean ====
/-
  The proof of `Cert.Claim`.  The three frames: the kernel's two programs run by
  `Hand.run_values` (proof/Proof/Kernel, proof/Proof/KernelIdeal), the reference by its generated
  frame.  The value claim: `Val.algebraic` (proof/Proof/Value).
-/
module

public import proofs.«01_k».proof.Defs
public import proofs.«01_k».proof.Proof.Kernel.Launch
public import proofs.«01_k».proof.Proof.KernelIdeal.Launch
public import proofs.«01_k».proof.Proof.Gen.RefIdeal.Frame
public import proofs.«01_k».proof.Proof.Value.Claim
public import proofs.«01_k».proof.Proof.Gen.On_representable
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.RefIdeal.Gen.facts,
  Cert.On_representable.Gen.facts,
  fun m g _ => (θ_run Cert.Kernel.defs _ _).mono (fun _ h => h.2) (Cert.Kernel.Hand.run_values m g),
  fun m g _ => (θ_run Cert.KernelIdeal.defs _ _).mono (fun _ h => h.2) (Cert.KernelIdeal.Hand.run_values m g),
  fun m g _ => Cert.RefIdeal.Gen.frame m g,
  trivial, Cert.Val.algebraic⟩

end Cert.Proof

end
